-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v43_0)) (v1 : (c : Dev Cert.Kernel3Ideal.nD) → Buf (Elt Ideal) ((c.tc : Thread Cert.Kernel3Ideal.nD Cert.Kernel3Ideal.τ).loc Cert.Kernel3Ideal.main_v43_1)) (v2 : (c : Dev Cert.Kernel3Ideal.nD) → Buf (Elt Ideal) ((c.tc : Thread Cert.Kernel3Ideal.nD Cert.Kernel3Ideal.τ).loc Cert.Kernel3Ideal.main_v43_2)) (v3 : (c : Dev Cert.Kernel3Ideal.nD) → Buf (Elt Ideal) ((c.tc : Thread Cert.Kernel3Ideal.nD Cert.Kernel3Ideal.τ).loc Cert.Kernel3Ideal.main_v43_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43_0) = v0 c
          ∧ r.2.mem ((c.tc : Thread Cert.Kernel3Ideal.nD Cert.Kernel3Ideal.τ).loc Cert.Kernel3Ideal.main_v43_1) = v1 c
          ∧ r.2.mem ((c.tc : Thread Cert.Kernel3Ideal.nD Cert.Kernel3Ideal.τ).loc Cert.Kernel3Ideal.main_v43_2) = v2 c
          ∧ r.2.mem ((c.tc : Thread Cert.Kernel3Ideal.nD Cert.Kernel3Ideal.τ).loc Cert.Kernel3Ideal.main_v43_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v57) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x6x8192x96 : Shape := ⟨4, ![2, 6, 8192, 96]⟩
abbrev S2x6x8192x64 : Shape := ⟨4, ![2, 6, 8192, 64]⟩
abbrev S_ : Shape := ⟨0, ![]⟩

class Facts : Prop where
  bcast_S_S2x6x8192x96 : S_.BroadcastsInDim S2x6x8192x96 (![] : Fin 0 → Fin S2x6x8192x96.rank)
  reducesTo_S2x6x8192x96_S_d0_1_2_3 : S2x6x8192x96.ReducesTo [0, 1, 2, 3] S_
  h_S_ : 0 < S_.numel

variable [Facts]

def fn {F : FTy → Type} [FloatOps F] (main_arg0 : FVec F S2x6x8192x96 .f32) (main_arg1 : FVec F S2x6x8192x96 .f32) (main_arg2 : FVec F S2x6x8192x64 .f32) : IVec S_ 1 :=
  let main_v0 : FVec F S2x6x8192x96 .f32 := Host.absf main_arg0
  let main_cst : FVec F S_ .f32 := constant S_ .f32 0x7F800000#32
  let main_v1 : FVec F S2x6x8192x96 .f32 := broadcastInDim S2x6x8192x96 ![] bcast_S_S2x6x8192x96 main_cst
  let main_v2 : IVec S2x6x8192x96 1 := cmpf .olt main_v0 main_v1
  let main_c : IVec S_ 1 := constantI S_ 1 1#1
  let main_v3 : IVec S_ 1 := (fun x v => Host.reduce IntOp.andi x v reducesTo_S2x6x8192x96_S_d0_1_2_3 h_S_) main_v2 main_c
  let main_v4 : FVec F S2x6x8192x96 .f32 := Host.absf main_arg1
  let main_cst_0 : FVec F S_ .f32 := constant S_ .f32 0x7F800000#32
  let main_v5 : FVec F S2x6x8192x96 .f32 := broadcastInDim S2x6x8192x96 ![] bcast_S_S2x6x8192x96 main_cst_0
  let main_v6 : IVec S2x6x8192x96 1 := cmpf .olt main_v4 main_v5
  let main_c_1 : IVec S_ 1 := constantI S_ 1 1#1
  let main_v7 : IVec S_ 1 := (fun x v => Host.reduce IntOp.andi x v reducesTo_S2x6x8192x96_S_d0_1_2_3 h_S_) main_v6 main_c_1
  let main_v8 : IVec S_ 1 := andi main_v3 main_v7
  main_v8
-- ==== Kernel.lean ====
abbrev S2x6x8192x96 : Shape := ⟨4, ![2, 6, 8192, 96]⟩
abbrev S2x6x8192x64 : Shape := ⟨4, ![2, 6, 8192, 64]⟩
abbrev S_ : Shape := ⟨0, ![]⟩
abbrev S2x6x8192x128 : Shape := ⟨4, ![2, 6, 8192, 128]⟩
abbrev S2x6x128x8192 : Shape := ⟨4, ![2, 6, 128, 8192]⟩
abbrev S2x6x64x8192 : Shape := ⟨4, ![2, 6, 64, 8192]⟩
abbrev S2x6x1x8192 : Shape := ⟨4, ![2, 6, 1, 8192]⟩
abbrev S2x6x15x8192 : Shape := ⟨4, ![2, 6, 15, 8192]⟩
abbrev S2x6x80x8192 : Shape := ⟨4, ![2, 6, 80, 8192]⟩
abbrev S512x512 : Shape := ⟨2, ![512, 512]⟩
abbrev S1x512x512 : Shape := ⟨3, ![1, 512, 512]⟩
abbrev S3x512x512 : Shape := ⟨3, ![3, 512, 512]⟩
abbrev S1x3x512x512 : Shape := ⟨4, ![1, 3, 512, 512]⟩
abbrev S1x1x128x512 : Shape := ⟨4, ![1, 1, 128, 512]⟩
abbrev S1x1x8192x128 : Shape := ⟨4, ![1, 1, 8192, 128]⟩
abbrev S1x1x80x8192 : Shape := ⟨4, ![1, 1, 80, 8192]⟩
abbrev S1x1x512x512 : Shape := ⟨4, ![1, 1, 512, 512]⟩
abbrev S1x1x64x1024 : Shape := ⟨4, ![1, 1, 64, 1024]⟩
abbrev S128x512 : Shape := ⟨2, ![128, 512]⟩
abbrev S1x512 : Shape := ⟨2, ![1, 512]⟩
abbrev S80x512 : Shape := ⟨2, ![80, 512]⟩
abbrev S1x1x4096x128 : Shape := ⟨4, ![1, 1, 4096, 128]⟩
abbrev S4096x128 : Shape := ⟨2, ![4096, 128]⟩
abbrev S4096x512 : Shape := ⟨2, ![4096, 512]⟩
abbrev S256x512 : Shape := ⟨2, ![256, 512]⟩
abbrev S1x1x80x256 : Shape := ⟨4, ![1, 1, 80, 256]⟩
abbrev S80x256 : Shape := ⟨2, ![80, 256]⟩
abbrev S512 : Shape := ⟨1, ![512]⟩
abbrev S1x1x2048x128 : Shape := ⟨4, ![1, 1, 2048, 128]⟩
abbrev S2048x128 : Shape := ⟨2, ![2048, 128]⟩
abbrev S2048x512 : Shape := ⟨2, ![2048, 512]⟩
abbrev S1x1x1024x128 : Shape := ⟨4, ![1, 1, 1024, 128]⟩
abbrev S1024x128 : Shape := ⟨2, ![1024, 128]⟩
abbrev S1024x512 : Shape := ⟨2, ![1024, 512]⟩
abbrev S1x1x512x128 : Shape := ⟨4, ![1, 1, 512, 128]⟩
abbrev S512x128 : Shape := ⟨2, ![512, 128]⟩
abbrev S64x512 : Shape := ⟨2, ![64, 512]⟩
abbrev S1x1x64x512 : Shape := ⟨4, ![1, 1, 64, 512]⟩

abbrev nBuf : Space → Nat
  | .hbm => 44
  | .vmem => 18
  | .smem => 0
  | _ => 0

abbrev bufTy : (tb : Table) → Fin (tcTables nBuf tb) → BufTy
  | .hbm, ⟨0, _⟩ => ⟨S2x6x8192x96, .f32⟩
  | .hbm, ⟨1, _⟩ => ⟨S2x6x8192x96, .f32⟩
  | .hbm, ⟨2, _⟩ => ⟨S2x6x8192x64, .f32⟩
  | .hbm, ⟨3, _⟩ => ⟨S_, .f32⟩
  | .hbm, ⟨4, _⟩ => ⟨S2x6x8192x96, .f32⟩
  | .hbm, ⟨5, _⟩ => ⟨S2x6x8192x96, .f32⟩
  | .hbm, ⟨6, _⟩ => ⟨S_, .f32⟩
  | .hbm, ⟨7, _⟩ => ⟨S_, .f32⟩
  | .hbm, ⟨8, _⟩ => ⟨S2x6x8192x96, .f32⟩
  | .hbm, ⟨9, _⟩ => ⟨S2x6x8192x96, .f32⟩
  | .hbm, ⟨10, _⟩ => ⟨S_, .i32⟩
  | .hbm, ⟨11, _⟩ => ⟨S_, .f32⟩
  | .hbm, ⟨12, _⟩ => ⟨S2x6x8192x128, .f32⟩
  | .hbm, ⟨13, _⟩ => ⟨S2x6x128x8192, .f32⟩
  | .hbm, ⟨14, _⟩ => ⟨S2x6x128x8192, .bf16⟩
  | .hbm, ⟨15, _⟩ => ⟨S_, .i32⟩
  | .hbm, ⟨16, _⟩ => ⟨S_, .f32⟩
  | .hbm, ⟨17, _⟩ => ⟨S2x6x8192x128, .f32⟩
  | .hbm, ⟨18, _⟩ => ⟨S2x6x8192x128, .bf16⟩
  | .hbm, ⟨19, _⟩ => ⟨S2x6x64x8192, .f32⟩
  | .hbm, ⟨20, _⟩ => ⟨S_, .f32⟩
  | .hbm, ⟨21, _⟩ => ⟨S2x6x1x8192, .f32⟩
  | .hbm, ⟨22, _⟩ => ⟨S_, .f32⟩
  | .hbm, ⟨23, _⟩ => ⟨S2x6x15x8192, .f32⟩
  | .hbm, ⟨24, _⟩ => ⟨S2x6x80x8192, .f32⟩
  | .hbm, ⟨25, _⟩ => ⟨S2x6x80x8192, .bf16⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S_, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S1x512x512, .f32⟩
  | .hbm, ⟨39, _⟩ => ⟨S1x512x512, .f32⟩
  | .hbm, ⟨40, _⟩ => ⟨S1x512x512, .f32⟩
  | .hbm, ⟨41, _⟩ => ⟨S3x512x512, .f32⟩
  | .hbm, ⟨42, _⟩ => ⟨S1x3x512x512, .f32⟩
  | .hbm, ⟨43, _⟩ => ⟨S2x6x64x8192, .f32⟩
  | .local _ .vmem, ⟨0, _⟩ => ⟨S1x1x128x512, .bf16⟩
  | .local _ .vmem, ⟨1, _⟩ => ⟨S1x1x128x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x1x80x8192, .bf16⟩
  | .local _ .vmem, ⟨7, _⟩ => ⟨S1x1x80x8192, .bf16⟩
  | .local _ .vmem, ⟨8, _⟩ => ⟨S1x1x512x512, .f32⟩
  | .local _ .vmem, ⟨9, _⟩ => ⟨S1x1x512x512, .f32⟩
  | .local _ .vmem, ⟨10, _⟩ => ⟨S1x1x512x512, .f32⟩
  | .local _ .vmem, ⟨11, _⟩ => ⟨S1x1x512x512, .f32⟩
  | .local _ .vmem, ⟨12, _⟩ => ⟨S1x1x512x512, .f32⟩
  | .local _ .vmem, ⟨13, _⟩ => ⟨S1x1x512x512, .f32⟩
  | .local _ .vmem, ⟨14, _⟩ => ⟨S1x1x512x512, .f32⟩
  | .local _ .vmem, ⟨15, _⟩ => ⟨S1x1x512x512, .f32⟩
  | .local _ .vmem, ⟨16, _⟩ => ⟨S1x1x64x1024, .f32⟩
  | .local _ .vmem, ⟨17, _⟩ => ⟨S1x1x64x1024, .f32⟩
  | _, _ => ⟨S2x6x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_cst_5 : Ref sig .tc := ⟨.hbm, 30, rfl⟩
abbrev main_call2_v0 : Ref sig .tc := ⟨.hbm, 31, rfl⟩
abbrev main_call2_v1 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 6, 8], ![false, false, false]⟩

@[reducible] def k0_t1_loop (i : grid0.Coords) : Scf.Loop 32 :=
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_13 : BitVec 32 := 1#32
  ⟨c0_i32_11, v28, c1_i32_13⟩
def k0_mult1 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  v417
def k0_off1 (i : grid0.Coords) (k0_t1 : Fin (k0_t1_loop i).trips) : Fin 4 → Nat :=
  let c0_188 : Index := 0#32
  let c0_189 : Index := 0#32
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let v419 : Index := Scalar.indexCast v418
  let c0_190 : Index := 0#32
  ![0, 0, v419.toNat, 0]
def k0_mult2 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c0_i32_192 : BitVec 32 := 0#32
  let v424 : BitVec 32 := Scalar.addi v418 c0_i32_192
  v424
def k0_off2 (i : grid0.Coords) (k0_t1 : Fin (k0_t1_loop i).trips) (c0_i32_192 : BitVec 32) : Fin 4 → Nat :=
  let c0_193 : Index := 0#32
  let c0_194 : Index := 0#32
  let c0_195 : Index := 0#32
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let v424 : BitVec 32 := Scalar.addi v418 c0_i32_192
  let v425 : BitVec 32 := v424
  let v426 : Index := Scalar.indexCast v425
  ![0, 0, 0, v426.toNat]
def k0_mult3 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c256_i32_198 : BitVec 32 := 256#32
  let v443 : BitVec 32 := Scalar.addi v418 c256_i32_198
  v443
def k0_mult4 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c512_i32_204 : BitVec 32 := 512#32
  let v462 : BitVec 32 := Scalar.addi v418 c512_i32_204
  v462
def k0_mult5 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c768_i32_210 : BitVec 32 := 768#32
  let v481 : BitVec 32 := Scalar.addi v418 c768_i32_210
  v481
def k0_mult6 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1024_i32 : BitVec 32 := 1024#32
  let v500 : BitVec 32 := Scalar.addi v418 c1024_i32
  v500
def k0_mult7 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1280_i32 : BitVec 32 := 1280#32
  let v519 : BitVec 32 := Scalar.addi v418 c1280_i32
  v519
def k0_mult8 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1536_i32 : BitVec 32 := 1536#32
  let v538 : BitVec 32 := Scalar.addi v418 c1536_i32
  v538
def k0_mult9 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1792_i32 : BitVec 32 := 1792#32
  let v557 : BitVec 32 := Scalar.addi v418 c1792_i32
  v557
def k0_mult10 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2048_i32 : BitVec 32 := 2048#32
  let v576 : BitVec 32 := Scalar.addi v418 c2048_i32
  v576
def k0_mult11 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2304_i32 : BitVec 32 := 2304#32
  let v595 : BitVec 32 := Scalar.addi v418 c2304_i32
  v595
def k0_mult12 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2560_i32 : BitVec 32 := 2560#32
  let v614 : BitVec 32 := Scalar.addi v418 c2560_i32
  v614
def k0_mult13 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2816_i32 : BitVec 32 := 2816#32
  let v633 : BitVec 32 := Scalar.addi v418 c2816_i32
  v633
def k0_mult14 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3072_i32 : BitVec 32 := 3072#32
  let v652 : BitVec 32 := Scalar.addi v418 c3072_i32
  v652
def k0_mult15 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3328_i32 : BitVec 32 := 3328#32
  let v671 : BitVec 32 := Scalar.addi v418 c3328_i32
  v671
def k0_mult16 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3584_i32 : BitVec 32 := 3584#32
  let v690 : BitVec 32 := Scalar.addi v418 c3584_i32
  v690
def k0_mult17 (i : grid0.Coords) (k0_t1 : Fin (k0_t1_loop i).trips) : BitVec 32 :=
  let c0_i32_186 : BitVec 32 := 0#32
  let c0_i32_11 : BitVec 32 := 0#32
  let c1_i32_13 : BitVec 32 := 1#32
  let arg12 : BitVec 32 := Scf.iv c0_i32_11 c1_i32_13 k0_t1
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3840_i32 : BitVec 32 := 3840#32
  let v709 : BitVec 32 := Scalar.addi v418 c3840_i32
  v709
@[reducible] def k0_t2_loop (i : grid0.Coords) : Scf.Loop 32 :=
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let v25 : BitVec 32 := Scalar.addi c0_i32_11 v24
  let c1_i32_14 : BitVec 32 := 1#32
  ⟨v28, v25, c1_i32_14⟩
def k0_mult18 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  v417
def k0_off3 (i : grid0.Coords) (k0_t2 : Fin (k0_t2_loop i).trips) : Fin 4 → Nat :=
  let c0_188 : Index := 0#32
  let c0_189 : Index := 0#32
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let v419 : Index := Scalar.indexCast v418
  let c0_190 : Index := 0#32
  ![0, 0, v419.toNat, 0]
def k0_mult19 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c0_i32_192 : BitVec 32 := 0#32
  let v424 : BitVec 32 := Scalar.addi v418 c0_i32_192
  v424
def k0_off4 (i : grid0.Coords) (k0_t2 : Fin (k0_t2_loop i).trips) (c0_i32_192 : BitVec 32) : Fin 4 → Nat :=
  let c0_193 : Index := 0#32
  let c0_194 : Index := 0#32
  let c0_195 : Index := 0#32
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let v424 : BitVec 32 := Scalar.addi v418 c0_i32_192
  let v425 : BitVec 32 := v424
  let v426 : Index := Scalar.indexCast v425
  ![0, 0, 0, v426.toNat]
def k0_mult20 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c256_i32_198 : BitVec 32 := 256#32
  let v443 : BitVec 32 := Scalar.addi v418 c256_i32_198
  v443
def k0_mult21 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c512_i32_204 : BitVec 32 := 512#32
  let v462 : BitVec 32 := Scalar.addi v418 c512_i32_204
  v462
def k0_mult22 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c768_i32_210 : BitVec 32 := 768#32
  let v481 : BitVec 32 := Scalar.addi v418 c768_i32_210
  v481
def k0_mult23 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1024_i32 : BitVec 32 := 1024#32
  let v500 : BitVec 32 := Scalar.addi v418 c1024_i32
  v500
def k0_mult24 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1280_i32 : BitVec 32 := 1280#32
  let v519 : BitVec 32 := Scalar.addi v418 c1280_i32
  v519
def k0_mult25 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1536_i32 : BitVec 32 := 1536#32
  let v538 : BitVec 32 := Scalar.addi v418 c1536_i32
  v538
def k0_mult26 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1792_i32 : BitVec 32 := 1792#32
  let v557 : BitVec 32 := Scalar.addi v418 c1792_i32
  v557
def k0_mult27 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2048_i32 : BitVec 32 := 2048#32
  let v576 : BitVec 32 := Scalar.addi v418 c2048_i32
  v576
def k0_mult28 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2304_i32 : BitVec 32 := 2304#32
  let v595 : BitVec 32 := Scalar.addi v418 c2304_i32
  v595
def k0_mult29 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2560_i32 : BitVec 32 := 2560#32
  let v614 : BitVec 32 := Scalar.addi v418 c2560_i32
  v614
def k0_mult30 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2816_i32 : BitVec 32 := 2816#32
  let v633 : BitVec 32 := Scalar.addi v418 c2816_i32
  v633
def k0_mult31 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3072_i32 : BitVec 32 := 3072#32
  let v652 : BitVec 32 := Scalar.addi v418 c3072_i32
  v652
def k0_mult32 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3328_i32 : BitVec 32 := 3328#32
  let v671 : BitVec 32 := Scalar.addi v418 c3328_i32
  v671
def k0_mult33 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3584_i32 : BitVec 32 := 3584#32
  let v690 : BitVec 32 := Scalar.addi v418 c3584_i32
  v690
def k0_mult34 (i : grid0.Coords) (k0_t2 : Fin (k0_t2_loop i).trips) : BitVec 32 :=
  let c0_i32_186 : BitVec 32 := 0#32
  let c0_i32_11 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let v24 : BitVec 32 := Scalar.subi v23 c0_i32_11
  let c1_i32_12 : BitVec 32 := 1#32
  let v26 : BitVec 32 := Scalar.divsi v24 c1_i32_12
  let v27 : BitVec 32 := Scalar.muli v26 c1_i32_12
  let v28 : BitVec 32 := Scalar.addi c0_i32_11 v27
  let c1_i32_14 : BitVec 32 := 1#32
  let arg12 : BitVec 32 := Scf.iv v28 c1_i32_14 k0_t2
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3840_i32 : BitVec 32 := 3840#32
  let v709 : BitVec 32 := Scalar.addi v418 c3840_i32
  v709
@[reducible] def k0_t3_loop (i : grid0.Coords) : Scf.Loop 32 :=
  let c0_i32_23 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_16 : BitVec 32 := 0#32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_25 : BitVec 32 := 1#32
  ⟨c0_i32_23, v55, c1_i32_25⟩
def k0_mult35 (i : grid0.Coords) (k0_t3 : Fin (k0_t3_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  v417
def k0_off5 (i : grid0.Coords) (k0_t3 : Fin (k0_t3_loop i).trips) : Fin 4 → Nat :=
  let c0_187 : Index := 0#32
  let c0_188 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult36 (i : grid0.Coords) (k0_t3 : Fin (k0_t3_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off6 (i : grid0.Coords) (k0_t3 : Fin (k0_t3_loop i).trips) (c0_i32_191 : BitVec 32) : Fin 4 → Nat :=
  let c0_192 : Index := 0#32
  let c0_193 : Index := 0#32
  let c0_194 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult37 (i : grid0.Coords) (k0_t3 : Fin (k0_t3_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
def k0_mult38 (i : grid0.Coords) (k0_t3 : Fin (k0_t3_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c512_i32_203 : BitVec 32 := 512#32
  let v462 : BitVec 32 := Scalar.addi v418 c512_i32_203
  v462
def k0_mult39 (i : grid0.Coords) (k0_t3 : Fin (k0_t3_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c768_i32_209 : BitVec 32 := 768#32
  let v481 : BitVec 32 := Scalar.addi v418 c768_i32_209
  v481
def k0_mult40 (i : grid0.Coords) (k0_t3 : Fin (k0_t3_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c1024_i32 : BitVec 32 := 1024#32
  let v500 : BitVec 32 := Scalar.addi v418 c1024_i32
  v500
def k0_mult41 (i : grid0.Coords) (k0_t3 : Fin (k0_t3_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c1280_i32 : BitVec 32 := 1280#32
  let v519 : BitVec 32 := Scalar.addi v418 c1280_i32
  v519
def k0_mult42 (i : grid0.Coords) (k0_t3 : Fin (k0_t3_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c1536_i32 : BitVec 32 := 1536#32
  let v538 : BitVec 32 := Scalar.addi v418 c1536_i32
  v538
def k0_mult43 (i : grid0.Coords) (k0_t3 : Fin (k0_t3_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let c1_i32_25 : BitVec 32 := 1#32
  let arg12 : BitVec 32 := Scf.iv c0_i32_23 c1_i32_25 k0_t3
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c1792_i32 : BitVec 32 := 1792#32
  let v557 : BitVec 32 := Scalar.addi v418 c1792_i32
  v557
@[reducible] def k0_t4_loop (i : grid0.Coords) : Scf.Loop 32 :=
  let c0_i32_23 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_16 : BitVec 32 := 0#32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let v52 : BitVec 32 := Scalar.addi c0_i32_23 v51
  let c1_i32_26 : BitVec 32 := 1#32
  ⟨v55, v52, c1_i32_26⟩
def k0_mult44 (i : grid0.Coords) (k0_t4 : Fin (k0_t4_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  v417
def k0_off7 (i : grid0.Coords) (k0_t4 : Fin (k0_t4_loop i).trips) : Fin 4 → Nat :=
  let c0_187 : Index := 0#32
  let c0_188 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult45 (i : grid0.Coords) (k0_t4 : Fin (k0_t4_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off8 (i : grid0.Coords) (k0_t4 : Fin (k0_t4_loop i).trips) (c0_i32_191 : BitVec 32) : Fin 4 → Nat :=
  let c0_192 : Index := 0#32
  let c0_193 : Index := 0#32
  let c0_194 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult46 (i : grid0.Coords) (k0_t4 : Fin (k0_t4_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
def k0_mult47 (i : grid0.Coords) (k0_t4 : Fin (k0_t4_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c512_i32_203 : BitVec 32 := 512#32
  let v462 : BitVec 32 := Scalar.addi v418 c512_i32_203
  v462
def k0_mult48 (i : grid0.Coords) (k0_t4 : Fin (k0_t4_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c768_i32_209 : BitVec 32 := 768#32
  let v481 : BitVec 32 := Scalar.addi v418 c768_i32_209
  v481
def k0_mult49 (i : grid0.Coords) (k0_t4 : Fin (k0_t4_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c1024_i32 : BitVec 32 := 1024#32
  let v500 : BitVec 32 := Scalar.addi v418 c1024_i32
  v500
def k0_mult50 (i : grid0.Coords) (k0_t4 : Fin (k0_t4_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c1280_i32 : BitVec 32 := 1280#32
  let v519 : BitVec 32 := Scalar.addi v418 c1280_i32
  v519
def k0_mult51 (i : grid0.Coords) (k0_t4 : Fin (k0_t4_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c1536_i32 : BitVec 32 := 1536#32
  let v538 : BitVec 32 := Scalar.addi v418 c1536_i32
  v538
def k0_mult52 (i : grid0.Coords) (k0_t4 : Fin (k0_t4_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let c0_i32_23 : BitVec 32 := 0#32
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let v51 : BitVec 32 := Scalar.subi v50 c0_i32_23
  let c1_i32_24 : BitVec 32 := 1#32
  let v53 : BitVec 32 := Scalar.divsi v51 c1_i32_24
  let v54 : BitVec 32 := Scalar.muli v53 c1_i32_24
  let v55 : BitVec 32 := Scalar.addi c0_i32_23 v54
  let c1_i32_26 : BitVec 32 := 1#32
  let arg12 : BitVec 32 := Scf.iv v55 c1_i32_26 k0_t4
  let c4_i32_185 : BitVec 32 := 4#32
  let v415 : BitVec 32 := Scalar.muli arg12 c4_i32_185
  let v416 : BitVec 32 := Scalar.addi v32 v415
  let c512_i32_186 : BitVec 32 := 512#32
  let v417 : BitVec 32 := Scalar.muli v416 c512_i32_186
  let v418 : BitVec 32 := v417
  let c1792_i32 : BitVec 32 := 1792#32
  let v557 : BitVec 32 := Scalar.addi v418 c1792_i32
  v557
@[reducible] def k0_t5_loop (i : grid0.Coords) : Scf.Loop 32 :=
  let c0_i32_34 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_16 : BitVec 32 := 0#32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let v78 : BitVec 32 := Scalar.subi v77 c0_i32_34
  let c1_i32_35 : BitVec 32 := 1#32
  let v80 : BitVec 32 := Scalar.divsi v78 c1_i32_35
  let v81 : BitVec 32 := Scalar.muli v80 c1_i32_35
  let v82 : BitVec 32 := Scalar.addi c0_i32_34 v81
  let c1_i32_36 : BitVec 32 := 1#32
  ⟨c0_i32_34, v82, c1_i32_36⟩
def k0_mult53 (i : grid0.Coords) (k0_t5 : Fin (k0_t5_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let c1_i32_36 : BitVec 32 := 1#32
  let arg12 : BitVec 32 := Scf.iv c0_i32_34 c1_i32_36 k0_t5
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  v417
def k0_off9 (i : grid0.Coords) (k0_t5 : Fin (k0_t5_loop i).trips) : Fin 4 → Nat :=
  let c0_187 : Index := 0#32
  let c0_188 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let c1_i32_36 : BitVec 32 := 1#32
  let arg12 : BitVec 32 := Scf.iv c0_i32_34 c1_i32_36 k0_t5
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult54 (i : grid0.Coords) (k0_t5 : Fin (k0_t5_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let c1_i32_36 : BitVec 32 := 1#32
  let arg12 : BitVec 32 := Scf.iv c0_i32_34 c1_i32_36 k0_t5
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off10 (i : grid0.Coords) (k0_t5 : Fin (k0_t5_loop i).trips) (c0_i32_191 : BitVec 32) : Fin 4 → Nat :=
  let c0_192 : Index := 0#32
  let c0_193 : Index := 0#32
  let c0_194 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let c1_i32_36 : BitVec 32 := 1#32
  let arg12 : BitVec 32 := Scf.iv c0_i32_34 c1_i32_36 k0_t5
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult55 (i : grid0.Coords) (k0_t5 : Fin (k0_t5_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let c1_i32_36 : BitVec 32 := 1#32
  let arg12 : BitVec 32 := Scf.iv c0_i32_34 c1_i32_36 k0_t5
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
def k0_mult56 (i : grid0.Coords) (k0_t5 : Fin (k0_t5_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let c1_i32_36 : BitVec 32 := 1#32
  let arg12 : BitVec 32 := Scf.iv c0_i32_34 c1_i32_36 k0_t5
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let c512_i32_203 : BitVec 32 := 512#32
  let v462 : BitVec 32 := Scalar.addi v418 c512_i32_203
  v462
def k0_mult57 (i : grid0.Coords) (k0_t5 : Fin (k0_t5_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let c1_i32_36 : BitVec 32 := 1#32
  let arg12 : BitVec 32 := Scf.iv c0_i32_34 c1_i32_36 k0_t5
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let c768_i32_209 : BitVec 32 := 768#32
  let v481 : BitVec 32 := Scalar.addi v418 c768_i32_209
  v481
@[reducible] def k0_t6_loop (i : grid0.Coords) : Scf.Loop 32 :=
  let c0_i32_34 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_16 : BitVec 32 := 0#32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let v78 : BitVec 32 := Scalar.subi v77 c0_i32_34
  let c1_i32_35 : BitVec 32 := 1#32
  let v80 : BitVec 32 := Scalar.divsi v78 c1_i32_35
  let v81 : BitVec 32 := Scalar.muli v80 c1_i32_35
  let v82 : BitVec 32 := Scalar.addi c0_i32_34 v81
  let v79 : BitVec 32 := Scalar.addi c0_i32_34 v78
  let c1_i32_37 : BitVec 32 := 1#32
  ⟨v82, v79, c1_i32_37⟩
def k0_mult58 (i : grid0.Coords) (k0_t6 : Fin (k0_t6_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let v78 : BitVec 32 := Scalar.subi v77 c0_i32_34
  let c1_i32_35 : BitVec 32 := 1#32
  let v80 : BitVec 32 := Scalar.divsi v78 c1_i32_35
  let v81 : BitVec 32 := Scalar.muli v80 c1_i32_35
  let v82 : BitVec 32 := Scalar.addi c0_i32_34 v81
  let c1_i32_37 : BitVec 32 := 1#32
  let arg12 : BitVec 32 := Scf.iv v82 c1_i32_37 k0_t6
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  v417
def k0_off11 (i : grid0.Coords) (k0_t6 : Fin (k0_t6_loop i).trips) : Fin 4 → Nat :=
  let c0_187 : Index := 0#32
  let c0_188 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let v78 : BitVec 32 := Scalar.subi v77 c0_i32_34
  let c1_i32_35 : BitVec 32 := 1#32
  let v80 : BitVec 32 := Scalar.divsi v78 c1_i32_35
  let v81 : BitVec 32 := Scalar.muli v80 c1_i32_35
  let v82 : BitVec 32 := Scalar.addi c0_i32_34 v81
  let c1_i32_37 : BitVec 32 := 1#32
  let arg12 : BitVec 32 := Scf.iv v82 c1_i32_37 k0_t6
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult59 (i : grid0.Coords) (k0_t6 : Fin (k0_t6_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let v78 : BitVec 32 := Scalar.subi v77 c0_i32_34
  let c1_i32_35 : BitVec 32 := 1#32
  let v80 : BitVec 32 := Scalar.divsi v78 c1_i32_35
  let v81 : BitVec 32 := Scalar.muli v80 c1_i32_35
  let v82 : BitVec 32 := Scalar.addi c0_i32_34 v81
  let c1_i32_37 : BitVec 32 := 1#32
  let arg12 : BitVec 32 := Scf.iv v82 c1_i32_37 k0_t6
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off12 (i : grid0.Coords) (k0_t6 : Fin (k0_t6_loop i).trips) (c0_i32_191 : BitVec 32) : Fin 4 → Nat :=
  let c0_192 : Index := 0#32
  let c0_193 : Index := 0#32
  let c0_194 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let v78 : BitVec 32 := Scalar.subi v77 c0_i32_34
  let c1_i32_35 : BitVec 32 := 1#32
  let v80 : BitVec 32 := Scalar.divsi v78 c1_i32_35
  let v81 : BitVec 32 := Scalar.muli v80 c1_i32_35
  let v82 : BitVec 32 := Scalar.addi c0_i32_34 v81
  let c1_i32_37 : BitVec 32 := 1#32
  let arg12 : BitVec 32 := Scf.iv v82 c1_i32_37 k0_t6
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult60 (i : grid0.Coords) (k0_t6 : Fin (k0_t6_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let v78 : BitVec 32 := Scalar.subi v77 c0_i32_34
  let c1_i32_35 : BitVec 32 := 1#32
  let v80 : BitVec 32 := Scalar.divsi v78 c1_i32_35
  let v81 : BitVec 32 := Scalar.muli v80 c1_i32_35
  let v82 : BitVec 32 := Scalar.addi c0_i32_34 v81
  let c1_i32_37 : BitVec 32 := 1#32
  let arg12 : BitVec 32 := Scf.iv v82 c1_i32_37 k0_t6
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
def k0_mult61 (i : grid0.Coords) (k0_t6 : Fin (k0_t6_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let v78 : BitVec 32 := Scalar.subi v77 c0_i32_34
  let c1_i32_35 : BitVec 32 := 1#32
  let v80 : BitVec 32 := Scalar.divsi v78 c1_i32_35
  let v81 : BitVec 32 := Scalar.muli v80 c1_i32_35
  let v82 : BitVec 32 := Scalar.addi c0_i32_34 v81
  let c1_i32_37 : BitVec 32 := 1#32
  let arg12 : BitVec 32 := Scf.iv v82 c1_i32_37 k0_t6
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let c512_i32_203 : BitVec 32 := 512#32
  let v462 : BitVec 32 := Scalar.addi v418 c512_i32_203
  v462
def k0_mult62 (i : grid0.Coords) (k0_t6 : Fin (k0_t6_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let c0_i32_34 : BitVec 32 := 0#32
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let v78 : BitVec 32 := Scalar.subi v77 c0_i32_34
  let c1_i32_35 : BitVec 32 := 1#32
  let v80 : BitVec 32 := Scalar.divsi v78 c1_i32_35
  let v81 : BitVec 32 := Scalar.muli v80 c1_i32_35
  let v82 : BitVec 32 := Scalar.addi c0_i32_34 v81
  let c1_i32_37 : BitVec 32 := 1#32
  let arg12 : BitVec 32 := Scf.iv v82 c1_i32_37 k0_t6
  let c2_i32_185 : BitVec 32 := 2#32
  let v415 : BitVec 32 := Scalar.muli arg12 c2_i32_185
  let v416 : BitVec 32 := Scalar.addi v59 v415
  let c512_i32_186 : BitVec 32 := 512#32
  let v417 : BitVec 32 := Scalar.muli v416 c512_i32_186
  let v418 : BitVec 32 := v417
  let c768_i32_209 : BitVec 32 := 768#32
  let v481 : BitVec 32 := Scalar.addi v418 c768_i32_209
  v481
@[reducible] def k0_t7_loop (i : grid0.Coords) : Scf.Loop 32 :=
  let c0_i32_46 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_16 : BitVec 32 := 0#32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let v87 : BitVec 32 := Scalar.subi v5 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c1_i32_39 : BitVec 32 := 1#32
  let c0_i32_42 : BitVec 32 := 0#32
  let v94 : BitVec 1 := Scalar.cmpi .sgt c1_i32_39 c0_i32_42
  let v95 : BitVec 32 := Scalar.extui v94
  let c0_i32_43 : BitVec 32 := 0#32
  let v96 : BitVec 1 := Scalar.cmpi .slt c1_i32_39 c0_i32_43
  let v97 : BitVec 32 := Scalar.extui v96
  let v98 : BitVec 32 := Scalar.subi v95 v97
  let v99 : BitVec 1 := Scalar.cmpi .ne v93 v98
  let v100 : BitVec 32 := Scalar.remsi v87 c1_i32_39
  let c0_i32_44 : BitVec 32 := 0#32
  let v101 : BitVec 1 := Scalar.cmpi .ne v100 c0_i32_44
  let v102 : BitVec 1 := Scalar.andi v99 v101
  let v88 : BitVec 32 := Scalar.divsi v87 c1_i32_39
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_48 : BitVec 32 := 1#32
  ⟨c0_i32_46, v109, c1_i32_48⟩
def k0_mult63 (i : grid0.Coords) (k0_t7 : Fin (k0_t7_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let c1_i32_48 : BitVec 32 := 1#32
  let arg12 : BitVec 32 := Scf.iv c0_i32_46 c1_i32_48 k0_t7
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  v417
def k0_off13 (i : grid0.Coords) (k0_t7 : Fin (k0_t7_loop i).trips) : Fin 4 → Nat :=
  let c0_187 : Index := 0#32
  let c0_188 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let c1_i32_48 : BitVec 32 := 1#32
  let arg12 : BitVec 32 := Scf.iv c0_i32_46 c1_i32_48 k0_t7
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult64 (i : grid0.Coords) (k0_t7 : Fin (k0_t7_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let c1_i32_48 : BitVec 32 := 1#32
  let arg12 : BitVec 32 := Scf.iv c0_i32_46 c1_i32_48 k0_t7
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off14 (i : grid0.Coords) (k0_t7 : Fin (k0_t7_loop i).trips) (c0_i32_191 : BitVec 32) : Fin 4 → Nat :=
  let c0_192 : Index := 0#32
  let c0_193 : Index := 0#32
  let c0_194 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let c1_i32_48 : BitVec 32 := 1#32
  let arg12 : BitVec 32 := Scf.iv c0_i32_46 c1_i32_48 k0_t7
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult65 (i : grid0.Coords) (k0_t7 : Fin (k0_t7_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let c1_i32_48 : BitVec 32 := 1#32
  let arg12 : BitVec 32 := Scf.iv c0_i32_46 c1_i32_48 k0_t7
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
@[reducible] def k0_t8_loop (i : grid0.Coords) : Scf.Loop 32 :=
  let c0_i32_46 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_16 : BitVec 32 := 0#32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let v87 : BitVec 32 := Scalar.subi v5 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c1_i32_39 : BitVec 32 := 1#32
  let c0_i32_42 : BitVec 32 := 0#32
  let v94 : BitVec 1 := Scalar.cmpi .sgt c1_i32_39 c0_i32_42
  let v95 : BitVec 32 := Scalar.extui v94
  let c0_i32_43 : BitVec 32 := 0#32
  let v96 : BitVec 1 := Scalar.cmpi .slt c1_i32_39 c0_i32_43
  let v97 : BitVec 32 := Scalar.extui v96
  let v98 : BitVec 32 := Scalar.subi v95 v97
  let v99 : BitVec 1 := Scalar.cmpi .ne v93 v98
  let v100 : BitVec 32 := Scalar.remsi v87 c1_i32_39
  let c0_i32_44 : BitVec 32 := 0#32
  let v101 : BitVec 1 := Scalar.cmpi .ne v100 c0_i32_44
  let v102 : BitVec 1 := Scalar.andi v99 v101
  let v88 : BitVec 32 := Scalar.divsi v87 c1_i32_39
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let v106 : BitVec 32 := Scalar.addi c0_i32_46 v105
  let c1_i32_49 : BitVec 32 := 1#32
  ⟨v109, v106, c1_i32_49⟩
def k0_mult66 (i : grid0.Coords) (k0_t8 : Fin (k0_t8_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let v87 : BitVec 32 := Scalar.subi v5 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c1_i32_39 : BitVec 32 := 1#32
  let c0_i32_42 : BitVec 32 := 0#32
  let v94 : BitVec 1 := Scalar.cmpi .sgt c1_i32_39 c0_i32_42
  let v95 : BitVec 32 := Scalar.extui v94
  let c0_i32_43 : BitVec 32 := 0#32
  let v96 : BitVec 1 := Scalar.cmpi .slt c1_i32_39 c0_i32_43
  let v97 : BitVec 32 := Scalar.extui v96
  let v98 : BitVec 32 := Scalar.subi v95 v97
  let v99 : BitVec 1 := Scalar.cmpi .ne v93 v98
  let v100 : BitVec 32 := Scalar.remsi v87 c1_i32_39
  let c0_i32_44 : BitVec 32 := 0#32
  let v101 : BitVec 1 := Scalar.cmpi .ne v100 c0_i32_44
  let v102 : BitVec 1 := Scalar.andi v99 v101
  let v88 : BitVec 32 := Scalar.divsi v87 c1_i32_39
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t8
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  v417
def k0_off15 (i : grid0.Coords) (k0_t8 : Fin (k0_t8_loop i).trips) : Fin 4 → Nat :=
  let c0_187 : Index := 0#32
  let c0_188 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let v87 : BitVec 32 := Scalar.subi v5 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c1_i32_39 : BitVec 32 := 1#32
  let c0_i32_42 : BitVec 32 := 0#32
  let v94 : BitVec 1 := Scalar.cmpi .sgt c1_i32_39 c0_i32_42
  let v95 : BitVec 32 := Scalar.extui v94
  let c0_i32_43 : BitVec 32 := 0#32
  let v96 : BitVec 1 := Scalar.cmpi .slt c1_i32_39 c0_i32_43
  let v97 : BitVec 32 := Scalar.extui v96
  let v98 : BitVec 32 := Scalar.subi v95 v97
  let v99 : BitVec 1 := Scalar.cmpi .ne v93 v98
  let v100 : BitVec 32 := Scalar.remsi v87 c1_i32_39
  let c0_i32_44 : BitVec 32 := 0#32
  let v101 : BitVec 1 := Scalar.cmpi .ne v100 c0_i32_44
  let v102 : BitVec 1 := Scalar.andi v99 v101
  let v88 : BitVec 32 := Scalar.divsi v87 c1_i32_39
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t8
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult67 (i : grid0.Coords) (k0_t8 : Fin (k0_t8_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let v87 : BitVec 32 := Scalar.subi v5 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c1_i32_39 : BitVec 32 := 1#32
  let c0_i32_42 : BitVec 32 := 0#32
  let v94 : BitVec 1 := Scalar.cmpi .sgt c1_i32_39 c0_i32_42
  let v95 : BitVec 32 := Scalar.extui v94
  let c0_i32_43 : BitVec 32 := 0#32
  let v96 : BitVec 1 := Scalar.cmpi .slt c1_i32_39 c0_i32_43
  let v97 : BitVec 32 := Scalar.extui v96
  let v98 : BitVec 32 := Scalar.subi v95 v97
  let v99 : BitVec 1 := Scalar.cmpi .ne v93 v98
  let v100 : BitVec 32 := Scalar.remsi v87 c1_i32_39
  let c0_i32_44 : BitVec 32 := 0#32
  let v101 : BitVec 1 := Scalar.cmpi .ne v100 c0_i32_44
  let v102 : BitVec 1 := Scalar.andi v99 v101
  let v88 : BitVec 32 := Scalar.divsi v87 c1_i32_39
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t8
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off16 (i : grid0.Coords) (k0_t8 : Fin (k0_t8_loop i).trips) (c0_i32_191 : BitVec 32) : Fin 4 → Nat :=
  let c0_192 : Index := 0#32
  let c0_193 : Index := 0#32
  let c0_194 : Index := 0#32
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let v87 : BitVec 32 := Scalar.subi v5 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c1_i32_39 : BitVec 32 := 1#32
  let c0_i32_42 : BitVec 32 := 0#32
  let v94 : BitVec 1 := Scalar.cmpi .sgt c1_i32_39 c0_i32_42
  let v95 : BitVec 32 := Scalar.extui v94
  let c0_i32_43 : BitVec 32 := 0#32
  let v96 : BitVec 1 := Scalar.cmpi .slt c1_i32_39 c0_i32_43
  let v97 : BitVec 32 := Scalar.extui v96
  let v98 : BitVec 32 := Scalar.subi v95 v97
  let v99 : BitVec 1 := Scalar.cmpi .ne v93 v98
  let v100 : BitVec 32 := Scalar.remsi v87 c1_i32_39
  let c0_i32_44 : BitVec 32 := 0#32
  let v101 : BitVec 1 := Scalar.cmpi .ne v100 c0_i32_44
  let v102 : BitVec 1 := Scalar.andi v99 v101
  let v88 : BitVec 32 := Scalar.divsi v87 c1_i32_39
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t8
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult68 (i : grid0.Coords) (k0_t8 : Fin (k0_t8_loop i).trips) : BitVec 32 :=
  let c0_i32_16 : BitVec 32 := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c0_i32_4 : BitVec 32 := 0#32
  let v6 : BitVec 32 := Scalar.subi v5 c0_i32_4
  let c0_i32_5 : BitVec 32 := 0#32
  let v8 : BitVec 1 := Scalar.cmpi .sgt v6 c0_i32_5
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c8_i32 : BitVec 32 := 8#32
  let c0_i32_7 : BitVec 32 := 0#32
  let v13 : BitVec 1 := Scalar.cmpi .sgt c8_i32 c0_i32_7
  let v14 : BitVec 32 := Scalar.extui v13
  let c0_i32_8 : BitVec 32 := 0#32
  let v15 : BitVec 1 := Scalar.cmpi .slt c8_i32 c0_i32_8
  let v16 : BitVec 32 := Scalar.extui v15
  let v17 : BitVec 32 := Scalar.subi v14 v16
  let v18 : BitVec 1 := Scalar.cmpi .ne v12 v17
  let v19 : BitVec 32 := Scalar.remsi v6 c8_i32
  let c0_i32_9 : BitVec 32 := 0#32
  let v20 : BitVec 1 := Scalar.cmpi .ne v19 c0_i32_9
  let v21 : BitVec 1 := Scalar.andi v18 v20
  let v7 : BitVec 32 := Scalar.divsi v6 c8_i32
  let c1_i32_10 : BitVec 32 := 1#32
  let v22 : BitVec 32 := Scalar.subi v7 c1_i32_10
  let v23 : BitVec 32 := Scalar.select v21 v22 v7
  let c8_i32_15 : BitVec 32 := 8#32
  let v31 : BitVec 32 := Scalar.muli v23 c8_i32_15
  let v32 : BitVec 32 := Scalar.addi c0_i32_16 v31
  let v33 : BitVec 32 := Scalar.subi v5 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c4_i32 : BitVec 32 := 4#32
  let c0_i32_19 : BitVec 32 := 0#32
  let v40 : BitVec 1 := Scalar.cmpi .sgt c4_i32 c0_i32_19
  let v41 : BitVec 32 := Scalar.extui v40
  let c0_i32_20 : BitVec 32 := 0#32
  let v42 : BitVec 1 := Scalar.cmpi .slt c4_i32 c0_i32_20
  let v43 : BitVec 32 := Scalar.extui v42
  let v44 : BitVec 32 := Scalar.subi v41 v43
  let v45 : BitVec 1 := Scalar.cmpi .ne v39 v44
  let v46 : BitVec 32 := Scalar.remsi v33 c4_i32
  let c0_i32_21 : BitVec 32 := 0#32
  let v47 : BitVec 1 := Scalar.cmpi .ne v46 c0_i32_21
  let v48 : BitVec 1 := Scalar.andi v45 v47
  let v34 : BitVec 32 := Scalar.divsi v33 c4_i32
  let c1_i32_22 : BitVec 32 := 1#32
  let v49 : BitVec 32 := Scalar.subi v34 c1_i32_22
  let v50 : BitVec 32 := Scalar.select v48 v49 v34
  let c4_i32_27 : BitVec 32 := 4#32
  let v58 : BitVec 32 := Scalar.muli v50 c4_i32_27
  let v59 : BitVec 32 := Scalar.addi v32 v58
  let v60 : BitVec 32 := Scalar.subi v5 v59
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c2_i32_38 : BitVec 32 := 2#32
  let v85 : BitVec 32 := Scalar.muli v77 c2_i32_38
  let v86 : BitVec 32 := Scalar.addi v59 v85
  let c0_i32_46 : BitVec 32 := 0#32
  let v87 : BitVec 32 := Scalar.subi v5 v86
  let c0_i32_40 : BitVec 32 := 0#32
  let v89 : BitVec 1 := Scalar.cmpi .sgt v87 c0_i32_40
  let v90 : BitVec 32 := Scalar.extui v89
  let c0_i32_41 : BitVec 32 := 0#32
  let v91 : BitVec 1 := Scalar.cmpi .slt v87 c0_i32_41
  let v92 : BitVec 32 := Scalar.extui v91
  let v93 : BitVec 32 := Scalar.subi v90 v92
  let c1_i32_39 : BitVec 32 := 1#32
  let c0_i32_42 : BitVec 32 := 0#32
  let v94 : BitVec 1 := Scalar.cmpi .sgt c1_i32_39 c0_i32_42
  let v95 : BitVec 32 := Scalar.extui v94
  let c0_i32_43 : BitVec 32 := 0#32
  let v96 : BitVec 1 := Scalar.cmpi .slt c1_i32_39 c0_i32_43
  let v97 : BitVec 32 := Scalar.extui v96
  let v98 : BitVec 32 := Scalar.subi v95 v97
  let v99 : BitVec 1 := Scalar.cmpi .ne v93 v98
  let v100 : BitVec 32 := Scalar.remsi v87 c1_i32_39
  let c0_i32_44 : BitVec 32 := 0#32
  let v101 : BitVec 1 := Scalar.cmpi .ne v100 c0_i32_44
  let v102 : BitVec 1 := Scalar.andi v99 v101
  let v88 : BitVec 32 := Scalar.divsi v87 c1_i32_39
  let c1_i32_45 : BitVec 32 := 1#32
  let v103 : BitVec 32 := Scalar.subi v88 c1_i32_45
  let v104 : BitVec 32 := Scalar.select v102 v103 v88
  let v105 : BitVec 32 := Scalar.subi v104 c0_i32_46
  let c1_i32_47 : BitVec 32 := 1#32
  let v107 : BitVec 32 := Scalar.divsi v105 c1_i32_47
  let v108 : BitVec 32 := Scalar.muli v107 c1_i32_47
  let v109 : BitVec 32 := Scalar.addi c0_i32_46 v108
  let c1_i32_49 : BitVec 32 := 1#32
  let arg12 : BitVec 32 := Scf.iv v109 c1_i32_49 k0_t8
  let c1_i32_185 : BitVec 32 := 1#32
  let v415 : BitVec 32 := Scalar.muli arg12 c1_i32_185
  let v416 : BitVec 32 := Scalar.addi v86 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
@[reducible] def k0_t9_loop (i : grid0.Coords) : Scf.Loop 32 :=
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_68 : BitVec 32 := 1#32
  ⟨c0_i32_66, v141, c1_i32_68⟩
def k0_mult69 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  v417
def k0_off17 (i : grid0.Coords) (k0_t9 : Fin (k0_t9_loop i).trips) : Fin 4 → Nat :=
  let c0_188 : Index := 0#32
  let c0_189 : Index := 0#32
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let v419 : Index := Scalar.indexCast v418
  let c0_190 : Index := 0#32
  ![0, 0, v419.toNat, 0]
def k0_mult70 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c0_i32_192 : BitVec 32 := 0#32
  let v424 : BitVec 32 := Scalar.addi v418 c0_i32_192
  v424
def k0_off18 (i : grid0.Coords) (k0_t9 : Fin (k0_t9_loop i).trips) (c0_i32_192 : BitVec 32) : Fin 4 → Nat :=
  let c0_193 : Index := 0#32
  let c0_194 : Index := 0#32
  let c0_195 : Index := 0#32
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let v424 : BitVec 32 := Scalar.addi v418 c0_i32_192
  let v425 : BitVec 32 := v424
  let v426 : Index := Scalar.indexCast v425
  ![0, 0, 0, v426.toNat]
def k0_mult71 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c256_i32_198 : BitVec 32 := 256#32
  let v443 : BitVec 32 := Scalar.addi v418 c256_i32_198
  v443
def k0_mult72 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c512_i32_204 : BitVec 32 := 512#32
  let v462 : BitVec 32 := Scalar.addi v418 c512_i32_204
  v462
def k0_mult73 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c768_i32_210 : BitVec 32 := 768#32
  let v481 : BitVec 32 := Scalar.addi v418 c768_i32_210
  v481
def k0_mult74 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1024_i32 : BitVec 32 := 1024#32
  let v500 : BitVec 32 := Scalar.addi v418 c1024_i32
  v500
def k0_mult75 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1280_i32 : BitVec 32 := 1280#32
  let v519 : BitVec 32 := Scalar.addi v418 c1280_i32
  v519
def k0_mult76 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1536_i32 : BitVec 32 := 1536#32
  let v538 : BitVec 32 := Scalar.addi v418 c1536_i32
  v538
def k0_mult77 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1792_i32 : BitVec 32 := 1792#32
  let v557 : BitVec 32 := Scalar.addi v418 c1792_i32
  v557
def k0_mult78 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2048_i32 : BitVec 32 := 2048#32
  let v576 : BitVec 32 := Scalar.addi v418 c2048_i32
  v576
def k0_mult79 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2304_i32 : BitVec 32 := 2304#32
  let v595 : BitVec 32 := Scalar.addi v418 c2304_i32
  v595
def k0_mult80 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2560_i32 : BitVec 32 := 2560#32
  let v614 : BitVec 32 := Scalar.addi v418 c2560_i32
  v614
def k0_mult81 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2816_i32 : BitVec 32 := 2816#32
  let v633 : BitVec 32 := Scalar.addi v418 c2816_i32
  v633
def k0_mult82 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3072_i32 : BitVec 32 := 3072#32
  let v652 : BitVec 32 := Scalar.addi v418 c3072_i32
  v652
def k0_mult83 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3328_i32 : BitVec 32 := 3328#32
  let v671 : BitVec 32 := Scalar.addi v418 c3328_i32
  v671
def k0_mult84 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3584_i32 : BitVec 32 := 3584#32
  let v690 : BitVec 32 := Scalar.addi v418 c3584_i32
  v690
def k0_mult85 (i : grid0.Coords) (k0_t9 : Fin (k0_t9_loop i).trips) : BitVec 32 :=
  let c0_i32_186 : BitVec 32 := 0#32
  let c0_i32_66 : BitVec 32 := 0#32
  let c1_i32_68 : BitVec 32 := 1#32
  let arg12 : BitVec 32 := Scf.iv c0_i32_66 c1_i32_68 k0_t9
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3840_i32 : BitVec 32 := 3840#32
  let v709 : BitVec 32 := Scalar.addi v418 c3840_i32
  v709
@[reducible] def k0_t10_loop (i : grid0.Coords) : Scf.Loop 32 :=
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let v138 : BitVec 32 := Scalar.addi c0_i32_66 v137
  let c1_i32_69 : BitVec 32 := 1#32
  ⟨v141, v138, c1_i32_69⟩
def k0_mult86 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  v417
def k0_off19 (i : grid0.Coords) (k0_t10 : Fin (k0_t10_loop i).trips) : Fin 4 → Nat :=
  let c0_188 : Index := 0#32
  let c0_189 : Index := 0#32
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let v419 : Index := Scalar.indexCast v418
  let c0_190 : Index := 0#32
  ![0, 0, v419.toNat, 0]
def k0_mult87 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c0_i32_192 : BitVec 32 := 0#32
  let v424 : BitVec 32 := Scalar.addi v418 c0_i32_192
  v424
def k0_off20 (i : grid0.Coords) (k0_t10 : Fin (k0_t10_loop i).trips) (c0_i32_192 : BitVec 32) : Fin 4 → Nat :=
  let c0_193 : Index := 0#32
  let c0_194 : Index := 0#32
  let c0_195 : Index := 0#32
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let v424 : BitVec 32 := Scalar.addi v418 c0_i32_192
  let v425 : BitVec 32 := v424
  let v426 : Index := Scalar.indexCast v425
  ![0, 0, 0, v426.toNat]
def k0_mult88 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c256_i32_198 : BitVec 32 := 256#32
  let v443 : BitVec 32 := Scalar.addi v418 c256_i32_198
  v443
def k0_mult89 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c512_i32_204 : BitVec 32 := 512#32
  let v462 : BitVec 32 := Scalar.addi v418 c512_i32_204
  v462
def k0_mult90 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c768_i32_210 : BitVec 32 := 768#32
  let v481 : BitVec 32 := Scalar.addi v418 c768_i32_210
  v481
def k0_mult91 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1024_i32 : BitVec 32 := 1024#32
  let v500 : BitVec 32 := Scalar.addi v418 c1024_i32
  v500
def k0_mult92 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1280_i32 : BitVec 32 := 1280#32
  let v519 : BitVec 32 := Scalar.addi v418 c1280_i32
  v519
def k0_mult93 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1536_i32 : BitVec 32 := 1536#32
  let v538 : BitVec 32 := Scalar.addi v418 c1536_i32
  v538
def k0_mult94 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c1792_i32 : BitVec 32 := 1792#32
  let v557 : BitVec 32 := Scalar.addi v418 c1792_i32
  v557
def k0_mult95 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2048_i32 : BitVec 32 := 2048#32
  let v576 : BitVec 32 := Scalar.addi v418 c2048_i32
  v576
def k0_mult96 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2304_i32 : BitVec 32 := 2304#32
  let v595 : BitVec 32 := Scalar.addi v418 c2304_i32
  v595
def k0_mult97 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2560_i32 : BitVec 32 := 2560#32
  let v614 : BitVec 32 := Scalar.addi v418 c2560_i32
  v614
def k0_mult98 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c2816_i32 : BitVec 32 := 2816#32
  let v633 : BitVec 32 := Scalar.addi v418 c2816_i32
  v633
def k0_mult99 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3072_i32 : BitVec 32 := 3072#32
  let v652 : BitVec 32 := Scalar.addi v418 c3072_i32
  v652
def k0_mult100 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3328_i32 : BitVec 32 := 3328#32
  let v671 : BitVec 32 := Scalar.addi v418 c3328_i32
  v671
def k0_mult101 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3584_i32 : BitVec 32 := 3584#32
  let v690 : BitVec 32 := Scalar.addi v418 c3584_i32
  v690
def k0_mult102 (i : grid0.Coords) (k0_t10 : Fin (k0_t10_loop i).trips) : BitVec 32 :=
  let c0_i32_186 : BitVec 32 := 0#32
  let c0_i32_66 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let v137 : BitVec 32 := Scalar.subi v136 c0_i32_66
  let c1_i32_67 : BitVec 32 := 1#32
  let v139 : BitVec 32 := Scalar.divsi v137 c1_i32_67
  let v140 : BitVec 32 := Scalar.muli v139 c1_i32_67
  let v141 : BitVec 32 := Scalar.addi c0_i32_66 v140
  let c1_i32_69 : BitVec 32 := 1#32
  let arg12 : BitVec 32 := Scf.iv v141 c1_i32_69 k0_t10
  let c8_i32_185 : BitVec 32 := 8#32
  let v415 : BitVec 32 := Scalar.muli arg12 c8_i32_185
  let v416 : BitVec 32 := Scalar.addi c0_i32_186 v415
  let c512_i32_187 : BitVec 32 := 512#32
  let v417 : BitVec 32 := Scalar.muli v416 c512_i32_187
  let v418 : BitVec 32 := v417
  let c3840_i32 : BitVec 32 := 3840#32
  let v709 : BitVec 32 := Scalar.addi v418 c3840_i32
  v709
@[reducible] def k0_t11_loop (i : grid0.Coords) : Scf.Loop 32 :=
  let c0_i32_79 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_71 : BitVec 32 := 0#32
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_81 : BitVec 32 := 1#32
  ⟨c0_i32_79, v168, c1_i32_81⟩
def k0_mult103 (i : grid0.Coords) (k0_t11 : Fin (k0_t11_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  v417
def k0_off21 (i : grid0.Coords) (k0_t11 : Fin (k0_t11_loop i).trips) : Fin 4 → Nat :=
  let c0_187 : Index := 0#32
  let c0_188 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult104 (i : grid0.Coords) (k0_t11 : Fin (k0_t11_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off22 (i : grid0.Coords) (k0_t11 : Fin (k0_t11_loop i).trips) (c0_i32_191 : BitVec 32) : Fin 4 → Nat :=
  let c0_192 : Index := 0#32
  let c0_193 : Index := 0#32
  let c0_194 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult105 (i : grid0.Coords) (k0_t11 : Fin (k0_t11_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
def k0_mult106 (i : grid0.Coords) (k0_t11 : Fin (k0_t11_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c512_i32_203 : BitVec 32 := 512#32
  let v462 : BitVec 32 := Scalar.addi v418 c512_i32_203
  v462
def k0_mult107 (i : grid0.Coords) (k0_t11 : Fin (k0_t11_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c768_i32_209 : BitVec 32 := 768#32
  let v481 : BitVec 32 := Scalar.addi v418 c768_i32_209
  v481
def k0_mult108 (i : grid0.Coords) (k0_t11 : Fin (k0_t11_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c1024_i32 : BitVec 32 := 1024#32
  let v500 : BitVec 32 := Scalar.addi v418 c1024_i32
  v500
def k0_mult109 (i : grid0.Coords) (k0_t11 : Fin (k0_t11_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c1280_i32 : BitVec 32 := 1280#32
  let v519 : BitVec 32 := Scalar.addi v418 c1280_i32
  v519
def k0_mult110 (i : grid0.Coords) (k0_t11 : Fin (k0_t11_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c1536_i32 : BitVec 32 := 1536#32
  let v538 : BitVec 32 := Scalar.addi v418 c1536_i32
  v538
def k0_mult111 (i : grid0.Coords) (k0_t11 : Fin (k0_t11_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let c1_i32_81 : BitVec 32 := 1#32
  let arg12 : BitVec 32 := Scf.iv c0_i32_79 c1_i32_81 k0_t11
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c1792_i32 : BitVec 32 := 1792#32
  let v557 : BitVec 32 := Scalar.addi v418 c1792_i32
  v557
@[reducible] def k0_t12_loop (i : grid0.Coords) : Scf.Loop 32 :=
  let c0_i32_79 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_71 : BitVec 32 := 0#32
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let v165 : BitVec 32 := Scalar.addi c0_i32_79 v164
  let c1_i32_82 : BitVec 32 := 1#32
  ⟨v168, v165, c1_i32_82⟩
def k0_mult112 (i : grid0.Coords) (k0_t12 : Fin (k0_t12_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  v417
def k0_off23 (i : grid0.Coords) (k0_t12 : Fin (k0_t12_loop i).trips) : Fin 4 → Nat :=
  let c0_187 : Index := 0#32
  let c0_188 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult113 (i : grid0.Coords) (k0_t12 : Fin (k0_t12_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off24 (i : grid0.Coords) (k0_t12 : Fin (k0_t12_loop i).trips) (c0_i32_191 : BitVec 32) : Fin 4 → Nat :=
  let c0_192 : Index := 0#32
  let c0_193 : Index := 0#32
  let c0_194 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult114 (i : grid0.Coords) (k0_t12 : Fin (k0_t12_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
def k0_mult115 (i : grid0.Coords) (k0_t12 : Fin (k0_t12_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c512_i32_203 : BitVec 32 := 512#32
  let v462 : BitVec 32 := Scalar.addi v418 c512_i32_203
  v462
def k0_mult116 (i : grid0.Coords) (k0_t12 : Fin (k0_t12_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c768_i32_209 : BitVec 32 := 768#32
  let v481 : BitVec 32 := Scalar.addi v418 c768_i32_209
  v481
def k0_mult117 (i : grid0.Coords) (k0_t12 : Fin (k0_t12_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c1024_i32 : BitVec 32 := 1024#32
  let v500 : BitVec 32 := Scalar.addi v418 c1024_i32
  v500
def k0_mult118 (i : grid0.Coords) (k0_t12 : Fin (k0_t12_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c1280_i32 : BitVec 32 := 1280#32
  let v519 : BitVec 32 := Scalar.addi v418 c1280_i32
  v519
def k0_mult119 (i : grid0.Coords) (k0_t12 : Fin (k0_t12_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c1536_i32 : BitVec 32 := 1536#32
  let v538 : BitVec 32 := Scalar.addi v418 c1536_i32
  v538
def k0_mult120 (i : grid0.Coords) (k0_t12 : Fin (k0_t12_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let c0_i32_79 : BitVec 32 := 0#32
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let v164 : BitVec 32 := Scalar.subi v163 c0_i32_79
  let c1_i32_80 : BitVec 32 := 1#32
  let v166 : BitVec 32 := Scalar.divsi v164 c1_i32_80
  let v167 : BitVec 32 := Scalar.muli v166 c1_i32_80
  let v168 : BitVec 32 := Scalar.addi c0_i32_79 v167
  let c1_i32_82 : BitVec 32 := 1#32
  let arg12 : BitVec 32 := Scf.iv v168 c1_i32_82 k0_t12
  let c4_i32_185 : BitVec 32 := 4#32
  let v415 : BitVec 32 := Scalar.muli arg12 c4_i32_185
  let v416 : BitVec 32 := Scalar.addi v145 v415
  let c512_i32_186 : BitVec 32 := 512#32
  let v417 : BitVec 32 := Scalar.muli v416 c512_i32_186
  let v418 : BitVec 32 := v417
  let c1792_i32 : BitVec 32 := 1792#32
  let v557 : BitVec 32 := Scalar.addi v418 c1792_i32
  v557
@[reducible] def k0_t13_loop (i : grid0.Coords) : Scf.Loop 32 :=
  let c0_i32_91 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_71 : BitVec 32 := 0#32
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let v191 : BitVec 32 := Scalar.subi v190 c0_i32_91
  let c1_i32_92 : BitVec 32 := 1#32
  let v193 : BitVec 32 := Scalar.divsi v191 c1_i32_92
  let v194 : BitVec 32 := Scalar.muli v193 c1_i32_92
  let v195 : BitVec 32 := Scalar.addi c0_i32_91 v194
  let c1_i32_93 : BitVec 32 := 1#32
  ⟨c0_i32_91, v195, c1_i32_93⟩
def k0_mult121 (i : grid0.Coords) (k0_t13 : Fin (k0_t13_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let c1_i32_93 : BitVec 32 := 1#32
  let arg12 : BitVec 32 := Scf.iv c0_i32_91 c1_i32_93 k0_t13
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  v417
def k0_off25 (i : grid0.Coords) (k0_t13 : Fin (k0_t13_loop i).trips) : Fin 4 → Nat :=
  let c0_187 : Index := 0#32
  let c0_188 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let c1_i32_93 : BitVec 32 := 1#32
  let arg12 : BitVec 32 := Scf.iv c0_i32_91 c1_i32_93 k0_t13
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult122 (i : grid0.Coords) (k0_t13 : Fin (k0_t13_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let c1_i32_93 : BitVec 32 := 1#32
  let arg12 : BitVec 32 := Scf.iv c0_i32_91 c1_i32_93 k0_t13
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off26 (i : grid0.Coords) (k0_t13 : Fin (k0_t13_loop i).trips) (c0_i32_191 : BitVec 32) : Fin 4 → Nat :=
  let c0_192 : Index := 0#32
  let c0_193 : Index := 0#32
  let c0_194 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let c1_i32_93 : BitVec 32 := 1#32
  let arg12 : BitVec 32 := Scf.iv c0_i32_91 c1_i32_93 k0_t13
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult123 (i : grid0.Coords) (k0_t13 : Fin (k0_t13_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let c1_i32_93 : BitVec 32 := 1#32
  let arg12 : BitVec 32 := Scf.iv c0_i32_91 c1_i32_93 k0_t13
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
def k0_mult124 (i : grid0.Coords) (k0_t13 : Fin (k0_t13_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let c1_i32_93 : BitVec 32 := 1#32
  let arg12 : BitVec 32 := Scf.iv c0_i32_91 c1_i32_93 k0_t13
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let c512_i32_203 : BitVec 32 := 512#32
  let v462 : BitVec 32 := Scalar.addi v418 c512_i32_203
  v462
def k0_mult125 (i : grid0.Coords) (k0_t13 : Fin (k0_t13_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let c1_i32_93 : BitVec 32 := 1#32
  let arg12 : BitVec 32 := Scf.iv c0_i32_91 c1_i32_93 k0_t13
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let c768_i32_209 : BitVec 32 := 768#32
  let v481 : BitVec 32 := Scalar.addi v418 c768_i32_209
  v481
@[reducible] def k0_t14_loop (i : grid0.Coords) : Scf.Loop 32 :=
  let c0_i32_91 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_71 : BitVec 32 := 0#32
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let v191 : BitVec 32 := Scalar.subi v190 c0_i32_91
  let c1_i32_92 : BitVec 32 := 1#32
  let v193 : BitVec 32 := Scalar.divsi v191 c1_i32_92
  let v194 : BitVec 32 := Scalar.muli v193 c1_i32_92
  let v195 : BitVec 32 := Scalar.addi c0_i32_91 v194
  let v192 : BitVec 32 := Scalar.addi c0_i32_91 v191
  let c1_i32_94 : BitVec 32 := 1#32
  ⟨v195, v192, c1_i32_94⟩
def k0_mult126 (i : grid0.Coords) (k0_t14 : Fin (k0_t14_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let v191 : BitVec 32 := Scalar.subi v190 c0_i32_91
  let c1_i32_92 : BitVec 32 := 1#32
  let v193 : BitVec 32 := Scalar.divsi v191 c1_i32_92
  let v194 : BitVec 32 := Scalar.muli v193 c1_i32_92
  let v195 : BitVec 32 := Scalar.addi c0_i32_91 v194
  let c1_i32_94 : BitVec 32 := 1#32
  let arg12 : BitVec 32 := Scf.iv v195 c1_i32_94 k0_t14
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  v417
def k0_off27 (i : grid0.Coords) (k0_t14 : Fin (k0_t14_loop i).trips) : Fin 4 → Nat :=
  let c0_187 : Index := 0#32
  let c0_188 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let v191 : BitVec 32 := Scalar.subi v190 c0_i32_91
  let c1_i32_92 : BitVec 32 := 1#32
  let v193 : BitVec 32 := Scalar.divsi v191 c1_i32_92
  let v194 : BitVec 32 := Scalar.muli v193 c1_i32_92
  let v195 : BitVec 32 := Scalar.addi c0_i32_91 v194
  let c1_i32_94 : BitVec 32 := 1#32
  let arg12 : BitVec 32 := Scf.iv v195 c1_i32_94 k0_t14
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult127 (i : grid0.Coords) (k0_t14 : Fin (k0_t14_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let v191 : BitVec 32 := Scalar.subi v190 c0_i32_91
  let c1_i32_92 : BitVec 32 := 1#32
  let v193 : BitVec 32 := Scalar.divsi v191 c1_i32_92
  let v194 : BitVec 32 := Scalar.muli v193 c1_i32_92
  let v195 : BitVec 32 := Scalar.addi c0_i32_91 v194
  let c1_i32_94 : BitVec 32 := 1#32
  let arg12 : BitVec 32 := Scf.iv v195 c1_i32_94 k0_t14
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off28 (i : grid0.Coords) (k0_t14 : Fin (k0_t14_loop i).trips) (c0_i32_191 : BitVec 32) : Fin 4 → Nat :=
  let c0_192 : Index := 0#32
  let c0_193 : Index := 0#32
  let c0_194 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let v191 : BitVec 32 := Scalar.subi v190 c0_i32_91
  let c1_i32_92 : BitVec 32 := 1#32
  let v193 : BitVec 32 := Scalar.divsi v191 c1_i32_92
  let v194 : BitVec 32 := Scalar.muli v193 c1_i32_92
  let v195 : BitVec 32 := Scalar.addi c0_i32_91 v194
  let c1_i32_94 : BitVec 32 := 1#32
  let arg12 : BitVec 32 := Scf.iv v195 c1_i32_94 k0_t14
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult128 (i : grid0.Coords) (k0_t14 : Fin (k0_t14_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let v191 : BitVec 32 := Scalar.subi v190 c0_i32_91
  let c1_i32_92 : BitVec 32 := 1#32
  let v193 : BitVec 32 := Scalar.divsi v191 c1_i32_92
  let v194 : BitVec 32 := Scalar.muli v193 c1_i32_92
  let v195 : BitVec 32 := Scalar.addi c0_i32_91 v194
  let c1_i32_94 : BitVec 32 := 1#32
  let arg12 : BitVec 32 := Scf.iv v195 c1_i32_94 k0_t14
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
def k0_mult129 (i : grid0.Coords) (k0_t14 : Fin (k0_t14_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let v191 : BitVec 32 := Scalar.subi v190 c0_i32_91
  let c1_i32_92 : BitVec 32 := 1#32
  let v193 : BitVec 32 := Scalar.divsi v191 c1_i32_92
  let v194 : BitVec 32 := Scalar.muli v193 c1_i32_92
  let v195 : BitVec 32 := Scalar.addi c0_i32_91 v194
  let c1_i32_94 : BitVec 32 := 1#32
  let arg12 : BitVec 32 := Scf.iv v195 c1_i32_94 k0_t14
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let c512_i32_203 : BitVec 32 := 512#32
  let v462 : BitVec 32 := Scalar.addi v418 c512_i32_203
  v462
def k0_mult130 (i : grid0.Coords) (k0_t14 : Fin (k0_t14_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let c0_i32_91 : BitVec 32 := 0#32
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let v191 : BitVec 32 := Scalar.subi v190 c0_i32_91
  let c1_i32_92 : BitVec 32 := 1#32
  let v193 : BitVec 32 := Scalar.divsi v191 c1_i32_92
  let v194 : BitVec 32 := Scalar.muli v193 c1_i32_92
  let v195 : BitVec 32 := Scalar.addi c0_i32_91 v194
  let c1_i32_94 : BitVec 32 := 1#32
  let arg12 : BitVec 32 := Scf.iv v195 c1_i32_94 k0_t14
  let c2_i32_185 : BitVec 32 := 2#32
  let v415 : BitVec 32 := Scalar.muli arg12 c2_i32_185
  let v416 : BitVec 32 := Scalar.addi v172 v415
  let c512_i32_186 : BitVec 32 := 512#32
  let v417 : BitVec 32 := Scalar.muli v416 c512_i32_186
  let v418 : BitVec 32 := v417
  let c768_i32_209 : BitVec 32 := 768#32
  let v481 : BitVec 32 := Scalar.addi v418 c768_i32_209
  v481
@[reducible] def k0_t15_loop (i : grid0.Coords) : Scf.Loop 32 :=
  let c0_i32_103 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_71 : BitVec 32 := 0#32
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let v200 : BitVec 32 := Scalar.subi v118 v199
  let c0_i32_97 : BitVec 32 := 0#32
  let v202 : BitVec 1 := Scalar.cmpi .sgt v200 c0_i32_97
  let v203 : BitVec 32 := Scalar.extui v202
  let c0_i32_98 : BitVec 32 := 0#32
  let v204 : BitVec 1 := Scalar.cmpi .slt v200 c0_i32_98
  let v205 : BitVec 32 := Scalar.extui v204
  let v206 : BitVec 32 := Scalar.subi v203 v205
  let c1_i32_96 : BitVec 32 := 1#32
  let c0_i32_99 : BitVec 32 := 0#32
  let v207 : BitVec 1 := Scalar.cmpi .sgt c1_i32_96 c0_i32_99
  let v208 : BitVec 32 := Scalar.extui v207
  let c0_i32_100 : BitVec 32 := 0#32
  let v209 : BitVec 1 := Scalar.cmpi .slt c1_i32_96 c0_i32_100
  let v210 : BitVec 32 := Scalar.extui v209
  let v211 : BitVec 32 := Scalar.subi v208 v210
  let v212 : BitVec 1 := Scalar.cmpi .ne v206 v211
  let v213 : BitVec 32 := Scalar.remsi v200 c1_i32_96
  let c0_i32_101 : BitVec 32 := 0#32
  let v214 : BitVec 1 := Scalar.cmpi .ne v213 c0_i32_101
  let v215 : BitVec 1 := Scalar.andi v212 v214
  let v201 : BitVec 32 := Scalar.divsi v200 c1_i32_96
  let c1_i32_102 : BitVec 32 := 1#32
  let v216 : BitVec 32 := Scalar.subi v201 c1_i32_102
  let v217 : BitVec 32 := Scalar.select v215 v216 v201
  let v218 : BitVec 32 := Scalar.subi v217 c0_i32_103
  let c1_i32_104 : BitVec 32 := 1#32
  let v220 : BitVec 32 := Scalar.divsi v218 c1_i32_104
  let v221 : BitVec 32 := Scalar.muli v220 c1_i32_104
  let v222 : BitVec 32 := Scalar.addi c0_i32_103 v221
  let c1_i32_105 : BitVec 32 := 1#32
  ⟨c0_i32_103, v222, c1_i32_105⟩
def k0_mult131 (i : grid0.Coords) (k0_t15 : Fin (k0_t15_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let c1_i32_105 : BitVec 32 := 1#32
  let arg12 : BitVec 32 := Scf.iv c0_i32_103 c1_i32_105 k0_t15
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  v417
def k0_off29 (i : grid0.Coords) (k0_t15 : Fin (k0_t15_loop i).trips) : Fin 4 → Nat :=
  let c0_187 : Index := 0#32
  let c0_188 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let c1_i32_105 : BitVec 32 := 1#32
  let arg12 : BitVec 32 := Scf.iv c0_i32_103 c1_i32_105 k0_t15
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult132 (i : grid0.Coords) (k0_t15 : Fin (k0_t15_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let c1_i32_105 : BitVec 32 := 1#32
  let arg12 : BitVec 32 := Scf.iv c0_i32_103 c1_i32_105 k0_t15
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off30 (i : grid0.Coords) (k0_t15 : Fin (k0_t15_loop i).trips) (c0_i32_191 : BitVec 32) : Fin 4 → Nat :=
  let c0_192 : Index := 0#32
  let c0_193 : Index := 0#32
  let c0_194 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let c1_i32_105 : BitVec 32 := 1#32
  let arg12 : BitVec 32 := Scf.iv c0_i32_103 c1_i32_105 k0_t15
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult133 (i : grid0.Coords) (k0_t15 : Fin (k0_t15_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let c1_i32_105 : BitVec 32 := 1#32
  let arg12 : BitVec 32 := Scf.iv c0_i32_103 c1_i32_105 k0_t15
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
@[reducible] def k0_t16_loop (i : grid0.Coords) : Scf.Loop 32 :=
  let c0_i32_103 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_71 : BitVec 32 := 0#32
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let v200 : BitVec 32 := Scalar.subi v118 v199
  let c0_i32_97 : BitVec 32 := 0#32
  let v202 : BitVec 1 := Scalar.cmpi .sgt v200 c0_i32_97
  let v203 : BitVec 32 := Scalar.extui v202
  let c0_i32_98 : BitVec 32 := 0#32
  let v204 : BitVec 1 := Scalar.cmpi .slt v200 c0_i32_98
  let v205 : BitVec 32 := Scalar.extui v204
  let v206 : BitVec 32 := Scalar.subi v203 v205
  let c1_i32_96 : BitVec 32 := 1#32
  let c0_i32_99 : BitVec 32 := 0#32
  let v207 : BitVec 1 := Scalar.cmpi .sgt c1_i32_96 c0_i32_99
  let v208 : BitVec 32 := Scalar.extui v207
  let c0_i32_100 : BitVec 32 := 0#32
  let v209 : BitVec 1 := Scalar.cmpi .slt c1_i32_96 c0_i32_100
  let v210 : BitVec 32 := Scalar.extui v209
  let v211 : BitVec 32 := Scalar.subi v208 v210
  let v212 : BitVec 1 := Scalar.cmpi .ne v206 v211
  let v213 : BitVec 32 := Scalar.remsi v200 c1_i32_96
  let c0_i32_101 : BitVec 32 := 0#32
  let v214 : BitVec 1 := Scalar.cmpi .ne v213 c0_i32_101
  let v215 : BitVec 1 := Scalar.andi v212 v214
  let v201 : BitVec 32 := Scalar.divsi v200 c1_i32_96
  let c1_i32_102 : BitVec 32 := 1#32
  let v216 : BitVec 32 := Scalar.subi v201 c1_i32_102
  let v217 : BitVec 32 := Scalar.select v215 v216 v201
  let v218 : BitVec 32 := Scalar.subi v217 c0_i32_103
  let c1_i32_104 : BitVec 32 := 1#32
  let v220 : BitVec 32 := Scalar.divsi v218 c1_i32_104
  let v221 : BitVec 32 := Scalar.muli v220 c1_i32_104
  let v222 : BitVec 32 := Scalar.addi c0_i32_103 v221
  let v219 : BitVec 32 := Scalar.addi c0_i32_103 v218
  let c1_i32_106 : BitVec 32 := 1#32
  ⟨v222, v219, c1_i32_106⟩
def k0_mult134 (i : grid0.Coords) (k0_t16 : Fin (k0_t16_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let v200 : BitVec 32 := Scalar.subi v118 v199
  let c0_i32_97 : BitVec 32 := 0#32
  let v202 : BitVec 1 := Scalar.cmpi .sgt v200 c0_i32_97
  let v203 : BitVec 32 := Scalar.extui v202
  let c0_i32_98 : BitVec 32 := 0#32
  let v204 : BitVec 1 := Scalar.cmpi .slt v200 c0_i32_98
  let v205 : BitVec 32 := Scalar.extui v204
  let v206 : BitVec 32 := Scalar.subi v203 v205
  let c1_i32_96 : BitVec 32 := 1#32
  let c0_i32_99 : BitVec 32 := 0#32
  let v207 : BitVec 1 := Scalar.cmpi .sgt c1_i32_96 c0_i32_99
  let v208 : BitVec 32 := Scalar.extui v207
  let c0_i32_100 : BitVec 32 := 0#32
  let v209 : BitVec 1 := Scalar.cmpi .slt c1_i32_96 c0_i32_100
  let v210 : BitVec 32 := Scalar.extui v209
  let v211 : BitVec 32 := Scalar.subi v208 v210
  let v212 : BitVec 1 := Scalar.cmpi .ne v206 v211
  let v213 : BitVec 32 := Scalar.remsi v200 c1_i32_96
  let c0_i32_101 : BitVec 32 := 0#32
  let v214 : BitVec 1 := Scalar.cmpi .ne v213 c0_i32_101
  let v215 : BitVec 1 := Scalar.andi v212 v214
  let v201 : BitVec 32 := Scalar.divsi v200 c1_i32_96
  let c1_i32_102 : BitVec 32 := 1#32
  let v216 : BitVec 32 := Scalar.subi v201 c1_i32_102
  let v217 : BitVec 32 := Scalar.select v215 v216 v201
  let v218 : BitVec 32 := Scalar.subi v217 c0_i32_103
  let c1_i32_104 : BitVec 32 := 1#32
  let v220 : BitVec 32 := Scalar.divsi v218 c1_i32_104
  let v221 : BitVec 32 := Scalar.muli v220 c1_i32_104
  let v222 : BitVec 32 := Scalar.addi c0_i32_103 v221
  let c1_i32_106 : BitVec 32 := 1#32
  let arg12 : BitVec 32 := Scf.iv v222 c1_i32_106 k0_t16
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  v417
def k0_off31 (i : grid0.Coords) (k0_t16 : Fin (k0_t16_loop i).trips) : Fin 4 → Nat :=
  let c0_187 : Index := 0#32
  let c0_188 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let v200 : BitVec 32 := Scalar.subi v118 v199
  let c0_i32_97 : BitVec 32 := 0#32
  let v202 : BitVec 1 := Scalar.cmpi .sgt v200 c0_i32_97
  let v203 : BitVec 32 := Scalar.extui v202
  let c0_i32_98 : BitVec 32 := 0#32
  let v204 : BitVec 1 := Scalar.cmpi .slt v200 c0_i32_98
  let v205 : BitVec 32 := Scalar.extui v204
  let v206 : BitVec 32 := Scalar.subi v203 v205
  let c1_i32_96 : BitVec 32 := 1#32
  let c0_i32_99 : BitVec 32 := 0#32
  let v207 : BitVec 1 := Scalar.cmpi .sgt c1_i32_96 c0_i32_99
  let v208 : BitVec 32 := Scalar.extui v207
  let c0_i32_100 : BitVec 32 := 0#32
  let v209 : BitVec 1 := Scalar.cmpi .slt c1_i32_96 c0_i32_100
  let v210 : BitVec 32 := Scalar.extui v209
  let v211 : BitVec 32 := Scalar.subi v208 v210
  let v212 : BitVec 1 := Scalar.cmpi .ne v206 v211
  let v213 : BitVec 32 := Scalar.remsi v200 c1_i32_96
  let c0_i32_101 : BitVec 32 := 0#32
  let v214 : BitVec 1 := Scalar.cmpi .ne v213 c0_i32_101
  let v215 : BitVec 1 := Scalar.andi v212 v214
  let v201 : BitVec 32 := Scalar.divsi v200 c1_i32_96
  let c1_i32_102 : BitVec 32 := 1#32
  let v216 : BitVec 32 := Scalar.subi v201 c1_i32_102
  let v217 : BitVec 32 := Scalar.select v215 v216 v201
  let v218 : BitVec 32 := Scalar.subi v217 c0_i32_103
  let c1_i32_104 : BitVec 32 := 1#32
  let v220 : BitVec 32 := Scalar.divsi v218 c1_i32_104
  let v221 : BitVec 32 := Scalar.muli v220 c1_i32_104
  let v222 : BitVec 32 := Scalar.addi c0_i32_103 v221
  let c1_i32_106 : BitVec 32 := 1#32
  let arg12 : BitVec 32 := Scf.iv v222 c1_i32_106 k0_t16
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  let v418 : BitVec 32 := v417
  let v419 : Index := Scalar.indexCast v418
  let c0_189 : Index := 0#32
  ![0, 0, v419.toNat, 0]
def k0_mult135 (i : grid0.Coords) (k0_t16 : Fin (k0_t16_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let v200 : BitVec 32 := Scalar.subi v118 v199
  let c0_i32_97 : BitVec 32 := 0#32
  let v202 : BitVec 1 := Scalar.cmpi .sgt v200 c0_i32_97
  let v203 : BitVec 32 := Scalar.extui v202
  let c0_i32_98 : BitVec 32 := 0#32
  let v204 : BitVec 1 := Scalar.cmpi .slt v200 c0_i32_98
  let v205 : BitVec 32 := Scalar.extui v204
  let v206 : BitVec 32 := Scalar.subi v203 v205
  let c1_i32_96 : BitVec 32 := 1#32
  let c0_i32_99 : BitVec 32 := 0#32
  let v207 : BitVec 1 := Scalar.cmpi .sgt c1_i32_96 c0_i32_99
  let v208 : BitVec 32 := Scalar.extui v207
  let c0_i32_100 : BitVec 32 := 0#32
  let v209 : BitVec 1 := Scalar.cmpi .slt c1_i32_96 c0_i32_100
  let v210 : BitVec 32 := Scalar.extui v209
  let v211 : BitVec 32 := Scalar.subi v208 v210
  let v212 : BitVec 1 := Scalar.cmpi .ne v206 v211
  let v213 : BitVec 32 := Scalar.remsi v200 c1_i32_96
  let c0_i32_101 : BitVec 32 := 0#32
  let v214 : BitVec 1 := Scalar.cmpi .ne v213 c0_i32_101
  let v215 : BitVec 1 := Scalar.andi v212 v214
  let v201 : BitVec 32 := Scalar.divsi v200 c1_i32_96
  let c1_i32_102 : BitVec 32 := 1#32
  let v216 : BitVec 32 := Scalar.subi v201 c1_i32_102
  let v217 : BitVec 32 := Scalar.select v215 v216 v201
  let v218 : BitVec 32 := Scalar.subi v217 c0_i32_103
  let c1_i32_104 : BitVec 32 := 1#32
  let v220 : BitVec 32 := Scalar.divsi v218 c1_i32_104
  let v221 : BitVec 32 := Scalar.muli v220 c1_i32_104
  let v222 : BitVec 32 := Scalar.addi c0_i32_103 v221
  let c1_i32_106 : BitVec 32 := 1#32
  let arg12 : BitVec 32 := Scf.iv v222 c1_i32_106 k0_t16
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  let v418 : BitVec 32 := v417
  let c0_i32_191 : BitVec 32 := 0#32
  let v424 : BitVec 32 := Scalar.addi v418 c0_i32_191
  v424
def k0_off32 (i : grid0.Coords) (k0_t16 : Fin (k0_t16_loop i).trips) (c0_i32_191 : BitVec 32) : Fin 4 → Nat :=
  let c0_192 : Index := 0#32
  let c0_193 : Index := 0#32
  let c0_194 : Index := 0#32
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let v200 : BitVec 32 := Scalar.subi v118 v199
  let c0_i32_97 : BitVec 32 := 0#32
  let v202 : BitVec 1 := Scalar.cmpi .sgt v200 c0_i32_97
  let v203 : BitVec 32 := Scalar.extui v202
  let c0_i32_98 : BitVec 32 := 0#32
  let v204 : BitVec 1 := Scalar.cmpi .slt v200 c0_i32_98
  let v205 : BitVec 32 := Scalar.extui v204
  let v206 : BitVec 32 := Scalar.subi v203 v205
  let c1_i32_96 : BitVec 32 := 1#32
  let c0_i32_99 : BitVec 32 := 0#32
  let v207 : BitVec 1 := Scalar.cmpi .sgt c1_i32_96 c0_i32_99
  let v208 : BitVec 32 := Scalar.extui v207
  let c0_i32_100 : BitVec 32 := 0#32
  let v209 : BitVec 1 := Scalar.cmpi .slt c1_i32_96 c0_i32_100
  let v210 : BitVec 32 := Scalar.extui v209
  let v211 : BitVec 32 := Scalar.subi v208 v210
  let v212 : BitVec 1 := Scalar.cmpi .ne v206 v211
  let v213 : BitVec 32 := Scalar.remsi v200 c1_i32_96
  let c0_i32_101 : BitVec 32 := 0#32
  let v214 : BitVec 1 := Scalar.cmpi .ne v213 c0_i32_101
  let v215 : BitVec 1 := Scalar.andi v212 v214
  let v201 : BitVec 32 := Scalar.divsi v200 c1_i32_96
  let c1_i32_102 : BitVec 32 := 1#32
  let v216 : BitVec 32 := Scalar.subi v201 c1_i32_102
  let v217 : BitVec 32 := Scalar.select v215 v216 v201
  let v218 : BitVec 32 := Scalar.subi v217 c0_i32_103
  let c1_i32_104 : BitVec 32 := 1#32
  let v220 : BitVec 32 := Scalar.divsi v218 c1_i32_104
  let v221 : BitVec 32 := Scalar.muli v220 c1_i32_104
  let v222 : BitVec 32 := Scalar.addi c0_i32_103 v221
  let c1_i32_106 : BitVec 32 := 1#32
  let arg12 : BitVec 32 := Scf.iv v222 c1_i32_106 k0_t16
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  let v418 : BitVec 32 := v417
  let v424 : BitVec 32 := Scalar.addi v418 c0_i32_191
  let v425 : BitVec 32 := v424
  let v426 : Index := Scalar.indexCast v425
  ![0, 0, 0, v426.toNat]
def k0_mult136 (i : grid0.Coords) (k0_t16 : Fin (k0_t16_loop i).trips) : BitVec 32 :=
  let c0_i32_71 : BitVec 32 := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c0_i32_58 : BitVec 32 := 0#32
  let v119 : BitVec 32 := Scalar.subi v118 c0_i32_58
  let c0_i32_60 : BitVec 32 := 0#32
  let v121 : BitVec 1 := Scalar.cmpi .sgt v119 c0_i32_60
  let v122 : BitVec 32 := Scalar.extui v121
  let c0_i32_61 : BitVec 32 := 0#32
  let v123 : BitVec 1 := Scalar.cmpi .slt v119 c0_i32_61
  let v124 : BitVec 32 := Scalar.extui v123
  let v125 : BitVec 32 := Scalar.subi v122 v124
  let c8_i32_59 : BitVec 32 := 8#32
  let c0_i32_62 : BitVec 32 := 0#32
  let v126 : BitVec 1 := Scalar.cmpi .sgt c8_i32_59 c0_i32_62
  let v127 : BitVec 32 := Scalar.extui v126
  let c0_i32_63 : BitVec 32 := 0#32
  let v128 : BitVec 1 := Scalar.cmpi .slt c8_i32_59 c0_i32_63
  let v129 : BitVec 32 := Scalar.extui v128
  let v130 : BitVec 32 := Scalar.subi v127 v129
  let v131 : BitVec 1 := Scalar.cmpi .ne v125 v130
  let v132 : BitVec 32 := Scalar.remsi v119 c8_i32_59
  let c0_i32_64 : BitVec 32 := 0#32
  let v133 : BitVec 1 := Scalar.cmpi .ne v132 c0_i32_64
  let v134 : BitVec 1 := Scalar.andi v131 v133
  let v120 : BitVec 32 := Scalar.divsi v119 c8_i32_59
  let c1_i32_65 : BitVec 32 := 1#32
  let v135 : BitVec 32 := Scalar.subi v120 c1_i32_65
  let v136 : BitVec 32 := Scalar.select v134 v135 v120
  let c8_i32_70 : BitVec 32 := 8#32
  let v144 : BitVec 32 := Scalar.muli v136 c8_i32_70
  let v145 : BitVec 32 := Scalar.addi c0_i32_71 v144
  let v146 : BitVec 32 := Scalar.subi v118 v145
  let c0_i32_73 : BitVec 32 := 0#32
  let v148 : BitVec 1 := Scalar.cmpi .sgt v146 c0_i32_73
  let v149 : BitVec 32 := Scalar.extui v148
  let c0_i32_74 : BitVec 32 := 0#32
  let v150 : BitVec 1 := Scalar.cmpi .slt v146 c0_i32_74
  let v151 : BitVec 32 := Scalar.extui v150
  let v152 : BitVec 32 := Scalar.subi v149 v151
  let c4_i32_72 : BitVec 32 := 4#32
  let c0_i32_75 : BitVec 32 := 0#32
  let v153 : BitVec 1 := Scalar.cmpi .sgt c4_i32_72 c0_i32_75
  let v154 : BitVec 32 := Scalar.extui v153
  let c0_i32_76 : BitVec 32 := 0#32
  let v155 : BitVec 1 := Scalar.cmpi .slt c4_i32_72 c0_i32_76
  let v156 : BitVec 32 := Scalar.extui v155
  let v157 : BitVec 32 := Scalar.subi v154 v156
  let v158 : BitVec 1 := Scalar.cmpi .ne v152 v157
  let v159 : BitVec 32 := Scalar.remsi v146 c4_i32_72
  let c0_i32_77 : BitVec 32 := 0#32
  let v160 : BitVec 1 := Scalar.cmpi .ne v159 c0_i32_77
  let v161 : BitVec 1 := Scalar.andi v158 v160
  let v147 : BitVec 32 := Scalar.divsi v146 c4_i32_72
  let c1_i32_78 : BitVec 32 := 1#32
  let v162 : BitVec 32 := Scalar.subi v147 c1_i32_78
  let v163 : BitVec 32 := Scalar.select v161 v162 v147
  let c4_i32_83 : BitVec 32 := 4#32
  let v171 : BitVec 32 := Scalar.muli v163 c4_i32_83
  let v172 : BitVec 32 := Scalar.addi v145 v171
  let v173 : BitVec 32 := Scalar.subi v118 v172
  let c0_i32_85 : BitVec 32 := 0#32
  let v175 : BitVec 1 := Scalar.cmpi .sgt v173 c0_i32_85
  let v176 : BitVec 32 := Scalar.extui v175
  let c0_i32_86 : BitVec 32 := 0#32
  let v177 : BitVec 1 := Scalar.cmpi .slt v173 c0_i32_86
  let v178 : BitVec 32 := Scalar.extui v177
  let v179 : BitVec 32 := Scalar.subi v176 v178
  let c2_i32_84 : BitVec 32 := 2#32
  let c0_i32_87 : BitVec 32 := 0#32
  let v180 : BitVec 1 := Scalar.cmpi .sgt c2_i32_84 c0_i32_87
  let v181 : BitVec 32 := Scalar.extui v180
  let c0_i32_88 : BitVec 32 := 0#32
  let v182 : BitVec 1 := Scalar.cmpi .slt c2_i32_84 c0_i32_88
  let v183 : BitVec 32 := Scalar.extui v182
  let v184 : BitVec 32 := Scalar.subi v181 v183
  let v185 : BitVec 1 := Scalar.cmpi .ne v179 v184
  let v186 : BitVec 32 := Scalar.remsi v173 c2_i32_84
  let c0_i32_89 : BitVec 32 := 0#32
  let v187 : BitVec 1 := Scalar.cmpi .ne v186 c0_i32_89
  let v188 : BitVec 1 := Scalar.andi v185 v187
  let v174 : BitVec 32 := Scalar.divsi v173 c2_i32_84
  let c1_i32_90 : BitVec 32 := 1#32
  let v189 : BitVec 32 := Scalar.subi v174 c1_i32_90
  let v190 : BitVec 32 := Scalar.select v188 v189 v174
  let c2_i32_95 : BitVec 32 := 2#32
  let v198 : BitVec 32 := Scalar.muli v190 c2_i32_95
  let v199 : BitVec 32 := Scalar.addi v172 v198
  let c0_i32_103 : BitVec 32 := 0#32
  let v200 : BitVec 32 := Scalar.subi v118 v199
  let c0_i32_97 : BitVec 32 := 0#32
  let v202 : BitVec 1 := Scalar.cmpi .sgt v200 c0_i32_97
  let v203 : BitVec 32 := Scalar.extui v202
  let c0_i32_98 : BitVec 32 := 0#32
  let v204 : BitVec 1 := Scalar.cmpi .slt v200 c0_i32_98
  let v205 : BitVec 32 := Scalar.extui v204
  let v206 : BitVec 32 := Scalar.subi v203 v205
  let c1_i32_96 : BitVec 32 := 1#32
  let c0_i32_99 : BitVec 32 := 0#32
  let v207 : BitVec 1 := Scalar.cmpi .sgt c1_i32_96 c0_i32_99
  let v208 : BitVec 32 := Scalar.extui v207
  let c0_i32_100 : BitVec 32 := 0#32
  let v209 : BitVec 1 := Scalar.cmpi .slt c1_i32_96 c0_i32_100
  let v210 : BitVec 32 := Scalar.extui v209
  let v211 : BitVec 32 := Scalar.subi v208 v210
  let v212 : BitVec 1 := Scalar.cmpi .ne v206 v211
  let v213 : BitVec 32 := Scalar.remsi v200 c1_i32_96
  let c0_i32_101 : BitVec 32 := 0#32
  let v214 : BitVec 1 := Scalar.cmpi .ne v213 c0_i32_101
  let v215 : BitVec 1 := Scalar.andi v212 v214
  let v201 : BitVec 32 := Scalar.divsi v200 c1_i32_96
  let c1_i32_102 : BitVec 32 := 1#32
  let v216 : BitVec 32 := Scalar.subi v201 c1_i32_102
  let v217 : BitVec 32 := Scalar.select v215 v216 v201
  let v218 : BitVec 32 := Scalar.subi v217 c0_i32_103
  let c1_i32_104 : BitVec 32 := 1#32
  let v220 : BitVec 32 := Scalar.divsi v218 c1_i32_104
  let v221 : BitVec 32 := Scalar.muli v220 c1_i32_104
  let v222 : BitVec 32 := Scalar.addi c0_i32_103 v221
  let c1_i32_106 : BitVec 32 := 1#32
  let arg12 : BitVec 32 := Scf.iv v222 c1_i32_106 k0_t16
  let c1_i32_185 : BitVec 32 := 1#32
  let v415 : BitVec 32 := Scalar.muli arg12 c1_i32_185
  let v416 : BitVec 32 := Scalar.addi v199 v415
  let c512_i32_186 : BitVec 32 := 512#32
  let v417 : BitVec 32 := Scalar.muli v416 c512_i32_186
  let v418 : BitVec 32 := v417
  let c256_i32_197 : BitVec 32 := 256#32
  let v443 : BitVec 32 := Scalar.addi v418 c256_i32_197
  v443
def k0_mult137 (i : grid0.Coords) : BitVec 32 :=
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c512_i32 : BitVec 32 := 512#32
  let v230 : BitVec 32 := Scalar.muli v5 c512_i32
  v230
def k0_off33 (i : grid0.Coords) : Fin 4 → Nat :=
  let c0_115 : Index := 0#32
  let c0_116 : Index := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c512_i32 : BitVec 32 := 512#32
  let v230 : BitVec 32 := Scalar.muli v5 c512_i32
  let v231 : BitVec 32 := v230
  let v232 : Index := Scalar.indexCast v231
  let c0_117 : Index := 0#32
  ![0, 0, v232.toNat, 0]
def k0_mult138 (i : grid0.Coords) : BitVec 32 :=
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c512_i32 : BitVec 32 := 512#32
  let v230 : BitVec 32 := Scalar.muli v5 c512_i32
  let v231 : BitVec 32 := v230
  let c0_i32_119 : BitVec 32 := 0#32
  let v238 : BitVec 32 := Scalar.addi v231 c0_i32_119
  v238
def k0_off34 (i : grid0.Coords) (c0_i32_119 : BitVec 32) : Fin 4 → Nat :=
  let c0_120 : Index := 0#32
  let c0_121 : Index := 0#32
  let c0_122 : Index := 0#32
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c512_i32 : BitVec 32 := 512#32
  let v230 : BitVec 32 := Scalar.muli v5 c512_i32
  let v231 : BitVec 32 := v230
  let v238 : BitVec 32 := Scalar.addi v231 c0_i32_119
  let v239 : BitVec 32 := v238
  let v240 : Index := Scalar.indexCast v239
  ![0, 0, 0, v240.toNat]
def k0_mult139 (i : grid0.Coords) : BitVec 32 :=
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c512_i32 : BitVec 32 := 512#32
  let v230 : BitVec 32 := Scalar.muli v5 c512_i32
  let v231 : BitVec 32 := v230
  let c256_i32 : BitVec 32 := 256#32
  let v257 : BitVec 32 := Scalar.addi v231 c256_i32
  v257
def k0_mult140 (i : grid0.Coords) : BitVec 32 :=
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c512_i32 : BitVec 32 := 512#32
  let v230 : BitVec 32 := Scalar.muli v5 c512_i32
  let v231 : BitVec 32 := v230
  let c512_i32_130 : BitVec 32 := 512#32
  let v276 : BitVec 32 := Scalar.addi v231 c512_i32_130
  v276
def k0_mult141 (i : grid0.Coords) : BitVec 32 :=
  let arg2 : BitVec 32 := BitVec.ofNat 32 (i 2).val
  let c1_i32 : BitVec 32 := 1#32
  let v4 : BitVec 32 := Scalar.subi arg2 c1_i32
  let c0_i32 : BitVec 32 := 0#32
  let v5 : BitVec 32 := Scalar.maxsi v4 c0_i32
  let c512_i32 : BitVec 32 := 512#32
  let v230 : BitVec 32 := Scalar.muli v5 c512_i32
  let v231 : BitVec 32 := v230
  let c768_i32 : BitVec 32 := 768#32
  let v295 : BitVec 32 := Scalar.addi v231 c768_i32
  v295
def k0_mult142 (i : grid0.Coords) : BitVec 32 :=
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c512_i32_153 : BitVec 32 := 512#32
  let v325 : BitVec 32 := Scalar.muli v118 c512_i32_153
  v325
def k0_off35 (i : grid0.Coords) : Fin 4 → Nat :=
  let c0_154 : Index := 0#32
  let c0_155 : Index := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c512_i32_153 : BitVec 32 := 512#32
  let v325 : BitVec 32 := Scalar.muli v118 c512_i32_153
  let v326 : BitVec 32 := v325
  let v327 : Index := Scalar.indexCast v326
  let c0_156 : Index := 0#32
  ![0, 0, v327.toNat, 0]
def k0_mult143 (i : grid0.Coords) : BitVec 32 :=
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c512_i32_153 : BitVec 32 := 512#32
  let v325 : BitVec 32 := Scalar.muli v118 c512_i32_153
  let v326 : BitVec 32 := v325
  let c0_i32_158 : BitVec 32 := 0#32
  let v333 : BitVec 32 := Scalar.addi v326 c0_i32_158
  v333
def k0_off36 (i : grid0.Coords) (c0_i32_158 : BitVec 32) : Fin 4 → Nat :=
  let c0_159 : Index := 0#32
  let c0_160 : Index := 0#32
  let c0_161 : Index := 0#32
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c512_i32_153 : BitVec 32 := 512#32
  let v325 : BitVec 32 := Scalar.muli v118 c512_i32_153
  let v326 : BitVec 32 := v325
  let v333 : BitVec 32 := Scalar.addi v326 c0_i32_158
  let v334 : BitVec 32 := v333
  let v335 : Index := Scalar.indexCast v334
  ![0, 0, 0, v335.toNat]
def k0_mult144 (i : grid0.Coords) : BitVec 32 :=
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c512_i32_153 : BitVec 32 := 512#32
  let v325 : BitVec 32 := Scalar.muli v118 c512_i32_153
  let v326 : BitVec 32 := v325
  let c256_i32_164 : BitVec 32 := 256#32
  let v352 : BitVec 32 := Scalar.addi v326 c256_i32_164
  v352
def k0_mult145 (i : grid0.Coords) : BitVec 32 :=
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c512_i32_153 : BitVec 32 := 512#32
  let v325 : BitVec 32 := Scalar.muli v118 c512_i32_153
  let v326 : BitVec 32 := v325
  let c512_i32_170 : BitVec 32 := 512#32
  let v371 : BitVec 32 := Scalar.addi v326 c512_i32_170
  v371
def k0_mult146 (i : grid0.Coords) : BitVec 32 :=
  let c15_i32 : BitVec 32 := 15#32
  let arg2 : BitVec 32 := BitVec.ofNat 32 (i 2).val
  let v112 : BitVec 32 := Scalar.subi c15_i32 arg2
  let c1_i32_56 : BitVec 32 := 1#32
  let v117 : BitVec 32 := Scalar.subi v112 c1_i32_56
  let c0_i32_57 : BitVec 32 := 0#32
  let v118 : BitVec 32 := Scalar.maxsi v117 c0_i32_57
  let c512_i32_153 : BitVec 32 := 512#32
  let v325 : BitVec 32 := Scalar.muli v118 c512_i32_153
  let v326 : BitVec 32 := v325
  let c768_i32_176 : BitVec 32 := 768#32
  let v390 : BitVec 32 := Scalar.addi v326 c768_i32_176
  v390
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let c0_i32_0 : BitVec 32 := 0#32
  ![arg0.toNat, arg1.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![arg0.toNat, v16.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![arg0.toNat, v16.toNat, c0_i32_5.toNat, c0_i32_6.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  let v1 : BitVec 32 := Scalar.subi c0_i32 v0
  let c2_i32 : BitVec 32 := 2#32
  let v2 : BitVec 32 := Scalar.addi v1 c2_i32
  let c1_i32_0 : BitVec 32 := 1#32
  let v3 : BitVec 32 := Scalar.subi v2 c1_i32_0
  let c2_i32_1 : BitVec 32 := 2#32
  let v4 : BitVec 32 := Scalar.minsi v3 c2_i32_1
  let c0_i32_2 : BitVec 32 := 0#32
  let c0_i32_3 : BitVec 32 := 0#32
  let c0_i32_4 : BitVec 32 := 0#32
  let c0_i32_5 : BitVec 32 := 0#32
  ![c0_i32_2.toNat, v4.toNat, c0_i32_3.toNat, c0_i32_4.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c1_i32_0 : BitVec 32 := 1#32
  let v1 : BitVec 32 := Scalar.subi c1_i32_0 v0
  let c2_i32 : BitVec 32 := 2#32
  let v2 : BitVec 32 := Scalar.addi v1 c2_i32
  let c1_i32_1 : BitVec 32 := 1#32
  let v3 : BitVec 32 := Scalar.subi v2 c1_i32_1
  let c2_i32_2 : BitVec 32 := 2#32
  let v4 : BitVec 32 := Scalar.minsi v3 c2_i32_2
  let c0_i32 : BitVec 32 := 0#32
  let c0_i32_3 : BitVec 32 := 0#32
  let c0_i32_4 : BitVec 32 := 0#32
  let c0_i32_5 : BitVec 32 := 0#32
  ![c0_i32.toNat, v4.toNat, c0_i32_3.toNat, c0_i32_4.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c1_i32 : BitVec 32 := 1#32
  let v1 : BitVec 32 := Scalar.minsi v0 c1_i32
  let c0_i32 : BitVec 32 := 0#32
  let v2 : BitVec 32 := Scalar.subi c0_i32 v1
  let c2_i32 : BitVec 32 := 2#32
  let v3 : BitVec 32 := Scalar.addi v2 c2_i32
  let c1_i32_0 : BitVec 32 := 1#32
  let v4 : BitVec 32 := Scalar.subi v3 c1_i32_0
  let c2_i32_1 : BitVec 32 := 2#32
  let v5 : BitVec 32 := Scalar.minsi v4 c2_i32_1
  let c0_i32_2 : BitVec 32 := 0#32
  let c0_i32_3 : BitVec 32 := 0#32
  let c0_i32_4 : BitVec 32 := 0#32
  let c0_i32_5 : BitVec 32 := 0#32
  ![c0_i32_2.toNat, v5.toNat, c0_i32_3.toNat, c0_i32_4.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c1_i32 : BitVec 32 := 1#32
  let v1 : BitVec 32 := Scalar.minsi v0 c1_i32
  let c1_i32_0 : BitVec 32 := 1#32
  let v2 : BitVec 32 := Scalar.subi c1_i32_0 v1
  let c2_i32 : BitVec 32 := 2#32
  let v3 : BitVec 32 := Scalar.addi v2 c2_i32
  let c1_i32_1 : BitVec 32 := 1#32
  let v4 : BitVec 32 := Scalar.subi v3 c1_i32_1
  let c2_i32_2 : BitVec 32 := 2#32
  let v5 : BitVec 32 := Scalar.minsi v4 c2_i32_2
  let c0_i32 : BitVec 32 := 0#32
  let c0_i32_3 : BitVec 32 := 0#32
  let c0_i32_4 : BitVec 32 := 0#32
  let c0_i32_5 : BitVec 32 := 0#32
  ![c0_i32.toNat, v5.toNat, c0_i32_3.toNat, c0_i32_4.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x80x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x6x8192x96 : Shape := ⟨4, ![2, 6, 8192, 96]⟩
abbrev S2x6x8192x64 : Shape := ⟨4, ![2, 6, 8192, 64]⟩
abbrev S8192 : Shape := ⟨1, ![8192]⟩
abbrev S2x6x8192x8192 : Shape := ⟨4, ![2, 6, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x6x8192 : Shape := ⟨3, ![2, 6, 8192]⟩
abbrev S2x6x8192x1 : Shape := ⟨4, ![2, 6, 8192, 1]⟩
abbrev S2x6x64x8192 : Shape := ⟨4, ![2, 6, 64, 8192]⟩
abbrev S2x6x64x16x512 : Shape := ⟨5, ![2, 6, 64, 16, 512]⟩
abbrev S2x6x64x8x512 : Shape := ⟨5, ![2, 6, 64, 8, 512]⟩
abbrev S2x6x64x8x1x512 : Shape := ⟨6, ![2, 6, 64, 8, 1, 512]⟩
abbrev S2x6x64x8x2x512 : Shape := ⟨6, ![2, 6, 64, 8, 2, 512]⟩

abbrev nBuf : Space → Nat
  | .hbm => 42
  | .vmem => 0
  | .smem => 0
  | _ => 0

abbrev bufTy : (tb : Table) → Fin (tcTables nBuf tb) → BufTy
  | .hbm, ⟨0, _⟩ => ⟨S2x6x8192x96, .f32⟩
  | .hbm, ⟨1, _⟩ => ⟨S2x6x8192x96, .f32⟩
  | .hbm, ⟨2, _⟩ => ⟨S2x6x8192x64, .f32⟩
  | .hbm, ⟨3, _⟩ => ⟨S8192, .i32⟩
  | .hbm, ⟨4, _⟩ => ⟨S2x6x8192x8192, .f32⟩
  | .hbm, ⟨5, _⟩ => ⟨S_, .f32⟩
  | .hbm, ⟨6, _⟩ => ⟨S2x6x8192x8192, .f32⟩
  | .hbm, ⟨7, _⟩ => ⟨S2x6x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S2x6x8192x8192, .i1⟩
  | .hbm, ⟨16, _⟩ => ⟨S2x6x8192x8192, .f32⟩
  | .hbm, ⟨17, _⟩ => ⟨S2x6x8192x8192, .f32⟩
  | .hbm, ⟨18, _⟩ => ⟨S_, .f32⟩
  | .hbm, ⟨19, _⟩ => ⟨S2x6x8192, .f32⟩
  | .hbm, ⟨20, _⟩ => ⟨S_, .f32⟩
  | .hbm, ⟨21, _⟩ => ⟨S2x6x8192, .f32⟩
  | .hbm, ⟨22, _⟩ => ⟨S2x6x8192, .f32⟩
  | .hbm, ⟨23, _⟩ => ⟨S2x6x8192x1, .f32⟩
  | .hbm, ⟨24, _⟩ => ⟨S2x6x8192x8192, .f32⟩
  | .hbm, ⟨25, _⟩ => ⟨S2x6x8192x8192, .f32⟩
  | .hbm, ⟨26, _⟩ => ⟨S2x6x8192x8192, .f32⟩
  | .hbm, ⟨27, _⟩ => ⟨S_, .f32⟩
  | .hbm, ⟨28, _⟩ => ⟨S2x6x8192, .f32⟩
  | .hbm, ⟨29, _⟩ => ⟨S2x6x8192x1, .f32⟩
  | .hbm, ⟨30, _⟩ => ⟨S2x6x8192x8192, .f32⟩
  | .hbm, ⟨31, _⟩ => ⟨S2x6x8192x8192, .f32⟩
  | .hbm, ⟨32, _⟩ => ⟨S2x6x8192x64, .f32⟩
  | .hbm, ⟨33, _⟩ => ⟨S2x6x64x8192, .f32⟩
  | .hbm, ⟨34, _⟩ => ⟨S2x6x64x16x512, .f32⟩
  | .hbm, ⟨35, _⟩ => ⟨S2x6x64x8x512, .f32⟩
  | .hbm, ⟨36, _⟩ => ⟨S2x6x64x8x512, .f32⟩
  | .hbm, ⟨37, _⟩ => ⟨S2x6x64x8x512, .f32⟩
  | .hbm, ⟨38, _⟩ => ⟨S2x6x64x8x1x512, .f32⟩
  | .hbm, ⟨39, _⟩ => ⟨S2x6x64x8x1x512, .f32⟩
  | .hbm, ⟨40, _⟩ => ⟨S2x6x64x8x2x512, .f32⟩
  | .hbm, ⟨41, _⟩ => ⟨S2x6x64x8192, .f32⟩
  | _, _ => ⟨S2x6x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S1x1024 : Shape := ⟨2, ![1, 1024]⟩
abbrev S1x5632 : Shape := ⟨2, ![1, 5632]⟩
abbrev S512x1024 : Shape := ⟨2, ![512, 1024]⟩
abbrev S520x5632 : Shape := ⟨2, ![520, 5632]⟩
abbrev S8x5632 : Shape := ⟨2, ![8, 5632]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S3x256 : Shape := ⟨2, ![3, 256]⟩
abbrev S1x256 : Shape := ⟨2, ![1, 256]⟩
abbrev S8x256 : Shape := ⟨2, ![8, 256]⟩
abbrev S256x1024 : Shape := ⟨2, ![256, 1024]⟩

abbrev nBuf : Space → Nat
  | .hbm => 12
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S520x5632, .f32⟩
  | .local _ .vmem, ⟨10, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x5632, .f32⟩
  | .hbm, ⟨23, _⟩ => ⟨S_, .i32⟩
  | .hbm, ⟨24, _⟩ => ⟨S_, .f32⟩
  | .hbm, ⟨25, _⟩ => ⟨S2x8194x5632, .f32⟩
  | .hbm, ⟨26, _⟩ => ⟨S2x8192x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x8192x5632, .f32⟩
  | .hbm, ⟨31, _⟩ => ⟨S2x8192x5632, .f32⟩
  | .hbm, ⟨32, _⟩ => ⟨S2x8192x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S2x8192x5632, .f32⟩
  | .hbm, ⟨37, _⟩ => ⟨S2x8192x5632, .f32⟩
  | .hbm, ⟨38, _⟩ => ⟨S2x8192x5632, .f32⟩
  | .hbm, ⟨39, _⟩ => ⟨S2x8192x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S2x8192x5632, .f32⟩
  | .hbm, ⟨44, _⟩ => ⟨S2x8192x5632, .f32⟩
  | .hbm, ⟨45, _⟩ => ⟨S2x8192x5632, .f32⟩
  | .hbm, ⟨46, _⟩ => ⟨S1x1x5632, .f32⟩
  | .hbm, ⟨47, _⟩ => ⟨S2x8192x5632, .f32⟩
  | .hbm, ⟨48, _⟩ => ⟨S2x8192x5632, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S_, .f32⟩
  | .hbm, ⟨54, _⟩ => ⟨S2x8192x2816, .f32⟩
  | .hbm, ⟨55, _⟩ => ⟨S2x8192x2816, .f32⟩
  | .hbm, ⟨56, _⟩ => ⟨S_, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S2x8192x1024, .f32⟩
  | .hbm, ⟨62, _⟩ => ⟨S2x8192x1024, .f32⟩
  | .hbm, ⟨63, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x2546 : Shape := ⟨2, ![1024, 2546]⟩
abbrev S16384x1024 : Shape := ⟨2, ![16384, 1024]⟩
abbrev S1024x192 : Shape := ⟨2, ![1024, 192]⟩
abbrev S_ : Shape := ⟨0, ![]⟩
abbrev S1024x64 : Shape := ⟨2, ![1024, 64]⟩
abbrev S1024x128 : Shape := ⟨2, ![1024, 128]⟩
abbrev S1024x32 : Shape := ⟨2, ![1024, 32]⟩
abbrev S1024x16 : Shape := ⟨2, ![1024, 16]⟩
abbrev S1024x1024 : Shape := ⟨2, ![1024, 1024]⟩
abbrev S1024x640 : Shape := ⟨2, ![1024, 640]⟩
abbrev S1024x3 : Shape := ⟨2, ![1024, 3]⟩
abbrev S1024x5 : Shape := ⟨2, ![1024, 5]⟩
abbrev S1024x80 : Shape := ⟨2, ![1024, 80]⟩
abbrev S1024x2560 : Shape := ⟨2, ![1024, 2560]⟩
abbrev S1024x552 : Shape := ⟨2, ![1024, 552]⟩
abbrev S1024x88 : Shape := ⟨2, ![1024, 88]⟩
abbrev S1024x3200 : Shape := ⟨2, ![1024, 3200]⟩
abbrev S1x1024 : Shape := ⟨2, ![1, 1024]⟩
abbrev S16384x640 : Shape := ⟨2, ![16384, 640]⟩
abbrev S16384x1536 : Shape := ⟨2, ![16384, 1536]⟩
abbrev S16384x256 : Shape := ⟨2, ![16384, 256]⟩
abbrev S256x1024 : Shape := ⟨2, ![256, 1024]⟩
abbrev S256x640 : Shape := ⟨2, ![256, 640]⟩
abbrev S256x1536 : Shape := ⟨2, ![256, 1536]⟩
abbrev S256x256 : Shape := ⟨2, ![256, 256]⟩
abbrev S256 : Shape := ⟨1, ![256]⟩
abbrev S256x1 : Shape := ⟨2, ![256, 1]⟩
abbrev S1024x1536 : Shape := ⟨2, ![1024, 1536]⟩

abbrev nBuf : Space → Nat
  | .hbm => 66
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2546, .f32⟩
  | .hbm, ⟨3, _⟩ => ⟨S16384x1024, .f32⟩
  | .hbm, ⟨4, _⟩ => ⟨S1024x2546, .bf16⟩
  | .hbm, ⟨5, _⟩ => ⟨S1024x192, .bf16⟩
  | .hbm, ⟨6, _⟩ => ⟨S_, .bf16⟩
  | .hbm, ⟨7, _⟩ => ⟨S1024x64, .bf16⟩
  | .hbm, ⟨8, _⟩ => ⟨S1024x128, .bf16⟩
  | .hbm, ⟨9, _⟩ => ⟨S_, .bf16⟩
  | .hbm, ⟨10, _⟩ => ⟨S1024x64, .bf16⟩
  | .hbm, ⟨11, _⟩ => ⟨S1024x32, .bf16⟩
  | .hbm, ⟨12, _⟩ => ⟨S_, .bf16⟩
  | .hbm, ⟨13, _⟩ => ⟨S1024x32, .bf16⟩
  | .hbm, ⟨14, _⟩ => ⟨S_, .bf16⟩
  | .hbm, ⟨15, _⟩ => ⟨S1024x64, .bf16⟩
  | .hbm, ⟨16, _⟩ => ⟨S1024x16, .bf16⟩
  | .hbm, ⟨17, _⟩ => ⟨S1024x16, .bf16⟩
  | .hbm, ⟨18, _⟩ => ⟨S1024x16, .bf16⟩
  | .hbm, ⟨19, _⟩ => ⟨S_, .bf16⟩
  | .hbm, ⟨20, _⟩ => ⟨S1024x32, .bf16⟩
  | .hbm, ⟨21, _⟩ => ⟨S1024x1024, .bf16⟩
  | .hbm, ⟨22, _⟩ => ⟨S1024x640, .bf16⟩
  | .hbm, ⟨23, _⟩ => ⟨S1024x64, .bf16⟩
  | .hbm, ⟨24, _⟩ => ⟨S_, .bf16⟩
  | .hbm, ⟨25, _⟩ => ⟨S1024x64, .bf16⟩
  | .hbm, ⟨26, _⟩ => ⟨S1024x64, .bf16⟩
  | .hbm, ⟨27, _⟩ => ⟨S_, .bf16⟩
  | .hbm, ⟨28, _⟩ => ⟨S1024x64, .bf16⟩
  | .hbm, ⟨29, _⟩ => ⟨S1024x128, .bf16⟩
  | .hbm, ⟨30, _⟩ => ⟨S1024x64, .bf16⟩
  | .hbm, ⟨31, _⟩ => ⟨S_, .bf16⟩
  | .hbm, ⟨32, _⟩ => ⟨S1024x64, .bf16⟩
  | .hbm, ⟨33, _⟩ => ⟨S1024x64, .bf16⟩
  | .hbm, ⟨34, _⟩ => ⟨S_, .bf16⟩
  | .hbm, ⟨35, _⟩ => ⟨S1024x64, .bf16⟩
  | .hbm, ⟨36, _⟩ => ⟨S1024x128, .bf16⟩
  | .hbm, ⟨37, _⟩ => ⟨S1024x3, .bf16⟩
  | .hbm, ⟨38, _⟩ => ⟨S_, .bf16⟩
  | .hbm, ⟨39, _⟩ => ⟨S1024x5, .bf16⟩
  | .hbm, ⟨40, _⟩ => ⟨S1024x3, .bf16⟩
  | .hbm, ⟨41, _⟩ => ⟨S_, .bf16⟩
  | .hbm, ⟨42, _⟩ => ⟨S1024x5, .bf16⟩
  | .hbm, ⟨43, _⟩ => ⟨S1024x3, .bf16⟩
  | .hbm, ⟨44, _⟩ => ⟨S_, .bf16⟩
  | .hbm, ⟨45, _⟩ => ⟨S1024x5, .bf16⟩
  | .hbm, ⟨46, _⟩ => ⟨S1024x3, .bf16⟩
  | .hbm, ⟨47, _⟩ => ⟨S_, .bf16⟩
  | .hbm, ⟨48, _⟩ => ⟨S1024x5, .bf16⟩
  | .hbm, ⟨49, _⟩ => ⟨S1024x3, .bf16⟩
  | .hbm, ⟨50, _⟩ => ⟨S_, .bf16⟩
  | .hbm, ⟨51, _⟩ => ⟨S1024x5, .bf16⟩
  | .hbm, ⟨52, _⟩ => ⟨S1024x3, .bf16⟩
  | .hbm, ⟨53, _⟩ => ⟨S_, .bf16⟩
  | .hbm, ⟨54, _⟩ => ⟨S1024x5, .bf16⟩
  | .hbm, ⟨55, _⟩ => ⟨S_, .bf16⟩
  | .hbm, ⟨56, _⟩ => ⟨S1024x80, .bf16⟩
  | .hbm, ⟨57, _⟩ => ⟨S1024x2560, .bf16⟩
  | .hbm, ⟨58, _⟩ => ⟨S1024x552, .bf16⟩
  | .hbm, ⟨59, _⟩ => ⟨S1024x88, .bf16⟩
  | .hbm, ⟨60, _⟩ => ⟨S1024x3200, .bf16⟩
  | .hbm, ⟨61, _⟩ => ⟨S1x1024, .f32⟩
  | .hbm, ⟨62, _⟩ => ⟨S16384x640, .f32⟩
  | .hbm, ⟨63, _⟩ => ⟨S16384x1024, .f32⟩
  | .hbm, ⟨64, _⟩ => ⟨S16384x1536, .f32⟩
  | .hbm, ⟨65, _⟩ => ⟨S16384x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S256x640, .f32⟩
  | .local _ .vmem, ⟨5, _⟩ => ⟨S256x640, .f32⟩
  | .local _ .vmem, ⟨6, _⟩ => ⟨S256x1024, .f32⟩
  | .local _ .vmem, ⟨7, _⟩ => ⟨S256x1024, .f32⟩
  | .local _ .vmem, ⟨8, _⟩ => ⟨S256x1536, .f32⟩
  | .local _ .vmem, ⟨9, _⟩ => ⟨S256x1536, .f32⟩
  | .local _ .vmem, ⟨10, _⟩ => ⟨S256x256, .bf16⟩
  | .local _ .vmem, ⟨11, _⟩ => ⟨S256x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_cst_13 : Ref sig .tc := ⟨.hbm, 53, rfl⟩
abbrev main_v36 : Ref sig .tc := ⟨.hbm, 54, rfl⟩
abbrev main_cst_14 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43_0 : Ref sig .tc := ⟨.hbm, 62, rfl⟩
abbrev main_v43_1 : Ref sig .tc := ⟨.hbm, 63, rfl⟩
abbrev main_v43_2 : Ref sig .tc := ⟨.hbm, 64, rfl⟩
abbrev main_v43_3 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x8192x1024 : Shape := ⟨3, ![2, 8192, 1024]⟩
abbrev S1024 : Shape := ⟨1, ![1024]⟩
abbrev S1024x2546 : Shape := ⟨2, ![1024, 2546]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2546 : Shape := ⟨3, ![2, 8192, 2546]⟩
abbrev S2x8192x192 : Shape := ⟨3, ![2, 8192, 192]⟩
abbrev S2x8192x128 : Shape := ⟨3, ![2, 8192, 128]⟩
abbrev S2x8192x32 : Shape := ⟨3, ![2, 8192, 32]⟩
abbrev S2x8192x256 : Shape := ⟨3, ![2, 8192, 256]⟩
abbrev S2x8192x384 : Shape := ⟨3, ![2, 8192, 384]⟩
abbrev S2x8192x18 : Shape := ⟨3, ![2, 8192, 18]⟩
abbrev S1024x16 : Shape := ⟨2, ![1024, 16]⟩
abbrev S2x8192x16 : Shape := ⟨3, ![2, 8192, 16]⟩
abbrev S2x8192x64 : Shape := ⟨3, ![2, 8192, 64]⟩
abbrev S2x8192x96 : Shape := ⟨3, ![2, 8192, 96]⟩
abbrev S2x8192x640 : Shape := ⟨3, ![2, 8192, 640]⟩
abbrev S2x8192x6x3 : Shape := ⟨4, ![2, 8192, 6, 3]⟩
abbrev S2x8192x6x8 : Shape := ⟨4, ![2, 8192, 6, 8]⟩
abbrev S2x8192x48 : Shape := ⟨3, ![2, 8192, 48]⟩
abbrev S2x8192x80 : Shape := ⟨3, ![2, 8192, 80]⟩
abbrev S2x8192x1536 : Shape := ⟨3, ![2, 8192, 1536]⟩
abbrev S16384x640 : Shape := ⟨2, ![16384, 640]⟩
abbrev S16384x1024 : Shape := ⟨2, ![16384, 1024]⟩
abbrev S16384x1536 : Shape := ⟨2, ![16384, 1536]⟩
abbrev S16384x256 : Shape := ⟨2, ![16384, 256]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2546, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x2546, .f32⟩
  | .hbm, ⟨20, _⟩ => ⟨S2x8192x192, .f32⟩
  | .hbm, ⟨21, _⟩ => ⟨S2x8192x128, .f32⟩
  | .hbm, ⟨22, _⟩ => ⟨S2x8192x32, .f32⟩
  | .hbm, ⟨23, _⟩ => ⟨S2x8192x256, .f32⟩
  | .hbm, ⟨24, _⟩ => ⟨S2x8192x256, .f32⟩
  | .hbm, ⟨25, _⟩ => ⟨S2x8192x256, .f32⟩
  | .hbm, ⟨26, _⟩ => ⟨S2x8192x256, .f32⟩
  | .hbm, ⟨27, _⟩ => ⟨S2x8192x384, .f32⟩
  | .hbm, ⟨28, _⟩ => ⟨S2x8192x128, .f32⟩
  | .hbm, ⟨29, _⟩ => ⟨S2x8192x128, .f32⟩
  | .hbm, ⟨30, _⟩ => ⟨S2x8192x128, .f32⟩
  | .hbm, ⟨31, _⟩ => ⟨S2x8192x128, .f32⟩
  | .hbm, ⟨32, _⟩ => ⟨S2x8192x128, .f32⟩
  | .hbm, ⟨33, _⟩ => ⟨S2x8192x128, .f32⟩
  | .hbm, ⟨34, _⟩ => ⟨S2x8192x18, .f32⟩
  | .hbm, ⟨35, _⟩ => ⟨S1024x16, .f32⟩
  | .hbm, ⟨36, _⟩ => ⟨S1024x16, .f32⟩
  | .hbm, ⟨37, _⟩ => ⟨S2x8192x16, .f32⟩
  | .hbm, ⟨38, _⟩ => ⟨S_, .f32⟩
  | .hbm, ⟨39, _⟩ => ⟨S2x8192x64, .f32⟩
  | .hbm, ⟨40, _⟩ => ⟨S_, .f32⟩
  | .hbm, ⟨41, _⟩ => ⟨S2x8192x64, .f32⟩
  | .hbm, ⟨42, _⟩ => ⟨S_, .f32⟩
  | .hbm, ⟨43, _⟩ => ⟨S2x8192x96, .f32⟩
  | .hbm, ⟨44, _⟩ => ⟨S2x8192x16, .f32⟩
  | .hbm, ⟨45, _⟩ => ⟨S_, .f32⟩
  | .hbm, ⟨46, _⟩ => ⟨S2x8192x32, .f32⟩
  | .hbm, ⟨47, _⟩ => ⟨S2x8192x640, .f32⟩
  | .hbm, ⟨48, _⟩ => ⟨S2x8192x1024, .f32⟩
  | .hbm, ⟨49, _⟩ => ⟨S2x8192x6x3, .f32⟩
  | .hbm, ⟨50, _⟩ => ⟨S_, .i32⟩
  | .hbm, ⟨51, _⟩ => ⟨S_, .f32⟩
  | .hbm, ⟨52, _⟩ => ⟨S2x8192x6x8, .f32⟩
  | .hbm, ⟨53, _⟩ => ⟨S2x8192x48, .f32⟩
  | .hbm, ⟨54, _⟩ => ⟨S2x8192x64, .f32⟩
  | .hbm, ⟨55, _⟩ => ⟨S_, .f32⟩
  | .hbm, ⟨56, _⟩ => ⟨S2x8192x64, .f32⟩
  | .hbm, ⟨57, _⟩ => ⟨S2x8192x64, .f32⟩
  | .hbm, ⟨58, _⟩ => ⟨S_, .f32⟩
  | .hbm, ⟨59, _⟩ => ⟨S2x8192x64, .f32⟩
  | .hbm, ⟨60, _⟩ => ⟨S2x8192x64, .f32⟩
  | .hbm, ⟨61, _⟩ => ⟨S_, .f32⟩
  | .hbm, ⟨62, _⟩ => ⟨S2x8192x64, .f32⟩
  | .hbm, ⟨63, _⟩ => ⟨S2x8192x64, .f32⟩
  | .hbm, ⟨64, _⟩ => ⟨S_, .f32⟩
  | .hbm, ⟨65, _⟩ => ⟨S2x8192x64, .f32⟩
  | .hbm, ⟨66, _⟩ => ⟨S_, .f32⟩
  | .hbm, ⟨67, _⟩ => ⟨S2x8192x80, .f32⟩
  | .hbm, ⟨68, _⟩ => ⟨S2x8192x1536, .f32⟩
  | .hbm, ⟨69, _⟩ => ⟨S2x8192x256, .f32⟩
  | .hbm, ⟨70, _⟩ => ⟨S2x8192x256, .bf16⟩
  | .hbm, ⟨71, _⟩ => ⟨S16384x640, .f32⟩
  | .hbm, ⟨72, _⟩ => ⟨S16384x1024, .f32⟩
  | .hbm, ⟨73, _⟩ => ⟨S16384x1536, .f32⟩
  | .hbm, ⟨74, _⟩ => ⟨S16384x256, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c : Ref sig .tc := ⟨.hbm, 50, rfl⟩
abbrev main_call0_v0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Proof.Online.lean ====
/- The mathematics of a softmax that is accumulated block by block over extended reals: what one block adds to a
   weighted sum, and why dividing the finished sum by the finished weight gives the softmax average whatever the
   reference point of the exponentials was. -/
module

public import Idealize.ShloMosaic.PureOps.Ideal

@[expose] public section

namespace Cert.Online

open Idealize.ShloMosaic

/-- A nonnegative real factor moves into a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top c)]

/-- A finite sum of reals is the same read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a real and of finitely many extended reals below `⊤` is a real. -/
theorem exists_real_max_fold {ι : Type*} (s : Finset ι) (r : ℝ) (b : EReal) (hb : b ≠ ⊤) (f : ι → EReal)
    (hf : ∀ i, f i ≠ ⊤) : ∃ r' : ℝ, max (r : EReal) (s.fold max b f) = (r' : EReal) := by
  have hlt : s.fold max b f < ⊤ :=
    (Finset.fold_max_lt ⊤).mpr ⟨lt_top_iff_ne_top.mpr hb, fun i _ => lt_top_iff_ne_top.mpr (hf i)⟩
  refine ⟨(max (r : EReal) (s.fold max b f)).toReal, (EReal.coe_toReal ?_ ?_).symm⟩
  · exact (max_lt (EReal.coe_lt_top r) hlt).ne
  · exact ((EReal.bot_lt_coe r).trans_le (le_max_left _ _)).ne'

/-- Moving the reference point of a power of two from `r` to `r'`. -/
theorem exp2_shift (x : EReal) (hx : x ≠ ⊤) (r r' : ℝ) :
    Ideal.exp2 ((r : EReal) - (r' : EReal)) * Ideal.exp2 (x - (r : EReal)) = Ideal.exp2 (x - (r' : EReal)) := by
  induction x with
  | bot => simp
  | top => exact absurd rfl hx
  | coe y =>
    rw [← EReal.coe_sub, ← EReal.coe_sub, ← EReal.coe_sub, Ideal.exp2_coe, Ideal.exp2_coe, Ideal.exp2_coe,
      ← EReal.coe_mul]
    congr 1
    show (2 : ℝ) ^ (r - r') * (2 : ℝ) ^ (y - r) = (2 : ℝ) ^ (y - r')
    rw [← Real.rpow_add two_pos]
    congr 1; ring

/-- One block of `B` keys, of scores `S` and values `v`, added to the weighted sum over the first `n`. -/
theorem block_sum (n B : ℕ) (S v : ℕ → EReal) (hS : ∀ j, S j ≠ ⊤) (r r' : ℝ) :
    Ideal.exp2 ((r : EReal) - (r' : EReal)) * (∑ j ∈ Finset.range n, Ideal.exp2 (S j - (r : EReal)) * v j)
      + ∑ j : Fin B, v (n + j) * Ideal.exp2 (S (n + j) - (r' : EReal))
      = ∑ j ∈ Finset.range (n + B), Ideal.exp2 (S j - (r' : EReal)) * v j := by
  rw [Finset.sum_range_add, Finset.sum_range fun x => Ideal.exp2 (S (n + x) - (r' : EReal)) * v (n + x)]
  congr 1
  · rw [← EReal.coe_sub, Ideal.exp2_coe, coe_mul_sum _ (Real.rpow 2 (r - r')) (Real.rpow_nonneg zero_le_two _)]
    refine Finset.sum_congr rfl fun j _ => ?_
    rw [← mul_assoc, ← Ideal.exp2_coe, EReal.coe_sub, exp2_shift _ (hS j)]
  · exact Finset.sum_congr rfl fun j _ => mul_comm _ _

/-- The weighted sum of values over the sum of weights, for weights that are a positive multiple of `E`, is the
    average by the normalised `E`. -/
theorem average (N : ℕ) (E w : ℕ → ℝ) (v : ℕ → EReal) (C : ℝ) (hC : 0 < C) (hw : ∀ j, w j = C * E j)
    (hE : ∀ j, 0 ≤ E j) (hpos : 0 < ∑ j ∈ Finset.range N, E j) :
    Ideal.div (∑ j ∈ Finset.range N, (w j : EReal) * v j) (∑ j ∈ Finset.range N, (w j : EReal))
      = ∑ j ∈ Finset.range N, Ideal.div (E j : EReal) ((∑ i ∈ Finset.range N, E i : ℝ) : EReal) * v j := by
  set L := ∑ j ∈ Finset.range N, E j with hL
  have hW : (∑ j ∈ Finset.range N, (w j : EReal)) = ((C * L : ℝ) : EReal) := by
    rw [← coe_sum, hL, Finset.mul_sum]
    exact congrArg _ (Finset.sum_congr rfl fun j _ => hw j)
  have hCL : ((C * L : ℝ) : EReal) ≠ 0 := by exact_mod_cast (mul_pos hC hpos).ne'
  have hL0 : ((L : ℝ) : EReal) ≠ 0 := by exact_mod_cast hpos.ne'
  rw [hW, Ideal.div, if_neg hCL, ← EReal.coe_inv, mul_comm, coe_mul_sum _ _ (inv_nonneg.mpr (mul_pos hC hpos).le)]
  refine Finset.sum_congr rfl fun j _ => ?_
  rw [Ideal.div, if_neg hL0, ← EReal.coe_inv, ← mul_assoc, ← EReal.coe_mul, ← EReal.coe_mul, hw j]
  congr 2
  field_simp

/-- The finished accumulation: weights `2 ^ (S j - r)` over the first `n` of `N` keys, the later ones having no
    weight, against the softmax average of base `e`, where `S` is `T` in base two. -/
theorem finish (n N : ℕ) (hn : n ≤ N) (S T v : ℕ → EReal) (r μ : ℝ) (hT : ∀ j, T j ≠ ⊤)
    (hST : ∀ j, Ideal.exp2 (S j) = Ideal.exp (T j)) (hS : ∀ j, S j ≠ ⊤) (hlate : ∀ j, n ≤ j → T j = ⊥)
    (j0 : ℕ) (hj0 : j0 < n) (h0 : T j0 ≠ ⊥) :
    Ideal.div (∑ j ∈ Finset.range n, Ideal.exp2 (S j - (r : EReal)) * v j)
        (∑ j ∈ Finset.range n, Ideal.exp2 (S j - (r : EReal)))
      = ∑ j : Fin N, Ideal.div (Ideal.exp (T j - (μ : EReal))) (∑ i : Fin N, Ideal.exp (T i - (μ : EReal))) * v j := by
  have hE : ∀ j, ∃ e : ℝ, 0 ≤ e ∧ (T j ≠ ⊥ → 0 < e) ∧ Ideal.exp (T j - (μ : EReal)) = (e : EReal)
      ∧ (T j = ⊥ → e = 0)
      ∧ Ideal.exp2 (S j - (r : EReal)) = ((Real.exp μ * (2 : ℝ) ^ (-r) * e : ℝ) : EReal) := by
    intro j
    have hst := hST j
    cases hTj : T j using EReal.rec with
    | top => exact absurd hTj (hT j)
    | bot =>
      rw [hTj, Ideal.exp_bot] at hst
      have hSj : S j = ⊥ := by
        cases hSj : S j using EReal.rec with
        | bot => rfl
        | top => exact absurd hSj (hS j)
        | coe y =>
          rw [hSj, Ideal.exp2_coe] at hst
          have : Real.rpow 2 y = 0 := by exact_mod_cast hst
          exact absurd this (Real.rpow_pos_of_pos two_pos y).ne'
      refine ⟨0, le_rfl, fun h => absurd rfl h, by simp, fun _ => rfl, by simp [hSj]⟩
    | coe x =>
      rw [hTj, Ideal.exp_coe] at hst
      cases hSj : S j using EReal.rec with
      | bot =>
        rw [hSj, Ideal.exp2_bot] at hst
        have : Real.exp x = 0 := by exact_mod_cast hst.symm
        exact absurd this (Real.exp_pos x).ne'
      | top => exact absurd hSj (hS j)
      | coe y =>
        rw [hSj, Ideal.exp2_coe] at hst
        have hxy : (2 : ℝ) ^ y = Real.exp x := by exact_mod_cast hst
        refine ⟨Real.exp (x - μ), (Real.exp_pos _).le, fun _ => Real.exp_pos _, ?_, fun h => absurd h (EReal.coe_ne_bot x), ?_⟩
        · rw [← EReal.coe_sub, Ideal.exp_coe]
        · rw [← EReal.coe_sub, Ideal.exp2_coe]
          congr 1
          show (2 : ℝ) ^ (y - r) = _
          rw [sub_eq_add_neg, Real.rpow_add two_pos, hxy, Real.exp_sub]
          field_simp
  choose E hE0 hEpos hET hEbot hES using hE
  have hC : 0 < Real.exp μ * (2 : ℝ) ^ (-r) := mul_pos (Real.exp_pos _) (Real.rpow_pos_of_pos two_pos _)
  have hpos : 0 < ∑ j ∈ Finset.range n, E j :=
    Finset.sum_pos' (fun j _ => hE0 j) ⟨j0, Finset.mem_range.mpr hj0, hEpos j0 h0⟩
  have hcut : ∀ g : ℕ → EReal, (∀ j, n ≤ j → g j = 0) → ∑ j : Fin N, g j = ∑ j ∈ Finset.range n, g j := by
    intro g hg
    rw [← Finset.sum_range g]
    refine (Finset.sum_subset (Finset.range_mono hn) fun j _ hj => hg j ?_).symm
    simpa using hj
  have hden : (∑ i : Fin N, Ideal.exp (T i - (μ : EReal))) = ((∑ i ∈ Finset.range n, E i : ℝ) : EReal) := by
    rw [hcut (fun j => Ideal.exp (T j - (μ : EReal))) (fun j hj => by simp [hlate j hj]), coe_sum]
    exact Finset.sum_congr rfl fun j _ => hET j
  rw [hden, hcut (fun j => Ideal.div (Ideal.exp (T j - (μ : EReal))) ((∑ i ∈ Finset.range n, E i : ℝ) : EReal) * v j)]
  · rw [Finset.sum_congr rfl fun j _ => by rw [hES j], Finset.sum_congr (g := fun j => (_ : EReal)) rfl fun j _ => hES j,
      average n E _ v _ hC (fun _ => rfl) hE0 hpos]
    exact Finset.sum_congr rfl fun j _ => by rw [hET j]
  · intro j hj
    rw [hET, hEbot j (hlate j hj), Ideal.div, if_neg]
    · simp
    · exact_mod_cast hpos.ne'

end Cert.Online
-- ==== Proof.Step.lean ====
/- One step of the accumulated softmax: 256 keys folded into the running maximum and the running weighted sums of 512
   queries, as the kernel's body computes it, and what it does to the invariant that those sums are the sums over the
   keys seen so far. -/
module

public import proofs.«01_k».proof.Proof.Gen.KernelIdeal.Value
public import proofs.«01_k».proof.Proof.Online
public import Idealize.ShloMosaic.PureOps.Ideal
public import Idealize.ShloMosaic.Lib.Pointwise
public import Idealize.ShloMosaic.Lib.Tactic

@[expose] public section

set_option maxRecDepth 16384

noncomputable section

namespace Cert.Attn

open Cert.KernelIdeal Cert.KernelIdeal.Gen Idealize.ShloMosaic Idealize.ShloMosaic.TcCoe Idealize.SL.Sem

/-- The running maximum and the running sums of 512 queries. -/
abbrev St := FVec Ideal S1x512 .f32 × FVec Ideal S80x512 .f32

/-- The maximum after 256 more scores. -/
def newMax (s : FVec Ideal S256x512 .f32) (m : FVec Ideal S1x512 .f32) : FVec Ideal S1x512 .f32 :=
  maximumf m (shapeCast S1x512 (multiReduction .maximumf [0] S512 s 0xFF800000#32 reduces_S256x512_S512 (.inl rfl) rfl) shapeCasts_S512_S1x512)

/-- One step: rescale the sums to the new maximum and add the 256 keys' values by their exponentials. -/
def step (s : FVec Ideal S256x512 .f32) (vc : Vec Ideal S1x1x80x256 .bf16) (st : St) : St :=
  (newMax s st.1,
   addf (mulf (broadcastTo S80x512 (exp2 (subf st.1 (newMax s st.1))) broadcasts_S1x512_S80x512) st.2)
    (matmul (φ₁ := .bf16) dot_S80x256_S256x512_S80x512_1_0_0_1_n_n none (shapeCast S80x256 vc shapeCasts_S1x1x80x256_S80x256)
      (truncf .bf16 (exp2 (subf s (broadcastTo S256x512 (newMax s st.1) broadcasts_S1x512_S256x512))) bitsLt_bf16_f32)
      (constant S80x512 .f32 0x00000000#32)))

theorem newMax_apply (s : FVec Ideal S256x512 .f32) (m : FVec Ideal S1x512 .f32) (x : Fin 512) :
    newMax s m (ix2 0 x) = max (m (ix2 0 x)) (Finset.univ.fold max ⊥ fun j : Fin 256 => s (ix2 j x)) := by
  pointwise [newMax]
  rw [show Ideal.ofBits .f32 0xFF800000#32 = ⊥ by simp [Ideal.ofBits, Ideal.ieee]]

theorem step_snd (s : FVec Ideal S256x512 .f32) (vc : Vec Ideal S1x1x80x256 .bf16) (st : St) (d : Fin 80) (x : Fin 512) :
    (step s vc st).2 (ix2 d x) = Ideal.exp2 (st.1 (ix2 0 x) - newMax s st.1 (ix2 0 x)) * st.2 (ix2 d x)
      + ∑ j : Fin 256, vc (ix4 0 0 d j) * Ideal.exp2 (s (ix2 j x) - newMax s st.1 (ix2 0 x)) := by
  unfold step
  generalize newMax s st.1 = m
  pointwise
  rfl

/-- The scores of 4096 keys against 512 queries. -/
def sc8 (kb : Vec Ideal S1x1x4096x128 .bf16) (q : FVec Ideal S128x512 .bf16) : FVec Ideal S4096x512 .f32 :=
  matmul (φ₁ := .bf16) dot_S4096x128_S128x512_S4096x512_1_0_0_1_n_n none (shapeCast S4096x128 kb shapeCasts_S1x1x4096x128_S4096x128) q (constant S4096x512 .f32 0x00000000#32)

theorem sc8_apply (kb : Vec Ideal S1x1x4096x128 .bf16) (q : FVec Ideal S128x512 .bf16) (o : ℕ) (h : S4096x512.Slices ![o, 0] S256x512)
    (j : Fin 256) (x : Fin 512) (hj : o + j.val < 4096) :
    extractStridedSlice S256x512 ![o, 0] (sc8 kb q) h (ix2 j x) = ∑ c : Fin 128, (kb (ix4 0 0 ⟨o + j.val, hj⟩ c) : EReal) * q (ix2 c x) := by
  pointwise [sc8]

/-- The scores of 2048 keys against 512 queries. -/
def sc4 (kb : Vec Ideal S1x1x2048x128 .bf16) (q : FVec Ideal S128x512 .bf16) : FVec Ideal S2048x512 .f32 :=
  matmul (φ₁ := .bf16) dot_S2048x128_S128x512_S2048x512_1_0_0_1_n_n none (shapeCast S2048x128 kb shapeCasts_S1x1x2048x128_S2048x128) q (constant S2048x512 .f32 0x00000000#32)

theorem sc4_apply (kb : Vec Ideal S1x1x2048x128 .bf16) (q : FVec Ideal S128x512 .bf16) (o : ℕ) (h : S2048x512.Slices ![o, 0] S256x512)
    (j : Fin 256) (x : Fin 512) (hj : o + j.val < 2048) :
    extractStridedSlice S256x512 ![o, 0] (sc4 kb q) h (ix2 j x) = ∑ c : Fin 128, (kb (ix4 0 0 ⟨o + j.val, hj⟩ c) : EReal) * q (ix2 c x) := by
  pointwise [sc4]

/-- The scores of 1024 keys against 512 queries. -/
def sc2 (kb : Vec Ideal S1x1x1024x128 .bf16) (q : FVec Ideal S128x512 .bf16) : FVec Ideal S1024x512 .f32 :=
  matmul (φ₁ := .bf16) dot_S1024x128_S128x512_S1024x512_1_0_0_1_n_n none (shapeCast S1024x128 kb shapeCasts_S1x1x1024x128_S1024x128) q (constant S1024x512 .f32 0x00000000#32)

theorem sc2_apply (kb : Vec Ideal S1x1x1024x128 .bf16) (q : FVec Ideal S128x512 .bf16) (o : ℕ) (h : S1024x512.Slices ![o, 0] S256x512)
    (j : Fin 256) (x : Fin 512) (hj : o + j.val < 1024) :
    extractStridedSlice S256x512 ![o, 0] (sc2 kb q) h (ix2 j x) = ∑ c : Fin 128, (kb (ix4 0 0 ⟨o + j.val, hj⟩ c) : EReal) * q (ix2 c x) := by
  pointwise [sc2]

/-- The scores of 512 keys against 512 queries. -/
def sc1 (kb : Vec Ideal S1x1x512x128 .bf16) (q : FVec Ideal S128x512 .bf16) : FVec Ideal S512x512 .f32 :=
  matmul (φ₁ := .bf16) dot_S512x128_S128x512_S512x512_1_0_0_1_n_n none (shapeCast S512x128 kb shapeCasts_S1x1x512x128_S512x128) q (constant S512x512 .f32 0x00000000#32)

theorem sc1_apply (kb : Vec Ideal S1x1x512x128 .bf16) (q : FVec Ideal S128x512 .bf16) (o : ℕ) (h : S512x512.Slices ![o, 0] S256x512)
    (j : Fin 256) (x : Fin 512) (hj : o + j.val < 512) :
    extractStridedSlice S256x512 ![o, 0] (sc1 kb q) h (ix2 j x) = ∑ c : Fin 128, (kb (ix4 0 0 ⟨o + j.val, hj⟩ c) : EReal) * q (ix2 c x) := by
  pointwise [sc1]

/-- After the first `n` keys: the maximum is some real `r`, and each sum is the sum of the values by the powers of two of
    the scores less `r`. -/
def Inv (S : Fin 512 → ℕ → EReal) (V : Fin 80 → ℕ → EReal) (n : ℕ) (st : St) : Prop :=
  ∀ x, ∃ r : ℝ, (st.1 (ix2 0 x) : EReal) = r ∧
    ∀ d, (st.2 (ix2 d x) : EReal) = ∑ j ∈ Finset.range n, Ideal.exp2 (S x j - r) * V d j

theorem step_inv {S : Fin 512 → ℕ → EReal} {V : Fin 80 → ℕ → EReal} {n : ℕ} {st : St} {s : FVec Ideal S256x512 .f32}
    {vc : Vec Ideal S1x1x80x256 .bf16} (hS : ∀ x j, S x j ≠ ⊤) (hs : ∀ j x, (s (ix2 j x) : EReal) = S x (n + j.val))
    (hv : ∀ d j, (vc (ix4 0 0 d j) : EReal) = V d (n + j.val)) (h : Inv S V n st) : Inv S V (n + 256) (step s vc st) := by
  intro x
  obtain ⟨r, hr, hsum⟩ := h x
  obtain ⟨r', hr'⟩ := Online.exists_real_max_fold Finset.univ r ⊥ bot_ne_top (fun j : Fin 256 => (s (ix2 j x) : EReal))
    (fun j => by rw [hs]; exact hS _ _)
  have hm : (newMax s st.1 (ix2 0 x) : EReal) = r' := by rw [newMax_apply, hr]; exact hr'
  refine ⟨r', hm, fun d => ?_⟩
  rw [step_snd, hm, hr, hsum, ← Online.block_sum n 256 (S x) (V d) (hS x) r r']
  refine congrArg₂ _ rfl (Finset.sum_congr rfl fun j _ => ?_)
  rw [hs, hv]

/-- 4096 keys in steps of 256. -/
def far8 (q : FVec Ideal S128x512 .bf16) (kb : Vec Ideal S1x1x4096x128 .bf16) (v0 v1 v2 v3 v4 v5 v6 v7 v8 v9 v10 v11 v12 v13 v14 v15 : Vec Ideal S1x1x80x256 .bf16) (st : St) : St :=
  step (extractStridedSlice S256x512 ![3840, 0] (sc8 kb q) slices_S4096x512_o3840_0_S256x512) v15 (step (extractStridedSlice S256x512 ![3584, 0] (sc8 kb q) slices_S4096x512_o3584_0_S256x512) v14 (step (extractStridedSlice S256x512 ![3328, 0] (sc8 kb q) slices_S4096x512_o3328_0_S256x512) v13 (step (extractStridedSlice S256x512 ![3072, 0] (sc8 kb q) slices_S4096x512_o3072_0_S256x512) v12 (step (extractStridedSlice S256x512 ![2816, 0] (sc8 kb q) slices_S4096x512_o2816_0_S256x512) v11 (step (extractStridedSlice S256x512 ![2560, 0] (sc8 kb q) slices_S4096x512_o2560_0_S256x512) v10 (step (extractStridedSlice S256x512 ![2304, 0] (sc8 kb q) slices_S4096x512_o2304_0_S256x512) v9 (step (extractStridedSlice S256x512 ![2048, 0] (sc8 kb q) slices_S4096x512_o2048_0_S256x512) v8 (step (extractStridedSlice S256x512 ![1792, 0] (sc8 kb q) slices_S4096x512_o1792_0_S256x512) v7 (step (extractStridedSlice S256x512 ![1536, 0] (sc8 kb q) slices_S4096x512_o1536_0_S256x512) v6 (step (extractStridedSlice S256x512 ![1280, 0] (sc8 kb q) slices_S4096x512_o1280_0_S256x512) v5 (step (extractStridedSlice S256x512 ![1024, 0] (sc8 kb q) slices_S4096x512_o1024_0_S256x512) v4 (step (extractStridedSlice S256x512 ![768, 0] (sc8 kb q) slices_S4096x512_o768_0_S256x512) v3 (step (extractStridedSlice S256x512 ![512, 0] (sc8 kb q) slices_S4096x512_o512_0_S256x512) v2 (step (extractStridedSlice S256x512 ![256, 0] (sc8 kb q) slices_S4096x512_o256_0_S256x512) v1 (step (extractStridedSlice S256x512 ![0, 0] (sc8 kb q) slices_S4096x512_o0_0_S256x512) v0 st)))))))))))))))

theorem far8_inv {S : Fin 512 → ℕ → EReal} {V : Fin 80 → ℕ → EReal} {n : ℕ} {st : St} {q : FVec Ideal S128x512 .bf16}
    {kb : Vec Ideal S1x1x4096x128 .bf16} {v0 v1 v2 v3 v4 v5 v6 v7 v8 v9 v10 v11 v12 v13 v14 v15 : Vec Ideal S1x1x80x256 .bf16} (hS : ∀ x j, S x j ≠ ⊤)
    (hk : ∀ (x : Fin 512) (j : Fin 4096), (∑ c : Fin 128, (kb (ix4 0 0 j c) : EReal) * q (ix2 c x)) = S x (n + j.val))
    (hv0 : ∀ d j, (v0 (ix4 0 0 d j) : EReal) = V d (n + 0 + j.val))
    (hv1 : ∀ d j, (v1 (ix4 0 0 d j) : EReal) = V d (n + 256 + j.val))
    (hv2 : ∀ d j, (v2 (ix4 0 0 d j) : EReal) = V d (n + 512 + j.val))
    (hv3 : ∀ d j, (v3 (ix4 0 0 d j) : EReal) = V d (n + 768 + j.val))
    (hv4 : ∀ d j, (v4 (ix4 0 0 d j) : EReal) = V d (n + 1024 + j.val))
    (hv5 : ∀ d j, (v5 (ix4 0 0 d j) : EReal) = V d (n + 1280 + j.val))
    (hv6 : ∀ d j, (v6 (ix4 0 0 d j) : EReal) = V d (n + 1536 + j.val))
    (hv7 : ∀ d j, (v7 (ix4 0 0 d j) : EReal) = V d (n + 1792 + j.val))
    (hv8 : ∀ d j, (v8 (ix4 0 0 d j) : EReal) = V d (n + 2048 + j.val))
    (hv9 : ∀ d j, (v9 (ix4 0 0 d j) : EReal) = V d (n + 2304 + j.val))
    (hv10 : ∀ d j, (v10 (ix4 0 0 d j) : EReal) = V d (n + 2560 + j.val))
    (hv11 : ∀ d j, (v11 (ix4 0 0 d j) : EReal) = V d (n + 2816 + j.val))
    (hv12 : ∀ d j, (v12 (ix4 0 0 d j) : EReal) = V d (n + 3072 + j.val))
    (hv13 : ∀ d j, (v13 (ix4 0 0 d j) : EReal) = V d (n + 3328 + j.val))
    (hv14 : ∀ d j, (v14 (ix4 0 0 d j) : EReal) = V d (n + 3584 + j.val))
    (hv15 : ∀ d j, (v15 (ix4 0 0 d j) : EReal) = V d (n + 3840 + j.val))
    (h : Inv S V n st) : Inv S V (n + 4096) (far8 q kb v0 v1 v2 v3 v4 v5 v6 v7 v8 v9 v10 v11 v12 v13 v14 v15 st) := by
  have key : ∀ (o : ℕ) (ho : o + 256 ≤ 4096) (hsl : S4096x512.Slices ![o, 0] S256x512) (j : Fin 256) (x : Fin 512),
      (extractStridedSlice S256x512 ![o, 0] (sc8 kb q) hsl (ix2 j x) : EReal) = S x (n + o + j.val) := by
    intro o ho hsl j x
    rw [sc8_apply kb q o hsl j x (by omega), hk, Nat.add_assoc]
  have h0 := step_inv (n := n + 0) hS (key 0 (by omega) slices_S4096x512_o0_0_S256x512) hv0 h
  have h1 := step_inv (n := n + 256) hS (key 256 (by omega) slices_S4096x512_o256_0_S256x512) hv1 h0
  have h2 := step_inv (n := n + 512) hS (key 512 (by omega) slices_S4096x512_o512_0_S256x512) hv2 h1
  have h3 := step_inv (n := n + 768) hS (key 768 (by omega) slices_S4096x512_o768_0_S256x512) hv3 h2
  have h4 := step_inv (n := n + 1024) hS (key 1024 (by omega) slices_S4096x512_o1024_0_S256x512) hv4 h3
  have h5 := step_inv (n := n + 1280) hS (key 1280 (by omega) slices_S4096x512_o1280_0_S256x512) hv5 h4
  have h6 := step_inv (n := n + 1536) hS (key 1536 (by omega) slices_S4096x512_o1536_0_S256x512) hv6 h5
  have h7 := step_inv (n := n + 1792) hS (key 1792 (by omega) slices_S4096x512_o1792_0_S256x512) hv7 h6
  have h8 := step_inv (n := n + 2048) hS (key 2048 (by omega) slices_S4096x512_o2048_0_S256x512) hv8 h7
  have h9 := step_inv (n := n + 2304) hS (key 2304 (by omega) slices_S4096x512_o2304_0_S256x512) hv9 h8
  have h10 := step_inv (n := n + 2560) hS (key 2560 (by omega) slices_S4096x512_o2560_0_S256x512) hv10 h9
  have h11 := step_inv (n := n + 2816) hS (key 2816 (by omega) slices_S4096x512_o2816_0_S256x512) hv11 h10
  have h12 := step_inv (n := n + 3072) hS (key 3072 (by omega) slices_S4096x512_o3072_0_S256x512) hv12 h11
  have h13 := step_inv (n := n + 3328) hS (key 3328 (by omega) slices_S4096x512_o3328_0_S256x512) hv13 h12
  have h14 := step_inv (n := n + 3584) hS (key 3584 (by omega) slices_S4096x512_o3584_0_S256x512) hv14 h13
  have h15 := step_inv (n := n + 3840) hS (key 3840 (by omega) slices_S4096x512_o3840_0_S256x512) hv15 h14
  exact h15

/-- 2048 keys in steps of 256. -/
def far4 (q : FVec Ideal S128x512 .bf16) (kb : Vec Ideal S1x1x2048x128 .bf16) (v0 v1 v2 v3 v4 v5 v6 v7 : Vec Ideal S1x1x80x256 .bf16) (st : St) : St :=
  step (extractStridedSlice S256x512 ![1792, 0] (sc4 kb q) slices_S2048x512_o1792_0_S256x512) v7 (step (extractStridedSlice S256x512 ![1536, 0] (sc4 kb q) slices_S2048x512_o1536_0_S256x512) v6 (step (extractStridedSlice S256x512 ![1280, 0] (sc4 kb q) slices_S2048x512_o1280_0_S256x512) v5 (step (extractStridedSlice S256x512 ![1024, 0] (sc4 kb q) slices_S2048x512_o1024_0_S256x512) v4 (step (extractStridedSlice S256x512 ![768, 0] (sc4 kb q) slices_S2048x512_o768_0_S256x512) v3 (step (extractStridedSlice S256x512 ![512, 0] (sc4 kb q) slices_S2048x512_o512_0_S256x512) v2 (step (extractStridedSlice S256x512 ![256, 0] (sc4 kb q) slices_S2048x512_o256_0_S256x512) v1 (step (extractStridedSlice S256x512 ![0, 0] (sc4 kb q) slices_S2048x512_o0_0_S256x512) v0 st)))))))

theorem far4_inv {S : Fin 512 → ℕ → EReal} {V : Fin 80 → ℕ → EReal} {n : ℕ} {st : St} {q : FVec Ideal S128x512 .bf16}
    {kb : Vec Ideal S1x1x2048x128 .bf16} {v0 v1 v2 v3 v4 v5 v6 v7 : Vec Ideal S1x1x80x256 .bf16} (hS : ∀ x j, S x j ≠ ⊤)
    (hk : ∀ (x : Fin 512) (j : Fin 2048), (∑ c : Fin 128, (kb (ix4 0 0 j c) : EReal) * q (ix2 c x)) = S x (n + j.val))
    (hv0 : ∀ d j, (v0 (ix4 0 0 d j) : EReal) = V d (n + 0 + j.val))
    (hv1 : ∀ d j, (v1 (ix4 0 0 d j) : EReal) = V d (n + 256 + j.val))
    (hv2 : ∀ d j, (v2 (ix4 0 0 d j) : EReal) = V d (n + 512 + j.val))
    (hv3 : ∀ d j, (v3 (ix4 0 0 d j) : EReal) = V d (n + 768 + j.val))
    (hv4 : ∀ d j, (v4 (ix4 0 0 d j) : EReal) = V d (n + 1024 + j.val))
    (hv5 : ∀ d j, (v5 (ix4 0 0 d j) : EReal) = V d (n + 1280 + j.val))
    (hv6 : ∀ d j, (v6 (ix4 0 0 d j) : EReal) = V d (n + 1536 + j.val))
    (hv7 : ∀ d j, (v7 (ix4 0 0 d j) : EReal) = V d (n + 1792 + j.val))
    (h : Inv S V n st) : Inv S V (n + 2048) (far4 q kb v0 v1 v2 v3 v4 v5 v6 v7 st) := by
  have key : ∀ (o : ℕ) (ho : o + 256 ≤ 2048) (hsl : S2048x512.Slices ![o, 0] S256x512) (j : Fin 256) (x : Fin 512),
      (extractStridedSlice S256x512 ![o, 0] (sc4 kb q) hsl (ix2 j x) : EReal) = S x (n + o + j.val) := by
    intro o ho hsl j x
    rw [sc4_apply kb q o hsl j x (by omega), hk, Nat.add_assoc]
  have h0 := step_inv (n := n + 0) hS (key 0 (by omega) slices_S2048x512_o0_0_S256x512) hv0 h
  have h1 := step_inv (n := n + 256) hS (key 256 (by omega) slices_S2048x512_o256_0_S256x512) hv1 h0
  have h2 := step_inv (n := n + 512) hS (key 512 (by omega) slices_S2048x512_o512_0_S256x512) hv2 h1
  have h3 := step_inv (n := n + 768) hS (key 768 (by omega) slices_S2048x512_o768_0_S256x512) hv3 h2
  have h4 := step_inv (n := n + 1024) hS (key 1024 (by omega) slices_S2048x512_o1024_0_S256x512) hv4 h3
  have h5 := step_inv (n := n + 1280) hS (key 1280 (by omega) slices_S2048x512_o1280_0_S256x512) hv5 h4
  have h6 := step_inv (n := n + 1536) hS (key 1536 (by omega) slices_S2048x512_o1536_0_S256x512) hv6 h5
  have h7 := step_inv (n := n + 1792) hS (key 1792 (by omega) slices_S2048x512_o1792_0_S256x512) hv7 h6
  exact h7

/-- 1024 keys in steps of 256. -/
def far2 (q : FVec Ideal S128x512 .bf16) (kb : Vec Ideal S1x1x1024x128 .bf16) (v0 v1 v2 v3 : Vec Ideal S1x1x80x256 .bf16) (st : St) : St :=
  step (extractStridedSlice S256x512 ![768, 0] (sc2 kb q) slices_S1024x512_o768_0_S256x512) v3 (step (extractStridedSlice S256x512 ![512, 0] (sc2 kb q) slices_S1024x512_o512_0_S256x512) v2 (step (extractStridedSlice S256x512 ![256, 0] (sc2 kb q) slices_S1024x512_o256_0_S256x512) v1 (step (extractStridedSlice S256x512 ![0, 0] (sc2 kb q) slices_S1024x512_o0_0_S256x512) v0 st)))

theorem far2_inv {S : Fin 512 → ℕ → EReal} {V : Fin 80 → ℕ → EReal} {n : ℕ} {st : St} {q : FVec Ideal S128x512 .bf16}
    {kb : Vec Ideal S1x1x1024x128 .bf16} {v0 v1 v2 v3 : Vec Ideal S1x1x80x256 .bf16} (hS : ∀ x j, S x j ≠ ⊤)
    (hk : ∀ (x : Fin 512) (j : Fin 1024), (∑ c : Fin 128, (kb (ix4 0 0 j c) : EReal) * q (ix2 c x)) = S x (n + j.val))
    (hv0 : ∀ d j, (v0 (ix4 0 0 d j) : EReal) = V d (n + 0 + j.val))
    (hv1 : ∀ d j, (v1 (ix4 0 0 d j) : EReal) = V d (n + 256 + j.val))
    (hv2 : ∀ d j, (v2 (ix4 0 0 d j) : EReal) = V d (n + 512 + j.val))
    (hv3 : ∀ d j, (v3 (ix4 0 0 d j) : EReal) = V d (n + 768 + j.val))
    (h : Inv S V n st) : Inv S V (n + 1024) (far2 q kb v0 v1 v2 v3 st) := by
  have key : ∀ (o : ℕ) (ho : o + 256 ≤ 1024) (hsl : S1024x512.Slices ![o, 0] S256x512) (j : Fin 256) (x : Fin 512),
      (extractStridedSlice S256x512 ![o, 0] (sc2 kb q) hsl (ix2 j x) : EReal) = S x (n + o + j.val) := by
    intro o ho hsl j x
    rw [sc2_apply kb q o hsl j x (by omega), hk, Nat.add_assoc]
  have h0 := step_inv (n := n + 0) hS (key 0 (by omega) slices_S1024x512_o0_0_S256x512) hv0 h
  have h1 := step_inv (n := n + 256) hS (key 256 (by omega) slices_S1024x512_o256_0_S256x512) hv1 h0
  have h2 := step_inv (n := n + 512) hS (key 512 (by omega) slices_S1024x512_o512_0_S256x512) hv2 h1
  have h3 := step_inv (n := n + 768) hS (key 768 (by omega) slices_S1024x512_o768_0_S256x512) hv3 h2
  exact h3

/-- 512 keys in steps of 256. -/
def far1 (q : FVec Ideal S128x512 .bf16) (kb : Vec Ideal S1x1x512x128 .bf16) (v0 v1 : Vec Ideal S1x1x80x256 .bf16) (st : St) : St :=
  step (extractStridedSlice S256x512 ![256, 0] (sc1 kb q) slices_S512x512_o256_0_S256x512) v1 (step (extractStridedSlice S256x512 ![0, 0] (sc1 kb q) slices_S512x512_o0_0_S256x512) v0 st)

theorem far1_inv {S : Fin 512 → ℕ → EReal} {V : Fin 80 → ℕ → EReal} {n : ℕ} {st : St} {q : FVec Ideal S128x512 .bf16}
    {kb : Vec Ideal S1x1x512x128 .bf16} {v0 v1 : Vec Ideal S1x1x80x256 .bf16} (hS : ∀ x j, S x j ≠ ⊤)
    (hk : ∀ (x : Fin 512) (j : Fin 512), (∑ c : Fin 128, (kb (ix4 0 0 j c) : EReal) * q (ix2 c x)) = S x (n + j.val))
    (hv0 : ∀ d j, (v0 (ix4 0 0 d j) : EReal) = V d (n + 0 + j.val))
    (hv1 : ∀ d j, (v1 (ix4 0 0 d j) : EReal) = V d (n + 256 + j.val))
    (h : Inv S V n st) : Inv S V (n + 512) (far1 q kb v0 v1 st) := by
  have key : ∀ (o : ℕ) (ho : o + 256 ≤ 512) (hsl : S512x512.Slices ![o, 0] S256x512) (j : Fin 256) (x : Fin 512),
      (extractStridedSlice S256x512 ![o, 0] (sc1 kb q) hsl (ix2 j x) : EReal) = S x (n + o + j.val) := by
    intro o ho hsl j x
    rw [sc1_apply kb q o hsl j x (by omega), hk, Nat.add_assoc]
  have h0 := step_inv (n := n + 0) hS (key 0 (by omega) slices_S512x512_o0_0_S256x512) hv0 h
  have h1 := step_inv (n := n + 256) hS (key 256 (by omega) slices_S512x512_o256_0_S256x512) hv1 h0
  exact h1

/-- 1024 keys whose scores are given, in steps of 256. -/
def near (s : FVec Ideal S1024x512 .f32) (v0 v1 v2 v3 : Vec Ideal S1x1x80x256 .bf16) (st : St) : St :=
  step (extractStridedSlice S256x512 ![768, 0] s slices_S1024x512_o768_0_S256x512) v3
    (step (extractStridedSlice S256x512 ![512, 0] s slices_S1024x512_o512_0_S256x512) v2
      (step (extractStridedSlice S256x512 ![256, 0] s slices_S1024x512_o256_0_S256x512) v1
        (step (extractStridedSlice S256x512 ![0, 0] s slices_S1024x512_o0_0_S256x512) v0 st)))

theorem near_inv {S : Fin 512 → ℕ → EReal} {V : Fin 80 → ℕ → EReal} {n : ℕ} {st : St} {s : FVec Ideal S1024x512 .f32}
    {v0 v1 v2 v3 : Vec Ideal S1x1x80x256 .bf16} (hS : ∀ x j, S x j ≠ ⊤)
    (hs : ∀ (x : Fin 512) (j : Fin 1024), (s (ix2 j x) : EReal) = S x (n + j.val))
    (hv0 : ∀ d j, (v0 (ix4 0 0 d j) : EReal) = V d (n + 0 + j.val)) (hv1 : ∀ d j, (v1 (ix4 0 0 d j) : EReal) = V d (n + 256 + j.val))
    (hv2 : ∀ d j, (v2 (ix4 0 0 d j) : EReal) = V d (n + 512 + j.val)) (hv3 : ∀ d j, (v3 (ix4 0 0 d j) : EReal) = V d (n + 768 + j.val))
    (h : Inv S V n st) : Inv S V (n + 1024) (near s v0 v1 v2 v3 st) := by
  have key : ∀ (o : ℕ) (ho : o + 256 ≤ 1024) (hsl : S1024x512.Slices ![o, 0] S256x512) (j : Fin 256) (x : Fin 512),
      (extractStridedSlice S256x512 ![o, 0] s hsl (ix2 j x) : EReal) = S x (n + o + j.val) := by
    intro o ho hsl j x
    have e : (extractStridedSlice S256x512 ![o, 0] s hsl (ix2 j x) : EReal) = s (ix2 ⟨o + j.val, by omega⟩ x) := by pointwise
    rw [e, hs, Nat.add_assoc]
  have h0 := step_inv (n := n + 0) hS (key 0 (by omega) slices_S1024x512_o0_0_S256x512) hv0 h
  have h1 := step_inv (n := n + 256) hS (key 256 (by omega) slices_S1024x512_o256_0_S256x512) hv1 h0
  have h2 := step_inv (n := n + 512) hS (key 512 (by omega) slices_S1024x512_o512_0_S256x512) hv2 h1
  exact step_inv (n := n + 768) hS (key 768 (by omega) slices_S1024x512_o768_0_S256x512) hv3 h2

/-- The sums of the value rows over the sum of the row of ones. -/
def quot (st : St) : FVec Ideal S1x1x64x512 .f32 :=
  shapeCast S1x1x64x512 (divf (extractStridedSlice S64x512 ![0, 0] st.2 slices_S80x512_o0_0_S64x512)
    (broadcastTo S64x512 (extractStridedSlice S1x512 ![64, 0] st.2 slices_S80x512_o64_0_S1x512) broadcasts_S1x512_S64x512)) shapeCasts_S64x512_S1x1x64x512

theorem quot_apply (st : St) (d : Fin 64) (x : Fin 512) :
    quot st (ix4 0 0 d x) = Ideal.div (st.2 (ix2 ⟨d.val, by omega⟩ x)) (st.2 (ix2 64 x)) := by
  pointwise [quot]

end Cert.Attn
-- ==== Proof.Trips.lean ====
/- What one trip of each of the kernel's loops over earlier keys computes, and the final block of each query tile, in the
   terms of `Step.lean`. -/
module

public import proofs.«01_k».proof.Proof.Step

@[expose] public section

set_option maxRecDepth 16384

noncomputable section

namespace Cert.Attn

open Cert.KernelIdeal Cert.KernelIdeal.Gen Idealize.ShloMosaic Idealize.ShloMosaic.TcCoe Idealize.SL.Sem

theorem trip_t3 (𝒱 : Variants) (c : Dev nD) (bd : Option 𝒱.V) (i : grid0.Coords) (arg3 : Memref sig .tc .vmem S1x1x128x512 .bf16) (harg3 : arg3.IsWhole) (arg4 : Memref sig .tc .vmem S1x1x128x512 .bf16) (harg4 : arg4.IsWhole) (arg5 : Memref sig .tc .vmem S1x1x8192x128 .bf16) (harg5 : arg5.IsWhole) (arg6 : Memref sig .tc .vmem S1x1x80x8192 .bf16) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x64x1024 .f32) (harg11 : arg11.IsWhole) (v1 : FVec Ideal S128x512 .bf16) (v5 : BitVec 32) (v30_0 : FVec Ideal S1x512 .f32) (v30_1 : FVec Ideal S80x512 .f32) (v32 : BitVec 32) (v33 : BitVec 32) (c4_i32 : BitVec 32) (X_arg5 : BufTy.Contents (Elt Ideal) arg5.view.ty) (X_arg6 : BufTy.Contents (Elt Ideal) arg6.view.ty) (k : Fin (k0_t3_loop i).trips) (acc : St) :
  (trip_k0_t3 (F := Ideal) 𝒱 c bd i arg3 harg3 arg4 harg4 arg5 harg5 arg6 harg6 arg7 harg7 arg8 harg8 arg9 harg9 arg10 harg10 arg11 harg11 v1 v5 v30_0 v30_1 v32 v33 c4_i32 X_arg5 X_arg6 k).1 acc
      = far4 v1 (arg5.view.readAt (Elt Ideal) (Rect.unit (s := S1x1x8192x128) (k0_off5 i k) S1x1x2048x128.size (k0_off5_inb i k)).toLoadRect X_arg5)
        (arg6.view.readAt (Elt Ideal) (Rect.unit (s := S1x1x80x8192) (k0_off6 i k 0#32) S1x1x80x256.size (k0_off6_inb i k 0)).toLoadRect X_arg6)
        (arg6.view.readAt (Elt Ideal) (Rect.unit (s := S1x1x80x8192) (k0_off6 i k 256#32) S1x1x80x256.size (k0_off6_inb i k 1)).toLoadRect X_arg6)
        (arg6.view.readAt (Elt Ideal) (Rect.unit (s := S1x1x80x8192) (k0_off6 i k 512#32) S1x1x80x256.size (k0_off6_inb i k 2)).toLoadRect X_arg6)
        (arg6.view.readAt (Elt Ideal) (Rect.unit (s := S1x1x80x8192) (k0_off6 i k 768#32) S1x1x80x256.size (k0_off6_inb i k 3)).toLoadRect X_arg6)
        (arg6.view.readAt (Elt Ideal) (Rect.unit (s := S1x1x80x8192) (k0_off6 i k 1024#32) S1x1x80x256.size (k0_off6_inb i k 4)).toLoadRect X_arg6)
        (arg6.view.readAt (Elt Ideal) (Rect.unit (s := S1x1x80x8192) (k0_off6 i k 1280#32) S1x1x80x256.size (k0_off6_inb i k 5)).toLoadRect X_arg6)
        (arg6.view.readAt (Elt Ideal) (Rect.unit (s := S1x1x80x8192) (k0_off6 i k 1536#32) S1x1x80x256.size (k0_off6_inb i k 6)).toLoadRect X_arg6)
        (arg6.view.readAt (Elt Ideal) (Rect.unit (s := S1x1x80x8192) (k0_off6 i k 1792#32) S1x1x80x256.size (k0_off6_inb i k 7)).toLoadRect X_arg6) acc := by
  unfold trip_k0_t3; rfl

theorem trip_t5 (𝒱 : Variants) (c : Dev nD) (bd : Option 𝒱.V) (i : grid0.Coords) (arg3 : Memref sig .tc .vmem S1x1x128x512 .bf16) (harg3 : arg3.IsWhole) (arg4 : Memref sig .tc .vmem S1x1x128x512 .bf16) (harg4 : arg4.IsWhole) (arg5 : Memref sig .tc .vmem S1x1x8192x128 .bf16) (harg5 : arg5.IsWhole) (arg6 : Memref sig .tc .vmem S1x1x80x8192 .bf16) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x64x1024 .f32) (harg11 : arg11.IsWhole) (arg2 : BitVec 32) (v1 : FVec Ideal S128x512 .bf16) (v5 : BitVec 32) (v57_0 : FVec Ideal S1x512 .f32) (v57_1 : FVec Ideal S80x512 .f32) (v59 : BitVec 32) (v61 : BitVec 32) (v75 : BitVec 1) (c1_i32_33 : BitVec 32) (X_arg5 : BufTy.Contents (Elt Ideal) arg5.view.ty) (X_arg6 : BufTy.Contents (Elt Ideal) arg6.view.ty) (k : Fin (k0_t5_loop i).trips) (acc : St) :
  (trip_k0_t5 (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 X_arg5 X_arg6 k).1 acc
      = far2 v1 (arg5.view.readAt (Elt Ideal) (Rect.unit (s := S1x1x8192x128) (k0_off9 i k) S1x1x1024x128.size (k0_off9_inb i k)).toLoadRect X_arg5)
        (arg6.view.readAt (Elt Ideal) (Rect.unit (s := S1x1x80x8192) (k0_off10 i k 0#32) S1x1x80x256.size (k0_off10_inb i k 0)).toLoadRect X_arg6)
        (arg6.view.readAt (Elt Ideal) (Rect.unit (s := S1x1x80x8192) (k0_off10 i k 256#32) S1x1x80x256.size (k0_off10_inb i k 1)).toLoadRect X_arg6)
        (arg6.view.readAt (Elt Ideal) (Rect.unit (s := S1x1x80x8192) (k0_off10 i k 512#32) S1x1x80x256.size (k0_off10_inb i k 2)).toLoadRect X_arg6)
        (arg6.view.readAt (Elt Ideal) (Rect.unit (s := S1x1x80x8192) (k0_off10 i k 768#32) S1x1x80x256.size (k0_off10_inb i k 3)).toLoadRect X_arg6) acc := by
  unfold trip_k0_t5; rfl

theorem trip_t7 (𝒱 : Variants) (c : Dev nD) (bd : Option 𝒱.V) (i : grid0.Coords) (arg3 : Memref sig .tc .vmem S1x1x128x512 .bf16) (harg3 : arg3.IsWhole) (arg4 : Memref sig .tc .vmem S1x1x128x512 .bf16) (harg4 : arg4.IsWhole) (arg5 : Memref sig .tc .vmem S1x1x8192x128 .bf16) (harg5 : arg5.IsWhole) (arg6 : Memref sig .tc .vmem S1x1x80x8192 .bf16) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x64x1024 .f32) (harg11 : arg11.IsWhole) (arg2 : BitVec 32) (v1 : FVec Ideal S128x512 .bf16) (v5 : BitVec 32) (v57_0 : FVec Ideal S1x512 .f32) (v57_1 : FVec Ideal S80x512 .f32) (v59 : BitVec 32) (v61 : BitVec 32) (v75 : BitVec 1) (c1_i32_33 : BitVec 32) (v86 : BitVec 32) (X_arg5 : BufTy.Contents (Elt Ideal) arg5.view.ty) (X_arg6 : BufTy.Contents (Elt Ideal) arg6.view.ty) (k : Fin (k0_t7_loop i).trips) (acc : St) :
  (trip_k0_t7 (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 v86 X_arg5 X_arg6 k).1 acc
      = far1 v1 (arg5.view.readAt (Elt Ideal) (Rect.unit (s := S1x1x8192x128) (k0_off13 i k) S1x1x512x128.size (k0_off13_inb i k)).toLoadRect X_arg5)
        (arg6.view.readAt (Elt Ideal) (Rect.unit (s := S1x1x80x8192) (k0_off14 i k 0#32) S1x1x80x256.size (k0_off14_inb i k 0)).toLoadRect X_arg6)
        (arg6.view.readAt (Elt Ideal) (Rect.unit (s := S1x1x80x8192) (k0_off14 i k 256#32) S1x1x80x256.size (k0_off14_inb i k 1)).toLoadRect X_arg6) acc := by
  unfold trip_k0_t7; rfl

theorem trip_t9 (𝒱 : Variants) (c : Dev nD) (bd : Option 𝒱.V) (i : grid0.Coords) (arg3 : Memref sig .tc .vmem S1x1x128x512 .bf16) (harg3 : arg3.IsWhole) (arg4 : Memref sig .tc .vmem S1x1x128x512 .bf16) (harg4 : arg4.IsWhole) (arg5 : Memref sig .tc .vmem S1x1x8192x128 .bf16) (harg5 : arg5.IsWhole) (arg6 : Memref sig .tc .vmem S1x1x80x8192 .bf16) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x64x1024 .f32) (harg11 : arg11.IsWhole) (v112 : BitVec 32) (v114 : FVec Ideal S128x512 .bf16) (X_arg5 : BufTy.Contents (Elt Ideal) arg5.view.ty) (X_arg6 : BufTy.Contents (Elt Ideal) arg6.view.ty) (k : Fin (k0_t9_loop i).trips) (acc : St) :
  (trip_k0_t9 (F := Ideal) 𝒱 c bd i arg3 harg3 arg4 harg4 arg5 harg5 arg6 harg6 arg7 harg7 arg8 harg8 arg9 harg9 arg10 harg10 arg11 harg11 v112 v114 X_arg5 X_arg6 k).1 acc
      = far8 v114 (arg5.view.readAt (Elt Ideal) (Rect.unit (s := S1x1x8192x128) (k0_off17 i k) S1x1x4096x128.size (k0_off17_inb i k)).toLoadRect X_arg5)
        (arg6.view.readAt (Elt Ideal) (Rect.unit (s := S1x1x80x8192) (k0_off18 i k 0#32) S1x1x80x256.size (k0_off18_inb i k 0)).toLoadRect X_arg6)
        (arg6.view.readAt (Elt Ideal) (Rect.unit (s := S1x1x80x8192) (k0_off18 i k 256#32) S1x1x80x256.size (k0_off18_inb i k 1)).toLoadRect X_arg6)
        (arg6.view.readAt (Elt Ideal) (Rect.unit (s := S1x1x80x8192) (k0_off18 i k 512#32) S1x1x80x256.size (k0_off18_inb i k 2)).toLoadRect X_arg6)
        (arg6.view.readAt (Elt Ideal) (Rect.unit (s := S1x1x80x8192) (k0_off18 i k 768#32) S1x1x80x256.size (k0_off18_inb i k 3)).toLoadRect X_arg6)
        (arg6.view.readAt (Elt Ideal) (Rect.unit (s := S1x1x80x8192) (k0_off18 i k 1024#32) S1x1x80x256.size (k0_off18_inb i k 4)).toLoadRect X_arg6)
        (arg6.view.readAt (Elt Ideal) (Rect.unit (s := S1x1x80x8192) (k0_off18 i k 1280#32) S1x1x80x256.size (k0_off18_inb i k 5)).toLoadRect X_arg6)
        (arg6.view.readAt (Elt Ideal) (Rect.unit (s := S1x1x80x8192) (k0_off18 i k 1536#32) S1x1x80x256.size (k0_off18_inb i k 6)).toLoadRect X_arg6)
        (arg6.view.readAt (Elt Ideal) (Rect.unit (s := S1x1x80x8192) (k0_off18 i k 1792#32) S1x1x80x256.size (k0_off18_inb i k 7)).toLoadRect X_arg6)
        (arg6.view.readAt (Elt Ideal) (Rect.unit (s := S1x1x80x8192) (k0_off18 i k 2048#32) S1x1x80x256.size (k0_off18_inb i k 8)).toLoadRect X_arg6)
        (arg6.view.readAt (Elt Ideal) (Rect.unit (s := S1x1x80x8192) (k0_off18 i k 2304#32) S1x1x80x256.size (k0_off18_inb i k 9)).toLoadRect X_arg6)
        (arg6.view.readAt (Elt Ideal) (Rect.unit (s := S1x1x80x8192) (k0_off18 i k 2560#32) S1x1x80x256.size (k0_off18_inb i k 10)).toLoadRect X_arg6)
        (arg6.view.readAt (Elt Ideal) (Rect.unit (s := S1x1x80x8192) (k0_off18 i k 2816#32) S1x1x80x256.size (k0_off18_inb i k 11)).toLoadRect X_arg6)
        (arg6.view.readAt (Elt Ideal) (Rect.unit (s := S1x1x80x8192) (k0_off18 i k 3072#32) S1x1x80x256.size (k0_off18_inb i k 12)).toLoadRect X_arg6)
        (arg6.view.readAt (Elt Ideal) (Rect.unit (s := S1x1x80x8192) (k0_off18 i k 3328#32) S1x1x80x256.size (k0_off18_inb i k 13)).toLoadRect X_arg6)
        (arg6.view.readAt (Elt Ideal) (Rect.unit (s := S1x1x80x8192) (k0_off18 i k 3584#32) S1x1x80x256.size (k0_off18_inb i k 14)).toLoadRect X_arg6)
        (arg6.view.readAt (Elt Ideal) (Rect.unit (s := S1x1x80x8192) (k0_off18 i k 3840#32) S1x1x80x256.size (k0_off18_inb i k 15)).toLoadRect X_arg6) acc := by
  unfold trip_k0_t9; rfl

theorem trip_t11 (𝒱 : Variants) (c : Dev nD) (bd : Option 𝒱.V) (i : grid0.Coords) (arg3 : Memref sig .tc .vmem S1x1x128x512 .bf16) (harg3 : arg3.IsWhole) (arg4 : Memref sig .tc .vmem S1x1x128x512 .bf16) (harg4 : arg4.IsWhole) (arg5 : Memref sig .tc .vmem S1x1x8192x128 .bf16) (harg5 : arg5.IsWhole) (arg6 : Memref sig .tc .vmem S1x1x80x8192 .bf16) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x64x1024 .f32) (harg11 : arg11.IsWhole) (v114 : FVec Ideal S128x512 .bf16) (v118 : BitVec 32) (v143_0 : FVec Ideal S1x512 .f32) (v143_1 : FVec Ideal S80x512 .f32) (v145 : BitVec 32) (v146 : BitVec 32) (c4_i32_72 : BitVec 32) (v147 : BitVec 32) (v152 : BitVec 32) (c0_i32_75 : BitVec 32) (X_arg5 : BufTy.Contents (Elt Ideal) arg5.view.ty) (X_arg6 : BufTy.Contents (Elt Ideal) arg6.view.ty) (k : Fin (k0_t11_loop i).trips) (acc : St) :
  (trip_k0_t11 (F := Ideal) 𝒱 c bd i arg3 harg3 arg4 harg4 arg5 harg5 arg6 harg6 arg7 harg7 arg8 harg8 arg9 harg9 arg10 harg10 arg11 harg11 v114 v118 v143_0 v143_1 v145 v146 c4_i32_72 v147 v152 c0_i32_75 X_arg5 X_arg6 k).1 acc
      = far4 v114 (arg5.view.readAt (Elt Ideal) (Rect.unit (s := S1x1x8192x128) (k0_off21 i k) S1x1x2048x128.size (k0_off21_inb i k)).toLoadRect X_arg5)
        (arg6.view.readAt (Elt Ideal) (Rect.unit (s := S1x1x80x8192) (k0_off22 i k 0#32) S1x1x80x256.size (k0_off22_inb i k 0)).toLoadRect X_arg6)
        (arg6.view.readAt (Elt Ideal) (Rect.unit (s := S1x1x80x8192) (k0_off22 i k 256#32) S1x1x80x256.size (k0_off22_inb i k 1)).toLoadRect X_arg6)
        (arg6.view.readAt (Elt Ideal) (Rect.unit (s := S1x1x80x8192) (k0_off22 i k 512#32) S1x1x80x256.size (k0_off22_inb i k 2)).toLoadRect X_arg6)
        (arg6.view.readAt (Elt Ideal) (Rect.unit (s := S1x1x80x8192) (k0_off22 i k 768#32) S1x1x80x256.size (k0_off22_inb i k 3)).toLoadRect X_arg6)
        (arg6.view.readAt (Elt Ideal) (Rect.unit (s := S1x1x80x8192) (k0_off22 i k 1024#32) S1x1x80x256.size (k0_off22_inb i k 4)).toLoadRect X_arg6)
        (arg6.view.readAt (Elt Ideal) (Rect.unit (s := S1x1x80x8192) (k0_off22 i k 1280#32) S1x1x80x256.size (k0_off22_inb i k 5)).toLoadRect X_arg6)
        (arg6.view.readAt (Elt Ideal) (Rect.unit (s := S1x1x80x8192) (k0_off22 i k 1536#32) S1x1x80x256.size (k0_off22_inb i k 6)).toLoadRect X_arg6)
        (arg6.view.readAt (Elt Ideal) (Rect.unit (s := S1x1x80x8192) (k0_off22 i k 1792#32) S1x1x80x256.size (k0_off22_inb i k 7)).toLoadRect X_arg6) acc := by
  unfold trip_k0_t11; rfl

theorem trip_t13 (𝒱 : Variants) (c : Dev nD) (bd : Option 𝒱.V) (i : grid0.Coords) (arg3 : Memref sig .tc .vmem S1x1x128x512 .bf16) (harg3 : arg3.IsWhole) (arg4 : Memref sig .tc .vmem S1x1x128x512 .bf16) (harg4 : arg4.IsWhole) (arg5 : Memref sig .tc .vmem S1x1x8192x128 .bf16) (harg5 : arg5.IsWhole) (arg6 : Memref sig .tc .vmem S1x1x80x8192 .bf16) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x64x1024 .f32) (harg11 : arg11.IsWhole) (v5 : BitVec 32) (v114 : FVec Ideal S128x512 .bf16) (v118 : BitVec 32) (v170_0 : FVec Ideal S1x512 .f32) (v170_1 : FVec Ideal S80x512 .f32) (v172 : BitVec 32) (v190 : BitVec 32) (c0_i32_91 : BitVec 32) (v195 : BitVec 32) (X_arg5 : BufTy.Contents (Elt Ideal) arg5.view.ty) (X_arg6 : BufTy.Contents (Elt Ideal) arg6.view.ty) (k : Fin (k0_t13_loop i).trips) (acc : St) :
  (trip_k0_t13 (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 X_arg5 X_arg6 k).1 acc
      = far2 v114 (arg5.view.readAt (Elt Ideal) (Rect.unit (s := S1x1x8192x128) (k0_off25 i k) S1x1x1024x128.size (k0_off25_inb i k)).toLoadRect X_arg5)
        (arg6.view.readAt (Elt Ideal) (Rect.unit (s := S1x1x80x8192) (k0_off26 i k 0#32) S1x1x80x256.size (k0_off26_inb i k 0)).toLoadRect X_arg6)
        (arg6.view.readAt (Elt Ideal) (Rect.unit (s := S1x1x80x8192) (k0_off26 i k 256#32) S1x1x80x256.size (k0_off26_inb i k 1)).toLoadRect X_arg6)
        (arg6.view.readAt (Elt Ideal) (Rect.unit (s := S1x1x80x8192) (k0_off26 i k 512#32) S1x1x80x256.size (k0_off26_inb i k 2)).toLoadRect X_arg6)
        (arg6.view.readAt (Elt Ideal) (Rect.unit (s := S1x1x80x8192) (k0_off26 i k 768#32) S1x1x80x256.size (k0_off26_inb i k 3)).toLoadRect X_arg6) acc := by
  unfold trip_k0_t13; rfl

theorem trip_t15 (𝒱 : Variants) (c : Dev nD) (bd : Option 𝒱.V) (i : grid0.Coords) (arg3 : Memref sig .tc .vmem S1x1x128x512 .bf16) (harg3 : arg3.IsWhole) (arg4 : Memref sig .tc .vmem S1x1x128x512 .bf16) (harg4 : arg4.IsWhole) (arg5 : Memref sig .tc .vmem S1x1x8192x128 .bf16) (harg5 : arg5.IsWhole) (arg6 : Memref sig .tc .vmem S1x1x80x8192 .bf16) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x64x1024 .f32) (harg11 : arg11.IsWhole) (v5 : BitVec 32) (v114 : FVec Ideal S128x512 .bf16) (v118 : BitVec 32) (v170_0 : FVec Ideal S1x512 .f32) (v170_1 : FVec Ideal S80x512 .f32) (v172 : BitVec 32) (v190 : BitVec 32) (c0_i32_91 : BitVec 32) (v195 : BitVec 32) (v199 : BitVec 32) (X_arg5 : BufTy.Contents (Elt Ideal) arg5.view.ty) (X_arg6 : BufTy.Contents (Elt Ideal) arg6.view.ty) (k : Fin (k0_t15_loop i).trips) (acc : St) :
  (trip_k0_t15 (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 v199 X_arg5 X_arg6 k).1 acc
      = far1 v114 (arg5.view.readAt (Elt Ideal) (Rect.unit (s := S1x1x8192x128) (k0_off29 i k) S1x1x512x128.size (k0_off29_inb i k)).toLoadRect X_arg5)
        (arg6.view.readAt (Elt Ideal) (Rect.unit (s := S1x1x80x8192) (k0_off30 i k 0#32) S1x1x80x256.size (k0_off30_inb i k 0)).toLoadRect X_arg6)
        (arg6.view.readAt (Elt Ideal) (Rect.unit (s := S1x1x80x8192) (k0_off30 i k 256#32) S1x1x80x256.size (k0_off30_inb i k 1)).toLoadRect X_arg6) acc := by
  unfold trip_k0_t15; rfl

theorem near_left (q : FVec Ideal S128x512 .bf16) (st : St) (t : FVec Ideal S1024x512 .f32) (kb : Vec Ideal S1x1x1024x128 .bf16)
    (v0 v1 v2 v3 : Vec Ideal S1x1x80x256 .bf16) :
    k0_pay420 (k0_pay413 q t kb) (k0_pay417 q st.1 t kb) (k0_pay418 q st.1 st.2 t kb v0 v1) (k0_pay419 q t kb) v2 v3
      = quot (near (addf (sc2 kb q) t) v0 v1 v2 v3 st) := rfl

theorem near_right (q : FVec Ideal S128x512 .bf16) (st : St) (t0 t1 : Vec Ideal S1x1x512x512 .f32) (kb : Vec Ideal S1x1x1024x128 .bf16)
    (v0 v1 v2 v3 : Vec Ideal S1x1x80x256 .bf16) :
    k0_pay1
      (k0_pay430 (k0_pay421 q t0 t1 kb) (k0_pay423 q st.1 t0 t1 kb) (k0_pay424 q st.1 st.2 t0 t1 kb v0) (k0_pay425 q t0 t1 kb) (k0_pay426 v1) v2)
      (k0_pay432 v3)
      (k0_pay434 (k0_pay421 q t0 t1 kb) (k0_pay423 q st.1 t0 t1 kb) (k0_pay425 q t0 t1 kb))
      (k0_pay435 (k0_pay421 q t0 t1 kb) (k0_pay423 q st.1 t0 t1 kb) (k0_pay425 q t0 t1 kb))
      = quot (near (addf (sc2 kb q) (k0_pay412 t0 t1)) v0 v1 v2 v3 st) := rfl

end Cert.Attn
-- ==== Proof.Far.lean ====
/- The loops over earlier keys: how many trips each makes at each grid point, which keys a trip reads, and that a loop
   carries the invariant from the keys before it to the keys after it. -/
module

public import proofs.«01_k».proof.Proof.Trips
public import Idealize.ShloMosaic.Lib.WholeRead

@[expose] public section

set_option maxRecDepth 16384

noncomputable section

namespace Cert.Attn

open Cert.KernelIdeal Cert.KernelIdeal.Gen Idealize.ShloMosaic Idealize.ShloMosaic.TcCoe Idealize.SL.Sem

theorem read_keys8 (M : Memref sig .tc .vmem S1x1x8192x128 .bf16) (hM : M.IsWhole) (X : Vec Ideal S1x1x8192x128 .bf16) {off : Fin 4 → ℕ} {n : ℕ}
    (inb : ∀ a, off a + S1x1x4096x128.size a ≤ S1x1x8192x128.size a) (ho : off = ![0, 0, n, 0]) (j : Fin 4096) (c : Fin 128) (hj : n + j.val < 8192) :
    M.view.readAt (Elt Ideal) (Rect.unit (s := S1x1x8192x128) off S1x1x4096x128.size inb).toLoadRect (hM.unread X) (ix4 0 0 j c)
      = X (ix4 0 0 ⟨n + j.val, hj⟩ c) := by
  subst ho
  rw [hM.readAt_unread]
  congr 1
  funext a
  fin_cases a
  · rfl
  · rfl
  · apply Fin.ext; simp
  · apply Fin.ext; simp

theorem read_keys4 (M : Memref sig .tc .vmem S1x1x8192x128 .bf16) (hM : M.IsWhole) (X : Vec Ideal S1x1x8192x128 .bf16) {off : Fin 4 → ℕ} {n : ℕ}
    (inb : ∀ a, off a + S1x1x2048x128.size a ≤ S1x1x8192x128.size a) (ho : off = ![0, 0, n, 0]) (j : Fin 2048) (c : Fin 128) (hj : n + j.val < 8192) :
    M.view.readAt (Elt Ideal) (Rect.unit (s := S1x1x8192x128) off S1x1x2048x128.size inb).toLoadRect (hM.unread X) (ix4 0 0 j c)
      = X (ix4 0 0 ⟨n + j.val, hj⟩ c) := by
  subst ho
  rw [hM.readAt_unread]
  congr 1
  funext a
  fin_cases a
  · rfl
  · rfl
  · apply Fin.ext; simp
  · apply Fin.ext; simp

theorem read_keys2 (M : Memref sig .tc .vmem S1x1x8192x128 .bf16) (hM : M.IsWhole) (X : Vec Ideal S1x1x8192x128 .bf16) {off : Fin 4 → ℕ} {n : ℕ}
    (inb : ∀ a, off a + S1x1x1024x128.size a ≤ S1x1x8192x128.size a) (ho : off = ![0, 0, n, 0]) (j : Fin 1024) (c : Fin 128) (hj : n + j.val < 8192) :
    M.view.readAt (Elt Ideal) (Rect.unit (s := S1x1x8192x128) off S1x1x1024x128.size inb).toLoadRect (hM.unread X) (ix4 0 0 j c)
      = X (ix4 0 0 ⟨n + j.val, hj⟩ c) := by
  subst ho
  rw [hM.readAt_unread]
  congr 1
  funext a
  fin_cases a
  · rfl
  · rfl
  · apply Fin.ext; simp
  · apply Fin.ext; simp

theorem read_keys1 (M : Memref sig .tc .vmem S1x1x8192x128 .bf16) (hM : M.IsWhole) (X : Vec Ideal S1x1x8192x128 .bf16) {off : Fin 4 → ℕ} {n : ℕ}
    (inb : ∀ a, off a + S1x1x512x128.size a ≤ S1x1x8192x128.size a) (ho : off = ![0, 0, n, 0]) (j : Fin 512) (c : Fin 128) (hj : n + j.val < 8192) :
    M.view.readAt (Elt Ideal) (Rect.unit (s := S1x1x8192x128) off S1x1x512x128.size inb).toLoadRect (hM.unread X) (ix4 0 0 j c)
      = X (ix4 0 0 ⟨n + j.val, hj⟩ c) := by
  subst ho
  rw [hM.readAt_unread]
  congr 1
  funext a
  fin_cases a
  · rfl
  · rfl
  · apply Fin.ext; simp
  · apply Fin.ext; simp

theorem read_vals (M : Memref sig .tc .vmem S1x1x80x8192 .bf16) (hM : M.IsWhole) (X : Vec Ideal S1x1x80x8192 .bf16) {off : Fin 4 → ℕ} {n : ℕ}
    (inb : ∀ a, off a + S1x1x80x256.size a ≤ S1x1x80x8192.size a) (ho : off = ![0, 0, 0, n]) (d : Fin 80) (j : Fin 256) :
    ∃ hj : n + j.val < 8192, M.view.readAt (Elt Ideal) (Rect.unit (s := S1x1x80x8192) off S1x1x80x256.size inb).toLoadRect (hM.unread X) (ix4 0 0 d j)
      = X (ix4 0 0 d ⟨n + j.val, hj⟩) := by
  subst ho
  have h3 : n + 256 ≤ 8192 := inb 3
  refine ⟨by omega, ?_⟩
  rw [hM.readAt_unread]
  congr 1
  funext a
  fin_cases a
  · rfl
  · rfl
  · apply Fin.ext; simp
  · apply Fin.ext; simp

theorem trips_t1 : ∀ i : grid0.Coords, (k0_t1_loop i).trips = 0 := by decide +kernel
theorem trips_t2 : ∀ i : grid0.Coords, (k0_t2_loop i).trips = 0 := by decide +kernel
theorem trips_t3 : ∀ i : grid0.Coords, (k0_t3_loop i).trips = ((i 2).val - 1) % 8 / 4 := by decide +kernel
theorem off5_eq : ∀ (i : grid0.Coords) (k : Fin (k0_t3_loop i).trips), k0_off5 i k = ![0, 0, 512 * (8 * (((i 2).val - 1) / 8) + 4 * k.val), 0] := by decide +kernel
theorem off6_eq : ∀ (i : grid0.Coords) (k : Fin (k0_t3_loop i).trips) (l : Fin 8),
    k0_off6 i k (BitVec.ofNat 32 (256 * l.val)) = ![0, 0, 0, 512 * (8 * (((i 2).val - 1) / 8) + 4 * k.val) + 256 * l.val] := by decide +kernel
theorem trips_t4 : ∀ i : grid0.Coords, (k0_t4_loop i).trips = 0 := by decide +kernel
theorem trips_t5 : ∀ i : grid0.Coords, (k0_t5_loop i).trips = ((i 2).val - 1) % 4 / 2 := by decide +kernel
theorem off9_eq : ∀ (i : grid0.Coords) (k : Fin (k0_t5_loop i).trips), k0_off9 i k = ![0, 0, 512 * (4 * (((i 2).val - 1) / 4) + 2 * k.val), 0] := by decide +kernel
theorem off10_eq : ∀ (i : grid0.Coords) (k : Fin (k0_t5_loop i).trips) (l : Fin 4),
    k0_off10 i k (BitVec.ofNat 32 (256 * l.val)) = ![0, 0, 0, 512 * (4 * (((i 2).val - 1) / 4) + 2 * k.val) + 256 * l.val] := by decide +kernel
theorem trips_t6 : ∀ i : grid0.Coords, (k0_t6_loop i).trips = 0 := by decide +kernel
theorem trips_t7 : ∀ i : grid0.Coords, (k0_t7_loop i).trips = ((i 2).val - 1) % 2 := by decide +kernel
theorem off13_eq : ∀ (i : grid0.Coords) (k : Fin (k0_t7_loop i).trips), k0_off13 i k = ![0, 0, 512 * (2 * (((i 2).val - 1) / 2) + 1 * k.val), 0] := by decide +kernel
theorem off14_eq : ∀ (i : grid0.Coords) (k : Fin (k0_t7_loop i).trips) (l : Fin 2),
    k0_off14 i k (BitVec.ofNat 32 (256 * l.val)) = ![0, 0, 0, 512 * (2 * (((i 2).val - 1) / 2) + 1 * k.val) + 256 * l.val] := by decide +kernel
theorem trips_t8 : ∀ i : grid0.Coords, (k0_t8_loop i).trips = 0 := by decide +kernel
theorem trips_t9 : ∀ i : grid0.Coords, (k0_t9_loop i).trips = (14 - (i 2).val) / 8 := by decide +kernel
theorem off17_eq : ∀ (i : grid0.Coords) (k : Fin (k0_t9_loop i).trips), k0_off17 i k = ![0, 0, 512 * (0 + 8 * k.val), 0] := by decide +kernel
theorem off18_eq : ∀ (i : grid0.Coords) (k : Fin (k0_t9_loop i).trips) (l : Fin 16),
    k0_off18 i k (BitVec.ofNat 32 (256 * l.val)) = ![0, 0, 0, 512 * (0 + 8 * k.val) + 256 * l.val] := by decide +kernel
theorem trips_t10 : ∀ i : grid0.Coords, (k0_t10_loop i).trips = 0 := by decide +kernel
theorem trips_t11 : ∀ i : grid0.Coords, (k0_t11_loop i).trips = (14 - (i 2).val) % 8 / 4 := by decide +kernel
theorem off21_eq : ∀ (i : grid0.Coords) (k : Fin (k0_t11_loop i).trips), k0_off21 i k = ![0, 0, 512 * (8 * ((14 - (i 2).val) / 8) + 4 * k.val), 0] := by decide +kernel
theorem off22_eq : ∀ (i : grid0.Coords) (k : Fin (k0_t11_loop i).trips) (l : Fin 8),
    k0_off22 i k (BitVec.ofNat 32 (256 * l.val)) = ![0, 0, 0, 512 * (8 * ((14 - (i 2).val) / 8) + 4 * k.val) + 256 * l.val] := by decide +kernel
theorem trips_t12 : ∀ i : grid0.Coords, (k0_t12_loop i).trips = 0 := by decide +kernel
theorem trips_t13 : ∀ i : grid0.Coords, (k0_t13_loop i).trips = (14 - (i 2).val) % 4 / 2 := by decide +kernel
theorem off25_eq : ∀ (i : grid0.Coords) (k : Fin (k0_t13_loop i).trips), k0_off25 i k = ![0, 0, 512 * (4 * ((14 - (i 2).val) / 4) + 2 * k.val), 0] := by decide +kernel
theorem off26_eq : ∀ (i : grid0.Coords) (k : Fin (k0_t13_loop i).trips) (l : Fin 4),
    k0_off26 i k (BitVec.ofNat 32 (256 * l.val)) = ![0, 0, 0, 512 * (4 * ((14 - (i 2).val) / 4) + 2 * k.val) + 256 * l.val] := by decide +kernel
theorem trips_t14 : ∀ i : grid0.Coords, (k0_t14_loop i).trips = 0 := by decide +kernel
theorem trips_t15 : ∀ i : grid0.Coords, (k0_t15_loop i).trips = (14 - (i 2).val) % 2 := by decide +kernel
theorem off29_eq : ∀ (i : grid0.Coords) (k : Fin (k0_t15_loop i).trips), k0_off29 i k = ![0, 0, 512 * (2 * ((14 - (i 2).val) / 2) + 1 * k.val), 0] := by decide +kernel
theorem off30_eq : ∀ (i : grid0.Coords) (k : Fin (k0_t15_loop i).trips) (l : Fin 2),
    k0_off30 i k (BitVec.ofNat 32 (256 * l.val)) = ![0, 0, 0, 512 * (2 * ((14 - (i 2).val) / 2) + 1 * k.val) + 256 * l.val] := by decide +kernel
theorem trips_t16 : ∀ i : grid0.Coords, (k0_t16_loop i).trips = 0 := by decide +kernel
theorem off33_eq : ∀ i : grid0.Coords, k0_off33 i = ![0, 0, 512 * ((i 2).val - 1), 0] := by decide +kernel
theorem off34_eq : ∀ (i : grid0.Coords) (l : Fin 4), k0_off34 i (BitVec.ofNat 32 (256 * l.val)) = ![0, 0, 0, 512 * ((i 2).val - 1) + 256 * l.val] := by decide +kernel
theorem off35_eq : ∀ i : grid0.Coords, k0_off35 i = ![0, 0, 512 * (14 - (i 2).val), 0] := by decide +kernel
theorem off36_eq : ∀ (i : grid0.Coords) (l : Fin 4), k0_off36 i (BitVec.ofNat 32 (256 * l.val)) = ![0, 0, 0, 512 * (14 - (i 2).val) + 256 * l.val] := by decide +kernel

theorem inv_t1 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v0 : Vec Ideal S1x1x128x512 .bf16} {X_arg5 : BufTy.Contents (Elt Ideal) arg5.view.ty} {X_arg6 : BufTy.Contents (Elt Ideal) arg6.view.ty} {init : FVec Ideal S1x512 .f32 × FVec Ideal S80x512 .f32} {S : Fin 512 → ℕ → EReal} {V : Fin 80 → ℕ → EReal} {n : ℕ}
    (h : Inv S V n init) : Inv S V n (st_k0_t1 (F := Ideal) 𝒱 c bd i arg3 harg3 arg4 harg4 arg5 harg5 arg6 harg6 arg7 harg7 arg8 harg8 arg9 harg9 arg10 harg10 arg11 harg11 v0 X_arg5 X_arg6 init (k0_t1_loop i).trips) := by
  rw [trips_t1]; exact h

theorem inv_t2 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v0 : Vec Ideal S1x1x128x512 .bf16} {v28 : BitVec 32} {X_arg5 : BufTy.Contents (Elt Ideal) arg5.view.ty} {X_arg6 : BufTy.Contents (Elt Ideal) arg6.view.ty} {init : FVec Ideal S1x512 .f32 × FVec Ideal S80x512 .f32} {S : Fin 512 → ℕ → EReal} {V : Fin 80 → ℕ → EReal} {n : ℕ}
    (h : Inv S V n init) : Inv S V n (st_k0_t2 (F := Ideal) 𝒱 c bd i arg3 harg3 arg4 harg4 arg5 harg5 arg6 harg6 arg7 harg7 arg8 harg8 arg9 harg9 arg10 harg10 arg11 harg11 v0 v28 X_arg5 X_arg6 init (k0_t2_loop i).trips) := by
  rw [trips_t2]; exact h

theorem inv_t3 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v1 : FVec Ideal S128x512 .bf16} {v5 : BitVec 32} {v30_0 : FVec Ideal S1x512 .f32} {v30_1 : FVec Ideal S80x512 .f32} {v32 : BitVec 32} {v33 : BitVec 32} {c4_i32 : BitVec 32} {init : FVec Ideal S1x512 .f32 × FVec Ideal S80x512 .f32}
    {x2 : Vec Ideal S1x1x8192x128 .bf16} {x3 : Vec Ideal S1x1x80x8192 .bf16} {S : Fin 512 → ℕ → EReal} {V : Fin 80 → ℕ → EReal}
    (hS : ∀ x j, S x j ≠ ⊤)
    (hk : ∀ (x : Fin 512) (j : Fin 8192), j.val < 512 * ((i 2).val - 1) → (∑ c : Fin 128, (x2 (ix4 0 0 j c) : EReal) * v1 (ix2 c x)) = S x j.val)
    (hv : ∀ (d : Fin 80) (j : Fin 8192), (x3 (ix4 0 0 d j) : EReal) = V d j.val)
    {n₀ n₁ : ℕ} (h₀ : n₀ = 512 * (8 * (((i 2).val - 1) / 8))) (h₁ : n₁ = 512 * (8 * (((i 2).val - 1) / 8) + 4 * (((i 2).val - 1) % 8 / 4))) (h : Inv S V n₀ init) :
    Inv S V n₁
      (st_k0_t3 (F := Ideal) 𝒱 c bd i arg3 harg3 arg4 harg4 arg5 harg5 arg6 harg6 arg7 harg7 arg8 harg8 arg9 harg9 arg10 harg10 arg11 harg11 v1 v5 v30_0 v30_1 v32 v33 c4_i32 (harg5.unread x2) (harg6.unread x3) init (k0_t3_loop i).trips) := by
  subst h₀ h₁
  have main : ∀ k : ℕ, k ≤ (k0_t3_loop i).trips → Inv S V (512 * (8 * (((i 2).val - 1) / 8) + 4 * k)) (st_k0_t3 (F := Ideal) 𝒱 c bd i arg3 harg3 arg4 harg4 arg5 harg5 arg6 harg6 arg7 harg7 arg8 harg8 arg9 harg9 arg10 harg10 arg11 harg11 v1 v5 v30_0 v30_1 v32 v33 c4_i32 (harg5.unread x2) (harg6.unread x3) init k) := by
    intro k
    induction k with
    | zero => intro _; exact h
    | succ k ih =>
      intro hk'
      have hc := ih (by omega)
      have hi : (i 2).val < 8 := (i 2).isLt
      have ht := trips_t3 i
      have e := st_k0_t3_succ (F := Ideal) 𝒱 c bd i arg3 harg3 arg4 harg4 arg5 harg5 arg6 harg6 arg7 harg7 arg8 harg8 arg9 harg9 arg10 harg10 arg11 harg11 v1 v5 v30_0 v30_1 v32 v33 c4_i32 (harg5.unread x2) (harg6.unread x3) init ⟨k, by omega⟩
      rw [show ((⟨k, by omega⟩ : Fin (k0_t3_loop i).trips).val + 1) = k + 1 from rfl] at e
      rw [e]; unfold tripR_k0_t3; rw [trip_t3]
      have hb : 8 * (((i 2).val - 1) / 8) + 4 * (k + 1) ≤ ((i 2).val - 1) := by omega
      rw [show 512 * (8 * (((i 2).val - 1) / 8) + 4 * (k + 1)) = 512 * (8 * (((i 2).val - 1) / 8) + 4 * k) + 2048 by omega]
      refine far4_inv hS ?_ ?_ ?_ ?_ ?_ ?_ ?_ ?_ ?_ hc
      · intro x j
        have hj : 512 * (8 * (((i 2).val - 1) / 8) + 4 * k) + j.val < 8192 := by omega
        rw [← hk x ⟨_, hj⟩ (by simp only []; omega)]
        refine Finset.sum_congr rfl fun c _ => ?_
        rw [read_keys4 arg5 harg5 x2 _ (off5_eq i ⟨k, by omega⟩) j c hj]
      · intro d j
        obtain ⟨hj, e⟩ := read_vals arg6 harg6 x3 (k0_off6_inb i ⟨k, by omega⟩ 0) (off6_eq i ⟨k, by omega⟩ 0) d j
        exact e.trans (hv d ⟨_, hj⟩)
      · intro d j
        obtain ⟨hj, e⟩ := read_vals arg6 harg6 x3 (k0_off6_inb i ⟨k, by omega⟩ 1) (off6_eq i ⟨k, by omega⟩ 1) d j
        exact e.trans (hv d ⟨_, hj⟩)
      · intro d j
        obtain ⟨hj, e⟩ := read_vals arg6 harg6 x3 (k0_off6_inb i ⟨k, by omega⟩ 2) (off6_eq i ⟨k, by omega⟩ 2) d j
        exact e.trans (hv d ⟨_, hj⟩)
      · intro d j
        obtain ⟨hj, e⟩ := read_vals arg6 harg6 x3 (k0_off6_inb i ⟨k, by omega⟩ 3) (off6_eq i ⟨k, by omega⟩ 3) d j
        exact e.trans (hv d ⟨_, hj⟩)
      · intro d j
        obtain ⟨hj, e⟩ := read_vals arg6 harg6 x3 (k0_off6_inb i ⟨k, by omega⟩ 4) (off6_eq i ⟨k, by omega⟩ 4) d j
        exact e.trans (hv d ⟨_, hj⟩)
      · intro d j
        obtain ⟨hj, e⟩ := read_vals arg6 harg6 x3 (k0_off6_inb i ⟨k, by omega⟩ 5) (off6_eq i ⟨k, by omega⟩ 5) d j
        exact e.trans (hv d ⟨_, hj⟩)
      · intro d j
        obtain ⟨hj, e⟩ := read_vals arg6 harg6 x3 (k0_off6_inb i ⟨k, by omega⟩ 6) (off6_eq i ⟨k, by omega⟩ 6) d j
        exact e.trans (hv d ⟨_, hj⟩)
      · intro d j
        obtain ⟨hj, e⟩ := read_vals arg6 harg6 x3 (k0_off6_inb i ⟨k, by omega⟩ 7) (off6_eq i ⟨k, by omega⟩ 7) d j
        exact e.trans (hv d ⟨_, hj⟩)
  have := main _ le_rfl
  rwa [show 512 * (8 * (((i 2).val - 1) / 8) + 4 * (k0_t3_loop i).trips) = 512 * (8 * (((i 2).val - 1) / 8) + 4 * (((i 2).val - 1) % 8 / 4)) by rw [trips_t3]] at this

theorem inv_t4 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v1 : FVec Ideal S128x512 .bf16} {v5 : BitVec 32} {v30_0 : FVec Ideal S1x512 .f32} {v30_1 : FVec Ideal S80x512 .f32} {v32 : BitVec 32} {v33 : BitVec 32} {c4_i32 : BitVec 32} {v55 : BitVec 32} {X_arg5 : BufTy.Contents (Elt Ideal) arg5.view.ty} {X_arg6 : BufTy.Contents (Elt Ideal) arg6.view.ty} {init : FVec Ideal S1x512 .f32 × FVec Ideal S80x512 .f32} {S : Fin 512 → ℕ → EReal} {V : Fin 80 → ℕ → EReal} {n : ℕ}
    (h : Inv S V n init) : Inv S V n (st_k0_t4 (F := Ideal) 𝒱 c bd i arg3 harg3 arg4 harg4 arg5 harg5 arg6 harg6 arg7 harg7 arg8 harg8 arg9 harg9 arg10 harg10 arg11 harg11 v1 v5 v30_0 v30_1 v32 v33 c4_i32 v55 X_arg5 X_arg6 init (k0_t4_loop i).trips) := by
  rw [trips_t4]; exact h

theorem inv_t5 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {arg2 : BitVec 32} {v1 : FVec Ideal S128x512 .bf16} {v5 : BitVec 32} {v57_0 : FVec Ideal S1x512 .f32} {v57_1 : FVec Ideal S80x512 .f32} {v59 : BitVec 32} {v61 : BitVec 32} {v75 : BitVec 1} {c1_i32_33 : BitVec 32} {init : FVec Ideal S1x512 .f32 × FVec Ideal S80x512 .f32}
    {x2 : Vec Ideal S1x1x8192x128 .bf16} {x3 : Vec Ideal S1x1x80x8192 .bf16} {S : Fin 512 → ℕ → EReal} {V : Fin 80 → ℕ → EReal}
    (hS : ∀ x j, S x j ≠ ⊤)
    (hk : ∀ (x : Fin 512) (j : Fin 8192), j.val < 512 * ((i 2).val - 1) → (∑ c : Fin 128, (x2 (ix4 0 0 j c) : EReal) * v1 (ix2 c x)) = S x j.val)
    (hv : ∀ (d : Fin 80) (j : Fin 8192), (x3 (ix4 0 0 d j) : EReal) = V d j.val)
    {n₀ n₁ : ℕ} (h₀ : n₀ = 512 * (4 * (((i 2).val - 1) / 4))) (h₁ : n₁ = 512 * (4 * (((i 2).val - 1) / 4) + 2 * (((i 2).val - 1) % 4 / 2))) (h : Inv S V n₀ init) :
    Inv S V n₁
      (st_k0_t5 (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 (harg5.unread x2) (harg6.unread x3) init (k0_t5_loop i).trips) := by
  subst h₀ h₁
  have main : ∀ k : ℕ, k ≤ (k0_t5_loop i).trips → Inv S V (512 * (4 * (((i 2).val - 1) / 4) + 2 * k)) (st_k0_t5 (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 (harg5.unread x2) (harg6.unread x3) init k) := by
    intro k
    induction k with
    | zero => intro _; exact h
    | succ k ih =>
      intro hk'
      have hc := ih (by omega)
      have hi : (i 2).val < 8 := (i 2).isLt
      have ht := trips_t5 i
      have e := st_k0_t5_succ (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 (harg5.unread x2) (harg6.unread x3) init ⟨k, by omega⟩
      rw [show ((⟨k, by omega⟩ : Fin (k0_t5_loop i).trips).val + 1) = k + 1 from rfl] at e
      rw [e]; unfold tripR_k0_t5; rw [trip_t5]
      have hb : 4 * (((i 2).val - 1) / 4) + 2 * (k + 1) ≤ ((i 2).val - 1) := by omega
      rw [show 512 * (4 * (((i 2).val - 1) / 4) + 2 * (k + 1)) = 512 * (4 * (((i 2).val - 1) / 4) + 2 * k) + 1024 by omega]
      refine far2_inv hS ?_ ?_ ?_ ?_ ?_ hc
      · intro x j
        have hj : 512 * (4 * (((i 2).val - 1) / 4) + 2 * k) + j.val < 8192 := by omega
        rw [← hk x ⟨_, hj⟩ (by simp only []; omega)]
        refine Finset.sum_congr rfl fun c _ => ?_
        rw [read_keys2 arg5 harg5 x2 _ (off9_eq i ⟨k, by omega⟩) j c hj]
      · intro d j
        obtain ⟨hj, e⟩ := read_vals arg6 harg6 x3 (k0_off10_inb i ⟨k, by omega⟩ 0) (off10_eq i ⟨k, by omega⟩ 0) d j
        exact e.trans (hv d ⟨_, hj⟩)
      · intro d j
        obtain ⟨hj, e⟩ := read_vals arg6 harg6 x3 (k0_off10_inb i ⟨k, by omega⟩ 1) (off10_eq i ⟨k, by omega⟩ 1) d j
        exact e.trans (hv d ⟨_, hj⟩)
      · intro d j
        obtain ⟨hj, e⟩ := read_vals arg6 harg6 x3 (k0_off10_inb i ⟨k, by omega⟩ 2) (off10_eq i ⟨k, by omega⟩ 2) d j
        exact e.trans (hv d ⟨_, hj⟩)
      · intro d j
        obtain ⟨hj, e⟩ := read_vals arg6 harg6 x3 (k0_off10_inb i ⟨k, by omega⟩ 3) (off10_eq i ⟨k, by omega⟩ 3) d j
        exact e.trans (hv d ⟨_, hj⟩)
  have := main _ le_rfl
  rwa [show 512 * (4 * (((i 2).val - 1) / 4) + 2 * (k0_t5_loop i).trips) = 512 * (4 * (((i 2).val - 1) / 4) + 2 * (((i 2).val - 1) % 4 / 2)) by rw [trips_t5]] at this

theorem inv_t6 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {arg2 : BitVec 32} {v1 : FVec Ideal S128x512 .bf16} {v5 : BitVec 32} {v57_0 : FVec Ideal S1x512 .f32} {v57_1 : FVec Ideal S80x512 .f32} {v59 : BitVec 32} {v61 : BitVec 32} {v75 : BitVec 1} {c1_i32_33 : BitVec 32} {v82 : BitVec 32} {X_arg5 : BufTy.Contents (Elt Ideal) arg5.view.ty} {X_arg6 : BufTy.Contents (Elt Ideal) arg6.view.ty} {init : FVec Ideal S1x512 .f32 × FVec Ideal S80x512 .f32} {S : Fin 512 → ℕ → EReal} {V : Fin 80 → ℕ → EReal} {n : ℕ}
    (h : Inv S V n init) : Inv S V n (st_k0_t6 (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 v82 X_arg5 X_arg6 init (k0_t6_loop i).trips) := by
  rw [trips_t6]; exact h

theorem inv_t7 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {arg2 : BitVec 32} {v1 : FVec Ideal S128x512 .bf16} {v5 : BitVec 32} {v57_0 : FVec Ideal S1x512 .f32} {v57_1 : FVec Ideal S80x512 .f32} {v59 : BitVec 32} {v61 : BitVec 32} {v75 : BitVec 1} {c1_i32_33 : BitVec 32} {v86 : BitVec 32} {init : FVec Ideal S1x512 .f32 × FVec Ideal S80x512 .f32}
    {x2 : Vec Ideal S1x1x8192x128 .bf16} {x3 : Vec Ideal S1x1x80x8192 .bf16} {S : Fin 512 → ℕ → EReal} {V : Fin 80 → ℕ → EReal}
    (hS : ∀ x j, S x j ≠ ⊤)
    (hk : ∀ (x : Fin 512) (j : Fin 8192), j.val < 512 * ((i 2).val - 1) → (∑ c : Fin 128, (x2 (ix4 0 0 j c) : EReal) * v1 (ix2 c x)) = S x j.val)
    (hv : ∀ (d : Fin 80) (j : Fin 8192), (x3 (ix4 0 0 d j) : EReal) = V d j.val)
    {n₀ n₁ : ℕ} (h₀ : n₀ = 512 * (2 * (((i 2).val - 1) / 2))) (h₁ : n₁ = 512 * (2 * (((i 2).val - 1) / 2) + 1 * (((i 2).val - 1) % 2))) (h : Inv S V n₀ init) :
    Inv S V n₁
      (st_k0_t7 (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 v86 (harg5.unread x2) (harg6.unread x3) init (k0_t7_loop i).trips) := by
  subst h₀ h₁
  have main : ∀ k : ℕ, k ≤ (k0_t7_loop i).trips → Inv S V (512 * (2 * (((i 2).val - 1) / 2) + 1 * k)) (st_k0_t7 (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 v86 (harg5.unread x2) (harg6.unread x3) init k) := by
    intro k
    induction k with
    | zero => intro _; exact h
    | succ k ih =>
      intro hk'
      have hc := ih (by omega)
      have hi : (i 2).val < 8 := (i 2).isLt
      have ht := trips_t7 i
      have e := st_k0_t7_succ (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 v86 (harg5.unread x2) (harg6.unread x3) init ⟨k, by omega⟩
      rw [show ((⟨k, by omega⟩ : Fin (k0_t7_loop i).trips).val + 1) = k + 1 from rfl] at e
      rw [e]; unfold tripR_k0_t7; rw [trip_t7]
      have hb : 2 * (((i 2).val - 1) / 2) + 1 * (k + 1) ≤ ((i 2).val - 1) := by omega
      rw [show 512 * (2 * (((i 2).val - 1) / 2) + 1 * (k + 1)) = 512 * (2 * (((i 2).val - 1) / 2) + 1 * k) + 512 by omega]
      refine far1_inv hS ?_ ?_ ?_ hc
      · intro x j
        have hj : 512 * (2 * (((i 2).val - 1) / 2) + 1 * k) + j.val < 8192 := by omega
        rw [← hk x ⟨_, hj⟩ (by simp only []; omega)]
        refine Finset.sum_congr rfl fun c _ => ?_
        rw [read_keys1 arg5 harg5 x2 _ (off13_eq i ⟨k, by omega⟩) j c hj]
      · intro d j
        obtain ⟨hj, e⟩ := read_vals arg6 harg6 x3 (k0_off14_inb i ⟨k, by omega⟩ 0) (off14_eq i ⟨k, by omega⟩ 0) d j
        exact e.trans (hv d ⟨_, hj⟩)
      · intro d j
        obtain ⟨hj, e⟩ := read_vals arg6 harg6 x3 (k0_off14_inb i ⟨k, by omega⟩ 1) (off14_eq i ⟨k, by omega⟩ 1) d j
        exact e.trans (hv d ⟨_, hj⟩)
  have := main _ le_rfl
  rwa [show 512 * (2 * (((i 2).val - 1) / 2) + 1 * (k0_t7_loop i).trips) = 512 * (2 * (((i 2).val - 1) / 2) + 1 * (((i 2).val - 1) % 2)) by rw [trips_t7]] at this

theorem inv_t8 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {arg2 : BitVec 32} {v1 : FVec Ideal S128x512 .bf16} {v5 : BitVec 32} {v57_0 : FVec Ideal S1x512 .f32} {v57_1 : FVec Ideal S80x512 .f32} {v59 : BitVec 32} {v61 : BitVec 32} {v75 : BitVec 1} {c1_i32_33 : BitVec 32} {v86 : BitVec 32} {v109 : BitVec 32} {X_arg5 : BufTy.Contents (Elt Ideal) arg5.view.ty} {X_arg6 : BufTy.Contents (Elt Ideal) arg6.view.ty} {init : FVec Ideal S1x512 .f32 × FVec Ideal S80x512 .f32} {S : Fin 512 → ℕ → EReal} {V : Fin 80 → ℕ → EReal} {n : ℕ}
    (h : Inv S V n init) : Inv S V n (st_k0_t8 (F := Ideal) 𝒱 c bd i arg3 harg3 arg4 harg4 arg5 harg5 arg6 harg6 arg7 harg7 arg8 harg8 arg9 harg9 arg10 harg10 arg11 harg11 arg2 v1 v5 v57_0 v57_1 v59 v61 v75 c1_i32_33 v86 v109 X_arg5 X_arg6 init (k0_t8_loop i).trips) := by
  rw [trips_t8]; exact h

theorem inv_t9 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v112 : BitVec 32} {v114 : FVec Ideal S128x512 .bf16} {init : FVec Ideal S1x512 .f32 × FVec Ideal S80x512 .f32}
    {x2 : Vec Ideal S1x1x8192x128 .bf16} {x3 : Vec Ideal S1x1x80x8192 .bf16} {S : Fin 512 → ℕ → EReal} {V : Fin 80 → ℕ → EReal}
    (hS : ∀ x j, S x j ≠ ⊤)
    (hk : ∀ (x : Fin 512) (j : Fin 8192), j.val < 512 * (14 - (i 2).val) → (∑ c : Fin 128, (x2 (ix4 0 0 j c) : EReal) * v114 (ix2 c x)) = S x j.val)
    (hv : ∀ (d : Fin 80) (j : Fin 8192), (x3 (ix4 0 0 d j) : EReal) = V d j.val)
    {n₀ n₁ : ℕ} (h₀ : n₀ = 512 * (0)) (h₁ : n₁ = 512 * (0 + 8 * ((14 - (i 2).val) / 8))) (h : Inv S V n₀ init) :
    Inv S V n₁
      (st_k0_t9 (F := Ideal) 𝒱 c bd i arg3 harg3 arg4 harg4 arg5 harg5 arg6 harg6 arg7 harg7 arg8 harg8 arg9 harg9 arg10 harg10 arg11 harg11 v112 v114 (harg5.unread x2) (harg6.unread x3) init (k0_t9_loop i).trips) := by
  subst h₀ h₁
  have main : ∀ k : ℕ, k ≤ (k0_t9_loop i).trips → Inv S V (512 * (0 + 8 * k)) (st_k0_t9 (F := Ideal) 𝒱 c bd i arg3 harg3 arg4 harg4 arg5 harg5 arg6 harg6 arg7 harg7 arg8 harg8 arg9 harg9 arg10 harg10 arg11 harg11 v112 v114 (harg5.unread x2) (harg6.unread x3) init k) := by
    intro k
    induction k with
    | zero => intro _; exact h
    | succ k ih =>
      intro hk'
      have hc := ih (by omega)
      have hi : (i 2).val < 8 := (i 2).isLt
      have ht := trips_t9 i
      have e := st_k0_t9_succ (F := Ideal) 𝒱 c bd i arg3 harg3 arg4 harg4 arg5 harg5 arg6 harg6 arg7 harg7 arg8 harg8 arg9 harg9 arg10 harg10 arg11 harg11 v112 v114 (harg5.unread x2) (harg6.unread x3) init ⟨k, by omega⟩
      rw [show ((⟨k, by omega⟩ : Fin (k0_t9_loop i).trips).val + 1) = k + 1 from rfl] at e
      rw [e]; unfold tripR_k0_t9; rw [trip_t9]
      have hb : 0 + 8 * (k + 1) ≤ (14 - (i 2).val) := by omega
      rw [show 512 * (0 + 8 * (k + 1)) = 512 * (0 + 8 * k) + 4096 by omega]
      refine far8_inv hS ?_ ?_ ?_ ?_ ?_ ?_ ?_ ?_ ?_ ?_ ?_ ?_ ?_ ?_ ?_ ?_ ?_ hc
      · intro x j
        have hj : 512 * (0 + 8 * k) + j.val < 8192 := by omega
        rw [← hk x ⟨_, hj⟩ (by simp only []; omega)]
        refine Finset.sum_congr rfl fun c _ => ?_
        rw [read_keys8 arg5 harg5 x2 _ (off17_eq i ⟨k, by omega⟩) j c hj]
      · intro d j
        obtain ⟨hj, e⟩ := read_vals arg6 harg6 x3 (k0_off18_inb i ⟨k, by omega⟩ 0) (off18_eq i ⟨k, by omega⟩ 0) d j
        exact e.trans (hv d ⟨_, hj⟩)
      · intro d j
        obtain ⟨hj, e⟩ := read_vals arg6 harg6 x3 (k0_off18_inb i ⟨k, by omega⟩ 1) (off18_eq i ⟨k, by omega⟩ 1) d j
        exact e.trans (hv d ⟨_, hj⟩)
      · intro d j
        obtain ⟨hj, e⟩ := read_vals arg6 harg6 x3 (k0_off18_inb i ⟨k, by omega⟩ 2) (off18_eq i ⟨k, by omega⟩ 2) d j
        exact e.trans (hv d ⟨_, hj⟩)
      · intro d j
        obtain ⟨hj, e⟩ := read_vals arg6 harg6 x3 (k0_off18_inb i ⟨k, by omega⟩ 3) (off18_eq i ⟨k, by omega⟩ 3) d j
        exact e.trans (hv d ⟨_, hj⟩)
      · intro d j
        obtain ⟨hj, e⟩ := read_vals arg6 harg6 x3 (k0_off18_inb i ⟨k, by omega⟩ 4) (off18_eq i ⟨k, by omega⟩ 4) d j
        exact e.trans (hv d ⟨_, hj⟩)
      · intro d j
        obtain ⟨hj, e⟩ := read_vals arg6 harg6 x3 (k0_off18_inb i ⟨k, by omega⟩ 5) (off18_eq i ⟨k, by omega⟩ 5) d j
        exact e.trans (hv d ⟨_, hj⟩)
      · intro d j
        obtain ⟨hj, e⟩ := read_vals arg6 harg6 x3 (k0_off18_inb i ⟨k, by omega⟩ 6) (off18_eq i ⟨k, by omega⟩ 6) d j
        exact e.trans (hv d ⟨_, hj⟩)
      · intro d j
        obtain ⟨hj, e⟩ := read_vals arg6 harg6 x3 (k0_off18_inb i ⟨k, by omega⟩ 7) (off18_eq i ⟨k, by omega⟩ 7) d j
        exact e.trans (hv d ⟨_, hj⟩)
      · intro d j
        obtain ⟨hj, e⟩ := read_vals arg6 harg6 x3 (k0_off18_inb i ⟨k, by omega⟩ 8) (off18_eq i ⟨k, by omega⟩ 8) d j
        exact e.trans (hv d ⟨_, hj⟩)
      · intro d j
        obtain ⟨hj, e⟩ := read_vals arg6 harg6 x3 (k0_off18_inb i ⟨k, by omega⟩ 9) (off18_eq i ⟨k, by omega⟩ 9) d j
        exact e.trans (hv d ⟨_, hj⟩)
      · intro d j
        obtain ⟨hj, e⟩ := read_vals arg6 harg6 x3 (k0_off18_inb i ⟨k, by omega⟩ 10) (off18_eq i ⟨k, by omega⟩ 10) d j
        exact e.trans (hv d ⟨_, hj⟩)
      · intro d j
        obtain ⟨hj, e⟩ := read_vals arg6 harg6 x3 (k0_off18_inb i ⟨k, by omega⟩ 11) (off18_eq i ⟨k, by omega⟩ 11) d j
        exact e.trans (hv d ⟨_, hj⟩)
      · intro d j
        obtain ⟨hj, e⟩ := read_vals arg6 harg6 x3 (k0_off18_inb i ⟨k, by omega⟩ 12) (off18_eq i ⟨k, by omega⟩ 12) d j
        exact e.trans (hv d ⟨_, hj⟩)
      · intro d j
        obtain ⟨hj, e⟩ := read_vals arg6 harg6 x3 (k0_off18_inb i ⟨k, by omega⟩ 13) (off18_eq i ⟨k, by omega⟩ 13) d j
        exact e.trans (hv d ⟨_, hj⟩)
      · intro d j
        obtain ⟨hj, e⟩ := read_vals arg6 harg6 x3 (k0_off18_inb i ⟨k, by omega⟩ 14) (off18_eq i ⟨k, by omega⟩ 14) d j
        exact e.trans (hv d ⟨_, hj⟩)
      · intro d j
        obtain ⟨hj, e⟩ := read_vals arg6 harg6 x3 (k0_off18_inb i ⟨k, by omega⟩ 15) (off18_eq i ⟨k, by omega⟩ 15) d j
        exact e.trans (hv d ⟨_, hj⟩)
  have := main _ le_rfl
  rwa [show 512 * (0 + 8 * (k0_t9_loop i).trips) = 512 * (0 + 8 * ((14 - (i 2).val) / 8)) by rw [trips_t9]] at this

theorem inv_t10 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v112 : BitVec 32} {v114 : FVec Ideal S128x512 .bf16} {v141 : BitVec 32} {X_arg5 : BufTy.Contents (Elt Ideal) arg5.view.ty} {X_arg6 : BufTy.Contents (Elt Ideal) arg6.view.ty} {init : FVec Ideal S1x512 .f32 × FVec Ideal S80x512 .f32} {S : Fin 512 → ℕ → EReal} {V : Fin 80 → ℕ → EReal} {n : ℕ}
    (h : Inv S V n init) : Inv S V n (st_k0_t10 (F := Ideal) 𝒱 c bd i arg3 harg3 arg4 harg4 arg5 harg5 arg6 harg6 arg7 harg7 arg8 harg8 arg9 harg9 arg10 harg10 arg11 harg11 v112 v114 v141 X_arg5 X_arg6 init (k0_t10_loop i).trips) := by
  rw [trips_t10]; exact h

theorem inv_t11 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v114 : FVec Ideal S128x512 .bf16} {v118 : BitVec 32} {v143_0 : FVec Ideal S1x512 .f32} {v143_1 : FVec Ideal S80x512 .f32} {v145 : BitVec 32} {v146 : BitVec 32} {c4_i32_72 : BitVec 32} {v147 : BitVec 32} {v152 : BitVec 32} {c0_i32_75 : BitVec 32} {init : FVec Ideal S1x512 .f32 × FVec Ideal S80x512 .f32}
    {x2 : Vec Ideal S1x1x8192x128 .bf16} {x3 : Vec Ideal S1x1x80x8192 .bf16} {S : Fin 512 → ℕ → EReal} {V : Fin 80 → ℕ → EReal}
    (hS : ∀ x j, S x j ≠ ⊤)
    (hk : ∀ (x : Fin 512) (j : Fin 8192), j.val < 512 * (14 - (i 2).val) → (∑ c : Fin 128, (x2 (ix4 0 0 j c) : EReal) * v114 (ix2 c x)) = S x j.val)
    (hv : ∀ (d : Fin 80) (j : Fin 8192), (x3 (ix4 0 0 d j) : EReal) = V d j.val)
    {n₀ n₁ : ℕ} (h₀ : n₀ = 512 * (8 * ((14 - (i 2).val) / 8))) (h₁ : n₁ = 512 * (8 * ((14 - (i 2).val) / 8) + 4 * ((14 - (i 2).val) % 8 / 4))) (h : Inv S V n₀ init) :
    Inv S V n₁
      (st_k0_t11 (F := Ideal) 𝒱 c bd i arg3 harg3 arg4 harg4 arg5 harg5 arg6 harg6 arg7 harg7 arg8 harg8 arg9 harg9 arg10 harg10 arg11 harg11 v114 v118 v143_0 v143_1 v145 v146 c4_i32_72 v147 v152 c0_i32_75 (harg5.unread x2) (harg6.unread x3) init (k0_t11_loop i).trips) := by
  subst h₀ h₁
  have main : ∀ k : ℕ, k ≤ (k0_t11_loop i).trips → Inv S V (512 * (8 * ((14 - (i 2).val) / 8) + 4 * k)) (st_k0_t11 (F := Ideal) 𝒱 c bd i arg3 harg3 arg4 harg4 arg5 harg5 arg6 harg6 arg7 harg7 arg8 harg8 arg9 harg9 arg10 harg10 arg11 harg11 v114 v118 v143_0 v143_1 v145 v146 c4_i32_72 v147 v152 c0_i32_75 (harg5.unread x2) (harg6.unread x3) init k) := by
    intro k
    induction k with
    | zero => intro _; exact h
    | succ k ih =>
      intro hk'
      have hc := ih (by omega)
      have hi : (i 2).val < 8 := (i 2).isLt
      have ht := trips_t11 i
      have e := st_k0_t11_succ (F := Ideal) 𝒱 c bd i arg3 harg3 arg4 harg4 arg5 harg5 arg6 harg6 arg7 harg7 arg8 harg8 arg9 harg9 arg10 harg10 arg11 harg11 v114 v118 v143_0 v143_1 v145 v146 c4_i32_72 v147 v152 c0_i32_75 (harg5.unread x2) (harg6.unread x3) init ⟨k, by omega⟩
      rw [show ((⟨k, by omega⟩ : Fin (k0_t11_loop i).trips).val + 1) = k + 1 from rfl] at e
      rw [e]; unfold tripR_k0_t11; rw [trip_t11]
      have hb : 8 * ((14 - (i 2).val) / 8) + 4 * (k + 1) ≤ (14 - (i 2).val) := by omega
      rw [show 512 * (8 * ((14 - (i 2).val) / 8) + 4 * (k + 1)) = 512 * (8 * ((14 - (i 2).val) / 8) + 4 * k) + 2048 by omega]
      refine far4_inv hS ?_ ?_ ?_ ?_ ?_ ?_ ?_ ?_ ?_ hc
      · intro x j
        have hj : 512 * (8 * ((14 - (i 2).val) / 8) + 4 * k) + j.val < 8192 := by omega
        rw [← hk x ⟨_, hj⟩ (by simp only []; omega)]
        refine Finset.sum_congr rfl fun c _ => ?_
        rw [read_keys4 arg5 harg5 x2 _ (off21_eq i ⟨k, by omega⟩) j c hj]
      · intro d j
        obtain ⟨hj, e⟩ := read_vals arg6 harg6 x3 (k0_off22_inb i ⟨k, by omega⟩ 0) (off22_eq i ⟨k, by omega⟩ 0) d j
        exact e.trans (hv d ⟨_, hj⟩)
      · intro d j
        obtain ⟨hj, e⟩ := read_vals arg6 harg6 x3 (k0_off22_inb i ⟨k, by omega⟩ 1) (off22_eq i ⟨k, by omega⟩ 1) d j
        exact e.trans (hv d ⟨_, hj⟩)
      · intro d j
        obtain ⟨hj, e⟩ := read_vals arg6 harg6 x3 (k0_off22_inb i ⟨k, by omega⟩ 2) (off22_eq i ⟨k, by omega⟩ 2) d j
        exact e.trans (hv d ⟨_, hj⟩)
      · intro d j
        obtain ⟨hj, e⟩ := read_vals arg6 harg6 x3 (k0_off22_inb i ⟨k, by omega⟩ 3) (off22_eq i ⟨k, by omega⟩ 3) d j
        exact e.trans (hv d ⟨_, hj⟩)
      · intro d j
        obtain ⟨hj, e⟩ := read_vals arg6 harg6 x3 (k0_off22_inb i ⟨k, by omega⟩ 4) (off22_eq i ⟨k, by omega⟩ 4) d j
        exact e.trans (hv d ⟨_, hj⟩)
      · intro d j
        obtain ⟨hj, e⟩ := read_vals arg6 harg6 x3 (k0_off22_inb i ⟨k, by omega⟩ 5) (off22_eq i ⟨k, by omega⟩ 5) d j
        exact e.trans (hv d ⟨_, hj⟩)
      · intro d j
        obtain ⟨hj, e⟩ := read_vals arg6 harg6 x3 (k0_off22_inb i ⟨k, by omega⟩ 6) (off22_eq i ⟨k, by omega⟩ 6) d j
        exact e.trans (hv d ⟨_, hj⟩)
      · intro d j
        obtain ⟨hj, e⟩ := read_vals arg6 harg6 x3 (k0_off22_inb i ⟨k, by omega⟩ 7) (off22_eq i ⟨k, by omega⟩ 7) d j
        exact e.trans (hv d ⟨_, hj⟩)
  have := main _ le_rfl
  rwa [show 512 * (8 * ((14 - (i 2).val) / 8) + 4 * (k0_t11_loop i).trips) = 512 * (8 * ((14 - (i 2).val) / 8) + 4 * ((14 - (i 2).val) % 8 / 4)) by rw [trips_t11]] at this

theorem inv_t12 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v114 : FVec Ideal S128x512 .bf16} {v118 : BitVec 32} {v143_0 : FVec Ideal S1x512 .f32} {v143_1 : FVec Ideal S80x512 .f32} {v145 : BitVec 32} {v146 : BitVec 32} {c4_i32_72 : BitVec 32} {v147 : BitVec 32} {v152 : BitVec 32} {c0_i32_75 : BitVec 32} {v168 : BitVec 32} {X_arg5 : BufTy.Contents (Elt Ideal) arg5.view.ty} {X_arg6 : BufTy.Contents (Elt Ideal) arg6.view.ty} {init : FVec Ideal S1x512 .f32 × FVec Ideal S80x512 .f32} {S : Fin 512 → ℕ → EReal} {V : Fin 80 → ℕ → EReal} {n : ℕ}
    (h : Inv S V n init) : Inv S V n (st_k0_t12 (F := Ideal) 𝒱 c bd i arg3 harg3 arg4 harg4 arg5 harg5 arg6 harg6 arg7 harg7 arg8 harg8 arg9 harg9 arg10 harg10 arg11 harg11 v114 v118 v143_0 v143_1 v145 v146 c4_i32_72 v147 v152 c0_i32_75 v168 X_arg5 X_arg6 init (k0_t12_loop i).trips) := by
  rw [trips_t12]; exact h

theorem inv_t13 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v5 : BitVec 32} {v114 : FVec Ideal S128x512 .bf16} {v118 : BitVec 32} {v170_0 : FVec Ideal S1x512 .f32} {v170_1 : FVec Ideal S80x512 .f32} {v172 : BitVec 32} {v190 : BitVec 32} {c0_i32_91 : BitVec 32} {v195 : BitVec 32} {init : FVec Ideal S1x512 .f32 × FVec Ideal S80x512 .f32}
    {x2 : Vec Ideal S1x1x8192x128 .bf16} {x3 : Vec Ideal S1x1x80x8192 .bf16} {S : Fin 512 → ℕ → EReal} {V : Fin 80 → ℕ → EReal}
    (hS : ∀ x j, S x j ≠ ⊤)
    (hk : ∀ (x : Fin 512) (j : Fin 8192), j.val < 512 * (14 - (i 2).val) → (∑ c : Fin 128, (x2 (ix4 0 0 j c) : EReal) * v114 (ix2 c x)) = S x j.val)
    (hv : ∀ (d : Fin 80) (j : Fin 8192), (x3 (ix4 0 0 d j) : EReal) = V d j.val)
    {n₀ n₁ : ℕ} (h₀ : n₀ = 512 * (4 * ((14 - (i 2).val) / 4))) (h₁ : n₁ = 512 * (4 * ((14 - (i 2).val) / 4) + 2 * ((14 - (i 2).val) % 4 / 2))) (h : Inv S V n₀ init) :
    Inv S V n₁
      (st_k0_t13 (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 (harg5.unread x2) (harg6.unread x3) init (k0_t13_loop i).trips) := by
  subst h₀ h₁
  have main : ∀ k : ℕ, k ≤ (k0_t13_loop i).trips → Inv S V (512 * (4 * ((14 - (i 2).val) / 4) + 2 * k)) (st_k0_t13 (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 (harg5.unread x2) (harg6.unread x3) init k) := by
    intro k
    induction k with
    | zero => intro _; exact h
    | succ k ih =>
      intro hk'
      have hc := ih (by omega)
      have hi : (i 2).val < 8 := (i 2).isLt
      have ht := trips_t13 i
      have e := st_k0_t13_succ (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 (harg5.unread x2) (harg6.unread x3) init ⟨k, by omega⟩
      rw [show ((⟨k, by omega⟩ : Fin (k0_t13_loop i).trips).val + 1) = k + 1 from rfl] at e
      rw [e]; unfold tripR_k0_t13; rw [trip_t13]
      have hb : 4 * ((14 - (i 2).val) / 4) + 2 * (k + 1) ≤ (14 - (i 2).val) := by omega
      rw [show 512 * (4 * ((14 - (i 2).val) / 4) + 2 * (k + 1)) = 512 * (4 * ((14 - (i 2).val) / 4) + 2 * k) + 1024 by omega]
      refine far2_inv hS ?_ ?_ ?_ ?_ ?_ hc
      · intro x j
        have hj : 512 * (4 * ((14 - (i 2).val) / 4) + 2 * k) + j.val < 8192 := by omega
        rw [← hk x ⟨_, hj⟩ (by simp only []; omega)]
        refine Finset.sum_congr rfl fun c _ => ?_
        rw [read_keys2 arg5 harg5 x2 _ (off25_eq i ⟨k, by omega⟩) j c hj]
      · intro d j
        obtain ⟨hj, e⟩ := read_vals arg6 harg6 x3 (k0_off26_inb i ⟨k, by omega⟩ 0) (off26_eq i ⟨k, by omega⟩ 0) d j
        exact e.trans (hv d ⟨_, hj⟩)
      · intro d j
        obtain ⟨hj, e⟩ := read_vals arg6 harg6 x3 (k0_off26_inb i ⟨k, by omega⟩ 1) (off26_eq i ⟨k, by omega⟩ 1) d j
        exact e.trans (hv d ⟨_, hj⟩)
      · intro d j
        obtain ⟨hj, e⟩ := read_vals arg6 harg6 x3 (k0_off26_inb i ⟨k, by omega⟩ 2) (off26_eq i ⟨k, by omega⟩ 2) d j
        exact e.trans (hv d ⟨_, hj⟩)
      · intro d j
        obtain ⟨hj, e⟩ := read_vals arg6 harg6 x3 (k0_off26_inb i ⟨k, by omega⟩ 3) (off26_eq i ⟨k, by omega⟩ 3) d j
        exact e.trans (hv d ⟨_, hj⟩)
  have := main _ le_rfl
  rwa [show 512 * (4 * ((14 - (i 2).val) / 4) + 2 * (k0_t13_loop i).trips) = 512 * (4 * ((14 - (i 2).val) / 4) + 2 * ((14 - (i 2).val) % 4 / 2)) by rw [trips_t13]] at this

theorem inv_t14 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v5 : BitVec 32} {v114 : FVec Ideal S128x512 .bf16} {v118 : BitVec 32} {v170_0 : FVec Ideal S1x512 .f32} {v170_1 : FVec Ideal S80x512 .f32} {v172 : BitVec 32} {v190 : BitVec 32} {c0_i32_91 : BitVec 32} {v195 : BitVec 32} {X_arg5 : BufTy.Contents (Elt Ideal) arg5.view.ty} {X_arg6 : BufTy.Contents (Elt Ideal) arg6.view.ty} {init : FVec Ideal S1x512 .f32 × FVec Ideal S80x512 .f32} {S : Fin 512 → ℕ → EReal} {V : Fin 80 → ℕ → EReal} {n : ℕ}
    (h : Inv S V n init) : Inv S V n (st_k0_t14 (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 X_arg5 X_arg6 init (k0_t14_loop i).trips) := by
  rw [trips_t14]; exact h

theorem inv_t15 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v5 : BitVec 32} {v114 : FVec Ideal S128x512 .bf16} {v118 : BitVec 32} {v170_0 : FVec Ideal S1x512 .f32} {v170_1 : FVec Ideal S80x512 .f32} {v172 : BitVec 32} {v190 : BitVec 32} {c0_i32_91 : BitVec 32} {v195 : BitVec 32} {v199 : BitVec 32} {init : FVec Ideal S1x512 .f32 × FVec Ideal S80x512 .f32}
    {x2 : Vec Ideal S1x1x8192x128 .bf16} {x3 : Vec Ideal S1x1x80x8192 .bf16} {S : Fin 512 → ℕ → EReal} {V : Fin 80 → ℕ → EReal}
    (hS : ∀ x j, S x j ≠ ⊤)
    (hk : ∀ (x : Fin 512) (j : Fin 8192), j.val < 512 * (14 - (i 2).val) → (∑ c : Fin 128, (x2 (ix4 0 0 j c) : EReal) * v114 (ix2 c x)) = S x j.val)
    (hv : ∀ (d : Fin 80) (j : Fin 8192), (x3 (ix4 0 0 d j) : EReal) = V d j.val)
    {n₀ n₁ : ℕ} (h₀ : n₀ = 512 * (2 * ((14 - (i 2).val) / 2))) (h₁ : n₁ = 512 * (2 * ((14 - (i 2).val) / 2) + 1 * ((14 - (i 2).val) % 2))) (h : Inv S V n₀ init) :
    Inv S V n₁
      (st_k0_t15 (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 v199 (harg5.unread x2) (harg6.unread x3) init (k0_t15_loop i).trips) := by
  subst h₀ h₁
  have main : ∀ k : ℕ, k ≤ (k0_t15_loop i).trips → Inv S V (512 * (2 * ((14 - (i 2).val) / 2) + 1 * k)) (st_k0_t15 (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 v199 (harg5.unread x2) (harg6.unread x3) init k) := by
    intro k
    induction k with
    | zero => intro _; exact h
    | succ k ih =>
      intro hk'
      have hc := ih (by omega)
      have hi : (i 2).val < 8 := (i 2).isLt
      have ht := trips_t15 i
      have e := st_k0_t15_succ (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 v199 (harg5.unread x2) (harg6.unread x3) init ⟨k, by omega⟩
      rw [show ((⟨k, by omega⟩ : Fin (k0_t15_loop i).trips).val + 1) = k + 1 from rfl] at e
      rw [e]; unfold tripR_k0_t15; rw [trip_t15]
      have hb : 2 * ((14 - (i 2).val) / 2) + 1 * (k + 1) ≤ (14 - (i 2).val) := by omega
      rw [show 512 * (2 * ((14 - (i 2).val) / 2) + 1 * (k + 1)) = 512 * (2 * ((14 - (i 2).val) / 2) + 1 * k) + 512 by omega]
      refine far1_inv hS ?_ ?_ ?_ hc
      · intro x j
        have hj : 512 * (2 * ((14 - (i 2).val) / 2) + 1 * k) + j.val < 8192 := by omega
        rw [← hk x ⟨_, hj⟩ (by simp only []; omega)]
        refine Finset.sum_congr rfl fun c _ => ?_
        rw [read_keys1 arg5 harg5 x2 _ (off29_eq i ⟨k, by omega⟩) j c hj]
      · intro d j
        obtain ⟨hj, e⟩ := read_vals arg6 harg6 x3 (k0_off30_inb i ⟨k, by omega⟩ 0) (off30_eq i ⟨k, by omega⟩ 0) d j
        exact e.trans (hv d ⟨_, hj⟩)
      · intro d j
        obtain ⟨hj, e⟩ := read_vals arg6 harg6 x3 (k0_off30_inb i ⟨k, by omega⟩ 1) (off30_eq i ⟨k, by omega⟩ 1) d j
        exact e.trans (hv d ⟨_, hj⟩)
  have := main _ le_rfl
  rwa [show 512 * (2 * ((14 - (i 2).val) / 2) + 1 * (k0_t15_loop i).trips) = 512 * (2 * ((14 - (i 2).val) / 2) + 1 * ((14 - (i 2).val) % 2)) by rw [trips_t15]] at this

theorem inv_t16 {𝒱 : Variants} {c : Dev nD} {bd : Option 𝒱.V} {i : grid0.Coords} {arg3 : Memref sig .tc .vmem S1x1x128x512 .bf16} {harg3 : arg3.IsWhole} {arg4 : Memref sig .tc .vmem S1x1x128x512 .bf16} {harg4 : arg4.IsWhole} {arg5 : Memref sig .tc .vmem S1x1x8192x128 .bf16} {harg5 : arg5.IsWhole} {arg6 : Memref sig .tc .vmem S1x1x80x8192 .bf16} {harg6 : arg6.IsWhole} {arg7 : Memref sig .tc .vmem S1x1x512x512 .f32} {harg7 : arg7.IsWhole} {arg8 : Memref sig .tc .vmem S1x1x512x512 .f32} {harg8 : arg8.IsWhole} {arg9 : Memref sig .tc .vmem S1x1x512x512 .f32} {harg9 : arg9.IsWhole} {arg10 : Memref sig .tc .vmem S1x1x512x512 .f32} {harg10 : arg10.IsWhole} {arg11 : Memref sig .tc .vmem S1x1x64x1024 .f32} {harg11 : arg11.IsWhole} {v5 : BitVec 32} {v114 : FVec Ideal S128x512 .bf16} {v118 : BitVec 32} {v170_0 : FVec Ideal S1x512 .f32} {v170_1 : FVec Ideal S80x512 .f32} {v172 : BitVec 32} {v190 : BitVec 32} {c0_i32_91 : BitVec 32} {v195 : BitVec 32} {v199 : BitVec 32} {v222 : BitVec 32} {X_arg5 : BufTy.Contents (Elt Ideal) arg5.view.ty} {X_arg6 : BufTy.Contents (Elt Ideal) arg6.view.ty} {init : FVec Ideal S1x512 .f32 × FVec Ideal S80x512 .f32} {S : Fin 512 → ℕ → EReal} {V : Fin 80 → ℕ → EReal} {n : ℕ}
    (h : Inv S V n init) : Inv S V n (st_k0_t16 (F := Ideal) 𝒱 c bd i arg3 harg3 arg4 harg4 arg5 harg5 arg6 harg6 arg7 harg7 arg8 harg8 arg9 harg9 arg10 harg10 arg11 harg11 v5 v114 v118 v170_0 v170_1 v172 v190 c0_i32_91 v195 v199 v222 X_arg5 X_arg6 init (k0_t16_loop i).trips) := by
  rw [trips_t16]; exact h

end Cert.Attn
-- ==== Proof.Body.lean ====
/- What one grid point leaves in its output block: at each column, the weighted average that the carried sums divide to. -/
module

public import proofs.«01_k».proof.Proof.Far
public import proofs.«01_k».proof.Proof.Gen.KernelIdeal.Frame
public import Idealize.ShloMosaic.Lib.WritesUnit

@[expose] public section

set_option maxRecDepth 16384

noncomputable section

namespace Cert.Attn

open Cert.KernelIdeal Cert.KernelIdeal.Gen Idealize.ShloMosaic Idealize.ShloMosaic.TcCoe Idealize.SL.Sem

/-- The two table pieces, one on top of the other. -/
def table (a b : Vec Ideal S1x1x512x512 .f32) (j : Fin 1024) (x : Fin 512) : EReal :=
  if h : j.val < 512 then a (ix4 0 0 ⟨j.val, h⟩ x) else b (ix4 0 0 ⟨j.val - 512, by omega⟩ x)

theorem table_apply (a b : Vec Ideal S1x1x512x512 .f32) (j : Fin 1024) (x : Fin 512) :
    k0_pay412 (F := Ideal) a b (ix2 j x) = table a b j x := by
  unfold table
  by_cases h : j.val < 512
  · rw [dif_pos h]
    pointwise [k0_pay412]
    rw [dif_pos h]
  · rw [dif_neg h]
    pointwise [k0_pay412]
    rw [dif_neg h]

theorem read_q (M : Memref sig .tc .vmem S1x1x128x512 .bf16) (hM : M.IsWhole) (X : Vec Ideal S1x1x128x512 .bf16)
    (inb : ∀ a, (![0, 0, 0, 0] : Fin 4 → ℕ) a + S1x1x128x512.size a ≤ S1x1x128x512.size a) :
    M.view.readAt (Elt Ideal) (Rect.unit (s := S1x1x128x512) ![0, 0, 0, 0] S1x1x128x512.size inb).toLoadRect (hM.unread X) = X := by
  funext y
  rw [hM.readAt_unread]
  congr 1
  funext a
  apply Fin.ext
  fin_cases a <;> simp

theorem read_tab (M : Memref sig .tc .vmem S1x1x512x512 .f32) (hM : M.IsWhole) (X : Vec Ideal S1x1x512x512 .f32)
    (inb : ∀ a, (![0, 0, 0, 0] : Fin 4 → ℕ) a + S1x1x512x512.size a ≤ S1x1x512x512.size a) :
    M.view.readAt (Elt Ideal) (Rect.unit (s := S1x1x512x512) ![0, 0, 0, 0] S1x1x512x512.size inb).toLoadRect (hM.unread X) = X := by
  funext y
  rw [hM.readAt_unread]
  congr 1
  funext a
  apply Fin.ext
  fin_cases a <;> simp

theorem pay366_apply (X : Vec Ideal S1x1x128x512 .bf16) (c : Fin 128) (x : Fin 512) :
    k0_pay366 (F := Ideal) X (ix2 c x) = X (ix4 0 0 c x) := by pointwise [k0_pay366]

theorem pay389_apply (X : Vec Ideal S1x1x128x512 .bf16) (c : Fin 128) (x : Fin 512) :
    k0_pay389 (F := Ideal) X (ix2 c x) = X (ix4 0 0 c x) := by pointwise [k0_pay389]

/-- Before any key: the running maximum is a real number and the sums are zero. -/
theorem inv_init_left (S : Fin 512 → ℕ → EReal) (V : Fin 80 → ℕ → EReal) : Inv S V 0 (k0_pay367 (F := Ideal), k0_pay368 (F := Ideal)) := by
  intro x
  obtain ⟨r, hr⟩ : ∃ r : ℝ, Ideal.ofBits .f32 0xFF61B1E6#32 = (r : EReal) := ⟨_, by simp [Ideal.ofBits, Ideal.ieee]; rfl⟩
  refine ⟨r, ?_, fun d => ?_⟩
  · rw [← hr]; pointwise [k0_pay367]
  · rw [Finset.range_zero, Finset.sum_empty]; pointwise [k0_pay368]

theorem inv_init_right (S : Fin 512 → ℕ → EReal) (V : Fin 80 → ℕ → EReal) : Inv S V 0 (k0_pay390 (F := Ideal), k0_pay391 (F := Ideal)) := by
  intro x
  obtain ⟨r, hr⟩ : ∃ r : ℝ, Ideal.ofBits .f32 0xFF61B1E6#32 = (r : EReal) := ⟨_, by simp [Ideal.ofBits, Ideal.ieee]; rfl⟩
  refine ⟨r, ?_, fun d => ?_⟩
  · rw [← hr]; pointwise [k0_pay390]
  · rw [Finset.range_zero, Finset.sum_empty]; pointwise [k0_pay391]

theorem scores_apply' (kb : Vec Ideal S1x1x1024x128 .bf16) (q : FVec Ideal S128x512 .bf16) (j : Fin 1024) (x : Fin 512) :
    sc2 kb q (ix2 j x) = ∑ c : Fin 128, (kb (ix4 0 0 j c) : EReal) * q (ix2 c x) := by pointwise [sc2]

theorem near_stage {S : Fin 512 → ℕ → EReal} {V : Fin 80 → ℕ → EReal} {n : ℕ} {st : St} {q : FVec Ideal S128x512 .bf16}
    {kb : Vec Ideal S1x1x1024x128 .bf16} {t : FVec Ideal S1024x512 .f32} {v0 v1 v2 v3 : Vec Ideal S1x1x80x256 .bf16} (hS : ∀ x j, S x j ≠ ⊤)
    (hs : ∀ (x : Fin 512) (j : Fin 1024), (∑ c : Fin 128, (kb (ix4 0 0 j c) : EReal) * q (ix2 c x)) + t (ix2 j x) = S x (n + j.val))
    (hv0 : ∀ d j, (v0 (ix4 0 0 d j) : EReal) = V d (n + 0 + j.val)) (hv1 : ∀ d j, (v1 (ix4 0 0 d j) : EReal) = V d (n + 256 + j.val))
    (hv2 : ∀ d j, (v2 (ix4 0 0 d j) : EReal) = V d (n + 512 + j.val)) (hv3 : ∀ d j, (v3 (ix4 0 0 d j) : EReal) = V d (n + 768 + j.val))
    (h : Inv S V n st) (x : Fin 512) :
    ∃ r : ℝ, ∀ d : Fin 64, quot (near (addf (sc2 kb q) t) v0 v1 v2 v3 st) (ix4 0 0 d x)
      = Ideal.div (∑ j ∈ Finset.range (n + 1024), Ideal.exp2 (S x j - r) * V ⟨d.val, by omega⟩ j)
          (∑ j ∈ Finset.range (n + 1024), Ideal.exp2 (S x j - r) * V 64 j) := by
  have hn := near_inv (s := addf (sc2 kb q) t) hS (fun x j => by rw [← hs x j, ← scores_apply']; rfl) hv0 hv1 hv2 hv3 h
  obtain ⟨r, _, hd⟩ := hn x
  exact ⟨r, fun d => by rw [quot_apply, hd, hd]⟩

theorem out_left (c : Dev nD) (i : grid0.Coords) (arg3 : Memref sig .tc .vmem S1x1x128x512 .bf16) (harg3 : arg3.IsWhole) (arg4 : Memref sig .tc .vmem S1x1x128x512 .bf16) (harg4 : arg4.IsWhole) (arg5 : Memref sig .tc .vmem S1x1x8192x128 .bf16) (harg5 : arg5.IsWhole) (arg6 : Memref sig .tc .vmem S1x1x80x8192 .bf16) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x64x1024 .f32) (harg11 : arg11.IsWhole)
    (x0 : Vec Ideal S1x1x128x512 .bf16) (x1 : Vec Ideal S1x1x128x512 .bf16) (x2 : Vec Ideal S1x1x8192x128 .bf16) (x3 : Vec Ideal S1x1x80x8192 .bf16) (x4 : Vec Ideal S1x1x512x512 .f32) (x5 : Vec Ideal S1x1x512x512 .f32) (x6 : Vec Ideal S1x1x512x512 .f32) (x7 : Vec Ideal S1x1x512x512 .f32)
    {S : Fin 512 → ℕ → EReal} {V : Fin 80 → ℕ → EReal} (hS : ∀ x j, S x j ≠ ⊤)
    (hk : ∀ (x : Fin 512) (j : Fin 8192), j.val < 512 * ((i 2).val - 1) → (∑ c : Fin 128, (x2 (ix4 0 0 j c) : EReal) * x0 (ix4 0 0 c x)) = S x j.val)
    (hn : ∀ (x : Fin 512) (j : Fin 1024) (hj : 512 * ((i 2).val - 1) + j.val < 8192),
      (∑ c : Fin 128, (x2 (ix4 0 0 ⟨512 * ((i 2).val - 1) + j.val, hj⟩ c) : EReal) * x0 (ix4 0 0 c x)) + table x4 x5 j x = S x (512 * ((i 2).val - 1) + j.val))
    (hv : ∀ (d : Fin 80) (j : Fin 8192), (x3 (ix4 0 0 d j) : EReal) = V d j.val) (x : Fin 512) :
    ∃ r : ℝ, ∀ d : Fin 64, out0_A_8 c i arg3 harg3 arg4 harg4 arg5 harg5 arg6 harg6 arg7 harg7 arg8 harg8 arg9 harg9 arg10 harg10 arg11 harg11 x0 x1 x2 x3 x4 x5 x6 x7 (ix4 0 0 d ⟨x.val, by omega⟩)
      = Ideal.div (∑ j ∈ Finset.range (512 * ((i 2).val - 1) + 1024), Ideal.exp2 (S x j - r) * V ⟨d.val, by omega⟩ j)
          (∑ j ∈ Finset.range (512 * ((i 2).val - 1) + 1024), Ideal.exp2 (S x j - r) * V 64 j) := by
  have hi : (i 2).val < 8 := (i 2).isLt
  have hq : ∀ (c' : Fin 128) (x : Fin 512), kernelRun0_A.sl.r c arg3 harg3 x0 (ix2 c' x) = x0 (ix4 0 0 c' x) := by
    intro c' x
    unfold kernelRun0_A.sl.r
    rw [pay366_apply, read_q]
  have e : ∃ (q : FVec Ideal S128x512 .bf16) (t : FVec Ideal S1024x512 .f32) (st : St) (kb : Vec Ideal S1x1x1024x128 .bf16) (v0 v1 v2 v3 : Vec Ideal S1x1x80x256 .bf16),
      (∀ d : Fin 64, out0_A_8 c i arg3 harg3 arg4 harg4 arg5 harg5 arg6 harg6 arg7 harg7 arg8 harg8 arg9 harg9 arg10 harg10 arg11 harg11 x0 x1 x2 x3 x4 x5 x6 x7 (ix4 0 0 d ⟨x.val, by omega⟩) = quot (near (addf (sc2 kb q) t) v0 v1 v2 v3 st) (ix4 0 0 d x)) ∧
      Inv S V (512 * ((i 2).val - 1)) st ∧
      (∀ (x : Fin 512) (j : Fin 1024), (∑ c : Fin 128, (kb (ix4 0 0 j c) : EReal) * q (ix2 c x)) + t (ix2 j x) = S x (512 * ((i 2).val - 1) + j.val)) ∧
      (∀ d j, (v0 (ix4 0 0 d j) : EReal) = V d (512 * ((i 2).val - 1) + 0 + j.val)) ∧ (∀ d j, (v1 (ix4 0 0 d j) : EReal) = V d (512 * ((i 2).val - 1) + 256 + j.val)) ∧
      (∀ d j, (v2 (ix4 0 0 d j) : EReal) = V d (512 * ((i 2).val - 1) + 512 + j.val)) ∧ (∀ d j, (v3 (ix4 0 0 d j) : EReal) = V d (512 * ((i 2).val - 1) + 768 + j.val)) := by
    iterate 8 apply Exists.intro
    refine ⟨fun d => ?_, ?_, ?_, fun d j => ?_, fun d j => ?_, fun d j => ?_, fun d j => ?_⟩
    · unfold out0_A_8
      unfold kernelRun0_A
      dsimp only
      rw [View.read_writes_cons_unit_of_not_mem _ _ _ _ _ _ rfl (3 : Fin 4) (Or.inl (by simpa using x.isLt))]
      rw [View.read_writes_cons_unit_of_mem _ _ _ _ _ _ (ix4 0 0 d x) rfl (by intro a; fin_cases a <;> simp)]
      unfold kernelRun0_A.sl.r_15 kernelRun0_A.sl.r_16 kernelRun0_A.sl.r_17 kernelRun0_A.sl.r_18 kernelRun0_A.sl.r_14 kernelRun0_A.sl.r_5 kernelRun0_A.sl.r_6
      exact congrFun (near_left _ _ _ _ _ _ _ _) _
    · refine inv_t8 ?_
      rw [Prod.mk.eta]
      refine inv_t7 (n₀ := 512 * (2 * (((i 2).val - 1) / 2))) hS (fun x j hj => by rw [← hk x j hj]; exact Finset.sum_congr rfl fun c' _ => by rw [hq]) hv (by omega) (by omega) ?_
      rw [Prod.mk.eta]
      refine inv_t6 ?_
      rw [Prod.mk.eta]
      refine inv_t5 (n₀ := 512 * (4 * (((i 2).val - 1) / 4))) hS (fun x j hj => by rw [← hk x j hj]; exact Finset.sum_congr rfl fun c' _ => by rw [hq]) hv (by omega) (by omega) ?_
      unfold kernelRun0_A.sl.r_3 kernelRun0_A.sl.r_4
      rw [Prod.mk.eta]
      refine inv_t4 ?_
      rw [Prod.mk.eta]
      refine inv_t3 (n₀ := 0) hS (fun x j hj => by rw [← hk x j hj]; exact Finset.sum_congr rfl fun c' _ => by rw [hq]) hv (by omega) (by omega) ?_
      unfold kernelRun0_A.sl.r_1 kernelRun0_A.sl.r_2
      rw [Prod.mk.eta]
      refine inv_t2 ?_
      rw [Prod.mk.eta]
      exact inv_t1 (inv_init_left S V)
    · intro x j
      have hj : 512 * ((i 2).val - 1) + j.val < 8192 := by omega
      rw [← hn x j hj, ← table_apply, read_tab, read_tab]
      refine congrArg₂ _ (Finset.sum_congr rfl fun c' _ => ?_) rfl
      rw [hq, read_keys2 arg5 harg5 x2 _ (off33_eq i) j c' hj]
    · obtain ⟨hj, e⟩ := read_vals arg6 harg6 x3 (k0_off34_inb i 0) (off34_eq i 0) d j
      exact e.trans (hv d ⟨_, hj⟩)
    · obtain ⟨hj, e⟩ := read_vals arg6 harg6 x3 (k0_off34_inb i 1) (off34_eq i 1) d j
      exact e.trans (hv d ⟨_, hj⟩)
    · obtain ⟨hj, e⟩ := read_vals arg6 harg6 x3 (k0_off34_inb i 2) (off34_eq i 2) d j
      exact e.trans (hv d ⟨_, hj⟩)
    · obtain ⟨hj, e⟩ := read_vals arg6 harg6 x3 (k0_off34_inb i 3) (off34_eq i 3) d j
      exact e.trans (hv d ⟨_, hj⟩)
  obtain ⟨q, t, st, kb, v0, v1, v2, v3, he, hst, hs, hv0, hv1, hv2, hv3⟩ := e
  obtain ⟨r, hr⟩ := near_stage hS hs hv0 hv1 hv2 hv3 hst x
  exact ⟨r, fun d => (he d).trans (hr d)⟩

theorem out_right (c : Dev nD) (i : grid0.Coords) (arg3 : Memref sig .tc .vmem S1x1x128x512 .bf16) (harg3 : arg3.IsWhole) (arg4 : Memref sig .tc .vmem S1x1x128x512 .bf16) (harg4 : arg4.IsWhole) (arg5 : Memref sig .tc .vmem S1x1x8192x128 .bf16) (harg5 : arg5.IsWhole) (arg6 : Memref sig .tc .vmem S1x1x80x8192 .bf16) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x64x1024 .f32) (harg11 : arg11.IsWhole)
    (x0 : Vec Ideal S1x1x128x512 .bf16) (x1 : Vec Ideal S1x1x128x512 .bf16) (x2 : Vec Ideal S1x1x8192x128 .bf16) (x3 : Vec Ideal S1x1x80x8192 .bf16) (x4 : Vec Ideal S1x1x512x512 .f32) (x5 : Vec Ideal S1x1x512x512 .f32) (x6 : Vec Ideal S1x1x512x512 .f32) (x7 : Vec Ideal S1x1x512x512 .f32)
    {S : Fin 512 → ℕ → EReal} {V : Fin 80 → ℕ → EReal} (hS : ∀ x j, S x j ≠ ⊤)
    (hk : ∀ (x : Fin 512) (j : Fin 8192), j.val < 512 * (14 - (i 2).val) → (∑ c : Fin 128, (x2 (ix4 0 0 j c) : EReal) * x1 (ix4 0 0 c x)) = S x j.val)
    (hn : ∀ (x : Fin 512) (j : Fin 1024) (hj : 512 * (14 - (i 2).val) + j.val < 8192),
      (∑ c : Fin 128, (x2 (ix4 0 0 ⟨512 * (14 - (i 2).val) + j.val, hj⟩ c) : EReal) * x1 (ix4 0 0 c x)) + table x6 x7 j x = S x (512 * (14 - (i 2).val) + j.val))
    (hv : ∀ (d : Fin 80) (j : Fin 8192), (x3 (ix4 0 0 d j) : EReal) = V d j.val) (x : Fin 512) :
    ∃ r : ℝ, ∀ d : Fin 64, out0_A_8 c i arg3 harg3 arg4 harg4 arg5 harg5 arg6 harg6 arg7 harg7 arg8 harg8 arg9 harg9 arg10 harg10 arg11 harg11 x0 x1 x2 x3 x4 x5 x6 x7 (ix4 0 0 d ⟨512 + x.val, by omega⟩)
      = Ideal.div (∑ j ∈ Finset.range (512 * (14 - (i 2).val) + 1024), Ideal.exp2 (S x j - r) * V ⟨d.val, by omega⟩ j)
          (∑ j ∈ Finset.range (512 * (14 - (i 2).val) + 1024), Ideal.exp2 (S x j - r) * V 64 j) := by
  have hi : (i 2).val < 8 := (i 2).isLt
  have hq : ∀ (c' : Fin 128) (x : Fin 512), kernelRun0_A.sl.r_7 c arg4 harg4 x1 (ix2 c' x) = x1 (ix4 0 0 c' x) := by
    intro c' x
    unfold kernelRun0_A.sl.r_7
    rw [pay389_apply, read_q]
  have e : ∃ (q : FVec Ideal S128x512 .bf16) (t : FVec Ideal S1024x512 .f32) (st : St) (kb : Vec Ideal S1x1x1024x128 .bf16) (v0 v1 v2 v3 : Vec Ideal S1x1x80x256 .bf16),
      (∀ d : Fin 64, out0_A_8 c i arg3 harg3 arg4 harg4 arg5 harg5 arg6 harg6 arg7 harg7 arg8 harg8 arg9 harg9 arg10 harg10 arg11 harg11 x0 x1 x2 x3 x4 x5 x6 x7 (ix4 0 0 d ⟨512 + x.val, by omega⟩) = quot (near (addf (sc2 kb q) t) v0 v1 v2 v3 st) (ix4 0 0 d x)) ∧
      Inv S V (512 * (14 - (i 2).val)) st ∧
      (∀ (x : Fin 512) (j : Fin 1024), (∑ c : Fin 128, (kb (ix4 0 0 j c) : EReal) * q (ix2 c x)) + t (ix2 j x) = S x (512 * (14 - (i 2).val) + j.val)) ∧
      (∀ d j, (v0 (ix4 0 0 d j) : EReal) = V d (512 * (14 - (i 2).val) + 0 + j.val)) ∧ (∀ d j, (v1 (ix4 0 0 d j) : EReal) = V d (512 * (14 - (i 2).val) + 256 + j.val)) ∧
      (∀ d j, (v2 (ix4 0 0 d j) : EReal) = V d (512 * (14 - (i 2).val) + 512 + j.val)) ∧ (∀ d j, (v3 (ix4 0 0 d j) : EReal) = V d (512 * (14 - (i 2).val) + 768 + j.val)) := by
    iterate 8 apply Exists.intro
    refine ⟨fun d => ?_, ?_, ?_, fun d j => ?_, fun d j => ?_, fun d j => ?_, fun d j => ?_⟩
    · unfold out0_A_8
      unfold kernelRun0_A
      dsimp only
      rw [View.read_writes_cons_unit_of_mem _ _ _ _ _ _ (ix4 0 0 d x) rfl (by intro a; fin_cases a <;> simp)]
      unfold kernelRun0_A.sl.r_24 kernelRun0_A.sl.r_25 kernelRun0_A.sl.r_26 kernelRun0_A.sl.r_27 kernelRun0_A.sl.r_23 kernelRun0_A.sl.r_21 kernelRun0_A.sl.r_20 kernelRun0_A.sl.r_22 kernelRun0_A.sl.r_19 kernelRun0_A.sl.r_12 kernelRun0_A.sl.r_13
      exact congrFun (near_right _ _ _ _ _ _ _ _ _) _
    · refine inv_t16 ?_
      rw [Prod.mk.eta]
      refine inv_t15 (n₀ := 512 * (2 * ((14 - (i 2).val) / 2))) hS (fun x j hj => by rw [← hk x j hj]; exact Finset.sum_congr rfl fun c' _ => by rw [hq]) hv (by omega) (by omega) ?_
      rw [Prod.mk.eta]
      refine inv_t14 ?_
      rw [Prod.mk.eta]
      refine inv_t13 (n₀ := 512 * (4 * ((14 - (i 2).val) / 4))) hS (fun x j hj => by rw [← hk x j hj]; exact Finset.sum_congr rfl fun c' _ => by rw [hq]) hv (by omega) (by omega) ?_
      unfold kernelRun0_A.sl.r_10 kernelRun0_A.sl.r_11
      rw [Prod.mk.eta]
      refine inv_t12 ?_
      rw [Prod.mk.eta]
      refine inv_t11 (n₀ := 512 * (8 * ((14 - (i 2).val) / 8))) hS (fun x j hj => by rw [← hk x j hj]; exact Finset.sum_congr rfl fun c' _ => by rw [hq]) hv (by omega) (by omega) ?_
      unfold kernelRun0_A.sl.r_8 kernelRun0_A.sl.r_9
      rw [Prod.mk.eta]
      refine inv_t10 ?_
      rw [Prod.mk.eta]
      refine inv_t9 (n₀ := 0) hS (fun x j hj => by rw [← hk x j hj]; exact Finset.sum_congr rfl fun c' _ => by rw [hq]) hv (by omega) (by omega) ?_
      exact inv_init_right S V
    · intro x j
      have hj : 512 * (14 - (i 2).val) + j.val < 8192 := by omega
      rw [← hn x j hj, ← table_apply, read_tab, read_tab]
      refine congrArg₂ _ (Finset.sum_congr rfl fun c' _ => ?_) rfl
      rw [hq, read_keys2 arg5 harg5 x2 _ (off35_eq i) j c' hj]
    · obtain ⟨hj, e⟩ := read_vals arg6 harg6 x3 (k0_off36_inb i 0) (off36_eq i 0) d j
      exact e.trans (hv d ⟨_, hj⟩)
    · obtain ⟨hj, e⟩ := read_vals arg6 harg6 x3 (k0_off36_inb i 1) (off36_eq i 1) d j
      exact e.trans (hv d ⟨_, hj⟩)
    · obtain ⟨hj, e⟩ := read_vals arg6 harg6 x3 (k0_off36_inb i 2) (off36_eq i 2) d j
      exact e.trans (hv d ⟨_, hj⟩)
    · obtain ⟨hj, e⟩ := read_vals arg6 harg6 x3 (k0_off36_inb i 3) (off36_eq i 3) d j
      exact e.trans (hv d ⟨_, hj⟩)
  obtain ⟨q, t, st, kb, v0, v1, v2, v3, he, hst, hs, hv0, hv1, hv2, hv3⟩ := e
  obtain ⟨r, hr⟩ := near_stage hS hs hv0 hv1 hv2 hv3 hst x
  exact ⟨r, fun d => (he d).trans (hr d)⟩

end Cert.Attn
-- ==== Proof.Host.lean ====
/- The arrays prepared before the launch, and each grid point's blocks of them, read at an index. -/
module

public import proofs.«01_k».proof.Proof.Gen.KernelIdeal.Value
public import proofs.«01_k».proof.Proof.Body
public import Idealize.ShloMosaic.Lib.WordCmp
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

theorem idx0 : ∀ t : Fin cfg0.N, win0_0.index t 0 = (grid0.coords t 0).val ∧ win0_0.index t 1 = (grid0.coords t 1).val ∧ win0_0.index t 2 = 0 ∧ win0_0.index t 3 = (grid0.coords t 2).val := by
  decide +kernel

theorem idx1 : ∀ t : Fin cfg0.N, win0_1.index t 0 = (grid0.coords t 0).val ∧ win0_1.index t 1 = (grid0.coords t 1).val ∧ win0_1.index t 2 = 0 ∧ win0_1.index t 3 = 15 - (grid0.coords t 2).val := by
  decide +kernel

theorem idx2 : ∀ t : Fin cfg0.N, win0_2.index t 0 = (grid0.coords t 0).val ∧ win0_2.index t 1 = (grid0.coords t 1).val ∧ win0_2.index t 2 = 0 ∧ win0_2.index t 3 = 0 := by
  decide +kernel

theorem idx3 : ∀ t : Fin cfg0.N, win0_3.index t 0 = (grid0.coords t 0).val ∧ win0_3.index t 1 = (grid0.coords t 1).val ∧ win0_3.index t 2 = 0 ∧ win0_3.index t 3 = 0 := by
  decide +kernel

theorem idx4z : ∀ t : Fin cfg0.N, (grid0.coords t 2).val = 0 → win0_4.index t 0 = 0 ∧ win0_4.index t 1 = 1 ∧ win0_4.index t 2 = 0 ∧ win0_4.index t 3 = 0 := by
  decide +kernel

theorem idx4 : ∀ t : Fin cfg0.N, (grid0.coords t 2).val ≠ 0 → win0_4.index t 0 = 0 ∧ win0_4.index t 1 = 0 ∧ win0_4.index t 2 = 0 ∧ win0_4.index t 3 = 0 := by
  decide +kernel

theorem idx5z : ∀ t : Fin cfg0.N, (grid0.coords t 2).val = 0 → win0_5.index t 0 = 0 ∧ win0_5.index t 1 = 2 ∧ win0_5.index t 2 = 0 ∧ win0_5.index t 3 = 0 := by
  decide +kernel

theorem idx5 : ∀ t : Fin cfg0.N, (grid0.coords t 2).val ≠ 0 → win0_5.index t 0 = 0 ∧ win0_5.index t 1 = 1 ∧ win0_5.index t 2 = 0 ∧ win0_5.index t 3 = 0 := by
  decide +kernel

theorem idx6 : ∀ t : Fin cfg0.N, win0_6.index t 0 = 0 ∧ win0_6.index t 1 = 0 ∧ win0_6.index t 2 = 0 ∧ win0_6.index t 3 = 0 := by
  decide +kernel

theorem idx7 : ∀ t : Fin cfg0.N, win0_7.index t 0 = 0 ∧ win0_7.index t 1 = 1 ∧ win0_7.index t 2 = 0 ∧ win0_7.index t 3 = 0 := by
  decide +kernel

theorem idx8 : ∀ t : Fin cfg0.N, win0_8.index t 0 = (grid0.coords t 0).val ∧ win0_8.index t 1 = (grid0.coords t 1).val ∧ win0_8.index t 2 = 0 ∧ win0_8.index t 3 = (grid0.coords t 2).val := by
  decide +kernel

theorem v14_eq : V m c main_v14 = truncf .bf16 (concatenate S2x6x80x8192 2 [⟨S2x6x64x8192, (transpose S2x6x64x8192 [0, 1, 3, 2] (m ((c.tc : Thread nD τ).loc main_arg2) : FVec Ideal S2x6x8192x64 .f32) transposes_S2x6x8192x64_S2x6x64x8192_0_1_3_2 : FVec Ideal S2x6x64x8192 .f32)⟩, ⟨S2x6x1x8192, (broadcastInDim S2x6x1x8192 ![] bcast_S_S2x6x1x8192 (constant (F := Ideal) S_ .f32 0x3F800000#32) : FVec Ideal S2x6x1x8192 .f32)⟩, ⟨S2x6x15x8192, (broadcastInDim S2x6x15x8192 ![] bcast_S_S2x6x15x8192 (constant (F := Ideal) S_ .f32 0x00000000#32) : FVec Ideal S2x6x15x8192 .f32)⟩] concatenates_S2x6x64x8192_S2x6x1x8192_S2x6x15x8192_S2x6x80x8192_d2 : FVec Ideal S2x6x80x8192 .f32) bitsLt_bf16_f32 := by
  rfl

theorem v7_eq : V m c main_v7 = truncf .bf16 (transpose S2x6x128x8192 [0, 1, 3, 2] (pad S2x6x8192x128 ![0, 0, 0, 0] ![0, 0, 0, 32] ![0, 0, 0, 0]
    (Host.divf (mulf (m ((c.tc : Thread nD τ).loc main_arg0) : FVec Ideal S2x6x8192x96 .f32) (broadcastInDim S2x6x8192x96 ![] bcast_S_S2x6x8192x96 (constant (F := Ideal) S_ .f32 0x3DD105EC#32)))
      (broadcastInDim S2x6x8192x96 ![] bcast_S_S2x6x8192x96 (Host.log (constant (F := Ideal) S_ .f32 0x40000000#32))))
    (sitofp (F := Ideal) .f32 (constantI S_ 32 0#32)) pads_S2x6x8192x96_S2x6x8192x128_000_000_000_0320 h_S_ : FVec Ideal S2x6x8192x128 .f32)
    transposes_S2x6x8192x128_S2x6x128x8192_0_1_3_2) bitsLt_bf16_f32 := by
  rfl

theorem v9_eq : V m c main_v9 = truncf .bf16 (pad S2x6x8192x128 ![0, 0, 0, 0] ![0, 0, 0, 32] ![0, 0, 0, 0]
    (m ((c.tc : Thread nD τ).loc main_arg1) : FVec Ideal S2x6x8192x96 .f32)
    (sitofp (F := Ideal) .f32 (constantI S_ 32 0#32)) pads_S2x6x8192x96_S2x6x8192x128_000_000_000_0320 h_S_ : FVec Ideal S2x6x8192x128 .f32) bitsLt_bf16_f32 := by
  rfl

theorem v25_eq : V m c main_v25 = broadcastInDim S1x3x512x512 ![1, 2, 3] bcast_S3x512x512_S1x3x512x512_1_2_3
    (concatenate S3x512x512 0
      [⟨S1x512x512, (broadcastInDim S1x512x512 ![1, 2] bcast_S512x512_S1x512x512_1_2 (broadcastInDim S512x512 ![] bcast_S_S512x512 (constant (F := Ideal) S_ .f32 0x00000000#32)) : FVec Ideal S1x512x512 .f32)⟩,
       ⟨S1x512x512, (broadcastInDim S1x512x512 ![1, 2] bcast_S512x512_S1x512x512_1_2 (select (cmpi .sge (iotaInDim S512x512 32 1) (iotaInDim S512x512 32 0))
          (broadcastInDim S512x512 ![] bcast_S_S512x512 (constant (F := Ideal) S_ .f32 0x00000000#32)) (broadcastInDim S512x512 ![] bcast_S_S512x512 (constant (F := Ideal) S_ .f32 0xFF800000#32))) : FVec Ideal S1x512x512 .f32)⟩,
       ⟨S1x512x512, (broadcastInDim S1x512x512 ![1, 2] bcast_S512x512_S1x512x512_1_2 (broadcastInDim S512x512 ![] bcast_S_S512x512 (constant (F := Ideal) S_ .f32 0xFF800000#32)) : FVec Ideal S1x512x512 .f32)⟩]
      concatenates_S1x512x512_S1x512x512_S1x512x512_S3x512x512_d0 : FVec Ideal S3x512x512 .f32) := by
  rfl

theorem pad_q (q : FVec Ideal S2x6x8192x96 .f32) (b : Fin 2) (h : Fin 6) (x : Fin 128) (p : Fin 8192) :
    truncf .bf16 (transpose S2x6x128x8192 [0, 1, 3, 2] (pad S2x6x8192x128 ![0, 0, 0, 0] ![0, 0, 0, 32] ![0, 0, 0, 0]
    (Host.divf (mulf q (broadcastInDim S2x6x8192x96 ![] bcast_S_S2x6x8192x96 (constant (F := Ideal) S_ .f32 0x3DD105EC#32)))
      (broadcastInDim S2x6x8192x96 ![] bcast_S_S2x6x8192x96 (Host.log (constant (F := Ideal) S_ .f32 0x40000000#32))))
    (sitofp (F := Ideal) .f32 (constantI S_ 32 0#32)) pads_S2x6x8192x96_S2x6x8192x128_000_000_000_0320 h_S_ : FVec Ideal S2x6x8192x128 .f32)
    transposes_S2x6x8192x128_S2x6x128x8192_0_1_3_2) bitsLt_bf16_f32 (ix4 b h x p)
      = if hx : x.val < 96 then Ideal.div ((q (ix4 b h p ⟨x.val, hx⟩) : EReal) * Ideal.ofBits .f32 0x3DD105EC#32) (Ideal.log (Ideal.ofBits .f32 0x40000000#32)) else (0 : EReal) := by
  pointwise
  by_cases hx : x.val < 96
  · rw [dif_pos hx, dif_pos hx]
  · rw [dif_neg hx, dif_neg hx]
    show (((0#32 : BitVec 32).toInt : ℝ) : EReal) = 0
    simp

theorem host_q (b : Fin 2) (h : Fin 6) (x : Fin 128) (p : Fin 8192) :
    V m c main_v7 (ix4 b h x p) = if hx : x.val < 96 then
      Ideal.div ((show FVec Ideal S2x6x8192x96 .f32 from m ((c.tc : Thread nD τ).loc main_arg0)) (ix4 b h p ⟨x.val, hx⟩) * Ideal.ofBits .f32 0x3DD105EC#32) (Ideal.log (Ideal.ofBits .f32 0x40000000#32)) else (0 : EReal) := by
  rw [v7_eq]
  exact pad_q _ b h x p

theorem pad_k (k : FVec Ideal S2x6x8192x96 .f32) (b : Fin 2) (h : Fin 6) (p : Fin 8192) (x : Fin 128) :
    truncf .bf16 (pad S2x6x8192x128 ![0, 0, 0, 0] ![0, 0, 0, 32] ![0, 0, 0, 0] k
      (sitofp (F := Ideal) .f32 (constantI S_ 32 0#32)) pads_S2x6x8192x96_S2x6x8192x128_000_000_000_0320 h_S_ : FVec Ideal S2x6x8192x128 .f32) bitsLt_bf16_f32 (ix4 b h p x)
      = if hx : x.val < 96 then (k (ix4 b h p ⟨x.val, hx⟩) : EReal) else 0 := by
  pointwise
  by_cases hx : x.val < 96
  · rw [dif_pos hx, dif_pos hx]
  · rw [dif_neg hx, dif_neg hx]
    show (((0#32 : BitVec 32).toInt : ℝ) : EReal) = 0
    simp

theorem host_k (b : Fin 2) (h : Fin 6) (p : Fin 8192) (x : Fin 128) :
    V m c main_v9 (ix4 b h p x) = if hx : x.val < 96 then (m ((c.tc : Thread nD τ).loc main_arg1) (ix4 b h p ⟨x.val, hx⟩) : EReal) else (0 : EReal) := by
  rw [v9_eq]
  exact pad_k _ b h p x

theorem host_v (b : Fin 2) (h : Fin 6) (x : Fin 64) (p : Fin 8192) :
    V m c main_v14 (ix4 b h ⟨x.val, by omega⟩ p) = (m ((c.tc : Thread nD τ).loc main_arg2) (ix4 b h p x) : EReal) := by
  rw [v14_eq]
  pointwise

theorem host_one (b : Fin 2) (h : Fin 6) (p : Fin 8192) : V m c main_v14 (ix4 b h 64 p) = (1 : EReal) := by
  rw [v14_eq]
  pointwise

/-- The three tables: nothing masked, later keys masked, everything masked. -/
theorem host_t (h : Fin 3) (j x : Fin 512) :
    V m c main_v25 (ix4 0 h j x) = if h.val = 0 then (0 : EReal) else if h.val = 1 then (if j.val ≤ x.val then 0 else ⊥) else ⊥ := by
  have e : Ideal.ofBits .f32 0xFF800000#32 = (⊥ : EReal) := by simp [Ideal.ofBits, Ideal.ieee]
  rw [v25_eq]
  pointwise
  rw [WordCmp.cmpi_sge_ofNat (by omega) (by omega), e]
  by_cases h0 : h.val = 0
  · rw [dif_pos (by omega), if_pos h0]
  · rw [dif_neg (by omega), if_neg h0]
    by_cases h1 : h.val = 1
    · rw [dif_pos (by omega), if_pos h1]
      by_cases hj : j.val ≤ x.val
      · rw [if_pos hj, decide_eq_true hj]; rfl
      · rw [if_neg hj, decide_eq_false hj]; rfl
    · rw [dif_neg (by omega), if_neg h1]

theorem emb_q0 (t : Fin cfg0.N) (x : Fin 128) (p : Fin 512) (hp : 512 * (grid0.coords t 2).val + p.val < 8192) : (win0_0.blk t).view.emb (ix4 0 0 x p) = ix4 (grid0.coords t 0) (grid0.coords t 1) x ⟨512 * (grid0.coords t 2).val + p.val, hp⟩ := by
  obtain ⟨e0, e1, e2, e3⟩ := idx0 t
  funext a
  apply Fin.ext
  fin_cases a
  · show win0_0.index t 0 * 1 + 1 * 0 = (grid0.coords t 0).val
    omega
  · show win0_0.index t 1 * 1 + 1 * 0 = (grid0.coords t 1).val
    omega
  · show win0_0.index t 2 * 128 + 1 * x.val = x.val
    omega
  · show win0_0.index t 3 * 512 + 1 * p.val = 512 * (grid0.coords t 2).val + p.val
    omega

theorem blk_q0 (t : Fin cfg0.N) (x : Fin 128) (p : Fin 512) (hp : 512 * (grid0.coords t 2).val + p.val < 8192) :
    (iblk m c 0 t : Vec Ideal S1x1x128x512 .bf16) (ix4 0 0 x p) = (V m c main_v7 : Vec Ideal S2x6x128x8192 .bf16) (ix4 (grid0.coords t 0) (grid0.coords t 1) x ⟨512 * (grid0.coords t 2).val + p.val, hp⟩) :=
  congrArg (V m c main_v7) (emb_q0 t x p hp)

theorem emb_q1 (t : Fin cfg0.N) (x : Fin 128) (p : Fin 512) (hp : 512 * (15 - (grid0.coords t 2).val) + p.val < 8192) : (win0_1.blk t).view.emb (ix4 0 0 x p) = ix4 (grid0.coords t 0) (grid0.coords t 1) x ⟨512 * (15 - (grid0.coords t 2).val) + p.val, hp⟩ := by
  obtain ⟨e0, e1, e2, e3⟩ := idx1 t
  funext a
  apply Fin.ext
  fin_cases a
  · show win0_1.index t 0 * 1 + 1 * 0 = (grid0.coords t 0).val
    omega
  · show win0_1.index t 1 * 1 + 1 * 0 = (grid0.coords t 1).val
    omega
  · show win0_1.index t 2 * 128 + 1 * x.val = x.val
    omega
  · show win0_1.index t 3 * 512 + 1 * p.val = 512 * (15 - (grid0.coords t 2).val) + p.val
    omega

theorem blk_q1 (t : Fin cfg0.N) (x : Fin 128) (p : Fin 512) (hp : 512 * (15 - (grid0.coords t 2).val) + p.val < 8192) :
    (iblk m c 1 t : Vec Ideal S1x1x128x512 .bf16) (ix4 0 0 x p) = (V m c main_v7 : Vec Ideal S2x6x128x8192 .bf16) (ix4 (grid0.coords t 0) (grid0.coords t 1) x ⟨512 * (15 - (grid0.coords t 2).val) + p.val, hp⟩) :=
  congrArg (V m c main_v7) (emb_q1 t x p hp)

theorem emb_k (t : Fin cfg0.N) (p : Fin 8192) (x : Fin 128) : (win0_2.blk t).view.emb (ix4 0 0 p x) = ix4 (grid0.coords t 0) (grid0.coords t 1) p x := by
  obtain ⟨e0, e1, e2, e3⟩ := idx2 t
  funext a
  apply Fin.ext
  fin_cases a
  · show win0_2.index t 0 * 1 + 1 * 0 = (grid0.coords t 0).val
    omega
  · show win0_2.index t 1 * 1 + 1 * 0 = (grid0.coords t 1).val
    omega
  · show win0_2.index t 2 * 8192 + 1 * p.val = p.val
    omega
  · show win0_2.index t 3 * 128 + 1 * x.val = x.val
    omega

theorem blk_k (t : Fin cfg0.N) (p : Fin 8192) (x : Fin 128) :
    (iblk m c 2 t : Vec Ideal S1x1x8192x128 .bf16) (ix4 0 0 p x) = (V m c main_v9 : Vec Ideal S2x6x8192x128 .bf16) (ix4 (grid0.coords t 0) (grid0.coords t 1) p x) :=
  congrArg (V m c main_v9) (emb_k t p x)

theorem emb_v (t : Fin cfg0.N) (d : Fin 80) (p : Fin 8192) : (win0_3.blk t).view.emb (ix4 0 0 d p) = ix4 (grid0.coords t 0) (grid0.coords t 1) d p := by
  obtain ⟨e0, e1, e2, e3⟩ := idx3 t
  funext a
  apply Fin.ext
  fin_cases a
  · show win0_3.index t 0 * 1 + 1 * 0 = (grid0.coords t 0).val
    omega
  · show win0_3.index t 1 * 1 + 1 * 0 = (grid0.coords t 1).val
    omega
  · show win0_3.index t 2 * 80 + 1 * d.val = d.val
    omega
  · show win0_3.index t 3 * 8192 + 1 * p.val = p.val
    omega

theorem blk_v (t : Fin cfg0.N) (d : Fin 80) (p : Fin 8192) :
    (iblk m c 3 t : Vec Ideal S1x1x80x8192 .bf16) (ix4 0 0 d p) = (V m c main_v14 : Vec Ideal S2x6x80x8192 .bf16) (ix4 (grid0.coords t 0) (grid0.coords t 1) d p) :=
  congrArg (V m c main_v14) (emb_v t d p)

theorem emb_t0z (t : Fin cfg0.N) (j x : Fin 512) (h : (grid0.coords t 2).val = 0) : (win0_4.blk t).view.emb (ix4 0 0 j x) = ix4 0 1 j x := by
  obtain ⟨e0, e1, e2, e3⟩ := idx4z t h
  funext a
  apply Fin.ext
  fin_cases a
  · show win0_4.index t 0 * 1 + 1 * 0 = 0
    omega
  · show win0_4.index t 1 * 1 + 1 * 0 = 1
    omega
  · show win0_4.index t 2 * 512 + 1 * j.val = j.val
    omega
  · show win0_4.index t 3 * 512 + 1 * x.val = x.val
    omega

theorem blk_t0z (t : Fin cfg0.N) (j x : Fin 512) (h : (grid0.coords t 2).val = 0) :
    (iblk m c 4 t : Vec Ideal S1x1x512x512 .f32) (ix4 0 0 j x) = (V m c main_v25 : Vec Ideal S1x3x512x512 .f32) (ix4 0 1 j x) :=
  congrArg (V m c main_v25) (emb_t0z t j x h)

theorem emb_t0 (t : Fin cfg0.N) (j x : Fin 512) (h : (grid0.coords t 2).val ≠ 0) : (win0_4.blk t).view.emb (ix4 0 0 j x) = ix4 0 0 j x := by
  obtain ⟨e0, e1, e2, e3⟩ := idx4 t h
  funext a
  apply Fin.ext
  fin_cases a
  · show win0_4.index t 0 * 1 + 1 * 0 = 0
    omega
  · show win0_4.index t 1 * 1 + 1 * 0 = 0
    omega
  · show win0_4.index t 2 * 512 + 1 * j.val = j.val
    omega
  · show win0_4.index t 3 * 512 + 1 * x.val = x.val
    omega

theorem blk_t0 (t : Fin cfg0.N) (j x : Fin 512) (h : (grid0.coords t 2).val ≠ 0) :
    (iblk m c 4 t : Vec Ideal S1x1x512x512 .f32) (ix4 0 0 j x) = (V m c main_v25 : Vec Ideal S1x3x512x512 .f32) (ix4 0 0 j x) :=
  congrArg (V m c main_v25) (emb_t0 t j x h)

theorem emb_t1z (t : Fin cfg0.N) (j x : Fin 512) (h : (grid0.coords t 2).val = 0) : (win0_5.blk t).view.emb (ix4 0 0 j x) = ix4 0 2 j x := by
  obtain ⟨e0, e1, e2, e3⟩ := idx5z t h
  funext a
  apply Fin.ext
  fin_cases a
  · show win0_5.index t 0 * 1 + 1 * 0 = 0
    omega
  · show win0_5.index t 1 * 1 + 1 * 0 = 2
    omega
  · show win0_5.index t 2 * 512 + 1 * j.val = j.val
    omega
  · show win0_5.index t 3 * 512 + 1 * x.val = x.val
    omega

theorem blk_t1z (t : Fin cfg0.N) (j x : Fin 512) (h : (grid0.coords t 2).val = 0) :
    (iblk m c 5 t : Vec Ideal S1x1x512x512 .f32) (ix4 0 0 j x) = (V m c main_v25 : Vec Ideal S1x3x512x512 .f32) (ix4 0 2 j x) :=
  congrArg (V m c main_v25) (emb_t1z t j x h)

theorem emb_t1 (t : Fin cfg0.N) (j x : Fin 512) (h : (grid0.coords t 2).val ≠ 0) : (win0_5.blk t).view.emb (ix4 0 0 j x) = ix4 0 1 j x := by
  obtain ⟨e0, e1, e2, e3⟩ := idx5 t h
  funext a
  apply Fin.ext
  fin_cases a
  · show win0_5.index t 0 * 1 + 1 * 0 = 0
    omega
  · show win0_5.index t 1 * 1 + 1 * 0 = 1
    omega
  · show win0_5.index t 2 * 512 + 1 * j.val = j.val
    omega
  · show win0_5.index t 3 * 512 + 1 * x.val = x.val
    omega

theorem blk_t1 (t : Fin cfg0.N) (j x : Fin 512) (h : (grid0.coords t 2).val ≠ 0) :
    (iblk m c 5 t : Vec Ideal S1x1x512x512 .f32) (ix4 0 0 j x) = (V m c main_v25 : Vec Ideal S1x3x512x512 .f32) (ix4 0 1 j x) :=
  congrArg (V m c main_v25) (emb_t1 t j x h)

theorem emb_t2 (t : Fin cfg0.N) (j x : Fin 512) : (win0_6.blk t).view.emb (ix4 0 0 j x) = ix4 0 0 j x := by
  obtain ⟨e0, e1, e2, e3⟩ := idx6 t
  funext a
  apply Fin.ext
  fin_cases a
  · show win0_6.index t 0 * 1 + 1 * 0 = 0
    omega
  · show win0_6.index t 1 * 1 + 1 * 0 = 0
    omega
  · show win0_6.index t 2 * 512 + 1 * j.val = j.val
    omega
  · show win0_6.index t 3 * 512 + 1 * x.val = x.val
    omega

theorem blk_t2 (t : Fin cfg0.N) (j x : Fin 512) :
    (iblk m c 6 t : Vec Ideal S1x1x512x512 .f32) (ix4 0 0 j x) = (V m c main_v25 : Vec Ideal S1x3x512x512 .f32) (ix4 0 0 j x) :=
  congrArg (V m c main_v25) (emb_t2 t j x)

theorem emb_t3 (t : Fin cfg0.N) (j x : Fin 512) : (win0_7.blk t).view.emb (ix4 0 0 j x) = ix4 0 1 j x := by
  obtain ⟨e0, e1, e2, e3⟩ := idx7 t
  funext a
  apply Fin.ext
  fin_cases a
  · show win0_7.index t 0 * 1 + 1 * 0 = 0
    omega
  · show win0_7.index t 1 * 1 + 1 * 0 = 1
    omega
  · show win0_7.index t 2 * 512 + 1 * j.val = j.val
    omega
  · show win0_7.index t 3 * 512 + 1 * x.val = x.val
    omega

theorem blk_t3 (t : Fin cfg0.N) (j x : Fin 512) :
    (iblk m c 7 t : Vec Ideal S1x1x512x512 .f32) (ix4 0 0 j x) = (V m c main_v25 : Vec Ideal S1x3x512x512 .f32) (ix4 0 1 j x) :=
  congrArg (V m c main_v25) (emb_t3 t j x)

end Cert.Attn
-- ==== Proof.Ref.lean ====
/- The reference read at an index: causal scores, their row maximum, and each output as the softmax average of the
   values, in the tile order of the result. -/
module

public import proofs.«01_k».proof.Proof.Gen.ReferenceIdeal.Run
public import proofs.«01_k».proof.Proof.Online
public import Idealize.ShloMosaic.Lib.Pointwise
public import Idealize.ShloMosaic.Lib.Tactic
public import Idealize.ShloMosaic.Lib.WordCmp

@[expose] public section

set_option maxRecDepth 16384

noncomputable section

namespace Cert.Attn

open Cert.ReferenceIdeal Cert.ReferenceIdeal.Gen Idealize.ShloMosaic Idealize.ShloMosaic.TcCoe Idealize.SL.Sem

/-- The masked scores: scaled products of queries and keys, `-∞` where the key comes after the query. -/
def scores (q k : FVec Ideal S2x6x8192x96 .f32) : FVec Ideal S2x6x8192x8192 .f32 :=
  select (broadcastInDim S2x6x8192x8192 ![2, 3] bcast_S8192x8192_S2x6x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (mulf (Host.dotGeneral dot_S2x6x8192x96_S2x6x8192x96_S2x6x8192x8192_3_3_2_2_01_01 none q k) (broadcastInDim S2x6x8192x8192 ![] bcast_S_S2x6x8192x8192 (constant S_ .f32 0x3DD105EC#32)))
    (broadcastInDim S2x6x8192x8192 ![] bcast_S_S2x6x8192x8192 (id (constant S_ .f32 0xFF800000#32)))

/-- The largest score of each query. -/
def rowMax (s : FVec Ideal S2x6x8192x8192 .f32) : FVec Ideal S2x6x8192 .f32 :=
  maximumf (broadcastInDim S2x6x8192 ![] bcast_S_S2x6x8192 (constant S_ .f32 0xFF800000#32))
    (Host.reduce FloatOps.maximumf s (constant S_ .f32 0xFF800000#32) reducesTo_S2x6x8192x8192_S2x6x8192_d3 h_S_)

/-- Exponentials of the scores less their row's reference point. -/
def weights (s : FVec Ideal S2x6x8192x8192 .f32) (μ : FVec Ideal S2x6x8192 .f32) : FVec Ideal S2x6x8192x8192 .f32 :=
  Host.exp (subf s (broadcastInDim S2x6x8192x8192 ![0, 1, 2, 3] bcast_S2x6x8192x1_S2x6x8192x8192_0_1_2_3 (broadcastInDim S2x6x8192x1 ![0, 1, 2] bcast_S2x6x8192_S2x6x8192x1_0_1_2 μ)))

/-- The average of the values by normalised weights. -/
def attend (e : FVec Ideal S2x6x8192x8192 .f32) (v : FVec Ideal S2x6x8192x64 .f32) : FVec Ideal S2x6x8192x64 .f32 :=
  Host.dotGeneral (φ₁ := .f32) (φ₂ := .f32) dot_S2x6x8192x8192_S2x6x8192x64_S2x6x8192x64_3_2_2_3_01_01 none
    (Host.divf e (broadcastInDim S2x6x8192x8192 ![0, 1, 2, 3] bcast_S2x6x8192x1_S2x6x8192x8192_0_1_2_3 (broadcastInDim S2x6x8192x1 ![0, 1, 2] bcast_S2x6x8192_S2x6x8192x1_0_1_2 (Host.reduceAdd e (constant S_ .f32 0x00000000#32) reducesTo_S2x6x8192x8192_S2x6x8192_d3 h_S_)))) v

/-- The result's layout: channels before positions, tile `j` of 512 positions beside tile `15 - j`. -/
def tiled (o : FVec Ideal S2x6x8192x64 .f32) : FVec Ideal S2x6x64x8192 .f32 :=
  shapeCast _ (concatenate S2x6x64x8x2x512 4 [⟨S2x6x64x8x1x512, (broadcastInDim S2x6x64x8x1x512 ![0, 1, 2, 3, 5] bcast_S2x6x64x8x512_S2x6x64x8x1x512_0_1_2_3_5 (extractStridedSlice S2x6x64x8x512 ![0, 0, 0, 0, 0] (shapeCast _ (transpose S2x6x64x8192 [0, 1, 3, 2] o transposes_S2x6x8192x64_S2x6x64x8192_0_1_3_2) shapeCasts_S2x6x64x8192_S2x6x64x16x512) slices_S2x6x64x16x512_S2x6x64x8x512_0_0_0_0_0))⟩, ⟨S2x6x64x8x1x512, (broadcastInDim S2x6x64x8x1x512 ![0, 1, 2, 3, 5] bcast_S2x6x64x8x512_S2x6x64x8x1x512_0_1_2_3_5 (Host.reverse [3] (extractStridedSlice S2x6x64x8x512 ![0, 0, 0, 8, 0] (shapeCast _ (transpose S2x6x64x8192 [0, 1, 3, 2] o transposes_S2x6x8192x64_S2x6x64x8192_0_1_3_2) shapeCasts_S2x6x64x8192_S2x6x64x16x512) slices_S2x6x64x16x512_S2x6x64x8x512_0_0_0_8_0)))⟩] concatenates_S2x6x64x8x1x512_S2x6x64x8x1x512_S2x6x64x8x2x512_d4) shapeCasts_S2x6x64x8x2x512_S2x6x64x8192

/-- The whole reference. -/
def ref (q k : FVec Ideal S2x6x8192x96 .f32) (v : FVec Ideal S2x6x8192x64 .f32) : FVec Ideal S2x6x64x8192 .f32 :=
  tiled (attend (weights (scores q k) (rowMax (scores q k))) v)

theorem res_eq (m : (ℓ : Loc nD τ sig) → Buf (Elt Ideal) ℓ) (c : Dev nD) :
    Value.res_main_v30 m c = ref (m ((c.tc : Thread nD τ).loc main_arg0)) (m ((c.tc : Thread nD τ).loc main_arg1))
      (m ((c.tc : Thread nD τ).loc main_arg2)) := rfl

theorem tiled_left (o : FVec Ideal S2x6x8192x64 .f32) (b : Fin 2) (h : Fin 6) (d : Fin 64) (p : Fin 8192) (p' : Fin 8192)
    (hp : p.val % 1024 < 512) (hp' : p'.val = 512 * (p.val / 1024) + p.val % 512) :
    tiled o (ix4 b h d p) = o (ix4 b h p' d) := by
  pointwise [tiled]
  have h1 : p.val / 512 % 2 < 1 := by omega
  rw [dif_pos h1]
  exact congrArg (fun z => o (ix4 b h z d)) (Fin.ext (by simp only []; omega))

theorem tiled_right (o : FVec Ideal S2x6x8192x64 .f32) (b : Fin 2) (h : Fin 6) (d : Fin 64) (p : Fin 8192) (p' : Fin 8192)
    (hp : 512 ≤ p.val % 1024) (hp' : p'.val = 512 * (15 - p.val / 1024) + p.val % 512) :
    tiled o (ix4 b h d p) = o (ix4 b h p' d) := by
  pointwise [tiled]
  have h1 : ¬ p.val / 512 % 2 < 1 := by omega
  rw [dif_neg h1]
  simp
  refine congrArg (fun z => o (ix4 b h z d)) (Fin.ext ?_)
  simp only []; omega

theorem scores_apply (q k : FVec Ideal S2x6x8192x96 .f32) (b : Fin 2) (h : Fin 6) (i j : Fin 8192) :
    scores q k (ix4 b h i j) = if j.val ≤ i.val then (∑ x : Fin 96, q (ix4 b h i x) * k (ix4 b h j x)) * Ideal.ofBits .f32 0x3DD105EC#32 else ⊥ := by
  pointwise [scores]
  have hi := i.isLt; have hj := j.isLt
  rw [WordCmp.cmpi_sle_ofNat (by omega) (by omega)]
  by_cases hij : j.val ≤ i.val
  · rw [if_pos hij, decide_eq_true hij]; rfl
  · rw [if_neg hij, decide_eq_false hij]
    show Ideal.ofBits .f32 0xFF800000#32 = ⊥
    simp [Ideal.ofBits, Ideal.ieee]

/-- A maximum taken over axes from `-∞` is a real when no element is `+∞` and one of those it covers is not `-∞`. -/
theorem reduce_max_real {s t u : Shape} {axes : List (Fin s.rank)} (h : s.ReducesTo axes t) (hu : 0 < u.numel)
    (x : FVec Ideal s .f32) (hx : ∀ i, (x i : EReal) ≠ ⊤) (j : t.Idx) (i₀ : s.Idx) (hi : h.drop i₀ = j) (h₀ : (x i₀ : EReal) ≠ ⊥) :
    ∃ r : ℝ, max (⊥ : EReal) (Host.reduce (FloatOps.maximumf (F := Ideal) (φ := .f32)) x (constant (F := Ideal) u .f32 0xFF800000#32) h hu j) = r := by
  have e : (constant (F := Ideal) u .f32 0xFF800000#32 (Shape.Idx.first hu) : EReal) = ⊥ := by
    rw [constant_apply]; show Ideal.ofBits .f32 0xFF800000#32 = ⊥; simp [Ideal.ofBits, Ideal.ieee]
  rw [Host.reduce_eq_fold]
  set A := Finset.univ.filter fun i => h.drop i = j with hA
  have key : (A.fold (FloatOps.maximumf (F := Ideal) (φ := .f32)) (constant (F := Ideal) u .f32 0xFF800000#32 (Shape.Idx.first hu)) x : EReal)
      = A.fold max ⊥ x := by
    rw [e]; rfl
  have hm : i₀ ∈ A := by rw [hA, Finset.mem_filter]; exact ⟨Finset.mem_univ _, hi⟩
  refine ⟨EReal.toReal _, (EReal.coe_toReal ?_ ?_).symm⟩
  · rw [key]
    exact ne_of_lt (max_lt bot_lt_top ((Finset.fold_max_lt _).2 ⟨bot_lt_top, fun k _ => lt_top_iff_ne_top.2 (hx k)⟩))
  · rw [key]
    exact ne_of_gt (lt_of_lt_of_le (bot_lt_iff_ne_bot.2 h₀) (le_max_of_le_right ((Finset.le_fold_max _).2 (Or.inr ⟨i₀, hm, le_rfl⟩))))

theorem drop_row (b : Fin 2) (h : Fin 6) (i j : Fin 8192) : reducesTo_S2x6x8192x8192_S2x6x8192_d3.drop (ix4 b h i j) = ix3 b h i := by
    funext a; fin_cases a <;> rfl

theorem rowMax_real (s : FVec Ideal S2x6x8192x8192 .f32) (hs : ∀ i, (s i : EReal) ≠ ⊤) (b : Fin 2) (h : Fin 6) (i j : Fin 8192)
    (hj : (s (ix4 b h i j) : EReal) ≠ ⊥) : ∃ r : ℝ, (rowMax s (ix3 b h i) : EReal) = r := by
  obtain ⟨r, hr⟩ := reduce_max_real reducesTo_S2x6x8192x8192_S2x6x8192_d3 h_S_ s hs (ix3 b h i) (ix4 b h i j) (drop_row b h i j) hj
  refine ⟨r, hr ▸ ?_⟩
  unfold rowMax
  rw [maximumf_apply]
  refine congrArg₂ max ?_ rfl
  show Ideal.ofBits .f32 0xFF800000#32 = ⊥
  simp [Ideal.ofBits, Ideal.ieee]

theorem weights_apply (s : FVec Ideal S2x6x8192x8192 .f32) (μ : FVec Ideal S2x6x8192 .f32) (b : Fin 2) (h : Fin 6) (i j : Fin 8192) :
    weights s μ (ix4 b h i j) = Ideal.exp (s (ix4 b h i j) - μ (ix3 b h i)) := by
  pointwise [weights]

theorem attend_apply (e : FVec Ideal S2x6x8192x8192 .f32) (v : FVec Ideal S2x6x8192x64 .f32) (b : Fin 2) (h : Fin 6) (i : Fin 8192) (d : Fin 64) :
    attend e v (ix4 b h i d)
      = ∑ j : Fin 8192, Ideal.div (e (ix4 b h i j)) (∑ l : Fin 8192, e (ix4 b h i l)) * v (ix4 b h j d) := by
  pointwise [attend]

end Cert.Attn
-- ==== Proof.Average.lean ====
/- One row of the output: the kernel's quotient of sums is the softmax average of the values. -/
module

public import proofs.«01_k».proof.Proof.Host
public import proofs.«01_k».proof.Proof.Online
public import proofs.«01_k».proof.Proof.Ref

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel's queries, keys and values. -/
def argQ : FVec Ideal S2x6x8192x96 .f32 := m ((c.tc : Thread nD τ).loc main_arg0)
def argK : FVec Ideal S2x6x8192x96 .f32 := m ((c.tc : Thread nD τ).loc main_arg1)
def argV : FVec Ideal S2x6x8192x64 .f32 := m ((c.tc : Thread nD τ).loc main_arg2)

/-- The padded keys, the padded and scaled queries, and the values with their row of ones, as the launch finds them. -/
def preK : FVec Ideal S2x6x8192x128 .bf16 := V m c main_v9
def preQ : FVec Ideal S2x6x128x8192 .bf16 := V m c main_v7
def preV : FVec Ideal S2x6x80x8192 .bf16 := V m c main_v14

/-- The padded keys against the padded, scaled queries. -/
def score (b : Fin 2) (h : Fin 6) (p κ : Fin 8192) : EReal :=
  ∑ x : Fin 128, (preK m c (ix4 b h κ x) : EReal) * preQ m c (ix4 b h x p)

/-- Every entry is a real number. -/
def Finite {s : Shape} (x : FVec Ideal s .f32) : Prop := ∀ i, ∃ r : ℝ, (x i : EReal) = r

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]; norm_num
  rw [e]
  show (if (2 : ℝ) ≤ 0 then (⊥ : EReal) else (Real.log 2 : EReal)) = _
  rw [if_neg (by norm_num)]

theorem scale_real : ∃ s : ℝ, Ideal.ofBits .f32 0x3DD105EC#32 = (s : EReal) := ⟨_, by simp [Ideal.ofBits, Ideal.ieee]; rfl⟩

theorem log_two_ne : Real.log 2 ≠ 0 := (Real.log_pos (by norm_num)).ne'

theorem two_rpow (a : ℝ) : Real.rpow 2 (a / Real.log 2) = Real.exp a := by
  have e : (2 : ℝ) ^ (a / Real.log 2) = Real.exp a := by
    rw [Real.rpow_def_of_pos (by norm_num), mul_div_cancel₀ _ log_two_ne]
  exact e

/-- The kernel's score is the reference's, divided by log 2. -/
theorem score_pair (hq : Finite (argQ m c)) (hk : Finite (argK m c)) (b : Fin 2) (h : Fin 6) (p κ : Fin 8192) :
    ∃ a : ℝ, score m c b h p κ = ((a / Real.log 2 : ℝ) : EReal)
      ∧ (∑ x : Fin 96, (argQ m c (ix4 b h p x) : EReal) * argK m c (ix4 b h κ x)) * Ideal.ofBits .f32 0x3DD105EC#32 = (a : EReal) := by
  obtain ⟨s, hs⟩ := scale_real
  have hq' := hq; have hk' := hk
  choose qr hqr using hq'
  choose kr hkr using hk'
  refine ⟨∑ x : Fin 96, qr (ix4 b h p x) * kr (ix4 b h κ x) * s, ?_, ?_⟩
  · have e : ∀ x : Fin 128, (preK m c (ix4 b h κ x) : EReal) * preQ m c (ix4 b h x p)
        = if hx : x.val < 96 then ((qr (ix4 b h p ⟨x.val, hx⟩) * kr (ix4 b h κ ⟨x.val, hx⟩) * s / Real.log 2 : ℝ) : EReal) else 0 := by
      intro x
      have e1 : (preK m c (ix4 b h κ x) : EReal) = if hx : x.val < 96 then (argK m c (ix4 b h κ ⟨x.val, hx⟩) : EReal) else 0 := host_k m c b h κ x
      have e2 : (preQ m c (ix4 b h x p) : EReal) = if hx : x.val < 96 then
        Ideal.div ((argQ m c (ix4 b h p ⟨x.val, hx⟩) : EReal) * Ideal.ofBits .f32 0x3DD105EC#32) (Ideal.log (Ideal.ofBits .f32 0x40000000#32)) else 0 := host_q m c b h x p
      rw [e1, e2]
      by_cases hx : x.val < 96
      · rw [dif_pos hx, dif_pos hx, dif_pos hx, hqr, hkr, hs, log_two, Ideal.div, if_neg (by exact_mod_cast log_two_ne), ← EReal.coe_inv, ← EReal.coe_mul, ← EReal.coe_mul, ← EReal.coe_mul]
        congr 1
        ring
      · rw [dif_neg hx, dif_neg hx, dif_neg hx, zero_mul]
    unfold score
    rw [Finset.sum_congr rfl fun x _ => e x]
    show (∑ x : Fin (96 + 32), _) = _
    rw [Fin.sum_univ_add, Finset.sum_div, Online.coe_sum, Finset.sum_eq_zero (s := (Finset.univ : Finset (Fin 32))), add_zero]
    · refine Finset.sum_congr rfl fun x _ => ?_
      exact dif_pos x.isLt
    · intro x _
      exact dif_neg (by simp)
  · rw [hs, ← Finset.sum_mul, EReal.coe_mul, Online.coe_sum]
    refine congrArg (· * (s : EReal)) (Finset.sum_congr rfl fun x _ => ?_)
    rw [hqr, hkr, EReal.coe_mul]

/-- The scores of one query in key order: a key after the query, or past the last key, has score `⊥`. -/
def row (b : Fin 2) (h : Fin 6) (p : Fin 8192) (κ : ℕ) : EReal :=
  if hκ : κ < 8192 then (if κ ≤ p.val then score m c b h p ⟨κ, hκ⟩ else ⊥) else ⊥

/-- The values in key order, zero past the last key. -/
def vals (b : Fin 2) (h : Fin 6) (d : Fin 80) (κ : ℕ) : EReal :=
  if hκ : κ < 8192 then preV m c (ix4 b h d ⟨κ, hκ⟩) else 0

/-- The reference's scores of one query in key order. -/
def rowRef (b : Fin 2) (h : Fin 6) (p : Fin 8192) (κ : ℕ) : EReal :=
  if hκ : κ < 8192 then scores (argQ m c) (argK m c) (ix4 b h p ⟨κ, hκ⟩) else ⊥

theorem row_pair (hq : Finite (argQ m c)) (hk : Finite (argK m c)) (b : Fin 2) (h : Fin 6) (p : Fin 8192) (κ : ℕ) :
    (row m c b h p κ = ⊥ ∧ rowRef m c b h p κ = ⊥ ∧ ¬ κ ≤ p.val)
      ∨ ∃ a : ℝ, row m c b h p κ = ((a / Real.log 2 : ℝ) : EReal) ∧ rowRef m c b h p κ = (a : EReal) := by
  unfold row rowRef
  by_cases hκ : κ < 8192
  · rw [dif_pos hκ, dif_pos hκ, scores_apply]
    by_cases hp : κ ≤ p.val
    · right
      obtain ⟨a, h1, h2⟩ := score_pair m c hq hk b h p ⟨κ, hκ⟩
      exact ⟨a, by rw [if_pos hp, h1], by rw [if_pos hp, h2]⟩
    · left
      exact ⟨by rw [if_neg hp], by rw [if_neg hp], hp⟩
  · left
    rw [dif_neg hκ, dif_neg hκ]
    have := p.isLt
    exact ⟨rfl, rfl, by omega⟩

theorem row_ne_top (hq : Finite (argQ m c)) (hk : Finite (argK m c)) (b : Fin 2) (h : Fin 6) (p : Fin 8192) (κ : ℕ) : row m c b h p κ ≠ ⊤ := by
  rcases row_pair m c hq hk b h p κ with ⟨e, _, _⟩ | ⟨a, e, _⟩
  · rw [e]; exact bot_ne_top
  · rw [e]; exact EReal.coe_ne_top _

theorem vals_one (b : Fin 2) (h : Fin 6) {κ : ℕ} (hκ : κ < 8192) : vals m c b h 64 κ = 1 := by
  unfold vals
  rw [dif_pos hκ]
  exact host_one m c b h ⟨κ, hκ⟩

theorem vals_arg (b : Fin 2) (h : Fin 6) (d : Fin 64) {κ : ℕ} (hκ : κ < 8192) :
    vals m c b h ⟨d.val, by omega⟩ κ = argV m c (ix4 b h ⟨κ, hκ⟩ d) := by
  unfold vals
  rw [dif_pos hκ]
  exact host_v m c b h d ⟨κ, hκ⟩

/-- The quotient of the carried sums over the first `n` keys, `n` past the query, is the softmax average. -/
theorem quotient (hq : Finite (argQ m c)) (hk : Finite (argK m c)) (b : Fin 2) (h : Fin 6) (p : Fin 8192) (d : Fin 64) (n : ℕ)
    (hn : n ≤ 8192) (hp : p.val < n) (r : ℝ) :
    Ideal.div (∑ j ∈ Finset.range n, Ideal.exp2 (row m c b h p j - r) * vals m c b h ⟨d.val, by omega⟩ j)
        (∑ j ∈ Finset.range n, Ideal.exp2 (row m c b h p j - r) * vals m c b h 64 j)
      = attend (weights (scores (argQ m c) (argK m c)) (rowMax (scores (argQ m c) (argK m c)))) (argV m c) (ix4 b h p d) := by
  have hT : ∀ j, rowRef m c b h p j ≠ ⊤ := by
    intro j
    rcases row_pair m c hq hk b h p j with ⟨_, e, _⟩ | ⟨a, _, e⟩
    · rw [e]; exact bot_ne_top
    · rw [e]; exact EReal.coe_ne_top _
  have hall : ∀ i, (scores (argQ m c) (argK m c) i : EReal) ≠ ⊤ := by
    intro i
    obtain ⟨b', h', p', κ', rfl⟩ : ∃ b' h' p' κ', i = ix4 b' h' p' κ' := ⟨i 0, i 1, i 2, i 3, by funext a; fin_cases a <;> rfl⟩
    rw [scores_apply]
    split
    · obtain ⟨a, _, e⟩ := score_pair m c hq hk b' h' p' κ'
      rw [e]; exact EReal.coe_ne_top _
    · exact bot_ne_top
  have hself : rowRef m c b h p p.val ≠ ⊥ := by
    rcases row_pair m c hq hk b h p p.val with ⟨_, _, e⟩ | ⟨a, _, e⟩
    · exact absurd le_rfl e
    · rw [e]; exact EReal.coe_ne_bot _
  obtain ⟨μ, hμ⟩ := rowMax_real _ hall b h p p (by unfold rowRef at hself; rwa [dif_pos p.isLt] at hself)
  have hST : ∀ j, Ideal.exp2 (row m c b h p j) = Ideal.exp (rowRef m c b h p j) := by
    intro j
    rcases row_pair m c hq hk b h p j with ⟨e1, e2, _⟩ | ⟨a, e1, e2⟩
    · rw [e1, e2]; rfl
    · rw [e1, e2]
      show ((Real.rpow 2 (a / Real.log 2) : ℝ) : EReal) = ((Real.exp a : ℝ) : EReal)
      exact congrArg _ (two_rpow a)
  have hlate : ∀ j, n ≤ j → rowRef m c b h p j = ⊥ := by
    intro j hj
    rcases row_pair m c hq hk b h p j with ⟨_, e, _⟩ | ⟨a, _, e⟩
    · exact e
    · exfalso
      have hb : rowRef m c b h p j = ⊥ := by
        unfold rowRef
        by_cases hκ : j < 8192
        · rw [dif_pos hκ, scores_apply, if_neg (by simp only []; omega)]
        · rw [dif_neg hκ]
      rw [hb] at e
      exact EReal.coe_ne_bot _ e.symm
  have key := Online.finish n 8192 hn (row m c b h p) (rowRef m c b h p) (vals m c b h ⟨d.val, by omega⟩) r μ hT hST
    (row_ne_top m c hq hk b h p) hlate p.val hp hself
  rw [show (∑ j ∈ Finset.range n, Ideal.exp2 (row m c b h p j - r) * vals m c b h 64 j) = ∑ j ∈ Finset.range n, Ideal.exp2 (row m c b h p j - r) from
    Finset.sum_congr rfl fun j hj => by rw [vals_one m c b h (by have := Finset.mem_range.mp hj; omega), mul_one], key, attend_apply]
  have hw : ∀ j : Fin 8192, weights (scores (argQ m c) (argK m c)) (rowMax (scores (argQ m c) (argK m c))) (ix4 b h p j)
      = Ideal.exp (rowRef m c b h p j - (μ : EReal)) := by
    intro j
    rw [weights_apply, hμ]
    unfold rowRef
    rw [dif_pos j.isLt]
  refine Finset.sum_congr rfl fun j _ => ?_
  rw [hw, Finset.sum_congr rfl fun i _ => hw i, vals_arg m c b h d j.isLt]

end Cert.Attn
-- ==== Proof.Final.lean ====
/- The kernel's result array: every output block at every grid point holds the reference's values. -/
module

public import proofs.«01_k».proof.Proof.Average

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- One key of a block against one query of a block. -/
def dotAt (a : Vec Ideal S1x1x8192x128 .bf16) (b : Vec Ideal S1x1x128x512 .bf16) (j : Fin 8192) (x : Fin 512) : EReal :=
  ∑ c' : Fin 128, (a (ix4 0 0 j c') : EReal) * b (ix4 0 0 c' x)

/-- A table entry of the three kinds, read off the prepared array. -/
theorem tab_zero (j x : Fin 512) : ((V m c main_v25 : Vec Ideal S1x3x512x512 .f32) (ix4 0 0 j x) : EReal) = (0 : EReal) :=
  (host_t m c 0 j x).trans (if_pos rfl)

theorem tab_causal (j x : Fin 512) : ((V m c main_v25 : Vec Ideal S1x3x512x512 .f32) (ix4 0 1 j x) : EReal) = (if j.val ≤ x.val then 0 else ⊥ : EReal) :=
  (host_t m c 1 j x).trans ((if_neg (by decide)).trans (if_pos rfl))

theorem tab_full (j x : Fin 512) : ((V m c main_v25 : Vec Ideal S1x3x512x512 .f32) (ix4 0 2 j x) : EReal) = (⊥ : EReal) :=
  (host_t m c 2 j x).trans ((if_neg (by decide)).trans (if_neg (by decide)))

theorem left_score (t : Fin cfg0.N) (x : Fin 512) (j : Fin 8192) (hp : 512 * (grid0.coords t 2).val + x.val < 8192) :
    dotAt (iblk m c 2 t) (iblk m c 0 t) j x
      = score m c (grid0.coords t 0) (grid0.coords t 1) ⟨512 * (grid0.coords t 2).val + x.val, hp⟩ j := by
  unfold score dotAt
  refine Finset.sum_congr rfl fun c' _ => ?_
  exact congrArg₂ (· * · : EReal → EReal → EReal) (blk_k m c t j c') (blk_q0 m c t c' x hp)

theorem left_table (t : Fin cfg0.N) (x : Fin 512) (j : Fin 1024) :
    table (iblk m c 4 t) (iblk m c 5 t) j x = if 512 * ((grid0.coords t 2).val - 1) + j.val ≤ 512 * (grid0.coords t 2).val + x.val then (0 : EReal) else ⊥ := by
  have hi : (grid0.coords t 2).val < 8 := (grid0.coords t 2).isLt
  unfold table
  by_cases h0 : (grid0.coords t 2).val = 0
  · by_cases hj : j.val < 512
    · rw [dif_pos hj]
      refine (blk_t0z m c t _ x h0).trans ((tab_causal m c _ x).trans ?_)
      exact if_congr (by simp only []; omega) rfl rfl
    · rw [dif_neg hj]
      refine (blk_t1z m c t _ x h0).trans ((tab_full m c _ x).trans ?_)
      rw [if_neg (by omega)]
  · by_cases hj : j.val < 512
    · rw [dif_pos hj]
      refine (blk_t0 m c t _ x h0).trans ((tab_zero m c _ x).trans ?_)
      rw [if_pos (by omega)]
    · rw [dif_neg hj]
      refine (blk_t1 m c t _ x h0).trans ((tab_causal m c _ x).trans ?_)
      exact if_congr (by simp only []; omega) rfl rfl

theorem left (t : Fin cfg0.N) (hq : Finite (argQ m c)) (hk : Finite (argK m c)) (d : Fin 64) (x : Fin 512) (p : Fin 8192) (hp : p.val = 512 * (grid0.coords t 2).val + x.val) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) (ix4 0 0 d ⟨x.val, by omega⟩)
      = attend (weights (scores (argQ m c) (argK m c)) (rowMax (scores (argQ m c) (argK m c)))) (argV m c) (ix4 (grid0.coords t 0) (grid0.coords t 1) p d) := by
  have hi : (grid0.coords t 2).val < 8 := (grid0.coords t 2).isLt
  have hx : ∀ x : Fin 512, 512 * (grid0.coords t 2).val + x.val < 8192 := fun x => by omega
  obtain rfl : p = ⟨512 * (grid0.coords t 2).val + x.val, hx x⟩ := Fin.ext hp
  obtain ⟨r, hr⟩ := out_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t)
    (S := fun x κ => row m c (grid0.coords t 0) (grid0.coords t 1) ⟨512 * (grid0.coords t 2).val + x.val, hx x⟩ κ) (V := vals m c (grid0.coords t 0) (grid0.coords t 1))
    (fun x κ => row_ne_top m c hq hk _ _ _ κ)
    (fun x j hj => by
      refine (left_score m c t x j (hx x)).trans ?_
      unfold row
      rw [dif_pos j.isLt, if_pos (by simp only []; omega)])
    (fun x j hj => by
      refine (congrArg₂ (· + · : EReal → EReal → EReal) (left_score m c t x _ (hx x)) (left_table m c t x j)).trans ?_
      unfold row
      rw [dif_pos hj]
      by_cases hle : 512 * ((grid0.coords t 2).val - 1) + j.val ≤ 512 * (grid0.coords t 2).val + x.val
      · rw [if_pos hle, if_pos hle, add_zero]
      · rw [if_neg hle, if_neg hle, EReal.add_bot])
    (fun d j => by
      unfold vals
      rw [dif_pos j.isLt]
      exact blk_v m c t d j) x
  rw [hr d]
  exact quotient m c hq hk _ _ _ d _ (by omega) (by simp only []; omega) r

theorem right_score (t : Fin cfg0.N) (x : Fin 512) (j : Fin 8192) (hp : 512 * (15 - (grid0.coords t 2).val) + x.val < 8192) :
    dotAt (iblk m c 2 t) (iblk m c 1 t) j x
      = score m c (grid0.coords t 0) (grid0.coords t 1) ⟨512 * (15 - (grid0.coords t 2).val) + x.val, hp⟩ j := by
  unfold score dotAt
  refine Finset.sum_congr rfl fun c' _ => ?_
  exact congrArg₂ (· * · : EReal → EReal → EReal) (blk_k m c t j c') (blk_q1 m c t c' x hp)

theorem right_table (t : Fin cfg0.N) (x : Fin 512) (j : Fin 1024) :
    table (iblk m c 6 t) (iblk m c 7 t) j x = if 512 * (14 - (grid0.coords t 2).val) + j.val ≤ 512 * (15 - (grid0.coords t 2).val) + x.val then (0 : EReal) else ⊥ := by
  have hi : (grid0.coords t 2).val < 8 := (grid0.coords t 2).isLt
  unfold table
  by_cases hj : j.val < 512
  · rw [dif_pos hj]
    refine (blk_t2 m c t _ x).trans ((tab_zero m c _ x).trans ?_)
    rw [if_pos (by omega)]
  · rw [dif_neg hj]
    refine (blk_t3 m c t _ x).trans ((tab_causal m c _ x).trans ?_)
    exact if_congr (by simp only []; omega) rfl rfl

theorem right (t : Fin cfg0.N) (hq : Finite (argQ m c)) (hk : Finite (argK m c)) (d : Fin 64) (x : Fin 512) (p : Fin 8192) (hp : p.val = 512 * (15 - (grid0.coords t 2).val) + x.val) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) (ix4 0 0 d ⟨512 + x.val, by omega⟩)
      = attend (weights (scores (argQ m c) (argK m c)) (rowMax (scores (argQ m c) (argK m c)))) (argV m c) (ix4 (grid0.coords t 0) (grid0.coords t 1) p d) := by
  have hi : (grid0.coords t 2).val < 8 := (grid0.coords t 2).isLt
  have hx : ∀ x : Fin 512, 512 * (15 - (grid0.coords t 2).val) + x.val < 8192 := fun x => by omega
  obtain rfl : p = ⟨512 * (15 - (grid0.coords t 2).val) + x.val, hx x⟩ := Fin.ext hp
  obtain ⟨r, hr⟩ := out_right c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t)
    (S := fun x κ => row m c (grid0.coords t 0) (grid0.coords t 1) ⟨512 * (15 - (grid0.coords t 2).val) + x.val, hx x⟩ κ) (V := vals m c (grid0.coords t 0) (grid0.coords t 1))
    (fun x κ => row_ne_top m c hq hk _ _ _ κ)
    (fun x j hj => by
      refine (right_score m c t x j (hx x)).trans ?_
      unfold row
      rw [dif_pos j.isLt, if_pos (by simp only []; omega)])
    (fun x j hj => by
      refine (congrArg₂ (· + · : EReal → EReal → EReal) (right_score m c t x _ (hx x)) (right_table m c t x j)).trans ?_
      unfold row
      rw [dif_pos hj]
      by_cases hle : 512 * (14 - (grid0.coords t 2).val) + j.val ≤ 512 * (15 - (grid0.coords t 2).val) + x.val
      · rw [if_pos hle, if_pos hle, add_zero]
      · rw [if_neg hle, if_neg hle, EReal.add_bot])
    (fun d j => by
      unfold vals
      rw [dif_pos j.isLt]
      exact blk_v m c t d j) x
  rw [hr d]
  exact quotient m c hq hk _ _ _ d _ (by omega) (by simp only []; omega) r

theorem emb_out (t : Fin cfg0.N) (d : Fin 64) (y : Fin 1024) (hy : 1024 * (grid0.coords t 2).val + y.val < 8192) :
    (win0_8.blk t).view.emb (ix4 0 0 d y) = ix4 (grid0.coords t 0) (grid0.coords t 1) d ⟨1024 * (grid0.coords t 2).val + y.val, hy⟩ := by
  obtain ⟨e0, e1, e2, e3⟩ := idx8 t
  funext a
  apply Fin.ext
  fin_cases a
  · show win0_8.index t 0 * 1 + 1 * 0 = (grid0.coords t 0).val
    omega
  · show win0_8.index t 1 * 1 + 1 * 0 = (grid0.coords t 1).val
    omega
  · show win0_8.index t 2 * 64 + 1 * d.val = d.val
    omega
  · show win0_8.index t 3 * 1024 + 1 * y.val = 1024 * (grid0.coords t 2).val + y.val
    omega

/-- The result array after the run is the reference's function of the arguments. -/
theorem final (hq : Finite (argQ m c)) (hk : Finite (argK m c)) :
    (dats m 0 c).arrAt 8 cfg0.N = ref (argQ m c) (argK m c) (argV m c) := by
  refine (dats m 0 c).arrAt_eq_of_covers 8 _ (by decide +kernel) fun t _ y => ?_
  blk_simp
  rw [after0_8]
  unfold outsAt0
  obtain ⟨d, y', rfl⟩ : ∃ (d : Fin 64) (y' : Fin 1024), y = ix4 0 0 d y' := ⟨y 2, y 3, by
    funext a; fin_cases a
    · exact Subsingleton.elim (α := Fin 1) _ _
    · exact Subsingleton.elim (α := Fin 1) _ _
    · rfl
    · rfl⟩
  have hi : (grid0.coords t 2).val < 8 := (grid0.coords t 2).isLt
  rw [emb_out t d y' (by omega)]
  unfold ref
  by_cases hy : y'.val < 512
  · refine (left m c t hq hk d ⟨y'.val, hy⟩ ⟨512 * (grid0.coords t 2).val + y'.val, by omega⟩ rfl).trans ?_
    exact (tiled_left _ _ _ d _ _ (by simp only []; omega) (by simp only []; omega)).symm
  · have e : y' = ⟨512 + (y'.val - 512), by omega⟩ := Fin.ext (by simp only []; omega)
    rw [e]
    refine (right m c t hq hk d ⟨y'.val - 512, by omega⟩ ⟨512 * (15 - (grid0.coords t 2).val) + (y'.val - 512), by omega⟩ rfl).trans ?_
    exact (tiled_right _ _ _ d _ _ (by simp only []; omega) (by simp only []; omega)).symm

end Cert.Attn
-- ==== Proof.FfnStep.lean ====
/- The feed-forward body's pieces: how its row buffer is filled and read, and what one block of 256 hidden channels adds
   to the accumulator. -/
module

public import proofs.«01_k».proof.Proof.Gen.Kernel2Ideal.Frame
public import Idealize.ShloMosaic.PureOps.Ideal
public import Idealize.ShloMosaic.Lib.Pointwise
public import Idealize.ShloMosaic.Lib.Tactic
public import Idealize.ShloMosaic.Lib.WritesUnit
public import Idealize.ShloMosaic.Lib.WholeRead

@[expose] public section

set_option maxRecDepth 16384

noncomputable section

namespace Cert.Ffn

open Cert.Kernel2Ideal Cert.Kernel2Ideal.Gen Idealize.ShloMosaic Idealize.ShloMosaic.TcCoe Idealize.SL.Sem

/-- The stores into the row buffer, last first. -/
abbrev Rows := List (View.Piece (Elt Ideal) S520x5632 .f32)

/-- Rows 8 to 519 of the row buffer after the stores `L`, whatever it held before: at the columns below `p` and those
from 2816 to `q` they are `hv`. -/
def High (v : View sig .tc .vmem S520x5632 .f32) (hv : ℕ → ℕ → EReal) (p q : ℕ) (L : Rows) : Prop :=
  ∀ (f : v.ty.Contents (Elt Ideal)) (r : Fin 520) (c : Fin 5632), 8 ≤ r.val → (c.val < p ∨ 2816 ≤ c.val ∧ c.val < q) →
    (v.read (Elt Ideal) (v.writes (Elt Ideal) f L) (ix2 r c) : EReal) = hv r.val c.val

/-- Rows 0 to 7 of the row buffer after the stores `L` into `f`: at the columns below `p` and those from 2816 to `q`
they are `hv` 512 rows further down, at the others, if `ok`, `hv`. -/
def Low (v : View sig .tc .vmem S520x5632 .f32) (hv : ℕ → ℕ → EReal) (ok : Prop) (f : v.ty.Contents (Elt Ideal)) (p q : ℕ) (L : Rows) : Prop :=
  ∀ (r : Fin 520) (c : Fin 5632), r.val < 8 →
    ((c.val < p ∨ 2816 ≤ c.val ∧ c.val < q) → (v.read (Elt Ideal) (v.writes (Elt Ideal) f L) (ix2 r c) : EReal) = hv (512 + r.val) c.val)
    ∧ (¬(c.val < p ∨ 2816 ≤ c.val ∧ c.val < q) → ok → (v.read (Elt Ideal) (v.writes (Elt Ideal) f L) (ix2 r c) : EReal) = hv r.val c.val)

variable {v : View sig .tc .vmem S520x5632 .f32} {hv : ℕ → ℕ → EReal} {f : v.ty.Contents (Elt Ideal)} {ok : Prop} {p q p' q' : ℕ} {L : Rows}

theorem high_nil : High v hv 0 2816 [] := fun _ _ _ _ h => by omega

/-- A store of a block of 256 columns into rows 8 to 519. -/
theorem high_up {o : ℕ} (inb : ∀ a, (![8, o] : Fin 2 → ℕ) a + S512x256.size a ≤ S520x5632.size a)
    {w : FVec Ideal S512x256 .f32} (h : High v hv p q L)
    (hw : ∀ (y : Fin 512) (x : Fin 256), (w (ix2 y x) : EReal) = hv (8 + y.val) (o + x.val))
    (hpq : ∀ c, (c < p' ∨ 2816 ≤ c ∧ c < q') → (c < p ∨ 2816 ≤ c ∧ c < q) ∨ (o ≤ c ∧ c < o + 256)) :
    High v hv p' q' ((⟨Rect.unit ![8, o] S512x256.size inb, w⟩ : View.Piece (Elt Ideal) S520x5632 .f32) :: L) := by
  intro f r c hr hc
  by_cases hm : o ≤ c.val ∧ c.val < o + 256
  · rw [View.read_writes_cons_unit_of_mem v f inb w L (ix2 r c) (ix2 ⟨r.val - 8, by omega⟩ ⟨c.val - o, by omega⟩) rfl
      (by intro a; fin_cases a <;> simp <;> omega)]
    refine (hw _ _).trans ?_
    congr 1 <;> simp <;> omega
  · rw [View.read_writes_cons_unit_of_not_mem v f inb w L (ix2 r c) rfl (1 : Fin 2) (by simp; omega)]
    exact h f r c hr ((hpq _ hc).resolve_right hm)

/-- A store into rows 0 to 7 leaves rows 8 to 519. -/
theorem high_low {o : ℕ} (inb : ∀ a, (![0, o] : Fin 2 → ℕ) a + S8x256.size a ≤ S520x5632.size a)
    {w : FVec Ideal S8x256 .f32} (h : High v hv p q L) :
    High v hv p q ((⟨Rect.unit ![0, o] S8x256.size inb, w⟩ : View.Piece (Elt Ideal) S520x5632 .f32) :: L) := by
  intro f r c hr hc
  rw [View.read_writes_cons_unit_of_not_mem v f inb w L (ix2 r c) rfl (0 : Fin 2) (by simp; omega)]
  exact h f r c hr hc

theorem high_zero (inb : ∀ a, (![0, 0] : Fin 2 → ℕ) a + S8x5632.size a ≤ S520x5632.size a)
    {w : FVec Ideal S8x5632 .f32} (h : High v hv p q L) :
    High v hv p q ((⟨Rect.unit ![0, 0] S8x5632.size inb, w⟩ : View.Piece (Elt Ideal) S520x5632 .f32) :: L) := by
  intro f r c hr hc
  rw [View.read_writes_cons_unit_of_not_mem v f inb w L (ix2 r c) rfl (0 : Fin 2) (by simp; omega)]
  exact h f r c hr hc

/-- The rows of zeros that a sequence begins with. -/
theorem low_zero (inb : ∀ a, (![0, 0] : Fin 2 → ℕ) a + S8x5632.size a ≤ S520x5632.size a)
    (h : ∀ r c, r < 8 → hv r c = 0) :
    Low v hv ok f 0 2816 [(⟨Rect.unit ![0, 0] S8x5632.size inb, k0_pay3 (F := Ideal)⟩ : View.Piece (Elt Ideal) S520x5632 .f32)] := by
  refine fun r c hr => ⟨fun hc => by omega, fun _ _ => ?_⟩
  rw [View.read_writes_cons_unit_of_mem v f inb _ [] (ix2 r c) (ix2 ⟨r.val, hr⟩ c) rfl (by intro a; fin_cases a <;> simp)]
  rw [h _ _ hr]
  pointwise [k0_pay3]

theorem low_nil (h : ok → ∀ (r : Fin 520) (c : Fin 5632), r.val < 8 → (v.read (Elt Ideal) f (ix2 r c) : EReal) = hv r.val c.val) :
    Low v hv ok f 0 2816 [] := fun r c hr => ⟨fun hc => by omega, fun _ k => h k r c hr⟩

/-- A store into rows 8 to 519 leaves rows 0 to 7. -/
theorem low_up {o : ℕ} (inb : ∀ a, (![8, o] : Fin 2 → ℕ) a + S512x256.size a ≤ S520x5632.size a)
    {w : FVec Ideal S512x256 .f32} (h : Low v hv ok f p q L) :
    Low v hv ok f p q ((⟨Rect.unit ![8, o] S512x256.size inb, w⟩ : View.Piece (Elt Ideal) S520x5632 .f32) :: L) := by
  intro r c hr
  rw [View.read_writes_cons_unit_of_not_mem v f inb w L (ix2 r c) rfl (0 : Fin 2) (by simp; omega)]
  exact h r c hr

/-- The last eight rows of 256 columns copied to the top. -/
theorem low_low {o : ℕ} (inb : ∀ a, (![0, o] : Fin 2 → ℕ) a + S8x256.size a ≤ S520x5632.size a)
    {w : FVec Ideal S8x256 .f32} (h : Low v hv ok f p q L)
    (hw : ∀ (y : Fin 8) (x : Fin 256), (w (ix2 y x) : EReal) = hv (512 + y.val) (o + x.val))
    (hpq : ∀ c, (c < p' ∨ 2816 ≤ c ∧ c < q') ↔ (c < p ∨ 2816 ≤ c ∧ c < q) ∨ (o ≤ c ∧ c < o + 256)) :
    Low v hv ok f p' q' ((⟨Rect.unit ![0, o] S8x256.size inb, w⟩ : View.Piece (Elt Ideal) S520x5632 .f32) :: L) := by
  intro r c hr
  by_cases hm : o ≤ c.val ∧ c.val < o + 256
  · rw [View.read_writes_cons_unit_of_mem v f inb w L (ix2 r c) (ix2 ⟨r.val, hr⟩ ⟨c.val - o, by omega⟩) rfl
      (by intro a; fin_cases a <;> simp <;> omega)]
    refine ⟨fun _ => (hw _ _).trans ?_, fun hn => absurd ((hpq _).mpr (Or.inr hm)) hn⟩
    congr 1; simp; omega
  · rw [View.read_writes_cons_unit_of_not_mem v f inb w L (ix2 r c) rfl (1 : Fin 2) (by simp; omega)]
    exact ⟨fun hc => (h r c hr).1 (((hpq _).mp hc).resolve_right hm), fun hn => (h r c hr).2 fun hc => hn ((hpq _).mpr (Or.inl hc))⟩

/-- A load of rows 8 to 519 of 256 columns. -/
theorem load8 {o : ℕ} (inb : ∀ a, (![8, o] : Fin 2 → ℕ) a + S512x256.size a ≤ S520x5632.size a) (h : High v hv p q L)
    (f : v.ty.Contents (Elt Ideal)) (hc : ∀ x, x < 256 → (o + x < p ∨ 2816 ≤ o + x ∧ o + x < q)) (y : Fin 512) (x : Fin 256) :
    (v.readAt (Elt Ideal) (Rect.unit (s := S520x5632) ![8, o] S512x256.size inb).toLoadRect (v.writes (Elt Ideal) f L) (ix2 y x) : EReal)
      = hv (8 + y.val) (o + x.val) := by
  have hx : o + x.val < 5632 := by have := inb 1; simp at this; omega
  have e := h f ⟨8 + y.val, by omega⟩ ⟨o + x.val, hx⟩ (by simp) (hc _ x.isLt)
  refine Eq.trans ?_ e
  rw [View.readAt_apply]
  congr 1
  funext a
  apply Fin.ext
  fin_cases a <;> simp

/-- A load of the last eight rows of 256 columns. -/
theorem load512 {o : ℕ} (inb : ∀ a, (![512, o] : Fin 2 → ℕ) a + S8x256.size a ≤ S520x5632.size a) (h : High v hv p q L)
    (f : v.ty.Contents (Elt Ideal)) (hc : ∀ x, x < 256 → (o + x < p ∨ 2816 ≤ o + x ∧ o + x < q)) (y : Fin 8) (x : Fin 256) :
    (v.readAt (Elt Ideal) (Rect.unit (s := S520x5632) ![512, o] S8x256.size inb).toLoadRect (v.writes (Elt Ideal) f L) (ix2 y x) : EReal)
      = hv (512 + y.val) (o + x.val) := by
  have hx : o + x.val < 5632 := by have := inb 1; simp at this; omega
  have e := h f ⟨512 + y.val, by omega⟩ ⟨o + x.val, hx⟩ (by simp; omega) (hc _ x.isLt)
  refine Eq.trans ?_ e
  rw [View.readAt_apply]
  congr 1
  funext a
  apply Fin.ext
  fin_cases a <;> simp

/-- A load of 512 rows from row 6 or 7 on, of 256 columns whose top rows aren't replaced yet. -/
theorem loadTop {o s : ℕ} (inb : ∀ a, (![s, o] : Fin 2 → ℕ) a + S512x256.size a ≤ S520x5632.size a) (h : High v hv p q L)
    (hl : Low v hv ok f p' q' L) (hok : ok) (hc : ∀ x, x < 256 → (o + x < p ∨ 2816 ≤ o + x ∧ o + x < q))
    (hc' : ∀ x, x < 256 → ¬(o + x < p' ∨ 2816 ≤ o + x ∧ o + x < q')) (y : Fin 512) (x : Fin 256) :
    (v.readAt (Elt Ideal) (Rect.unit (s := S520x5632) ![s, o] S512x256.size inb).toLoadRect (v.writes (Elt Ideal) f L) (ix2 y x) : EReal)
      = hv (s + y.val) (o + x.val) := by
  have hx : o + x.val < 5632 := by have := inb 1; simp at this; omega
  have hs : s + y.val < 520 := by have := inb 0; simp at this; omega
  have e : (v.read (Elt Ideal) (v.writes (Elt Ideal) f L) (ix2 (⟨s + y.val, hs⟩ : Fin 520) (⟨o + x.val, hx⟩ : Fin 5632)) : EReal) = hv (s + y.val) (o + x.val) := by
    by_cases h8 : 8 ≤ s + y.val
    · exact h f ⟨s + y.val, hs⟩ ⟨o + x.val, hx⟩ h8 (hc _ x.isLt)
    · exact (hl ⟨s + y.val, hs⟩ ⟨o + x.val, hx⟩ (by simpa using h8)).2 (hc' _ x.isLt) hok
  refine Eq.trans ?_ e
  rw [View.readAt_apply]
  congr 1
  funext a
  apply Fin.ext
  fin_cases a <;> simp

/-- One row times 256 columns of the up projection. -/
def upv (xn : FVec Ideal S512x1024 .bf16) (w : Vec Ideal S1024x256 .bf16) : FVec Ideal S512x256 .f32 :=
  shapeCast S512x256 (matmul (φ₂ := .bf16) dot_S512x1024_S1024x256_S512x256_1_0_0_1_n_n none xn (shapeCast S1024x256 w shapeCasts_S1024x256_S1024x256)
    (constant S512x256 .f32 0x00000000#32)) shapeCasts_S512x256_S512x256

theorem upv_apply (xn : FVec Ideal S512x1024 .bf16) (w : Vec Ideal S1024x256 .bf16) (y : Fin 512) (x : Fin 256) :
    (upv xn w (ix2 y x) : EReal) = ∑ k : Fin 1024, (xn (ix2 y k) : EReal) * w (ix2 k x) := by
  pointwise [upv]

/-- The convolution of 256 columns. -/
def cvv (w : Vec Ideal S3x256 .f32) (h h1 h2 : Vec Ideal S512x256 .f32) (b : Vec Ideal S1x256 .f32) : FVec Ideal S512x256 .f32 :=
  k0_pay20 w h h1 h2 b

theorem cvv_apply (w : Vec Ideal S3x256 .f32) (h h1 h2 : Vec Ideal S512x256 .f32) (b : Vec Ideal S1x256 .f32) (y : Fin 512) (x : Fin 256) :
    (cvv w h h1 h2 b (ix2 y x) : EReal)
      = (h (ix2 y x) : EReal) * w (ix2 2 x) + h1 (ix2 y x) * w (ix2 1 x) + h2 (ix2 y x) * w (ix2 0 x) + b (ix2 0 x) := by
  pointwise [cvv, k0_pay20]

/-- The gated activation of 256 channels times the rows of the down projection. -/
def ctr (g u : FVec Ideal S512x256 .f32) (wd : Vec Ideal S256x1024 .bf16) : FVec Ideal S512x1024 .f32 :=
  matmul (φ₁ := .bf16) (φ₂ := .bf16) dot_S512x256_S256x1024_S512x1024_1_0_0_1_n_n none
    (truncf .bf16 (mulf (mulf g (divf (broadcast S512x256 (Scalar.ofBits .f32 0x3F800000#32))
      (addf (broadcast S512x256 (Scalar.ofBits .f32 0x3F800000#32)) (exp (subf (broadcast S512x256 (Scalar.ofBits .f32 0x00000000#32)) g))))) u) bitsLt_bf16_f32)
    (shapeCast S256x1024 wd shapeCasts_S256x1024_S256x1024) (constant S512x1024 .f32 0x00000000#32)

/-- The gated activation of one channel. -/
def glu (g u : EReal) : EReal := g * Ideal.div 1 (1 + Ideal.exp (0 - g)) * u

theorem ctr_apply (g u : FVec Ideal S512x256 .f32) (wd : Vec Ideal S256x1024 .bf16) (y : Fin 512) (d : Fin 1024) :
    (ctr g u wd (ix2 y d) : EReal) = ∑ k : Fin 256, glu (g (ix2 y k)) (u (ix2 y k)) * wd (ix2 k d) := by
  pointwise [ctr]
  rfl

/-- The accumulator's stores, last first. -/
abbrev Accs := List (View.Piece (Elt Ideal) S512x1024 .f32)

/-- After the stores `L` the accumulator is `A`. -/
def AccIs (v : View sig .tc .vmem S512x1024 .f32) (A : Fin 512 → Fin 1024 → EReal) (L : Accs) : Prop :=
  ∀ (f : v.ty.Contents (Elt Ideal)) (y : Fin 512) (d : Fin 1024), (v.read (Elt Ideal) (v.writes (Elt Ideal) f L) (ix2 y d) : EReal) = A y d

theorem acc_store {v : View sig .tc .vmem S512x1024 .f32} {A : Fin 512 → Fin 1024 → EReal} {L : Accs}
    (inb : ∀ a, (![0, 0] : Fin 2 → ℕ) a + S512x1024.size a ≤ S512x1024.size a) {w : FVec Ideal S512x1024 .f32}
    (hw : ∀ y d, (w (ix2 y d) : EReal) = A y d) :
    AccIs v A ((⟨Rect.unit ![0, 0] S512x1024.size inb, w⟩ : View.Piece (Elt Ideal) S512x1024 .f32) :: L) := by
  intro f y d
  rw [View.read_writes_cons_unit_of_mem v f inb w L (ix2 y d) (ix2 y d) rfl (by intro a; fin_cases a <;> simp)]
  exact hw y d

theorem acc_load {v : View sig .tc .vmem S512x1024 .f32} {A : Fin 512 → Fin 1024 → EReal} {L : Accs} (h : AccIs v A L)
    (inb : ∀ a, (![0, 0] : Fin 2 → ℕ) a + S512x1024.size a ≤ S512x1024.size a) (f : v.ty.Contents (Elt Ideal)) (y : Fin 512) (d : Fin 1024) :
    (v.readAt (Elt Ideal) (Rect.unit (s := S512x1024) ![0, 0] S512x1024.size inb).toLoadRect (v.writes (Elt Ideal) f L) (ix2 y d) : EReal) = A y d := by
  refine Eq.trans ?_ (h f y d)
  rw [View.readAt_apply]
  congr 1
  funext a
  apply Fin.ext
  fin_cases a <;> simp

/-- A load of a rectangle of a whole array. -/
theorem load_rect {φ : EltTy} {n m n' m' : ℕ} (M : Memref sig .tc .vmem ⟨2, ![n, m]⟩ φ) (hM : M.IsWhole) (X : Vec Ideal ⟨2, ![n, m]⟩ φ)
    {a b : ℕ} (inb : ∀ i, (![a, b] : Fin 2 → ℕ) i + (![n', m'] : Fin 2 → ℕ) i ≤ (![n, m] : Fin 2 → ℕ) i) (y : Fin n') (x : Fin m') (hy : a + y.val < n) (hx : b + x.val < m) :
    M.view.readAt (Elt Ideal) (Rect.unit (s := ⟨2, ![n, m]⟩) ![a, b] ![n', m'] inb).toLoadRect (hM.unread X) (ix2 y x)
      = X (ix2 ⟨a + y.val, hy⟩ ⟨b + x.val, hx⟩) := by
  rw [hM.readAt_unread]
  congr 1
  funext i
  apply Fin.ext
  fin_cases i <;> simp

theorem up_val {x0 : Vec Ideal S512x1024 .f32} {x1 : Vec Ideal S1x1024 .f32} {x2 : Vec Ideal S1024x5632 .bf16} {hv : ℕ → ℕ → EReal}
    (hup : ∀ (y : Fin 512) (c : Fin 5632), (∑ k : Fin 1024, (k0_pay5 x0 x1 (ix2 y k) : EReal) * x2 (ix2 k c)) = hv (8 + y.val) c.val)
    (arg2 : Memref sig .tc .vmem S512x1024 .f32) (harg2 : arg2.IsWhole) (arg3 : Memref sig .tc .vmem S1x1024 .f32) (harg3 : arg3.IsWhole)
    (arg4 : Memref sig .tc .vmem S1024x5632 .bf16) (harg4 : arg4.IsWhole) {o : ℕ}
    (i0 : ∀ a, (![0, 0] : Fin 2 → ℕ) a + S512x1024.size a ≤ S512x1024.size a) (i1 : ∀ a, (![0, 0] : Fin 2 → ℕ) a + S1x1024.size a ≤ S1x1024.size a)
    (i2 : ∀ a, (![0, o] : Fin 2 → ℕ) a + S1024x256.size a ≤ S1024x5632.size a) (y : Fin 512) (x : Fin 256) :
    (upv (k0_pay5 (arg2.view.readAt (Elt Ideal) (Rect.unit (s := S512x1024) ![0, 0] S512x1024.size i0).toLoadRect (harg2.unread x0))
        (arg3.view.readAt (Elt Ideal) (Rect.unit (s := S1x1024) ![0, 0] S1x1024.size i1).toLoadRect (harg3.unread x1)))
      (arg4.view.readAt (Elt Ideal) (Rect.unit (s := S1024x5632) ![0, o] S1024x256.size i2).toLoadRect (harg4.unread x2)) (ix2 y x) : EReal)
      = hv (8 + y.val) (o + x.val) := by
  have hx : o + x.val < 5632 := by have := i2 1; simp at this; omega
  have e0 : arg2.view.readAt (Elt Ideal) (Rect.unit (s := S512x1024) ![0, 0] S512x1024.size i0).toLoadRect (harg2.unread x0) = x0 := by
    funext z
    rw [harg2.readAt_unread]
    congr 1
    funext a
    apply Fin.ext
    fin_cases a <;> simp
  have e1 : arg3.view.readAt (Elt Ideal) (Rect.unit (s := S1x1024) ![0, 0] S1x1024.size i1).toLoadRect (harg3.unread x1) = x1 := by
    funext z
    rw [harg3.readAt_unread]
    congr 1
    funext a
    apply Fin.ext
    fin_cases a <;> simp
  rw [upv_apply, e0, e1]
  refine Eq.trans (Finset.sum_congr rfl fun k _ => ?_) (hup y ⟨o + x.val, hx⟩)
  refine congrArg₂ _ rfl ?_
  refine (load_rect arg4 harg4 x2 i2 k x (by omega) hx).trans ?_
  congr 2
  exact Fin.ext (by simp)

theorem copy_val {v : Vec Ideal S8x256 .f32} {g : Fin 8 → Fin 256 → EReal} (h : ∀ (y : Fin 8) (x : Fin 256), (v (ix2 y x) : EReal) = g y x)
    (y : Fin 8) (x : Fin 256) : (shapeCast S8x256 v shapeCasts_S8x256_S8x256 (ix2 y x) : EReal) = g y x := by
  rw [← h]
  pointwise

/-- A value of the convolution, from the rows of the buffer, the weights and the bias. -/
def conv (hv W : ℕ → ℕ → EReal) (B : ℕ → EReal) (y c : ℕ) : EReal :=
  hv (8 + y) c * W 2 c + hv (7 + y) c * W 1 c + hv (6 + y) c * W 0 c + B c

/-- The feed-forward sum of the first `n` channels. -/
def part (hv W : ℕ → ℕ → EReal) (B : ℕ → EReal) (D : ℕ → Fin 1024 → EReal) (n : ℕ) (y : Fin 512) (d : Fin 1024) : EReal :=
  ∑ j ∈ Finset.range n, glu (conv hv W B y.val j) (conv hv W B y.val (2816 + j)) * D j d

theorem part_add (hv W : ℕ → ℕ → EReal) (B : ℕ → EReal) (D : ℕ → Fin 1024 → EReal) (n : ℕ) (y : Fin 512) (d : Fin 1024) :
    part hv W B D (n + 256) y d = part hv W B D n y d
      + ∑ k : Fin 256, glu (conv hv W B y.val (n + k.val)) (conv hv W B y.val (2816 + (n + k.val))) * D (n + k.val) d := by
  unfold part
  rw [Finset.sum_range_add, Finset.sum_range (fun x => glu (conv hv W B y.val (n + x)) (conv hv W B y.val (2816 + (n + x))) * D (n + x) d)]

section chunk

variable {hv W : ℕ → ℕ → EReal} {B : ℕ → EReal} {D : ℕ → Fin 1024 → EReal} {n n' o : ℕ}
  {w w' : Vec Ideal S3x256 .f32} {h h1 h2 u u1 u2 : Vec Ideal S512x256 .f32} {b b' : Vec Ideal S1x256 .f32} {wd : Vec Ideal S256x1024 .bf16}
  {a : Vec Ideal S512x1024 .f32}

theorem chunk (ho : o = 2816 + n)
    (hw : ∀ (i : Fin 3) (x : Fin 256), (w (ix2 i x) : EReal) = W i.val (n + x.val)) (hh : ∀ (y : Fin 512) (x : Fin 256), (h (ix2 y x) : EReal) = hv (8 + y.val) (n + x.val))
    (hh1 : ∀ (y : Fin 512) (x : Fin 256), (h1 (ix2 y x) : EReal) = hv (7 + y.val) (n + x.val)) (hh2 : ∀ (y : Fin 512) (x : Fin 256), (h2 (ix2 y x) : EReal) = hv (6 + y.val) (n + x.val))
    (hb : ∀ (x : Fin 256), (b (ix2 0 x) : EReal) = B (n + x.val))
    (hw' : ∀ (i : Fin 3) (x : Fin 256), (w' (ix2 i x) : EReal) = W i.val (o + x.val)) (hu : ∀ (y : Fin 512) (x : Fin 256), (u (ix2 y x) : EReal) = hv (8 + y.val) (o + x.val))
    (hu1 : ∀ (y : Fin 512) (x : Fin 256), (u1 (ix2 y x) : EReal) = hv (7 + y.val) (o + x.val)) (hu2 : ∀ (y : Fin 512) (x : Fin 256), (u2 (ix2 y x) : EReal) = hv (6 + y.val) (o + x.val))
    (hb' : ∀ (x : Fin 256), (b' (ix2 0 x) : EReal) = B (o + x.val))
    (hd : ∀ (k : Fin 256) (d : Fin 1024), (wd (ix2 k d) : EReal) = D (n + k.val) d) (y : Fin 512) (d : Fin 1024) :
    (ctr (cvv w h h1 h2 b) (cvv w' u u1 u2 b') wd (ix2 y d) : EReal)
      = ∑ k : Fin 256, glu (conv hv W B y.val (n + k.val)) (conv hv W B y.val (2816 + (n + k.val))) * D (n + k.val) d := by
  subst ho
  rw [ctr_apply]
  refine Finset.sum_congr rfl fun k _ => ?_
  rw [cvv_apply, cvv_apply, hw, hw, hw, hh, hh1, hh2, hb, hw', hw', hw', hu, hu1, hu2, hb', hd, Nat.add_assoc]
  rfl

/-- The first block of channels. -/
theorem chunk_first (ho : o = 2816)
    (hw : ∀ (i : Fin 3) (x : Fin 256), (w (ix2 i x) : EReal) = W i.val (0 + x.val)) (hh : ∀ (y : Fin 512) (x : Fin 256), (h (ix2 y x) : EReal) = hv (8 + y.val) (0 + x.val))
    (hh1 : ∀ (y : Fin 512) (x : Fin 256), (h1 (ix2 y x) : EReal) = hv (7 + y.val) (0 + x.val)) (hh2 : ∀ (y : Fin 512) (x : Fin 256), (h2 (ix2 y x) : EReal) = hv (6 + y.val) (0 + x.val))
    (hb : ∀ (x : Fin 256), (b (ix2 0 x) : EReal) = B (0 + x.val))
    (hw' : ∀ (i : Fin 3) (x : Fin 256), (w' (ix2 i x) : EReal) = W i.val (o + x.val)) (hu : ∀ (y : Fin 512) (x : Fin 256), (u (ix2 y x) : EReal) = hv (8 + y.val) (o + x.val))
    (hu1 : ∀ (y : Fin 512) (x : Fin 256), (u1 (ix2 y x) : EReal) = hv (7 + y.val) (o + x.val)) (hu2 : ∀ (y : Fin 512) (x : Fin 256), (u2 (ix2 y x) : EReal) = hv (6 + y.val) (o + x.val))
    (hb' : ∀ (x : Fin 256), (b' (ix2 0 x) : EReal) = B (o + x.val))
    (hd : ∀ (k : Fin 256) (d : Fin 1024), (wd (ix2 k d) : EReal) = D (0 + k.val) d) (y : Fin 512) (d : Fin 1024) :
    (shapeCast S512x1024 (ctr (cvv w h h1 h2 b) (cvv w' u u1 u2 b') wd) shapeCasts_S512x1024_S512x1024 (ix2 y d) : EReal) = part hv W B D 256 y d := by
  have e := chunk (by omega) hw hh hh1 hh2 hb hw' hu hu1 hu2 hb' hd y d
  generalize ctr (cvv w h h1 h2 b) (cvv w' u u1 u2 b') wd = z at e ⊢
  pointwise
  rw [e, show (256 : ℕ) = 0 + 256 from rfl, part_add]
  exact (zero_add _).symm

/-- One more block of channels. -/
theorem chunk_next (hn : n' = n + 256) (ho : o = 2816 + n) (ha : ∀ (y : Fin 512) (d : Fin 1024), (a (ix2 y d) : EReal) = part hv W B D n y d)
    (hw : ∀ (i : Fin 3) (x : Fin 256), (w (ix2 i x) : EReal) = W i.val (n + x.val)) (hh : ∀ (y : Fin 512) (x : Fin 256), (h (ix2 y x) : EReal) = hv (8 + y.val) (n + x.val))
    (hh1 : ∀ (y : Fin 512) (x : Fin 256), (h1 (ix2 y x) : EReal) = hv (7 + y.val) (n + x.val)) (hh2 : ∀ (y : Fin 512) (x : Fin 256), (h2 (ix2 y x) : EReal) = hv (6 + y.val) (n + x.val))
    (hb : ∀ (x : Fin 256), (b (ix2 0 x) : EReal) = B (n + x.val))
    (hw' : ∀ (i : Fin 3) (x : Fin 256), (w' (ix2 i x) : EReal) = W i.val (o + x.val)) (hu : ∀ (y : Fin 512) (x : Fin 256), (u (ix2 y x) : EReal) = hv (8 + y.val) (o + x.val))
    (hu1 : ∀ (y : Fin 512) (x : Fin 256), (u1 (ix2 y x) : EReal) = hv (7 + y.val) (o + x.val)) (hu2 : ∀ (y : Fin 512) (x : Fin 256), (u2 (ix2 y x) : EReal) = hv (6 + y.val) (o + x.val))
    (hb' : ∀ (x : Fin 256), (b' (ix2 0 x) : EReal) = B (o + x.val))
    (hd : ∀ (k : Fin 256) (d : Fin 1024), (wd (ix2 k d) : EReal) = D (n + k.val) d) (y : Fin 512) (d : Fin 1024) :
    (shapeCast S512x1024 (addf a (ctr (cvv w h h1 h2 b) (cvv w' u u1 u2 b') wd)) shapeCasts_S512x1024_S512x1024 (ix2 y d) : EReal) = part hv W B D n' y d := by
  have e := chunk ho hw hh hh1 hh2 hb hw' hu hu1 hu2 hb' hd y d
  generalize ctr (cvv w h h1 h2 b) (cvv w' u u1 u2 b') wd = z at e ⊢
  pointwise
  rw [e, ha, hn, part_add]

end chunk

theorem ld_w {x3 : Vec Ideal S3x5632 .f32} {W : ℕ → ℕ → EReal} (hW : ∀ (i : Fin 3) (c : Fin 5632), (x3 (ix2 i c) : EReal) = W i.val c.val)
    (M : Memref sig .tc .vmem S3x5632 .f32) (hM : M.IsWhole) {o : ℕ} (inb : ∀ a, (![0, o] : Fin 2 → ℕ) a + S3x256.size a ≤ S3x5632.size a) (i : Fin 3) (x : Fin 256) :
    (M.view.readAt (Elt Ideal) (Rect.unit (s := S3x5632) ![0, o] S3x256.size inb).toLoadRect (hM.unread x3) (ix2 i x) : EReal) = W i.val (o + x.val) := by
  have hx : o + x.val < 5632 := by have := inb 1; simp at this; omega
  refine (load_rect M hM x3 inb i x (by omega) hx).trans ((hW _ _).trans ?_)
  simp

theorem ld_b {x4 : Vec Ideal S1x5632 .f32} {B : ℕ → EReal} (hB : ∀ (c : Fin 5632), (x4 (ix2 0 c) : EReal) = B c.val)
    (M : Memref sig .tc .vmem S1x5632 .f32) (hM : M.IsWhole) {o : ℕ} (inb : ∀ a, (![0, o] : Fin 2 → ℕ) a + S1x256.size a ≤ S1x5632.size a) (x : Fin 256) :
    (M.view.readAt (Elt Ideal) (Rect.unit (s := S1x5632) ![0, o] S1x256.size inb).toLoadRect (hM.unread x4) (ix2 0 x) : EReal) = B (o + x.val) := by
  have hx : o + x.val < 5632 := by have := inb 1; simp at this; omega
  exact (load_rect M hM x4 inb 0 x (by simp) hx).trans (hB ⟨o + x.val, hx⟩)

theorem ld_d {x5 : Vec Ideal S2816x1024 .bf16} {D : ℕ → Fin 1024 → EReal} (hD : ∀ (k : Fin 2816) (d : Fin 1024), (x5 (ix2 k d) : EReal) = D k.val d)
    (M : Memref sig .tc .vmem S2816x1024 .bf16) (hM : M.IsWhole) {o : ℕ} (inb : ∀ a, (![o, 0] : Fin 2 → ℕ) a + S256x1024.size a ≤ S2816x1024.size a) (k : Fin 256) (d : Fin 1024) :
    (M.view.readAt (Elt Ideal) (Rect.unit (s := S2816x1024) ![o, 0] S256x1024.size inb).toLoadRect (hM.unread x5) (ix2 k d) : EReal) = D (o + k.val) d := by
  have hx : o + k.val < 2816 := by have := inb 0; simp at this; omega
  refine (load_rect M hM x5 inb k d hx (by omega)).trans ((hD _ _).trans ?_)
  congr 1
  exact Fin.ext (by simp)

end Cert.Ffn

end
-- ==== Proof.FfnPoint.lean ====
/- What the feed-forward body is given at a grid point. -/
module

public import proofs.«01_k».proof.Proof.FfnStep

@[expose] public section

set_option maxRecDepth 16384

noncomputable section

namespace Cert.Ffn

open Cert.Kernel2Ideal Cert.Kernel2Ideal.Gen Idealize.ShloMosaic Idealize.ShloMosaic.TcCoe Idealize.SL.Sem

/-- The body's memrefs and the blocks it reads, with the values that the rows of the buffer (`hv`, from row 0 on), the
convolution's weights (`W`) and bias (`B`) and the down projection (`D`) stand for. -/
structure Point where
  c : Dev nD
  arg2 : Memref sig .tc .vmem S512x1024 .f32
  harg2 : arg2.IsWhole
  arg3 : Memref sig .tc .vmem S1x1024 .f32
  harg3 : arg3.IsWhole
  arg4 : Memref sig .tc .vmem S1024x5632 .bf16
  harg4 : arg4.IsWhole
  arg5 : Memref sig .tc .vmem S3x5632 .f32
  harg5 : arg5.IsWhole
  arg6 : Memref sig .tc .vmem S1x5632 .f32
  harg6 : arg6.IsWhole
  arg7 : Memref sig .tc .vmem S2816x1024 .bf16
  harg7 : arg7.IsWhole
  arg8 : Memref sig .tc .vmem S512x1024 .f32
  harg8 : arg8.IsWhole
  arg9 : Memref sig .tc .vmem S520x5632 .f32
  harg9 : arg9.IsWhole
  arg10 : Memref sig .tc .vmem S512x1024 .f32
  harg10 : arg10.IsWhole
  x0 : Vec Ideal S512x1024 .f32
  x1 : Vec Ideal S1x1024 .f32
  x2 : Vec Ideal S1024x5632 .bf16
  x3 : Vec Ideal S3x5632 .f32
  x4 : Vec Ideal S1x5632 .f32
  x5 : Vec Ideal S2816x1024 .bf16
  hv : ℕ → ℕ → EReal
  W : ℕ → ℕ → EReal
  B : ℕ → EReal
  D : ℕ → Fin 1024 → EReal
  hup : ∀ (y : Fin 512) (c : Fin 5632), (∑ k : Fin 1024, (k0_pay5 x0 x1 (ix2 y k) : EReal) * x2 (ix2 k c)) = hv (8 + y.val) c.val
  hW : ∀ (i : Fin 3) (c : Fin 5632), (x3 (ix2 i c) : EReal) = W i.val c.val
  hB : ∀ (c : Fin 5632), (x4 (ix2 0 c) : EReal) = B c.val
  hD : ∀ (k : Fin 2816) (d : Fin 1024), (x5 (ix2 k d) : EReal) = D k.val d

namespace Point

variable (P : Point)

theorem up_val {o : ℕ} (i0 : ∀ a, (![0, 0] : Fin 2 → ℕ) a + S512x1024.size a ≤ S512x1024.size a) (i1 : ∀ a, (![0, 0] : Fin 2 → ℕ) a + S1x1024.size a ≤ S1x1024.size a)
    (i2 : ∀ a, (![0, o] : Fin 2 → ℕ) a + S1024x256.size a ≤ S1024x5632.size a) (y : Fin 512) (x : Fin 256) :
    (upv (k0_pay5 (P.arg2.view.readAt (Elt Ideal) (Rect.unit (s := S512x1024) ![0, 0] S512x1024.size i0).toLoadRect (P.harg2.unread P.x0))
        (P.arg3.view.readAt (Elt Ideal) (Rect.unit (s := S1x1024) ![0, 0] S1x1024.size i1).toLoadRect (P.harg3.unread P.x1)))
      (P.arg4.view.readAt (Elt Ideal) (Rect.unit (s := S1024x5632) ![0, o] S1024x256.size i2).toLoadRect (P.harg4.unread P.x2)) (ix2 y x) : EReal)
      = P.hv (8 + y.val) (o + x.val) :=
  Ffn.up_val P.hup P.arg2 P.harg2 P.arg3 P.harg3 P.arg4 P.harg4 i0 i1 i2 y x

theorem ld_w {o : ℕ} (inb : ∀ a, (![0, o] : Fin 2 → ℕ) a + S3x256.size a ≤ S3x5632.size a) (i : Fin 3) (x : Fin 256) :
    (P.arg5.view.readAt (Elt Ideal) (Rect.unit (s := S3x5632) ![0, o] S3x256.size inb).toLoadRect (P.harg5.unread P.x3) (ix2 i x) : EReal) = P.W i.val (o + x.val) :=
  Ffn.ld_w P.hW P.arg5 P.harg5 inb i x

theorem ld_b {o : ℕ} (inb : ∀ a, (![0, o] : Fin 2 → ℕ) a + S1x256.size a ≤ S1x5632.size a) (x : Fin 256) :
    (P.arg6.view.readAt (Elt Ideal) (Rect.unit (s := S1x5632) ![0, o] S1x256.size inb).toLoadRect (P.harg6.unread P.x4) (ix2 0 x) : EReal) = P.B (o + x.val) :=
  Ffn.ld_b P.hB P.arg6 P.harg6 inb x

theorem ld_d {o : ℕ} (inb : ∀ a, (![o, 0] : Fin 2 → ℕ) a + S256x1024.size a ≤ S2816x1024.size a) (k : Fin 256) (d : Fin 1024) :
    (P.arg7.view.readAt (Elt Ideal) (Rect.unit (s := S2816x1024) ![o, 0] S256x1024.size inb).toLoadRect (P.harg7.unread P.x5) (ix2 k d) : EReal) = P.D (o + k.val) d :=
  Ffn.ld_d P.hD P.arg7 P.harg7 inb k d

/-- Rows 0 to 7 as the block before left them. -/
theorem low (xs0 : Vec Ideal S520x5632 .f32) (h : ∀ (r : Fin 520) (c : Fin 5632), r.val < 8 → (xs0 (ix2 r c) : EReal) = P.hv r.val c.val) :
    True → ∀ (r : Fin 520) (c : Fin 5632), r.val < 8 → (P.arg9.view.read (Elt Ideal) (P.harg9.unread xs0) (ix2 r c) : EReal) = P.hv r.val c.val := by
  intro _ r c hr
  rw [P.harg9.read_unread]
  exact h r c hr

end Point

end Cert.Ffn

end

end
-- ==== Proof.FfnRowsA.lean ====
/- The row buffer through the body at the first block of a sequence. -/
module

public import proofs.«01_k».proof.Proof.FfnPoint

@[expose] public section

set_option maxRecDepth 16384

noncomputable section

namespace Cert.Ffn

open Cert.Kernel2Ideal Cert.Kernel2Ideal.Gen Idealize.ShloMosaic Idealize.ShloMosaic.TcCoe Idealize.SL.Sem

theorem hiA_13 (P : Point) (v : View sig .tc .vmem S520x5632 .f32) : High v P.hv 1536 4352 (kernelRun0_A.sl.HS0_13 (F := Ideal) P.c P.arg2 P.harg2 P.arg3 P.harg3 P.arg4 P.harg4 P.x0 P.x1 P.x2) := by
  delta kernelRun0_A.sl.HS0_13
  exact high_up (p' := 1536) (q' := 4352) _ (high_up (p' := 1536) (q' := 4096) _ (high_up (p' := 1280) (q' := 4096) _ (high_up (p' := 1280) (q' := 3840) _ (high_up (p' := 1024) (q' := 3840) _ (high_up (p' := 1024) (q' := 3584) _ (high_up (p' := 768) (q' := 3584) _ (high_up (p' := 768) (q' := 3328) _ (high_up (p' := 512) (q' := 3328) _ (high_up (p' := 512) (q' := 3072) _ (high_up (p' := 256) (q' := 3072) _ (high_up (p' := 256) (q' := 2816) _ (high_zero _ high_nil) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)

theorem loA_13 (P : Point) (v : View sig .tc .vmem S520x5632 .f32) (ok : Prop) (f : v.ty.Contents (Elt Ideal))
    (hok : ∀ r c, r < 8 → P.hv r c = 0) : Low v P.hv ok f 0 2816 (kernelRun0_A.sl.HS0_13 (F := Ideal) P.c P.arg2 P.harg2 P.arg3 P.harg3 P.arg4 P.harg4 P.x0 P.x1 P.x2) := by
  delta kernelRun0_A.sl.HS0_13
  exact low_up _ (low_up _ (low_up _ (low_up _ (low_up _ (low_up _ (low_up _ (low_up _ (low_up _ (low_up _ (low_up _ (low_up _ (low_zero _ hok))))))))))))

theorem hiA_14 (P : Point) (v : View sig .tc .vmem S520x5632 .f32) : High v P.hv 1536 4352 (kernelRun0_A.sl.HS0_14 (F := Ideal) P.c P.arg2 P.harg2 P.arg3 P.harg3 P.arg4 P.harg4 P.arg9 P.x0 P.x1 P.x2) := by
  delta kernelRun0_A.sl.HS0_14
  exact high_low _ (hiA_13 P v)

theorem loA_14 (P : Point) (v : View sig .tc .vmem S520x5632 .f32) (ok : Prop) (f : v.ty.Contents (Elt Ideal))
    (hok : ∀ r c, r < 8 → P.hv r c = 0) : Low v P.hv ok f 256 2816 (kernelRun0_A.sl.HS0_14 (F := Ideal) P.c P.arg2 P.harg2 P.arg3 P.harg3 P.arg4 P.harg4 P.arg9 P.x0 P.x1 P.x2) := by
  delta kernelRun0_A.sl.HS0_14
  exact low_low (p' := 256) (q' := 2816) _ (loA_13 P v ok f hok) (copy_val (load512 (o := 0) _ (hiA_13 P P.arg9.view) _ (by omega))) (by omega)

theorem hiA_17 (P : Point) (v : View sig .tc .vmem S520x5632 .f32) : High v P.hv 1792 4608 (kernelRun0_A.sl.HS0_17 (F := Ideal) P.c P.arg2 P.harg2 P.arg3 P.harg3 P.arg4 P.harg4 P.arg9 P.x0 P.x1 P.x2) := by
  delta kernelRun0_A.sl.HS0_17
  exact high_up (p' := 1792) (q' := 4608) _ (high_up (p' := 1792) (q' := 4352) _ (high_low _ (hiA_14 P v)) (P.up_val _ _ _) (by omega)) (P.up_val _ _ _) (by omega)

theorem loA_17 (P : Point) (v : View sig .tc .vmem S520x5632 .f32) (ok : Prop) (f : v.ty.Contents (Elt Ideal))
    (hok : ∀ r c, r < 8 → P.hv r c = 0) : Low v P.hv ok f 256 3072 (kernelRun0_A.sl.HS0_17 (F := Ideal) P.c P.arg2 P.harg2 P.arg3 P.harg3 P.arg4 P.harg4 P.arg9 P.x0 P.x1 P.x2) := by
  delta kernelRun0_A.sl.HS0_17
  exact low_up _ (low_up _ (low_low (p' := 256) (q' := 3072) _ (loA_14 P v ok f hok) (copy_val (load512 (o := 2816) _ (hiA_14 P P.arg9.view) _ (by omega))) (by omega)))

theorem hiA_18 (P : Point) (v : View sig .tc .vmem S520x5632 .f32) : High v P.hv 1792 4608 (kernelRun0_A.sl.HS0_18 (F := Ideal) P.c P.arg2 P.harg2 P.arg3 P.harg3 P.arg4 P.harg4 P.arg9 P.x0 P.x1 P.x2) := by
  delta kernelRun0_A.sl.HS0_18
  exact high_low _ (hiA_17 P v)

theorem loA_18 (P : Point) (v : View sig .tc .vmem S520x5632 .f32) (ok : Prop) (f : v.ty.Contents (Elt Ideal))
    (hok : ∀ r c, r < 8 → P.hv r c = 0) : Low v P.hv ok f 512 3072 (kernelRun0_A.sl.HS0_18 (F := Ideal) P.c P.arg2 P.harg2 P.arg3 P.harg3 P.arg4 P.harg4 P.arg9 P.x0 P.x1 P.x2) := by
  delta kernelRun0_A.sl.HS0_18
  exact low_low (p' := 512) (q' := 3072) _ (loA_17 P v ok f hok) (copy_val (load512 (o := 256) _ (hiA_17 P P.arg9.view) _ (by omega))) (by omega)

theorem hiA_21 (P : Point) (v : View sig .tc .vmem S520x5632 .f32) : High v P.hv 2048 4864 (kernelRun0_A.sl.HS0_21 (F := Ideal) P.c P.arg2 P.harg2 P.arg3 P.harg3 P.arg4 P.harg4 P.arg9 P.x0 P.x1 P.x2) := by
  delta kernelRun0_A.sl.HS0_21
  exact high_up (p' := 2048) (q' := 4864) _ (high_up (p' := 2048) (q' := 4608) _ (high_low _ (hiA_18 P v)) (P.up_val _ _ _) (by omega)) (P.up_val _ _ _) (by omega)

theorem loA_21 (P : Point) (v : View sig .tc .vmem S520x5632 .f32) (ok : Prop) (f : v.ty.Contents (Elt Ideal))
    (hok : ∀ r c, r < 8 → P.hv r c = 0) : Low v P.hv ok f 512 3328 (kernelRun0_A.sl.HS0_21 (F := Ideal) P.c P.arg2 P.harg2 P.arg3 P.harg3 P.arg4 P.harg4 P.arg9 P.x0 P.x1 P.x2) := by
  delta kernelRun0_A.sl.HS0_21
  exact low_up _ (low_up _ (low_low (p' := 512) (q' := 3328) _ (loA_18 P v ok f hok) (copy_val (load512 (o := 3072) _ (hiA_18 P P.arg9.view) _ (by omega))) (by omega)))

theorem hiA_22 (P : Point) (v : View sig .tc .vmem S520x5632 .f32) : High v P.hv 2048 4864 (kernelRun0_A.sl.HS0_22 (F := Ideal) P.c P.arg2 P.harg2 P.arg3 P.harg3 P.arg4 P.harg4 P.arg9 P.x0 P.x1 P.x2) := by
  delta kernelRun0_A.sl.HS0_22
  exact high_low _ (hiA_21 P v)

theorem loA_22 (P : Point) (v : View sig .tc .vmem S520x5632 .f32) (ok : Prop) (f : v.ty.Contents (Elt Ideal))
    (hok : ∀ r c, r < 8 → P.hv r c = 0) : Low v P.hv ok f 768 3328 (kernelRun0_A.sl.HS0_22 (F := Ideal) P.c P.arg2 P.harg2 P.arg3 P.harg3 P.arg4 P.harg4 P.arg9 P.x0 P.x1 P.x2) := by
  delta kernelRun0_A.sl.HS0_22
  exact low_low (p' := 768) (q' := 3328) _ (loA_21 P v ok f hok) (copy_val (load512 (o := 512) _ (hiA_21 P P.arg9.view) _ (by omega))) (by omega)

theorem hiA_25 (P : Point) (v : View sig .tc .vmem S520x5632 .f32) : High v P.hv 2304 5120 (kernelRun0_A.sl.HS0_25 (F := Ideal) P.c P.arg2 P.harg2 P.arg3 P.harg3 P.arg4 P.harg4 P.arg9 P.x0 P.x1 P.x2) := by
  delta kernelRun0_A.sl.HS0_25
  exact high_up (p' := 2304) (q' := 5120) _ (high_up (p' := 2304) (q' := 4864) _ (high_low _ (hiA_22 P v)) (P.up_val _ _ _) (by omega)) (P.up_val _ _ _) (by omega)

theorem loA_25 (P : Point) (v : View sig .tc .vmem S520x5632 .f32) (ok : Prop) (f : v.ty.Contents (Elt Ideal))
    (hok : ∀ r c, r < 8 → P.hv r c = 0) : Low v P.hv ok f 768 3584 (kernelRun0_A.sl.HS0_25 (F := Ideal) P.c P.arg2 P.harg2 P.arg3 P.harg3 P.arg4 P.harg4 P.arg9 P.x0 P.x1 P.x2) := by
  delta kernelRun0_A.sl.HS0_25
  exact low_up _ (low_up _ (low_low (p' := 768) (q' := 3584) _ (loA_22 P v ok f hok) (copy_val (load512 (o := 3328) _ (hiA_22 P P.arg9.view) _ (by omega))) (by omega)))

theorem hiA_26 (P : Point) (v : View sig .tc .vmem S520x5632 .f32) : High v P.hv 2304 5120 (kernelRun0_A.sl.HS0_26 (F := Ideal) P.c P.arg2 P.harg2 P.arg3 P.harg3 P.arg4 P.harg4 P.arg9 P.x0 P.x1 P.x2) := by
  delta kernelRun0_A.sl.HS0_26
  exact high_low _ (hiA_25 P v)

theorem loA_26 (P : Point) (v : View sig .tc .vmem S520x5632 .f32) (ok : Prop) (f : v.ty.Contents (Elt Ideal))
    (hok : ∀ r c, r < 8 → P.hv r c = 0) : Low v P.hv ok f 1024 3584 (kernelRun0_A.sl.HS0_26 (F := Ideal) P.c P.arg2 P.harg2 P.arg3 P.harg3 P.arg4 P.harg4 P.arg9 P.x0 P.x1 P.x2) := by
  delta kernelRun0_A.sl.HS0_26
  exact low_low (p' := 1024) (q' := 3584) _ (loA_25 P v ok f hok) (copy_val (load512 (o := 768) _ (hiA_25 P P.arg9.view) _ (by omega))) (by omega)

theorem hiA_29 (P : Point) (v : View sig .tc .vmem S520x5632 .f32) : High v P.hv 2560 5376 (kernelRun0_A.sl.HS0_29 (F := Ideal) P.c P.arg2 P.harg2 P.arg3 P.harg3 P.arg4 P.harg4 P.arg9 P.x0 P.x1 P.x2) := by
  delta kernelRun0_A.sl.HS0_29
  exact high_up (p' := 2560) (q' := 5376) _ (high_up (p' := 2560) (q' := 5120) _ (high_low _ (hiA_26 P v)) (P.up_val _ _ _) (by omega)) (P.up_val _ _ _) (by omega)

theorem loA_29 (P : Point) (v : View sig .tc .vmem S520x5632 .f32) (ok : Prop) (f : v.ty.Contents (Elt Ideal))
    (hok : ∀ r c, r < 8 → P.hv r c = 0) : Low v P.hv ok f 1024 3840 (kernelRun0_A.sl.HS0_29 (F := Ideal) P.c P.arg2 P.harg2 P.arg3 P.harg3 P.arg4 P.harg4 P.arg9 P.x0 P.x1 P.x2) := by
  delta kernelRun0_A.sl.HS0_29
  exact low_up _ (low_up _ (low_low (p' := 1024) (q' := 3840) _ (loA_26 P v ok f hok) (copy_val (load512 (o := 3584) _ (hiA_26 P P.arg9.view) _ (by omega))) (by omega)))

theorem hiA_30 (P : Point) (v : View sig .tc .vmem S520x5632 .f32) : High v P.hv 2560 5376 (kernelRun0_A.sl.HS0_30 (F := Ideal) P.c P.arg2 P.harg2 P.arg3 P.harg3 P.arg4 P.harg4 P.arg9 P.x0 P.x1 P.x2) := by
  delta kernelRun0_A.sl.HS0_30
  exact high_low _ (hiA_29 P v)

theorem loA_30 (P : Point) (v : View sig .tc .vmem S520x5632 .f32) (ok : Prop) (f : v.ty.Contents (Elt Ideal))
    (hok : ∀ r c, r < 8 → P.hv r c = 0) : Low v P.hv ok f 1280 3840 (kernelRun0_A.sl.HS0_30 (F := Ideal) P.c P.arg2 P.harg2 P.arg3 P.harg3 P.arg4 P.harg4 P.arg9 P.x0 P.x1 P.x2) := by
  delta kernelRun0_A.sl.HS0_30
  exact low_low (p' := 1280) (q' := 3840) _ (loA_29 P v ok f hok) (copy_val (load512 (o := 1024) _ (hiA_29 P P.arg9.view) _ (by omega))) (by omega)

theorem hiA_33 (P : Point) (v : View sig .tc .vmem S520x5632 .f32) : High v P.hv 2816 5632 (kernelRun0_A.sl.HS0_33 (F := Ideal) P.c P.arg2 P.harg2 P.arg3 P.harg3 P.arg4 P.harg4 P.arg9 P.x0 P.x1 P.x2) := by
  delta kernelRun0_A.sl.HS0_33
  exact high_up (p' := 2816) (q' := 5632) _ (high_up (p' := 2816) (q' := 5376) _ (high_low _ (hiA_30 P v)) (P.up_val _ _ _) (by omega)) (P.up_val _ _ _) (by omega)

theorem loA_33 (P : Point) (v : View sig .tc .vmem S520x5632 .f32) (ok : Prop) (f : v.ty.Contents (Elt Ideal))
    (hok : ∀ r c, r < 8 → P.hv r c = 0) : Low v P.hv ok f 1280 4096 (kernelRun0_A.sl.HS0_33 (F := Ideal) P.c P.arg2 P.harg2 P.arg3 P.harg3 P.arg4 P.harg4 P.arg9 P.x0 P.x1 P.x2) := by
  delta kernelRun0_A.sl.HS0_33
  exact low_up _ (low_up _ (low_low (p' := 1280) (q' := 4096) _ (loA_30 P v ok f hok) (copy_val (load512 (o := 3840) _ (hiA_30 P P.arg9.view) _ (by omega))) (by omega)))

theorem hiA_34 (P : Point) (v : View sig .tc .vmem S520x5632 .f32) : High v P.hv 2816 5632 (kernelRun0_A.sl.HS0_34 (F := Ideal) P.c P.arg2 P.harg2 P.arg3 P.harg3 P.arg4 P.harg4 P.arg9 P.x0 P.x1 P.x2) := by
  delta kernelRun0_A.sl.HS0_34
  exact high_low _ (hiA_33 P v)

theorem loA_34 (P : Point) (v : View sig .tc .vmem S520x5632 .f32) (ok : Prop) (f : v.ty.Contents (Elt Ideal))
    (hok : ∀ r c, r < 8 → P.hv r c = 0) : Low v P.hv ok f 1536 4096 (kernelRun0_A.sl.HS0_34 (F := Ideal) P.c P.arg2 P.harg2 P.arg3 P.harg3 P.arg4 P.harg4 P.arg9 P.x0 P.x1 P.x2) := by
  delta kernelRun0_A.sl.HS0_34
  exact low_low (p' := 1536) (q' := 4096) _ (loA_33 P v ok f hok) (copy_val (load512 (o := 1280) _ (hiA_33 P P.arg9.view) _ (by omega))) (by omega)

theorem hiA_35 (P : Point) (v : View sig .tc .vmem S520x5632 .f32) : High v P.hv 2816 5632 (kernelRun0_A.sl.HS0_35 (F := Ideal) P.c P.arg2 P.harg2 P.arg3 P.harg3 P.arg4 P.harg4 P.arg9 P.x0 P.x1 P.x2) := by
  delta kernelRun0_A.sl.HS0_35
  exact high_low _ (hiA_34 P v)

theorem loA_35 (P : Point) (v : View sig .tc .vmem S520x5632 .f32) (ok : Prop) (f : v.ty.Contents (Elt Ideal))
    (hok : ∀ r c, r < 8 → P.hv r c = 0) : Low v P.hv ok f 1536 4352 (kernelRun0_A.sl.HS0_35 (F := Ideal) P.c P.arg2 P.harg2 P.arg3 P.harg3 P.arg4 P.harg4 P.arg9 P.x0 P.x1 P.x2) := by
  delta kernelRun0_A.sl.HS0_35
  exact low_low (p' := 1536) (q' := 4352) _ (loA_34 P v ok f hok) (copy_val (load512 (o := 4096) _ (hiA_34 P P.arg9.view) _ (by omega))) (by omega)

theorem hiA_36 (P : Point) (v : View sig .tc .vmem S520x5632 .f32) : High v P.hv 2816 5632 (kernelRun0_A.sl.HS0_36 (F := Ideal) P.c P.arg2 P.harg2 P.arg3 P.harg3 P.arg4 P.harg4 P.arg9 P.x0 P.x1 P.x2) := by
  delta kernelRun0_A.sl.HS0_36
  exact high_low _ (hiA_35 P v)

theorem loA_36 (P : Point) (v : View sig .tc .vmem S520x5632 .f32) (ok : Prop) (f : v.ty.Contents (Elt Ideal))
    (hok : ∀ r c, r < 8 → P.hv r c = 0) : Low v P.hv ok f 1792 4352 (kernelRun0_A.sl.HS0_36 (F := Ideal) P.c P.arg2 P.harg2 P.arg3 P.harg3 P.arg4 P.harg4 P.arg9 P.x0 P.x1 P.x2) := by
  delta kernelRun0_A.sl.HS0_36
  exact low_low (p' := 1792) (q' := 4352) _ (loA_35 P v ok f hok) (copy_val (load512 (o := 1536) _ (hiA_35 P P.arg9.view) _ (by omega))) (by omega)

theorem hiA_37 (P : Point) (v : View sig .tc .vmem S520x5632 .f32) : High v P.hv 2816 5632 (kernelRun0_A.sl.HS0_37 (F := Ideal) P.c P.arg2 P.harg2 P.arg3 P.harg3 P.arg4 P.harg4 P.arg9 P.x0 P.x1 P.x2) := by
  delta kernelRun0_A.sl.HS0_37
  exact high_low _ (hiA_36 P v)

theorem loA_37 (P : Point) (v : View sig .tc .vmem S520x5632 .f32) (ok : Prop) (f : v.ty.Contents (Elt Ideal))
    (hok : ∀ r c, r < 8 → P.hv r c = 0) : Low v P.hv ok f 1792 4608 (kernelRun0_A.sl.HS0_37 (F := Ideal) P.c P.arg2 P.harg2 P.arg3 P.harg3 P.arg4 P.harg4 P.arg9 P.x0 P.x1 P.x2) := by
  delta kernelRun0_A.sl.HS0_37
  exact low_low (p' := 1792) (q' := 4608) _ (loA_36 P v ok f hok) (copy_val (load512 (o := 4352) _ (hiA_36 P P.arg9.view) _ (by omega))) (by omega)

theorem hiA_38 (P : Point) (v : View sig .tc .vmem S520x5632 .f32) : High v P.hv 2816 5632 (kernelRun0_A.sl.HS0_38 (F := Ideal) P.c P.arg2 P.harg2 P.arg3 P.harg3 P.arg4 P.harg4 P.arg9 P.x0 P.x1 P.x2) := by
  delta kernelRun0_A.sl.HS0_38
  exact high_low _ (hiA_37 P v)

theorem loA_38 (P : Point) (v : View sig .tc .vmem S520x5632 .f32) (ok : Prop) (f : v.ty.Contents (Elt Ideal))
    (hok : ∀ r c, r < 8 → P.hv r c = 0) : Low v P.hv ok f 2048 4608 (kernelRun0_A.sl.HS0_38 (F := Ideal) P.c P.arg2 P.harg2 P.arg3 P.harg3 P.arg4 P.harg4 P.arg9 P.x0 P.x1 P.x2) := by
  delta kernelRun0_A.sl.HS0_38
  exact low_low (p' := 2048) (q' := 4608) _ (loA_37 P v ok f hok) (copy_val (load512 (o := 1792) _ (hiA_37 P P.arg9.view) _ (by omega))) (by omega)

theorem hiA_39 (P : Point) (v : View sig .tc .vmem S520x5632 .f32) : High v P.hv 2816 5632 (kernelRun0_A.sl.HS0_39 (F := Ideal) P.c P.arg2 P.harg2 P.arg3 P.harg3 P.arg4 P.harg4 P.arg9 P.x0 P.x1 P.x2) := by
  delta kernelRun0_A.sl.HS0_39
  exact high_low _ (hiA_38 P v)

theorem loA_39 (P : Point) (v : View sig .tc .vmem S520x5632 .f32) (ok : Prop) (f : v.ty.Contents (Elt Ideal))
    (hok : ∀ r c, r < 8 → P.hv r c = 0) : Low v P.hv ok f 2048 4864 (kernelRun0_A.sl.HS0_39 (F := Ideal) P.c P.arg2 P.harg2 P.arg3 P.harg3 P.arg4 P.harg4 P.arg9 P.x0 P.x1 P.x2) := by
  delta kernelRun0_A.sl.HS0_39
  exact low_low (p' := 2048) (q' := 4864) _ (loA_38 P v ok f hok) (copy_val (load512 (o := 4608) _ (hiA_38 P P.arg9.view) _ (by omega))) (by omega)

theorem hiA_40 (P : Point) (v : View sig .tc .vmem S520x5632 .f32) : High v P.hv 2816 5632 (kernelRun0_A.sl.HS0_40 (F := Ideal) P.c P.arg2 P.harg2 P.arg3 P.harg3 P.arg4 P.harg4 P.arg9 P.x0 P.x1 P.x2) := by
  delta kernelRun0_A.sl.HS0_40
  exact high_low _ (hiA_39 P v)

theorem loA_40 (P : Point) (v : View sig .tc .vmem S520x5632 .f32) (ok : Prop) (f : v.ty.Contents (Elt Ideal))
    (hok : ∀ r c, r < 8 → P.hv r c = 0) : Low v P.hv ok f 2304 4864 (kernelRun0_A.sl.HS0_40 (F := Ideal) P.c P.arg2 P.harg2 P.arg3 P.harg3 P.arg4 P.harg4 P.arg9 P.x0 P.x1 P.x2) := by
  delta kernelRun0_A.sl.HS0_40
  exact low_low (p' := 2304) (q' := 4864) _ (loA_39 P v ok f hok) (copy_val (load512 (o := 2048) _ (hiA_39 P P.arg9.view) _ (by omega))) (by omega)

theorem hiA_41 (P : Point) (v : View sig .tc .vmem S520x5632 .f32) : High v P.hv 2816 5632 (kernelRun0_A.sl.HS0_41 (F := Ideal) P.c P.arg2 P.harg2 P.arg3 P.harg3 P.arg4 P.harg4 P.arg9 P.x0 P.x1 P.x2) := by
  delta kernelRun0_A.sl.HS0_41
  exact high_low _ (hiA_40 P v)

theorem loA_41 (P : Point) (v : View sig .tc .vmem S520x5632 .f32) (ok : Prop) (f : v.ty.Contents (Elt Ideal))
    (hok : ∀ r c, r < 8 → P.hv r c = 0) : Low v P.hv ok f 2304 5120 (kernelRun0_A.sl.HS0_41 (F := Ideal) P.c P.arg2 P.harg2 P.arg3 P.harg3 P.arg4 P.harg4 P.arg9 P.x0 P.x1 P.x2) := by
  delta kernelRun0_A.sl.HS0_41
  exact low_low (p' := 2304) (q' := 5120) _ (loA_40 P v ok f hok) (copy_val (load512 (o := 4864) _ (hiA_40 P P.arg9.view) _ (by omega))) (by omega)

theorem hiA_42 (P : Point) (v : View sig .tc .vmem S520x5632 .f32) : High v P.hv 2816 5632 (kernelRun0_A.sl.HS0_42 (F := Ideal) P.c P.arg2 P.harg2 P.arg3 P.harg3 P.arg4 P.harg4 P.arg9 P.x0 P.x1 P.x2) := by
  delta kernelRun0_A.sl.HS0_42
  exact high_low _ (hiA_41 P v)

theorem loA_42 (P : Point) (v : View sig .tc .vmem S520x5632 .f32) (ok : Prop) (f : v.ty.Contents (Elt Ideal))
    (hok : ∀ r c, r < 8 → P.hv r c = 0) : Low v P.hv ok f 2560 5120 (kernelRun0_A.sl.HS0_42 (F := Ideal) P.c P.arg2 P.harg2 P.arg3 P.harg3 P.arg4 P.harg4 P.arg9 P.x0 P.x1 P.x2) := by
  delta kernelRun0_A.sl.HS0_42
  exact low_low (p' := 2560) (q' := 5120) _ (loA_41 P v ok f hok) (copy_val (load512 (o := 2304) _ (hiA_41 P P.arg9.view) _ (by omega))) (by omega)

theorem hiA_43 (P : Point) (v : View sig .tc .vmem S520x5632 .f32) : High v P.hv 2816 5632 (kernelRun0_A.sl.HS0_43 (F := Ideal) P.c P.arg2 P.harg2 P.arg3 P.harg3 P.arg4 P.harg4 P.arg9 P.x0 P.x1 P.x2) := by
  delta kernelRun0_A.sl.HS0_43
  exact high_low _ (hiA_42 P v)

theorem loA_43 (P : Point) (v : View sig .tc .vmem S520x5632 .f32) (ok : Prop) (f : v.ty.Contents (Elt Ideal))
    (hok : ∀ r c, r < 8 → P.hv r c = 0) : Low v P.hv ok f 2560 5376 (kernelRun0_A.sl.HS0_43 (F := Ideal) P.c P.arg2 P.harg2 P.arg3 P.harg3 P.arg4 P.harg4 P.arg9 P.x0 P.x1 P.x2) := by
  delta kernelRun0_A.sl.HS0_43
  exact low_low (p' := 2560) (q' := 5376) _ (loA_42 P v ok f hok) (copy_val (load512 (o := 5120) _ (hiA_42 P P.arg9.view) _ (by omega))) (by omega)

theorem hiA_44 (P : Point) (v : View sig .tc .vmem S520x5632 .f32) : High v P.hv 2816 5632 (kernelRun0_A.sl.HS0_44 (F := Ideal) P.c P.arg2 P.harg2 P.arg3 P.harg3 P.arg4 P.harg4 P.arg9 P.x0 P.x1 P.x2) := by
  delta kernelRun0_A.sl.HS0_44
  exact high_low _ (hiA_43 P v)

theorem loA_44 (P : Point) (v : View sig .tc .vmem S520x5632 .f32) (ok : Prop) (f : v.ty.Contents (Elt Ideal))
    (hok : ∀ r c, r < 8 → P.hv r c = 0) : Low v P.hv ok f 2816 5376 (kernelRun0_A.sl.HS0_44 (F := Ideal) P.c P.arg2 P.harg2 P.arg3 P.harg3 P.arg4 P.harg4 P.arg9 P.x0 P.x1 P.x2) := by
  delta kernelRun0_A.sl.HS0_44
  exact low_low (p' := 2816) (q' := 5376) _ (loA_43 P v ok f hok) (copy_val (load512 (o := 2560) _ (hiA_43 P P.arg9.view) _ (by omega))) (by omega)

end Cert.Ffn

end

end
-- ==== Proof.FfnAccA.lean ====
/- The accumulator through the body at the first block of a sequence. -/
module

public import proofs.«01_k».proof.Proof.FfnRowsA

@[expose] public section

set_option maxRecDepth 16384

noncomputable section

namespace Cert.Ffn

open Cert.Kernel2Ideal Cert.Kernel2Ideal.Gen Idealize.ShloMosaic Idealize.ShloMosaic.TcCoe Idealize.SL.Sem

theorem accA_1 (P : Point) (hok : ∀ r c, r < 8 → P.hv r c = 0) :
    AccIs P.arg10.view (part P.hv P.W P.B P.D 256) (kernelRun0_A.sl.HS1_1 (F := Ideal) P.c P.arg2 P.harg2 P.arg3 P.harg3 P.arg4 P.harg4 P.arg5 P.harg5 P.arg6 P.harg6 P.arg7 P.harg7 P.arg9 P.x0 P.x1 P.x2 P.x3 P.x4 P.x5) := by
  delta kernelRun0_A.sl.HS1_1
  refine acc_store _ (chunk_first rfl ?_ ?_ ?_ ?_ ?_ ?_ ?_ ?_ ?_ ?_ ?_)
  · exact P.ld_w _
  · exact load8 (o := 0) _ (hiA_13 P P.arg9.view) _ (by omega)
  · exact loadTop (s := 7) (o := 0) _ (hiA_13 P P.arg9.view) (loA_13 P P.arg9.view True _ hok) trivial (by omega) (by omega)
  · exact loadTop (s := 6) (o := 0) _ (hiA_13 P P.arg9.view) (loA_13 P P.arg9.view True _ hok) trivial (by omega) (by omega)
  · exact P.ld_b _
  · exact P.ld_w _
  · exact load8 (o := 2816) _ (hiA_14 P P.arg9.view) _ (by omega)
  · exact loadTop (s := 7) (o := 2816) _ (hiA_14 P P.arg9.view) (loA_14 P P.arg9.view True _ hok) trivial (by omega) (by omega)
  · exact loadTop (s := 6) (o := 2816) _ (hiA_14 P P.arg9.view) (loA_14 P P.arg9.view True _ hok) trivial (by omega) (by omega)
  · exact P.ld_b _
  · exact P.ld_d _

theorem accA_2 (P : Point) (hok : ∀ r c, r < 8 → P.hv r c = 0) :
    AccIs P.arg10.view (part P.hv P.W P.B P.D 512) (kernelRun0_A.sl.HS1_2 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_2
  refine acc_store _ (chunk_next (n := 256) (n' := 512) (o := 3072) rfl rfl ?_ ?_ ?_ ?_ ?_ ?_ ?_ ?_ ?_ ?_ ?_ ?_)
  · exact acc_load (accA_1 P hok) _ _
  · exact P.ld_w _
  · exact load8 (o := 256) _ (hiA_17 P P.arg9.view) _ (by omega)
  · exact loadTop (s := 7) (o := 256) _ (hiA_17 P P.arg9.view) (loA_17 P P.arg9.view True _ hok) trivial (by omega) (by omega)
  · exact loadTop (s := 6) (o := 256) _ (hiA_17 P P.arg9.view) (loA_17 P P.arg9.view True _ hok) trivial (by omega) (by omega)
  · exact P.ld_b _
  · exact P.ld_w _
  · exact load8 (o := 3072) _ (hiA_18 P P.arg9.view) _ (by omega)
  · exact loadTop (s := 7) (o := 3072) _ (hiA_18 P P.arg9.view) (loA_18 P P.arg9.view True _ hok) trivial (by omega) (by omega)
  · exact loadTop (s := 6) (o := 3072) _ (hiA_18 P P.arg9.view) (loA_18 P P.arg9.view True _ hok) trivial (by omega) (by omega)
  · exact P.ld_b _
  · exact P.ld_d _

theorem accA_3 (P : Point) (hok : ∀ r c, r < 8 → P.hv r c = 0) :
    AccIs P.arg10.view (part P.hv P.W P.B P.D 768) (kernelRun0_A.sl.HS1_3 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_3
  refine acc_store _ (chunk_next (n := 512) (n' := 768) (o := 3328) rfl rfl ?_ ?_ ?_ ?_ ?_ ?_ ?_ ?_ ?_ ?_ ?_ ?_)
  · exact acc_load (accA_2 P hok) _ _
  · exact P.ld_w _
  · exact load8 (o := 512) _ (hiA_21 P P.arg9.view) _ (by omega)
  · exact loadTop (s := 7) (o := 512) _ (hiA_21 P P.arg9.view) (loA_21 P P.arg9.view True _ hok) trivial (by omega) (by omega)
  · exact loadTop (s := 6) (o := 512) _ (hiA_21 P P.arg9.view) (loA_21 P P.arg9.view True _ hok) trivial (by omega) (by omega)
  · exact P.ld_b _
  · exact P.ld_w _
  · exact load8 (o := 3328) _ (hiA_22 P P.arg9.view) _ (by omega)
  · exact loadTop (s := 7) (o := 3328) _ (hiA_22 P P.arg9.view) (loA_22 P P.arg9.view True _ hok) trivial (by omega) (by omega)
  · exact loadTop (s := 6) (o := 3328) _ (hiA_22 P P.arg9.view) (loA_22 P P.arg9.view True _ hok) trivial (by omega) (by omega)
  · exact P.ld_b _
  · exact P.ld_d _

theorem accA_4 (P : Point) (hok : ∀ r c, r < 8 → P.hv r c = 0) :
    AccIs P.arg10.view (part P.hv P.W P.B P.D 1024) (kernelRun0_A.sl.HS1_4 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_4
  refine acc_store _ (chunk_next (n := 768) (n' := 1024) (o := 3584) rfl rfl ?_ ?_ ?_ ?_ ?_ ?_ ?_ ?_ ?_ ?_ ?_ ?_)
  · exact acc_load (accA_3 P hok) _ _
  · exact P.ld_w _
  · exact load8 (o := 768) _ (hiA_25 P P.arg9.view) _ (by omega)
  · exact loadTop (s := 7) (o := 768) _ (hiA_25 P P.arg9.view) (loA_25 P P.arg9.view True _ hok) trivial (by omega) (by omega)
  · exact loadTop (s := 6) (o := 768) _ (hiA_25 P P.arg9.view) (loA_25 P P.arg9.view True _ hok) trivial (by omega) (by omega)
  · exact P.ld_b _
  · exact P.ld_w _
  · exact load8 (o := 3584) _ (hiA_26 P P.arg9.view) _ (by omega)
  · exact loadTop (s := 7) (o := 3584) _ (hiA_26 P P.arg9.view) (loA_26 P P.arg9.view True _ hok) trivial (by omega) (by omega)
  · exact loadTop (s := 6) (o := 3584) _ (hiA_26 P P.arg9.view) (loA_26 P P.arg9.view True _ hok) trivial (by omega) (by omega)
  · exact P.ld_b _
  · exact P.ld_d _

theorem accA_5 (P : Point) (hok : ∀ r c, r < 8 → P.hv r c = 0) :
    AccIs P.arg10.view (part P.hv P.W P.B P.D 1280) (kernelRun0_A.sl.HS1_5 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_5
  refine acc_store _ (chunk_next (n := 1024) (n' := 1280) (o := 3840) rfl rfl ?_ ?_ ?_ ?_ ?_ ?_ ?_ ?_ ?_ ?_ ?_ ?_)
  · exact acc_load (accA_4 P hok) _ _
  · exact P.ld_w _
  · exact load8 (o := 1024) _ (hiA_29 P P.arg9.view) _ (by omega)
  · exact loadTop (s := 7) (o := 1024) _ (hiA_29 P P.arg9.view) (loA_29 P P.arg9.view True _ hok) trivial (by omega) (by omega)
  · exact loadTop (s := 6) (o := 1024) _ (hiA_29 P P.arg9.view) (loA_29 P P.arg9.view True _ hok) trivial (by omega) (by omega)
  · exact P.ld_b _
  · exact P.ld_w _
  · exact load8 (o := 3840) _ (hiA_30 P P.arg9.view) _ (by omega)
  · exact loadTop (s := 7) (o := 3840) _ (hiA_30 P P.arg9.view) (loA_30 P P.arg9.view True _ hok) trivial (by omega) (by omega)
  · exact loadTop (s := 6) (o := 3840) _ (hiA_30 P P.arg9.view) (loA_30 P P.arg9.view True _ hok) trivial (by omega) (by omega)
  · exact P.ld_b _
  · exact P.ld_d _

theorem accA_6 (P : Point) (hok : ∀ r c, r < 8 → P.hv r c = 0) :
    AccIs P.arg10.view (part P.hv P.W P.B P.D 1536) (kernelRun0_A.sl.HS1_6 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_6
  refine acc_store _ (chunk_next (n := 1280) (n' := 1536) (o := 4096) rfl rfl ?_ ?_ ?_ ?_ ?_ ?_ ?_ ?_ ?_ ?_ ?_ ?_)
  · exact acc_load (accA_5 P hok) _ _
  · exact P.ld_w _
  · exact load8 (o := 1280) _ (hiA_33 P P.arg9.view) _ (by omega)
  · exact loadTop (s := 7) (o := 1280) _ (hiA_33 P P.arg9.view) (loA_33 P P.arg9.view True _ hok) trivial (by omega) (by omega)
  · exact loadTop (s := 6) (o := 1280) _ (hiA_33 P P.arg9.view) (loA_33 P P.arg9.view True _ hok) trivial (by omega) (by omega)
  · exact P.ld_b _
  · exact P.ld_w _
  · exact load8 (o := 4096) _ (hiA_34 P P.arg9.view) _ (by omega)
  · exact loadTop (s := 7) (o := 4096) _ (hiA_34 P P.arg9.view) (loA_34 P P.arg9.view True _ hok) trivial (by omega) (by omega)
  · exact loadTop (s := 6) (o := 4096) _ (hiA_34 P P.arg9.view) (loA_34 P P.arg9.view True _ hok) trivial (by omega) (by omega)
  · exact P.ld_b _
  · exact P.ld_d _

theorem accA_7 (P : Point) (hok : ∀ r c, r < 8 → P.hv r c = 0) :
    AccIs P.arg10.view (part P.hv P.W P.B P.D 1792) (kernelRun0_A.sl.HS1_7 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_7
  refine acc_store _ (chunk_next (n := 1536) (n' := 1792) (o := 4352) rfl rfl ?_ ?_ ?_ ?_ ?_ ?_ ?_ ?_ ?_ ?_ ?_ ?_)
  · exact acc_load (accA_6 P hok) _ _
  · exact P.ld_w _
  · exact load8 (o := 1536) _ (hiA_35 P P.arg9.view) _ (by omega)
  · exact loadTop (s := 7) (o := 1536) _ (hiA_35 P P.arg9.view) (loA_35 P P.arg9.view True _ hok) trivial (by omega) (by omega)
  · exact loadTop (s := 6) (o := 1536) _ (hiA_35 P P.arg9.view) (loA_35 P P.arg9.view True _ hok) trivial (by omega) (by omega)
  · exact P.ld_b _
  · exact P.ld_w _
  · exact load8 (o := 4352) _ (hiA_36 P P.arg9.view) _ (by omega)
  · exact loadTop (s := 7) (o := 4352) _ (hiA_36 P P.arg9.view) (loA_36 P P.arg9.view True _ hok) trivial (by omega) (by omega)
  · exact loadTop (s := 6) (o := 4352) _ (hiA_36 P P.arg9.view) (loA_36 P P.arg9.view True _ hok) trivial (by omega) (by omega)
  · exact P.ld_b _
  · exact P.ld_d _

theorem accA_8 (P : Point) (hok : ∀ r c, r < 8 → P.hv r c = 0) :
    AccIs P.arg10.view (part P.hv P.W P.B P.D 2048) (kernelRun0_A.sl.HS1_8 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_8
  refine acc_store _ (chunk_next (n := 1792) (n' := 2048) (o := 4608) rfl rfl ?_ ?_ ?_ ?_ ?_ ?_ ?_ ?_ ?_ ?_ ?_ ?_)
  · exact acc_load (accA_7 P hok) _ _
  · exact P.ld_w _
  · exact load8 (o := 1792) _ (hiA_37 P P.arg9.view) _ (by omega)
  · exact loadTop (s := 7) (o := 1792) _ (hiA_37 P P.arg9.view) (loA_37 P P.arg9.view True _ hok) trivial (by omega) (by omega)
  · exact loadTop (s := 6) (o := 1792) _ (hiA_37 P P.arg9.view) (loA_37 P P.arg9.view True _ hok) trivial (by omega) (by omega)
  · exact P.ld_b _
  · exact P.ld_w _
  · exact load8 (o := 4608) _ (hiA_38 P P.arg9.view) _ (by omega)
  · exact loadTop (s := 7) (o := 4608) _ (hiA_38 P P.arg9.view) (loA_38 P P.arg9.view True _ hok) trivial (by omega) (by omega)
  · exact loadTop (s := 6) (o := 4608) _ (hiA_38 P P.arg9.view) (loA_38 P P.arg9.view True _ hok) trivial (by omega) (by omega)
  · exact P.ld_b _
  · exact P.ld_d _

theorem accA_9 (P : Point) (hok : ∀ r c, r < 8 → P.hv r c = 0) :
    AccIs P.arg10.view (part P.hv P.W P.B P.D 2304) (kernelRun0_A.sl.HS1_9 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_9 kernelRun0_A.sl.r_34 kernelRun0_A.sl.r_35 kernelRun0_A.sl.r_33 kernelRun0_A.sl.r_32 k0_pay80 k0_pay78 k0_pay76 k0_pay75
  refine acc_store _ (chunk_next (n := 2048) (n' := 2304) (o := 4864) rfl rfl ?_ ?_ ?_ ?_ ?_ ?_ ?_ ?_ ?_ ?_ ?_ ?_)
  · exact acc_load (accA_8 P hok) _ _
  · exact P.ld_w _
  · exact load8 (o := 2048) _ (hiA_39 P P.arg9.view) _ (by omega)
  · exact loadTop (s := 7) (o := 2048) _ (hiA_39 P P.arg9.view) (loA_39 P P.arg9.view True _ hok) trivial (by omega) (by omega)
  · exact loadTop (s := 6) (o := 2048) _ (hiA_39 P P.arg9.view) (loA_39 P P.arg9.view True _ hok) trivial (by omega) (by omega)
  · exact P.ld_b _
  · exact P.ld_w _
  · exact load8 (o := 4864) _ (hiA_40 P P.arg9.view) _ (by omega)
  · exact loadTop (s := 7) (o := 4864) _ (hiA_40 P P.arg9.view) (loA_40 P P.arg9.view True _ hok) trivial (by omega) (by omega)
  · exact loadTop (s := 6) (o := 4864) _ (hiA_40 P P.arg9.view) (loA_40 P P.arg9.view True _ hok) trivial (by omega) (by omega)
  · exact P.ld_b _
  · exact P.ld_d _

theorem accA_10 (P : Point) (hok : ∀ r c, r < 8 → P.hv r c = 0) :
    AccIs P.arg10.view (part P.hv P.W P.B P.D 2560) (kernelRun0_A.sl.HS1_10 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_10
  refine acc_store _ (chunk_next (n := 2304) (n' := 2560) (o := 5120) rfl rfl ?_ ?_ ?_ ?_ ?_ ?_ ?_ ?_ ?_ ?_ ?_ ?_)
  · exact acc_load (accA_9 P hok) _ _
  · exact P.ld_w _
  · exact load8 (o := 2304) _ (hiA_41 P P.arg9.view) _ (by omega)
  · exact loadTop (s := 7) (o := 2304) _ (hiA_41 P P.arg9.view) (loA_41 P P.arg9.view True _ hok) trivial (by omega) (by omega)
  · exact loadTop (s := 6) (o := 2304) _ (hiA_41 P P.arg9.view) (loA_41 P P.arg9.view True _ hok) trivial (by omega) (by omega)
  · exact P.ld_b _
  · exact P.ld_w _
  · exact load8 (o := 5120) _ (hiA_42 P P.arg9.view) _ (by omega)
  · exact loadTop (s := 7) (o := 5120) _ (hiA_42 P P.arg9.view) (loA_42 P P.arg9.view True _ hok) trivial (by omega) (by omega)
  · exact loadTop (s := 6) (o := 5120) _ (hiA_42 P P.arg9.view) (loA_42 P P.arg9.view True _ hok) trivial (by omega) (by omega)
  · exact P.ld_b _
  · exact P.ld_d _

theorem accA_11 (P : Point) (hok : ∀ r c, r < 8 → P.hv r c = 0) :
    AccIs P.arg10.view (part P.hv P.W P.B P.D 2816) (kernelRun0_A.sl.HS1_11 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5) := by
  delta kernelRun0_A.sl.HS1_11
  refine acc_store _ (chunk_next (n := 2560) (n' := 2816) (o := 5376) rfl rfl ?_ ?_ ?_ ?_ ?_ ?_ ?_ ?_ ?_ ?_ ?_ ?_)
  · exact acc_load (accA_10 P hok) _ _
  · exact P.ld_w _
  · exact load8 (o := 2560) _ (hiA_43 P P.arg9.view) _ (by omega)
  · exact loadTop (s := 7) (o := 2560) _ (hiA_43 P P.arg9.view) (loA_43 P P.arg9.view True _ hok) trivial (by omega) (by omega)
  · exact loadTop (s := 6) (o := 2560) _ (hiA_43 P P.arg9.view) (loA_43 P P.arg9.view True _ hok) trivial (by omega) (by omega)
  · exact P.ld_b _
  · exact P.ld_w _
  · exact load8 (o := 5376) _ (hiA_44 P P.arg9.view) _ (by omega)
  · exact loadTop (s := 7) (o := 5376) _ (hiA_44 P P.arg9.view) (loA_44 P P.arg9.view True _ hok) trivial (by omega) (by omega)
  · exact loadTop (s := 6) (o := 5376) _ (hiA_44 P P.arg9.view) (loA_44 P P.arg9.view True _ hok) trivial (by omega) (by omega)
  · exact P.ld_b _
  · exact P.ld_d _

end Cert.Ffn

end

end
-- ==== Proof.FfnRowsB.lean ====
/- The row buffer through the body at a later block of a sequence. -/
module

public import proofs.«01_k».proof.Proof.FfnPoint

@[expose] public section

set_option maxRecDepth 16384

noncomputable section

namespace Cert.Ffn

open Cert.Kernel2Ideal Cert.Kernel2Ideal.Gen Idealize.ShloMosaic Idealize.ShloMosaic.TcCoe Idealize.SL.Sem

theorem hiB_12 (P : Point) (v : View sig .tc .vmem S520x5632 .f32) : High v P.hv 1536 4352 (kernelRun0_B.sl.HS0_12 (F := Ideal) P.c P.arg2 P.harg2 P.arg3 P.harg3 P.arg4 P.harg4 P.x0 P.x1 P.x2) := by
  delta kernelRun0_B.sl.HS0_12
  exact high_up (p' := 1536) (q' := 4352) _ (high_up (p' := 1536) (q' := 4096) _ (high_up (p' := 1280) (q' := 4096) _ (high_up (p' := 1280) (q' := 3840) _ (high_up (p' := 1024) (q' := 3840) _ (high_up (p' := 1024) (q' := 3584) _ (high_up (p' := 768) (q' := 3584) _ (high_up (p' := 768) (q' := 3328) _ (high_up (p' := 512) (q' := 3328) _ (high_up (p' := 512) (q' := 3072) _ (high_up (p' := 256) (q' := 3072) _ (high_up (p' := 256) (q' := 2816) _ (high_nil) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)) (P.up_val _ _ _) (by omega)

theorem loB_12 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 0 2816 (kernelRun0_B.sl.HS0_12 (F := Ideal) P.c P.arg2 P.harg2 P.arg3 P.harg3 P.arg4 P.harg4 P.x0 P.x1 P.x2) := by
  delta kernelRun0_B.sl.HS0_12
  exact low_up _ (low_up _ (low_up _ (low_up _ (low_up _ (low_up _ (low_up _ (low_up _ (low_up _ (low_up _ (low_up _ (low_up _ (low_nil hok))))))))))))

theorem hiB_13 (P : Point) (v : View sig .tc .vmem S520x5632 .f32) : High v P.hv 1536 4352 (kernelRun0_B.sl.HS0_13 (F := Ideal) P.c P.arg2 P.harg2 P.arg3 P.harg3 P.arg4 P.harg4 P.arg9 P.x0 P.x1 P.x2) := by
  delta kernelRun0_B.sl.HS0_13
  exact high_low _ (hiB_12 P v)

theorem loB_13 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 256 2816 (kernelRun0_B.sl.HS0_13 (F := Ideal) P.c P.arg2 P.harg2 P.arg3 P.harg3 P.arg4 P.harg4 P.arg9 P.x0 P.x1 P.x2) := by
  delta kernelRun0_B.sl.HS0_13
  exact low_low (p' := 256) (q' := 2816) _ (loB_12 P v ok f hok) (copy_val (load512 (o := 0) _ (hiB_12 P P.arg9.view) _ (by omega))) (by omega)

theorem hiB_16 (P : Point) (v : View sig .tc .vmem S520x5632 .f32) : High v P.hv 1792 4608 (kernelRun0_B.sl.HS0_16 (F := Ideal) P.c P.arg2 P.harg2 P.arg3 P.harg3 P.arg4 P.harg4 P.arg9 P.x0 P.x1 P.x2) := by
  delta kernelRun0_B.sl.HS0_16
  exact high_up (p' := 1792) (q' := 4608) _ (high_up (p' := 1792) (q' := 4352) _ (high_low _ (hiB_13 P v)) (P.up_val _ _ _) (by omega)) (P.up_val _ _ _) (by omega)

theorem loB_16 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 256 3072 (kernelRun0_B.sl.HS0_16 (F := Ideal) P.c P.arg2 P.harg2 P.arg3 P.harg3 P.arg4 P.harg4 P.arg9 P.x0 P.x1 P.x2) := by
  delta kernelRun0_B.sl.HS0_16
  exact low_up _ (low_up _ (low_low (p' := 256) (q' := 3072) _ (loB_13 P v ok f hok) (copy_val (load512 (o := 2816) _ (hiB_13 P P.arg9.view) _ (by omega))) (by omega)))

theorem hiB_17 (P : Point) (v : View sig .tc .vmem S520x5632 .f32) : High v P.hv 1792 4608 (kernelRun0_B.sl.HS0_17 (F := Ideal) P.c P.arg2 P.harg2 P.arg3 P.harg3 P.arg4 P.harg4 P.arg9 P.x0 P.x1 P.x2) := by
  delta kernelRun0_B.sl.HS0_17
  exact high_low _ (hiB_16 P v)

theorem loB_17 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 512 3072 (kernelRun0_B.sl.HS0_17 (F := Ideal) P.c P.arg2 P.harg2 P.arg3 P.harg3 P.arg4 P.harg4 P.arg9 P.x0 P.x1 P.x2) := by
  delta kernelRun0_B.sl.HS0_17
  exact low_low (p' := 512) (q' := 3072) _ (loB_16 P v ok f hok) (copy_val (load512 (o := 256) _ (hiB_16 P P.arg9.view) _ (by omega))) (by omega)

theorem hiB_20 (P : Point) (v : View sig .tc .vmem S520x5632 .f32) : High v P.hv 2048 4864 (kernelRun0_B.sl.HS0_20 (F := Ideal) P.c P.arg2 P.harg2 P.arg3 P.harg3 P.arg4 P.harg4 P.arg9 P.x0 P.x1 P.x2) := by
  delta kernelRun0_B.sl.HS0_20
  exact high_up (p' := 2048) (q' := 4864) _ (high_up (p' := 2048) (q' := 4608) _ (high_low _ (hiB_17 P v)) (P.up_val _ _ _) (by omega)) (P.up_val _ _ _) (by omega)

theorem loB_20 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 512 3328 (kernelRun0_B.sl.HS0_20 (F := Ideal) P.c P.arg2 P.harg2 P.arg3 P.harg3 P.arg4 P.harg4 P.arg9 P.x0 P.x1 P.x2) := by
  delta kernelRun0_B.sl.HS0_20
  exact low_up _ (low_up _ (low_low (p' := 512) (q' := 3328) _ (loB_17 P v ok f hok) (copy_val (load512 (o := 3072) _ (hiB_17 P P.arg9.view) _ (by omega))) (by omega)))

theorem hiB_21 (P : Point) (v : View sig .tc .vmem S520x5632 .f32) : High v P.hv 2048 4864 (kernelRun0_B.sl.HS0_21 (F := Ideal) P.c P.arg2 P.harg2 P.arg3 P.harg3 P.arg4 P.harg4 P.arg9 P.x0 P.x1 P.x2) := by
  delta kernelRun0_B.sl.HS0_21
  exact high_low _ (hiB_20 P v)

theorem loB_21 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 768 3328 (kernelRun0_B.sl.HS0_21 (F := Ideal) P.c P.arg2 P.harg2 P.arg3 P.harg3 P.arg4 P.harg4 P.arg9 P.x0 P.x1 P.x2) := by
  delta kernelRun0_B.sl.HS0_21
  exact low_low (p' := 768) (q' := 3328) _ (loB_20 P v ok f hok) (copy_val (load512 (o := 512) _ (hiB_20 P P.arg9.view) _ (by omega))) (by omega)

theorem hiB_24 (P : Point) (v : View sig .tc .vmem S520x5632 .f32) : High v P.hv 2304 5120 (kernelRun0_B.sl.HS0_24 (F := Ideal) P.c P.arg2 P.harg2 P.arg3 P.harg3 P.arg4 P.harg4 P.arg9 P.x0 P.x1 P.x2) := by
  delta kernelRun0_B.sl.HS0_24
  exact high_up (p' := 2304) (q' := 5120) _ (high_up (p' := 2304) (q' := 4864) _ (high_low _ (hiB_21 P v)) (P.up_val _ _ _) (by omega)) (P.up_val _ _ _) (by omega)

theorem loB_24 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 768 3584 (kernelRun0_B.sl.HS0_24 (F := Ideal) P.c P.arg2 P.harg2 P.arg3 P.harg3 P.arg4 P.harg4 P.arg9 P.x0 P.x1 P.x2) := by
  delta kernelRun0_B.sl.HS0_24
  exact low_up _ (low_up _ (low_low (p' := 768) (q' := 3584) _ (loB_21 P v ok f hok) (copy_val (load512 (o := 3328) _ (hiB_21 P P.arg9.view) _ (by omega))) (by omega)))

theorem hiB_25 (P : Point) (v : View sig .tc .vmem S520x5632 .f32) : High v P.hv 2304 5120 (kernelRun0_B.sl.HS0_25 (F := Ideal) P.c P.arg2 P.harg2 P.arg3 P.harg3 P.arg4 P.harg4 P.arg9 P.x0 P.x1 P.x2) := by
  delta kernelRun0_B.sl.HS0_25
  exact high_low _ (hiB_24 P v)

theorem loB_25 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 1024 3584 (kernelRun0_B.sl.HS0_25 (F := Ideal) P.c P.arg2 P.harg2 P.arg3 P.harg3 P.arg4 P.harg4 P.arg9 P.x0 P.x1 P.x2) := by
  delta kernelRun0_B.sl.HS0_25
  exact low_low (p' := 1024) (q' := 3584) _ (loB_24 P v ok f hok) (copy_val (load512 (o := 768) _ (hiB_24 P P.arg9.view) _ (by omega))) (by omega)

theorem hiB_28 (P : Point) (v : View sig .tc .vmem S520x5632 .f32) : High v P.hv 2560 5376 (kernelRun0_B.sl.HS0_28 (F := Ideal) P.c P.arg2 P.harg2 P.arg3 P.harg3 P.arg4 P.harg4 P.arg9 P.x0 P.x1 P.x2) := by
  delta kernelRun0_B.sl.HS0_28
  exact high_up (p' := 2560) (q' := 5376) _ (high_up (p' := 2560) (q' := 5120) _ (high_low _ (hiB_25 P v)) (P.up_val _ _ _) (by omega)) (P.up_val _ _ _) (by omega)

theorem loB_28 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 1024 3840 (kernelRun0_B.sl.HS0_28 (F := Ideal) P.c P.arg2 P.harg2 P.arg3 P.harg3 P.arg4 P.harg4 P.arg9 P.x0 P.x1 P.x2) := by
  delta kernelRun0_B.sl.HS0_28
  exact low_up _ (low_up _ (low_low (p' := 1024) (q' := 3840) _ (loB_25 P v ok f hok) (copy_val (load512 (o := 3584) _ (hiB_25 P P.arg9.view) _ (by omega))) (by omega)))

theorem hiB_29 (P : Point) (v : View sig .tc .vmem S520x5632 .f32) : High v P.hv 2560 5376 (kernelRun0_B.sl.HS0_29 (F := Ideal) P.c P.arg2 P.harg2 P.arg3 P.harg3 P.arg4 P.harg4 P.arg9 P.x0 P.x1 P.x2) := by
  delta kernelRun0_B.sl.HS0_29
  exact high_low _ (hiB_28 P v)

theorem loB_29 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 1280 3840 (kernelRun0_B.sl.HS0_29 (F := Ideal) P.c P.arg2 P.harg2 P.arg3 P.harg3 P.arg4 P.harg4 P.arg9 P.x0 P.x1 P.x2) := by
  delta kernelRun0_B.sl.HS0_29
  exact low_low (p' := 1280) (q' := 3840) _ (loB_28 P v ok f hok) (copy_val (load512 (o := 1024) _ (hiB_28 P P.arg9.view) _ (by omega))) (by omega)

theorem hiB_32 (P : Point) (v : View sig .tc .vmem S520x5632 .f32) : High v P.hv 2816 5632 (kernelRun0_B.sl.HS0_32 (F := Ideal) P.c P.arg2 P.harg2 P.arg3 P.harg3 P.arg4 P.harg4 P.arg9 P.x0 P.x1 P.x2) := by
  delta kernelRun0_B.sl.HS0_32
  exact high_up (p' := 2816) (q' := 5632) _ (high_up (p' := 2816) (q' := 5376) _ (high_low _ (hiB_29 P v)) (P.up_val _ _ _) (by omega)) (P.up_val _ _ _) (by omega)

theorem loB_32 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 1280 4096 (kernelRun0_B.sl.HS0_32 (F := Ideal) P.c P.arg2 P.harg2 P.arg3 P.harg3 P.arg4 P.harg4 P.arg9 P.x0 P.x1 P.x2) := by
  delta kernelRun0_B.sl.HS0_32
  exact low_up _ (low_up _ (low_low (p' := 1280) (q' := 4096) _ (loB_29 P v ok f hok) (copy_val (load512 (o := 3840) _ (hiB_29 P P.arg9.view) _ (by omega))) (by omega)))

theorem hiB_33 (P : Point) (v : View sig .tc .vmem S520x5632 .f32) : High v P.hv 2816 5632 (kernelRun0_B.sl.HS0_33 (F := Ideal) P.c P.arg2 P.harg2 P.arg3 P.harg3 P.arg4 P.harg4 P.arg9 P.x0 P.x1 P.x2) := by
  delta kernelRun0_B.sl.HS0_33
  exact high_low _ (hiB_32 P v)

theorem loB_33 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 1536 4096 (kernelRun0_B.sl.HS0_33 (F := Ideal) P.c P.arg2 P.harg2 P.arg3 P.harg3 P.arg4 P.harg4 P.arg9 P.x0 P.x1 P.x2) := by
  delta kernelRun0_B.sl.HS0_33
  exact low_low (p' := 1536) (q' := 4096) _ (loB_32 P v ok f hok) (copy_val (load512 (o := 1280) _ (hiB_32 P P.arg9.view) _ (by omega))) (by omega)

theorem hiB_34 (P : Point) (v : View sig .tc .vmem S520x5632 .f32) : High v P.hv 2816 5632 (kernelRun0_B.sl.HS0_34 (F := Ideal) P.c P.arg2 P.harg2 P.arg3 P.harg3 P.arg4 P.harg4 P.arg9 P.x0 P.x1 P.x2) := by
  delta kernelRun0_B.sl.HS0_34
  exact high_low _ (hiB_33 P v)

theorem loB_34 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 1536 4352 (kernelRun0_B.sl.HS0_34 (F := Ideal) P.c P.arg2 P.harg2 P.arg3 P.harg3 P.arg4 P.harg4 P.arg9 P.x0 P.x1 P.x2) := by
  delta kernelRun0_B.sl.HS0_34
  exact low_low (p' := 1536) (q' := 4352) _ (loB_33 P v ok f hok) (copy_val (load512 (o := 4096) _ (hiB_33 P P.arg9.view) _ (by omega))) (by omega)

theorem hiB_35 (P : Point) (v : View sig .tc .vmem S520x5632 .f32) : High v P.hv 2816 5632 (kernelRun0_B.sl.HS0_35 (F := Ideal) P.c P.arg2 P.harg2 P.arg3 P.harg3 P.arg4 P.harg4 P.arg9 P.x0 P.x1 P.x2) := by
  delta kernelRun0_B.sl.HS0_35
  exact high_low _ (hiB_34 P v)

theorem loB_35 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 1792 4352 (kernelRun0_B.sl.HS0_35 (F := Ideal) P.c P.arg2 P.harg2 P.arg3 P.harg3 P.arg4 P.harg4 P.arg9 P.x0 P.x1 P.x2) := by
  delta kernelRun0_B.sl.HS0_35
  exact low_low (p' := 1792) (q' := 4352) _ (loB_34 P v ok f hok) (copy_val (load512 (o := 1536) _ (hiB_34 P P.arg9.view) _ (by omega))) (by omega)

theorem hiB_36 (P : Point) (v : View sig .tc .vmem S520x5632 .f32) : High v P.hv 2816 5632 (kernelRun0_B.sl.HS0_36 (F := Ideal) P.c P.arg2 P.harg2 P.arg3 P.harg3 P.arg4 P.harg4 P.arg9 P.x0 P.x1 P.x2) := by
  delta kernelRun0_B.sl.HS0_36
  exact high_low _ (hiB_35 P v)

theorem loB_36 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 1792 4608 (kernelRun0_B.sl.HS0_36 (F := Ideal) P.c P.arg2 P.harg2 P.arg3 P.harg3 P.arg4 P.harg4 P.arg9 P.x0 P.x1 P.x2) := by
  delta kernelRun0_B.sl.HS0_36
  exact low_low (p' := 1792) (q' := 4608) _ (loB_35 P v ok f hok) (copy_val (load512 (o := 4352) _ (hiB_35 P P.arg9.view) _ (by omega))) (by omega)

theorem hiB_37 (P : Point) (v : View sig .tc .vmem S520x5632 .f32) : High v P.hv 2816 5632 (kernelRun0_B.sl.HS0_37 (F := Ideal) P.c P.arg2 P.harg2 P.arg3 P.harg3 P.arg4 P.harg4 P.arg9 P.x0 P.x1 P.x2) := by
  delta kernelRun0_B.sl.HS0_37
  exact high_low _ (hiB_36 P v)

theorem loB_37 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 2048 4608 (kernelRun0_B.sl.HS0_37 (F := Ideal) P.c P.arg2 P.harg2 P.arg3 P.harg3 P.arg4 P.harg4 P.arg9 P.x0 P.x1 P.x2) := by
  delta kernelRun0_B.sl.HS0_37
  exact low_low (p' := 2048) (q' := 4608) _ (loB_36 P v ok f hok) (copy_val (load512 (o := 1792) _ (hiB_36 P P.arg9.view) _ (by omega))) (by omega)

theorem hiB_38 (P : Point) (v : View sig .tc .vmem S520x5632 .f32) : High v P.hv 2816 5632 (kernelRun0_B.sl.HS0_38 (F := Ideal) P.c P.arg2 P.harg2 P.arg3 P.harg3 P.arg4 P.harg4 P.arg9 P.x0 P.x1 P.x2) := by
  delta kernelRun0_B.sl.HS0_38
  exact high_low _ (hiB_37 P v)

theorem loB_38 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 2048 4864 (kernelRun0_B.sl.HS0_38 (F := Ideal) P.c P.arg2 P.harg2 P.arg3 P.harg3 P.arg4 P.harg4 P.arg9 P.x0 P.x1 P.x2) := by
  delta kernelRun0_B.sl.HS0_38
  exact low_low (p' := 2048) (q' := 4864) _ (loB_37 P v ok f hok) (copy_val (load512 (o := 4608) _ (hiB_37 P P.arg9.view) _ (by omega))) (by omega)

theorem hiB_39 (P : Point) (v : View sig .tc .vmem S520x5632 .f32) : High v P.hv 2816 5632 (kernelRun0_B.sl.HS0_39 (F := Ideal) P.c P.arg2 P.harg2 P.arg3 P.harg3 P.arg4 P.harg4 P.arg9 P.x0 P.x1 P.x2) := by
  delta kernelRun0_B.sl.HS0_39
  exact high_low _ (hiB_38 P v)

theorem loB_39 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 2304 4864 (kernelRun0_B.sl.HS0_39 (F := Ideal) P.c P.arg2 P.harg2 P.arg3 P.harg3 P.arg4 P.harg4 P.arg9 P.x0 P.x1 P.x2) := by
  delta kernelRun0_B.sl.HS0_39
  exact low_low (p' := 2304) (q' := 4864) _ (loB_38 P v ok f hok) (copy_val (load512 (o := 2048) _ (hiB_38 P P.arg9.view) _ (by omega))) (by omega)

theorem hiB_40 (P : Point) (v : View sig .tc .vmem S520x5632 .f32) : High v P.hv 2816 5632 (kernelRun0_B.sl.HS0_40 (F := Ideal) P.c P.arg2 P.harg2 P.arg3 P.harg3 P.arg4 P.harg4 P.arg9 P.x0 P.x1 P.x2) := by
  delta kernelRun0_B.sl.HS0_40
  exact high_low _ (hiB_39 P v)

theorem loB_40 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 2304 5120 (kernelRun0_B.sl.HS0_40 (F := Ideal) P.c P.arg2 P.harg2 P.arg3 P.harg3 P.arg4 P.harg4 P.arg9 P.x0 P.x1 P.x2) := by
  delta kernelRun0_B.sl.HS0_40
  exact low_low (p' := 2304) (q' := 5120) _ (loB_39 P v ok f hok) (copy_val (load512 (o := 4864) _ (hiB_39 P P.arg9.view) _ (by omega))) (by omega)

theorem hiB_41 (P : Point) (v : View sig .tc .vmem S520x5632 .f32) : High v P.hv 2816 5632 (kernelRun0_B.sl.HS0_41 (F := Ideal) P.c P.arg2 P.harg2 P.arg3 P.harg3 P.arg4 P.harg4 P.arg9 P.x0 P.x1 P.x2) := by
  delta kernelRun0_B.sl.HS0_41
  exact high_low _ (hiB_40 P v)

theorem loB_41 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 2560 5120 (kernelRun0_B.sl.HS0_41 (F := Ideal) P.c P.arg2 P.harg2 P.arg3 P.harg3 P.arg4 P.harg4 P.arg9 P.x0 P.x1 P.x2) := by
  delta kernelRun0_B.sl.HS0_41
  exact low_low (p' := 2560) (q' := 5120) _ (loB_40 P v ok f hok) (copy_val (load512 (o := 2304) _ (hiB_40 P P.arg9.view) _ (by omega))) (by omega)

theorem hiB_42 (P : Point) (v : View sig .tc .vmem S520x5632 .f32) : High v P.hv 2816 5632 (kernelRun0_B.sl.HS0_42 (F := Ideal) P.c P.arg2 P.harg2 P.arg3 P.harg3 P.arg4 P.harg4 P.arg9 P.x0 P.x1 P.x2) := by
  delta kernelRun0_B.sl.HS0_42
  exact high_low _ (hiB_41 P v)

theorem loB_42 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 2560 5376 (kernelRun0_B.sl.HS0_42 (F := Ideal) P.c P.arg2 P.harg2 P.arg3 P.harg3 P.arg4 P.harg4 P.arg9 P.x0 P.x1 P.x2) := by
  delta kernelRun0_B.sl.HS0_42
  exact low_low (p' := 2560) (q' := 5376) _ (loB_41 P v ok f hok) (copy_val (load512 (o := 5120) _ (hiB_41 P P.arg9.view) _ (by omega))) (by omega)

theorem hiB_43 (P : Point) (v : View sig .tc .vmem S520x5632 .f32) : High v P.hv 2816 5632 (kernelRun0_B.sl.HS0_43 (F := Ideal) P.c P.arg2 P.harg2 P.arg3 P.harg3 P.arg4 P.harg4 P.arg9 P.x0 P.x1 P.x2) := by
  delta kernelRun0_B.sl.HS0_43
  exact high_low _ (hiB_42 P v)

theorem loB_43 (P : Point) (v : View sig .tc .vmem S520x5632 .f32) (ok : Prop) (f : v.ty.Contents (Elt Ideal))
    (hok : ok → ∀ (r : Fin 520) (c : Fin 5632), r.val < 8 → (v.read (Elt Ideal) f (ix2 r c) : EReal) = P.hv r.val c.val) : Low v P.hv ok f 2816 5376 (kernelRun0_B.sl.HS0_43 (F := Ideal) P.c P.arg2 P.harg2 P.arg3 P.harg3 P.arg4 P.harg4 P.arg9 P.x0 P.x1 P.x2) := by
  delta kernelRun0_B.sl.HS0_43
  exact low_low (p' := 2816) (q' := 5376) _ (loB_42 P v ok f hok) (copy_val (load512 (o := 2560) _ (hiB_42 P P.arg9.view) _ (by omega))) (by omega)

end Cert.Ffn

end

end
-- ==== Proof.FfnAccB.lean ====
/- The accumulator through the body at a later block of a sequence. -/
module

public import proofs.«01_k».proof.Proof.FfnRowsB

@[expose] public section

set_option maxRecDepth 16384

noncomputable section

namespace Cert.Ffn

open Cert.Kernel2Ideal Cert.Kernel2Ideal.Gen Idealize.ShloMosaic Idealize.ShloMosaic.TcCoe Idealize.SL.Sem

theorem accB_1 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 256) (kernelRun0_B.sl.HS1_1 (F := Ideal) P.c P.arg2 P.harg2 P.arg3 P.harg3 P.arg4 P.harg4 P.arg5 P.harg5 P.arg6 P.harg6 P.arg7 P.harg7 P.arg9 P.harg9 P.x0 P.x1 P.x2 P.x3 P.x4 P.x5 xs0) := by
  delta kernelRun0_B.sl.HS1_1
  refine acc_store _ (chunk_first rfl ?_ ?_ ?_ ?_ ?_ ?_ ?_ ?_ ?_ ?_ ?_)
  · exact P.ld_w _
  · exact load8 (o := 0) _ (hiB_12 P P.arg9.view) _ (by omega)
  · exact loadTop (s := 7) (o := 0) _ (hiB_12 P P.arg9.view) (loB_12 P P.arg9.view True _ (P.low xs0 hok)) trivial (by omega) (by omega)
  · exact loadTop (s := 6) (o := 0) _ (hiB_12 P P.arg9.view) (loB_12 P P.arg9.view True _ (P.low xs0 hok)) trivial (by omega) (by omega)
  · exact P.ld_b _
  · exact P.ld_w _
  · exact load8 (o := 2816) _ (hiB_13 P P.arg9.view) _ (by omega)
  · exact loadTop (s := 7) (o := 2816) _ (hiB_13 P P.arg9.view) (loB_13 P P.arg9.view True _ (P.low xs0 hok)) trivial (by omega) (by omega)
  · exact loadTop (s := 6) (o := 2816) _ (hiB_13 P P.arg9.view) (loB_13 P P.arg9.view True _ (P.low xs0 hok)) trivial (by omega) (by omega)
  · exact P.ld_b _
  · exact P.ld_d _

theorem accB_2 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 512) (kernelRun0_B.sl.HS1_2 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_2
  refine acc_store _ (chunk_next (n := 256) (n' := 512) (o := 3072) rfl rfl ?_ ?_ ?_ ?_ ?_ ?_ ?_ ?_ ?_ ?_ ?_ ?_)
  · exact acc_load (accB_1 P xs0 hok) _ _
  · exact P.ld_w _
  · exact load8 (o := 256) _ (hiB_16 P P.arg9.view) _ (by omega)
  · exact loadTop (s := 7) (o := 256) _ (hiB_16 P P.arg9.view) (loB_16 P P.arg9.view True _ (P.low xs0 hok)) trivial (by omega) (by omega)
  · exact loadTop (s := 6) (o := 256) _ (hiB_16 P P.arg9.view) (loB_16 P P.arg9.view True _ (P.low xs0 hok)) trivial (by omega) (by omega)
  · exact P.ld_b _
  · exact P.ld_w _
  · exact load8 (o := 3072) _ (hiB_17 P P.arg9.view) _ (by omega)
  · exact loadTop (s := 7) (o := 3072) _ (hiB_17 P P.arg9.view) (loB_17 P P.arg9.view True _ (P.low xs0 hok)) trivial (by omega) (by omega)
  · exact loadTop (s := 6) (o := 3072) _ (hiB_17 P P.arg9.view) (loB_17 P P.arg9.view True _ (P.low xs0 hok)) trivial (by omega) (by omega)
  · exact P.ld_b _
  · exact P.ld_d _

theorem accB_3 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 768) (kernelRun0_B.sl.HS1_3 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_3
  refine acc_store _ (chunk_next (n := 512) (n' := 768) (o := 3328) rfl rfl ?_ ?_ ?_ ?_ ?_ ?_ ?_ ?_ ?_ ?_ ?_ ?_)
  · exact acc_load (accB_2 P xs0 hok) _ _
  · exact P.ld_w _
  · exact load8 (o := 512) _ (hiB_20 P P.arg9.view) _ (by omega)
  · exact loadTop (s := 7) (o := 512) _ (hiB_20 P P.arg9.view) (loB_20 P P.arg9.view True _ (P.low xs0 hok)) trivial (by omega) (by omega)
  · exact loadTop (s := 6) (o := 512) _ (hiB_20 P P.arg9.view) (loB_20 P P.arg9.view True _ (P.low xs0 hok)) trivial (by omega) (by omega)
  · exact P.ld_b _
  · exact P.ld_w _
  · exact load8 (o := 3328) _ (hiB_21 P P.arg9.view) _ (by omega)
  · exact loadTop (s := 7) (o := 3328) _ (hiB_21 P P.arg9.view) (loB_21 P P.arg9.view True _ (P.low xs0 hok)) trivial (by omega) (by omega)
  · exact loadTop (s := 6) (o := 3328) _ (hiB_21 P P.arg9.view) (loB_21 P P.arg9.view True _ (P.low xs0 hok)) trivial (by omega) (by omega)
  · exact P.ld_b _
  · exact P.ld_d _

theorem accB_4 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 1024) (kernelRun0_B.sl.HS1_4 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_4
  refine acc_store _ (chunk_next (n := 768) (n' := 1024) (o := 3584) rfl rfl ?_ ?_ ?_ ?_ ?_ ?_ ?_ ?_ ?_ ?_ ?_ ?_)
  · exact acc_load (accB_3 P xs0 hok) _ _
  · exact P.ld_w _
  · exact load8 (o := 768) _ (hiB_24 P P.arg9.view) _ (by omega)
  · exact loadTop (s := 7) (o := 768) _ (hiB_24 P P.arg9.view) (loB_24 P P.arg9.view True _ (P.low xs0 hok)) trivial (by omega) (by omega)
  · exact loadTop (s := 6) (o := 768) _ (hiB_24 P P.arg9.view) (loB_24 P P.arg9.view True _ (P.low xs0 hok)) trivial (by omega) (by omega)
  · exact P.ld_b _
  · exact P.ld_w _
  · exact load8 (o := 3584) _ (hiB_25 P P.arg9.view) _ (by omega)
  · exact loadTop (s := 7) (o := 3584) _ (hiB_25 P P.arg9.view) (loB_25 P P.arg9.view True _ (P.low xs0 hok)) trivial (by omega) (by omega)
  · exact loadTop (s := 6) (o := 3584) _ (hiB_25 P P.arg9.view) (loB_25 P P.arg9.view True _ (P.low xs0 hok)) trivial (by omega) (by omega)
  · exact P.ld_b _
  · exact P.ld_d _

theorem accB_5 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 1280) (kernelRun0_B.sl.HS1_5 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_5
  refine acc_store _ (chunk_next (n := 1024) (n' := 1280) (o := 3840) rfl rfl ?_ ?_ ?_ ?_ ?_ ?_ ?_ ?_ ?_ ?_ ?_ ?_)
  · exact acc_load (accB_4 P xs0 hok) _ _
  · exact P.ld_w _
  · exact load8 (o := 1024) _ (hiB_28 P P.arg9.view) _ (by omega)
  · exact loadTop (s := 7) (o := 1024) _ (hiB_28 P P.arg9.view) (loB_28 P P.arg9.view True _ (P.low xs0 hok)) trivial (by omega) (by omega)
  · exact loadTop (s := 6) (o := 1024) _ (hiB_28 P P.arg9.view) (loB_28 P P.arg9.view True _ (P.low xs0 hok)) trivial (by omega) (by omega)
  · exact P.ld_b _
  · exact P.ld_w _
  · exact load8 (o := 3840) _ (hiB_29 P P.arg9.view) _ (by omega)
  · exact loadTop (s := 7) (o := 3840) _ (hiB_29 P P.arg9.view) (loB_29 P P.arg9.view True _ (P.low xs0 hok)) trivial (by omega) (by omega)
  · exact loadTop (s := 6) (o := 3840) _ (hiB_29 P P.arg9.view) (loB_29 P P.arg9.view True _ (P.low xs0 hok)) trivial (by omega) (by omega)
  · exact P.ld_b _
  · exact P.ld_d _

theorem accB_6 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 1536) (kernelRun0_B.sl.HS1_6 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_6
  refine acc_store _ (chunk_next (n := 1280) (n' := 1536) (o := 4096) rfl rfl ?_ ?_ ?_ ?_ ?_ ?_ ?_ ?_ ?_ ?_ ?_ ?_)
  · exact acc_load (accB_5 P xs0 hok) _ _
  · exact P.ld_w _
  · exact load8 (o := 1280) _ (hiB_32 P P.arg9.view) _ (by omega)
  · exact loadTop (s := 7) (o := 1280) _ (hiB_32 P P.arg9.view) (loB_32 P P.arg9.view True _ (P.low xs0 hok)) trivial (by omega) (by omega)
  · exact loadTop (s := 6) (o := 1280) _ (hiB_32 P P.arg9.view) (loB_32 P P.arg9.view True _ (P.low xs0 hok)) trivial (by omega) (by omega)
  · exact P.ld_b _
  · exact P.ld_w _
  · exact load8 (o := 4096) _ (hiB_33 P P.arg9.view) _ (by omega)
  · exact loadTop (s := 7) (o := 4096) _ (hiB_33 P P.arg9.view) (loB_33 P P.arg9.view True _ (P.low xs0 hok)) trivial (by omega) (by omega)
  · exact loadTop (s := 6) (o := 4096) _ (hiB_33 P P.arg9.view) (loB_33 P P.arg9.view True _ (P.low xs0 hok)) trivial (by omega) (by omega)
  · exact P.ld_b _
  · exact P.ld_d _

theorem accB_7 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 1792) (kernelRun0_B.sl.HS1_7 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_7
  refine acc_store _ (chunk_next (n := 1536) (n' := 1792) (o := 4352) rfl rfl ?_ ?_ ?_ ?_ ?_ ?_ ?_ ?_ ?_ ?_ ?_ ?_)
  · exact acc_load (accB_6 P xs0 hok) _ _
  · exact P.ld_w _
  · exact load8 (o := 1536) _ (hiB_34 P P.arg9.view) _ (by omega)
  · exact loadTop (s := 7) (o := 1536) _ (hiB_34 P P.arg9.view) (loB_34 P P.arg9.view True _ (P.low xs0 hok)) trivial (by omega) (by omega)
  · exact loadTop (s := 6) (o := 1536) _ (hiB_34 P P.arg9.view) (loB_34 P P.arg9.view True _ (P.low xs0 hok)) trivial (by omega) (by omega)
  · exact P.ld_b _
  · exact P.ld_w _
  · exact load8 (o := 4352) _ (hiB_35 P P.arg9.view) _ (by omega)
  · exact loadTop (s := 7) (o := 4352) _ (hiB_35 P P.arg9.view) (loB_35 P P.arg9.view True _ (P.low xs0 hok)) trivial (by omega) (by omega)
  · exact loadTop (s := 6) (o := 4352) _ (hiB_35 P P.arg9.view) (loB_35 P P.arg9.view True _ (P.low xs0 hok)) trivial (by omega) (by omega)
  · exact P.ld_b _
  · exact P.ld_d _

theorem accB_8 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 2048) (kernelRun0_B.sl.HS1_8 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_8
  refine acc_store _ (chunk_next (n := 1792) (n' := 2048) (o := 4608) rfl rfl ?_ ?_ ?_ ?_ ?_ ?_ ?_ ?_ ?_ ?_ ?_ ?_)
  · exact acc_load (accB_7 P xs0 hok) _ _
  · exact P.ld_w _
  · exact load8 (o := 1792) _ (hiB_36 P P.arg9.view) _ (by omega)
  · exact loadTop (s := 7) (o := 1792) _ (hiB_36 P P.arg9.view) (loB_36 P P.arg9.view True _ (P.low xs0 hok)) trivial (by omega) (by omega)
  · exact loadTop (s := 6) (o := 1792) _ (hiB_36 P P.arg9.view) (loB_36 P P.arg9.view True _ (P.low xs0 hok)) trivial (by omega) (by omega)
  · exact P.ld_b _
  · exact P.ld_w _
  · exact load8 (o := 4608) _ (hiB_37 P P.arg9.view) _ (by omega)
  · exact loadTop (s := 7) (o := 4608) _ (hiB_37 P P.arg9.view) (loB_37 P P.arg9.view True _ (P.low xs0 hok)) trivial (by omega) (by omega)
  · exact loadTop (s := 6) (o := 4608) _ (hiB_37 P P.arg9.view) (loB_37 P P.arg9.view True _ (P.low xs0 hok)) trivial (by omega) (by omega)
  · exact P.ld_b _
  · exact P.ld_d _

theorem accB_9 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 2304) (kernelRun0_B.sl.HS1_9 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_9 kernelRun0_B.sl.r_36 kernelRun0_B.sl.r_37 kernelRun0_B.sl.r_35 kernelRun0_B.sl.r_34 k0_pay80 k0_pay78 k0_pay76 k0_pay75
  refine acc_store _ (chunk_next (n := 2048) (n' := 2304) (o := 4864) rfl rfl ?_ ?_ ?_ ?_ ?_ ?_ ?_ ?_ ?_ ?_ ?_ ?_)
  · exact acc_load (accB_8 P xs0 hok) _ _
  · exact P.ld_w _
  · exact load8 (o := 2048) _ (hiB_38 P P.arg9.view) _ (by omega)
  · exact loadTop (s := 7) (o := 2048) _ (hiB_38 P P.arg9.view) (loB_38 P P.arg9.view True _ (P.low xs0 hok)) trivial (by omega) (by omega)
  · exact loadTop (s := 6) (o := 2048) _ (hiB_38 P P.arg9.view) (loB_38 P P.arg9.view True _ (P.low xs0 hok)) trivial (by omega) (by omega)
  · exact P.ld_b _
  · exact P.ld_w _
  · exact load8 (o := 4864) _ (hiB_39 P P.arg9.view) _ (by omega)
  · exact loadTop (s := 7) (o := 4864) _ (hiB_39 P P.arg9.view) (loB_39 P P.arg9.view True _ (P.low xs0 hok)) trivial (by omega) (by omega)
  · exact loadTop (s := 6) (o := 4864) _ (hiB_39 P P.arg9.view) (loB_39 P P.arg9.view True _ (P.low xs0 hok)) trivial (by omega) (by omega)
  · exact P.ld_b _
  · exact P.ld_d _

theorem accB_10 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 2560) (kernelRun0_B.sl.HS1_10 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_10
  refine acc_store _ (chunk_next (n := 2304) (n' := 2560) (o := 5120) rfl rfl ?_ ?_ ?_ ?_ ?_ ?_ ?_ ?_ ?_ ?_ ?_ ?_)
  · exact acc_load (accB_9 P xs0 hok) _ _
  · exact P.ld_w _
  · exact load8 (o := 2304) _ (hiB_40 P P.arg9.view) _ (by omega)
  · exact loadTop (s := 7) (o := 2304) _ (hiB_40 P P.arg9.view) (loB_40 P P.arg9.view True _ (P.low xs0 hok)) trivial (by omega) (by omega)
  · exact loadTop (s := 6) (o := 2304) _ (hiB_40 P P.arg9.view) (loB_40 P P.arg9.view True _ (P.low xs0 hok)) trivial (by omega) (by omega)
  · exact P.ld_b _
  · exact P.ld_w _
  · exact load8 (o := 5120) _ (hiB_41 P P.arg9.view) _ (by omega)
  · exact loadTop (s := 7) (o := 5120) _ (hiB_41 P P.arg9.view) (loB_41 P P.arg9.view True _ (P.low xs0 hok)) trivial (by omega) (by omega)
  · exact loadTop (s := 6) (o := 5120) _ (hiB_41 P P.arg9.view) (loB_41 P P.arg9.view True _ (P.low xs0 hok)) trivial (by omega) (by omega)
  · exact P.ld_b _
  · exact P.ld_d _

theorem accB_11 (P : Point) (xs0 : Vec Ideal S520x5632 .f32) (hok : ∀ (r : Fin 520) (c : Fin 5632), r.val < 8 → (xs0 (ix2 r c) : EReal) = P.hv r.val c.val) :
    AccIs P.arg10.view (part P.hv P.W P.B P.D 2816) (kernelRun0_B.sl.HS1_11 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0) := by
  delta kernelRun0_B.sl.HS1_11
  refine acc_store _ (chunk_next (n := 2560) (n' := 2816) (o := 5376) rfl rfl ?_ ?_ ?_ ?_ ?_ ?_ ?_ ?_ ?_ ?_ ?_ ?_)
  · exact acc_load (accB_10 P xs0 hok) _ _
  · exact P.ld_w _
  · exact load8 (o := 2560) _ (hiB_42 P P.arg9.view) _ (by omega)
  · exact loadTop (s := 7) (o := 2560) _ (hiB_42 P P.arg9.view) (loB_42 P P.arg9.view True _ (P.low xs0 hok)) trivial (by omega) (by omega)
  · exact loadTop (s := 6) (o := 2560) _ (hiB_42 P P.arg9.view) (loB_42 P P.arg9.view True _ (P.low xs0 hok)) trivial (by omega) (by omega)
  · exact P.ld_b _
  · exact P.ld_w _
  · exact load8 (o := 5376) _ (hiB_43 P P.arg9.view) _ (by omega)
  · exact loadTop (s := 7) (o := 5376) _ (hiB_43 P P.arg9.view) (loB_43 P P.arg9.view True _ (P.low xs0 hok)) trivial (by omega) (by omega)
  · exact loadTop (s := 6) (o := 5376) _ (hiB_43 P P.arg9.view) (loB_43 P P.arg9.view True _ (P.low xs0 hok)) trivial (by omega) (by omega)
  · exact P.ld_b _
  · exact P.ld_d _

end Cert.Ffn

end

end
-- ==== Proof.FfnOut.lean ====
/- What the feed-forward body leaves: its block of the result, and the rows of the buffer that the next block needs. -/
module

public import proofs.«01_k».proof.Proof.FfnAccA
public import proofs.«01_k».proof.Proof.FfnAccB

@[expose] public section

set_option maxRecDepth 16384

noncomputable section

namespace Cert.Ffn

open Cert.Kernel2Ideal Cert.Kernel2Ideal.Gen Idealize.ShloMosaic Idealize.ShloMosaic.TcCoe Idealize.SL.Sem

theorem res_val (P : Point) (r v : Vec Ideal S512x1024 .f32) (y : Fin 512) (d : Fin 1024)
    (i0 : ∀ a, (![0, 0] : Fin 2 → ℕ) a + S512x1024.size a ≤ S512x1024.size a)
    (hr : r = k0_pay4 (P.arg2.view.readAt (Elt Ideal) (Rect.unit (s := S512x1024) ![0, 0] S512x1024.size i0).toLoadRect (P.harg2.unread P.x0)))
    (hv : (v (ix2 y d) : EReal) = part P.hv P.W P.B P.D 2816 y d) :
    (k0_pay2 r v (ix2 y d) : EReal) = P.x0 (ix2 y d) + part P.hv P.W P.B P.D 2816 y d := by
  have e := load_rect P.arg2 P.harg2 P.x0 i0 y d (by omega) (by omega)
  subst hr
  generalize P.arg2.view.readAt (Elt Ideal) (Rect.unit (s := S512x1024) ![0, 0] S512x1024.size i0).toLoadRect (P.harg2.unread P.x0) = z at e ⊢
  pointwise [k0_pay2, k0_pay4]
  rw [hv, e]
  congr 2
  exact congrArg₂ ix2 (Fin.ext (by simp)) (Fin.ext (by simp))

theorem outA (P : Point) (i : grid0.Coords) (hc : cond0_0 i)
    (hok : ∀ r c, r < 8 → P.hv r c = 0) (y : Fin 512) (d : Fin 1024) :
    (out0_A_6 (F := Ideal) P.c i P.arg2 P.harg2 P.arg3 P.harg3 P.arg4 P.harg4 P.arg5 P.harg5 P.arg6 P.harg6 P.arg7 P.harg7 P.arg8 P.harg8 P.arg9 P.harg9 P.arg10 P.harg10 hc P.x0 P.x1 P.x2 P.x3 P.x4 P.x5 (ix2 y d) : EReal)
      = P.x0 (ix2 y d) + part P.hv P.W P.B P.D 2816 y d := by
  have h : AccIs VO0_6 (fun y d => P.x0 (ix2 y d) + part P.hv P.W P.B P.D 2816 y d)
      [⟨Rect.unit ![0, 0] S512x1024.size inb_S512x1024_S512x1024_0_0, k0_pay2 (kernelRun0_A.sl.r (F := Ideal) P.c P.arg2 P.harg2 P.x0)
        (kernelRun0_A.sl.v854 (F := Ideal) P.c P.arg2 P.harg2 P.arg3 P.harg3 P.arg4 P.harg4 P.arg5 P.harg5 P.arg6 P.harg6 P.arg7 P.harg7 P.arg9 P.arg10 P.x0 P.x1 P.x2 P.x3 P.x4 P.x5)⟩] :=
    acc_store _ fun y d => res_val P _ _ y d inb_S512x1024_S512x1024_0_0 rfl (acc_load (accA_11 P hok) _ _ y d)
  exact h VO0_6.junk y d

theorem soutA (P : Point) (i : grid0.Coords) (hc : cond0_0 i) (hok : ∀ r c, r < 8 → P.hv r c = 0) (r : Fin 520) (c : Fin 5632) (hr : r.val < 8) :
    (sout0_A_0 (F := Ideal) P.c i P.arg2 P.harg2 P.arg3 P.harg3 P.arg4 P.harg4 P.arg5 P.harg5 P.arg6 P.harg6 P.arg7 P.harg7 P.arg8 P.harg8 P.arg9 P.harg9 P.arg10 P.harg10 hc P.x0 P.x1 P.x2 P.x3 P.x4 P.x5 (ix2 r c) : EReal)
      = P.hv (512 + r.val) c.val := by
  have h : Low VS0_0 P.hv False VS0_0.junk 2816 5632 (⟨Rect.unit ![0, 5376] S8x256.size inb_S520x5632_S8x256_0_5376, k0_pay90
      (kernelRun0_A.sl.v832 (F := Ideal) P.c P.arg2 P.harg2 P.arg3 P.harg3 P.arg4 P.harg4 P.arg9 P.x0 P.x1 P.x2)⟩
      :: (kernelRun0_A.sl.HS0_44 (F := Ideal) P.c P.arg2 P.harg2 P.arg3 P.harg3 P.arg4 P.harg4 P.arg9 P.x0 P.x1 P.x2)) :=
    low_low _ (loA_44 P VS0_0 False VS0_0.junk hok) (copy_val (load512 (o := 5376) _ (hiA_44 P P.arg9.view) _ (by omega))) (by omega)
  exact (h r c hr).1 (by omega)

theorem outB (P : Point) (i : grid0.Coords) (hc : ¬cond0_0 i) (xs0 : Vec Ideal S520x5632 .f32)
    (hok : ∀ (r : Fin 520) (c : Fin 5632), r.val < 8 → (xs0 (ix2 r c) : EReal) = P.hv r.val c.val) (y : Fin 512) (d : Fin 1024) :
    (out0_B_6 (F := Ideal) P.c i P.arg2 P.harg2 P.arg3 P.harg3 P.arg4 P.harg4 P.arg5 P.harg5 P.arg6 P.harg6 P.arg7 P.harg7 P.arg8 P.harg8 P.arg9 P.harg9 P.arg10 P.harg10 hc P.x0 P.x1 P.x2 P.x3 P.x4 P.x5 xs0 (ix2 y d) : EReal)
      = P.x0 (ix2 y d) + part P.hv P.W P.B P.D 2816 y d := by
  have h : AccIs VO0_6 (fun y d => P.x0 (ix2 y d) + part P.hv P.W P.B P.D 2816 y d)
      [⟨Rect.unit ![0, 0] S512x1024.size inb_S512x1024_S512x1024_0_0, k0_pay2 (kernelRun0_B.sl.r (F := Ideal) P.c P.arg2 P.harg2 P.x0)
        (kernelRun0_B.sl.v854 (F := Ideal) P.c P.arg2 P.harg2 P.arg3 P.harg3 P.arg4 P.harg4 P.arg5 P.harg5 P.arg6 P.harg6 P.arg7 P.harg7 P.arg9 P.harg9 P.arg10 P.x0 P.x1 P.x2 P.x3 P.x4 P.x5 xs0)⟩] :=
    acc_store _ fun y d => res_val P _ _ y d inb_S512x1024_S512x1024_0_0 rfl (acc_load (accB_11 P xs0 hok) _ _ y d)
  exact h VO0_6.junk y d

theorem soutB (P : Point) (i : grid0.Coords) (hc : ¬cond0_0 i) (xs0 : Vec Ideal S520x5632 .f32) (r : Fin 520) (c : Fin 5632) (hr : r.val < 8) :
    (sout0_B_0 (F := Ideal) P.c i P.arg2 P.harg2 P.arg3 P.harg3 P.arg4 P.harg4 P.arg5 P.harg5 P.arg6 P.harg6 P.arg7 P.harg7 P.arg8 P.harg8 P.arg9 P.harg9 P.arg10 P.harg10 hc P.x0 P.x1 P.x2 P.x3 P.x4 P.x5 xs0 (ix2 r c) : EReal)
      = P.hv (512 + r.val) c.val := by
  have h : Low VS0_0 P.hv False VS0_0.junk 2816 5632 (⟨Rect.unit ![0, 5376] S8x256.size inb_S520x5632_S8x256_0_5376, k0_pay90
      (kernelRun0_B.sl.v832 (F := Ideal) P.c P.arg2 P.harg2 P.arg3 P.harg3 P.arg4 P.harg4 P.arg9 P.x0 P.x1 P.x2)⟩
      :: (kernelRun0_B.sl.HS0_43 (F := Ideal) P.c P.arg2 P.harg2 P.arg3 P.harg3 P.arg4 P.harg4 P.arg9 P.x0 P.x1 P.x2)) :=
    low_low _ (loB_43 P VS0_0 False VS0_0.junk (fun h => h.elim)) (copy_val (load512 (o := 5376) _ (hiB_43 P P.arg9.view) _ (by omega))) (by omega)
  exact (h r c hr).1 (by omega)

end Cert.Ffn

end

end
-- ==== Proof.FfnRef.lean ====
/- The reference of the feed-forward part read at an index: the up projection of the normalized rows, the convolution over
   positions, and each result as the gated sum over the hidden channels added to the residual stream. -/
module

public import proofs.«01_k».proof.Proof.Gen.Reference2Ideal.Run
public import proofs.«01_k».proof.Proof.FfnStep

@[expose] public section

set_option maxRecDepth 16384

noncomputable section

namespace Cert.Ffn

open Cert.Reference2Ideal Cert.Reference2Ideal.Gen Idealize.ShloMosaic Idealize.ShloMosaic.TcCoe Idealize.SL.Sem

/-- A channel of a row divided by the row's root mean square, times the gain. -/
def nrm (row gain : Fin 1024 → EReal) (k : Fin 1024) : EReal :=
  row k * Ideal.rsqrt (Ideal.div (∑ j, row j * row j) (Ideal.ofBits .f32 0x44800000#32) + Ideal.ofBits .f32 0x358637BD#32) * gain k

theorem pay5_apply (x0 : Vec Ideal Cert.Kernel2Ideal.S512x1024 .f32) (x1 : Vec Ideal Cert.Kernel2Ideal.S1x1024 .f32) (y : Fin 512) (k : Fin 1024) :
    (Cert.Kernel2Ideal.Gen.k0_pay5 x0 x1 (ix2 y k) : EReal) = nrm (fun j => x0 (ix2 y j)) (fun j => x1 (ix2 0 j)) k := by
  pointwise [Cert.Kernel2Ideal.Gen.k0_pay5, Cert.Kernel2Ideal.Gen.k0_pay4]
  rfl

/-- The up projection of the normalized rows. -/
def hid (x : FVec Ideal S2x8192x1024 .f32) (g : FVec Ideal S1024 .f32) (w : FVec Ideal S1024x5632 .f32) : FVec Ideal S2x8192x5632 .f32 :=
  Host.dotGeneral (φ₁ := .f32) (φ₂ := .f32) dot_S2x8192x1024_S1024x5632_S2x8192x5632_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))) w

theorem hid_apply (x : FVec Ideal S2x8192x1024 .f32) (g : FVec Ideal S1024 .f32) (w : FVec Ideal S1024x5632 .f32) (b : Fin 2) (t : Fin 8192) (c : Fin 5632) :
    (hid x g w (ix3 b t c) : EReal) = ∑ k : Fin 1024, nrm (fun j => x (ix3 b t j)) (fun j => g (ix1 j)) k * (w (ix2 k c) : EReal) := by
  pointwise [hid]
  rfl

/-- Two rows of zeros before the first position. -/
def padded (h : FVec Ideal S2x8192x5632 .f32) : FVec Ideal S2x8194x5632 .f32 :=
  pad S2x8194x5632 ![0, 2, 0] ![0, 0, 0] ![0, 0, 0] h (sitofp (F := Ideal) .f32 (constantI S_ 32 0#32)) pads_S2x8192x5632_S2x8194x5632_000_200_000 h_S_

/-- Row `n` counts position `n - 8`; before the first position there are zeros. -/
def rowsOf (h : FVec Ideal S2x8192x5632 .f32) (b : Fin 2) (n c : ℕ) : EReal :=
  if hn : 8 ≤ n ∧ n < 8200 ∧ c < 5632 then h (ix3 b ⟨n - 8, by omega⟩ ⟨c, hn.2.2⟩) else 0

theorem padded_apply (h : FVec Ideal S2x8192x5632 .f32) (b : Fin 2) (t : Fin 8194) (c : Fin 5632) :
    (padded h (ix3 b t c) : EReal) = rowsOf h b (t.val + 6) c.val := by
  pointwise [padded]
  unfold rowsOf
  by_cases ht : 2 ≤ t.val
  · have h3 : 8 ≤ t.val + 6 ∧ t.val + 6 < 8200 ∧ c.val < 5632 := ⟨by omega, by omega, c.isLt⟩
    have h4 : 2 ≤ t.val ∧ t.val - 2 < 8192 := ⟨ht, by omega⟩
    rw [dif_pos h3, dif_pos h4]
    exact congrArg (fun z => h (ix3 b z c)) (Fin.ext (by simp only []; omega))
  · rw [dif_neg fun h4 => ht h4.1, dif_neg fun h4 => ht (by omega)]
    show (((0#32 : BitVec 32).toInt : ℝ) : EReal) = 0
    simp

/-- The convolution over positions. -/
def cnv (hp : FVec Ideal S2x8194x5632 .f32) (cw : FVec Ideal S3x5632 .f32) (cb : FVec Ideal S5632 .f32) : FVec Ideal S2x8192x5632 .f32 :=
  addf (addf (addf (mulf (extractStridedSlice S2x8192x5632 ![0, 0, 0] hp slices_S2x8194x5632_S2x8192x5632_0_0_0) (broadcastInDim S2x8192x5632 ![0, 1, 2] bcast_S1x1x5632_S2x8192x5632_0_1_2 (broadcastInDim S1x1x5632 ![2] bcast_S5632_S1x1x5632_2 (shapeCast _ (extractStridedSlice S1x5632 ![0, 0] cw slices_S3x5632_S1x5632_0_0) shapeCasts_S1x5632_S5632)))) (mulf (extractStridedSlice S2x8192x5632 ![0, 1, 0] hp slices_S2x8194x5632_S2x8192x5632_0_1_0) (broadcastInDim S2x8192x5632 ![0, 1, 2] bcast_S1x1x5632_S2x8192x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S2x8192x5632 ![0, 2, 0] hp slices_S2x8194x5632_S2x8192x5632_0_2_0) (broadcastInDim S2x8192x5632 ![0, 1, 2] bcast_S1x1x5632_S2x8192x5632_0_1_2 (broadcastInDim S1x1x5632 ![2] bcast_S5632_S1x1x5632_2 (shapeCast _ (extractStridedSlice S1x5632 ![2, 0] cw slices_S3x5632_S1x5632_2_0) shapeCasts_S1x5632_S5632))))) (broadcastInDim S2x8192x5632 ![0, 1, 2] bcast_S1x1x5632_S2x8192x5632_0_1_2 (broadcastInDim S1x1x5632 ![2] bcast_S5632_S1x1x5632_2 cb))

theorem cnv_apply (hp : FVec Ideal S2x8194x5632 .f32) (cw : FVec Ideal S3x5632 .f32) (cb : FVec Ideal S5632 .f32) (b : Fin 2) (t : Fin 8192) (c : Fin 5632) :
    (cnv hp cw cb (ix3 b t c) : EReal)
      = (hp (ix3 b ⟨0 + t.val, by omega⟩ c) : EReal) * cw (ix2 0 c) + (hp (ix3 b ⟨1 + t.val, by omega⟩ c) : EReal) * cw (ix2 1 c)
        + (hp (ix3 b ⟨2 + t.val, by omega⟩ c) : EReal) * cw (ix2 2 c) + cb (ix1 c) := by
  pointwise [cnv]

/-- The gated hidden channels projected down and added to the residual stream. -/
def down (a : FVec Ideal S2x8192x5632 .f32) (x : FVec Ideal S2x8192x1024 .f32) (wd : FVec Ideal S2816x1024 .f32) : FVec Ideal S16384x1024 .f32 :=
  shapeCast _ (addf x (Host.dotGeneral (φ₁ := .f32) (φ₂ := .f32) dot_S2x8192x2816_S2816x1024_S2x8192x1024_2_0_01_1_n_n none (mulf (mulf (extractStridedSlice S2x8192x2816 ![0, 0, 0] a slices_S2x8192x5632_S2x8192x2816_0_0_0) (Host.divf (broadcastInDim S2x8192x2816 ![] bcast_S_S2x8192x2816 (constant (F := Ideal) S_ .f32 0x3F800000#32)) (addf (broadcastInDim S2x8192x2816 ![] bcast_S_S2x8192x2816 (constant (F := Ideal) S_ .f32 0x3F800000#32)) (Host.exp (Host.negf (extractStridedSlice S2x8192x2816 ![0, 0, 0] a slices_S2x8192x5632_S2x8192x2816_0_0_0)))))) (extractStridedSlice S2x8192x2816 ![0, 0, 2816] a slices_S2x8192x5632_S2x8192x2816_0_0_2816)) wd)) shapeCasts_S2x8192x1024_S16384x1024

theorem down_apply (a : FVec Ideal S2x8192x5632 .f32) (x : FVec Ideal S2x8192x1024 .f32) (wd : FVec Ideal S2816x1024 .f32) (r : Fin 16384) (d : Fin 1024)
    (b : Fin 2) (t : Fin 8192) (hr : r.val = 8192 * b.val + t.val) :
    (down a x wd (ix2 r d) : EReal) = x (ix3 b t d)
      + ∑ j : Fin 2816, glu (a (ix3 b t ⟨j.val, by omega⟩)) (a (ix3 b t ⟨2816 + j.val, by omega⟩)) * (wd (ix2 j d) : EReal) := by
  obtain ⟨b, hb⟩ := b; obtain ⟨t, ht⟩ := t
  simp only [] at hr
  obtain rfl : b = r.val / 8192 := by omega
  obtain rfl : t = r.val % 8192 := by omega
  pointwise [down]
  unfold glu
  simp only [zero_sub]

/-- The whole reference. -/
def ref (x : FVec Ideal S2x8192x1024 .f32) (g : FVec Ideal S1024 .f32) (w : FVec Ideal S1024x5632 .f32) (cw : FVec Ideal S3x5632 .f32)
    (cb : FVec Ideal S5632 .f32) (wd : FVec Ideal S2816x1024 .f32) : FVec Ideal S16384x1024 .f32 :=
  down (cnv (padded (hid x g w)) cw cb) x wd

theorem res_eq (m : (ℓ : Loc nD τ sig) → Buf (Elt Ideal) ℓ) (c : Dev nD) :
    Value.res_main_v44 m c = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.Ffn

end

end
-- ==== Proof.FfnFinal.lean ====
/- The feed-forward kernel's result array: every block of rows holds the reference's values. The last eight rows that a
   block of rows leaves in the buffer are the rows before the next block's first. -/
module

public import proofs.«01_k».proof.Proof.Gen.Kernel2Ideal.Value
public import proofs.«01_k».proof.Proof.FfnOut
public import proofs.«01_k».proof.Proof.FfnRef
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The kernel's arguments. -/
def argX : FVec Ideal S2x8192x1024 .f32 := m ((c.tc : Thread nD τ).loc main_arg0)
def argG : FVec Ideal S1024 .f32 := m ((c.tc : Thread nD τ).loc main_arg1)
def argU : FVec Ideal S1024x5632 .f32 := m ((c.tc : Thread nD τ).loc main_arg2)
def argW : FVec Ideal S3x5632 .f32 := m ((c.tc : Thread nD τ).loc main_arg3)
def argB : FVec Ideal S5632 .f32 := m ((c.tc : Thread nD τ).loc main_arg4)
def argD : FVec Ideal S2816x1024 .f32 := m ((c.tc : Thread nD τ).loc main_arg5)

theorem v0_eq : V m c main_v0 = shapeCast S16384x1024 (argX m c) shapeCasts_S2x8192x1024_S16384x1024 := rfl
theorem v1_eq : V m c main_v1 = broadcastInDim S1x1024 ![1] bcast_S1024_S1x1024_1 (argG m c) := rfl
theorem v2_eq : V m c main_v2 = truncf .bf16 (argU m c) bitsLt_bf16_f32 := rfl
theorem a3_eq : V m c main_arg3 = argW m c := rfl
theorem v3_eq : V m c main_v3 = broadcastInDim S1x5632 ![1] bcast_S5632_S1x5632_1 (argB m c) := rfl
theorem v4_eq : V m c main_v4 = truncf .bf16 (argD m c) bitsLt_bf16_f32 := rfl

theorem host_x (r : Fin 16384) (k : Fin 1024) (b : Fin 2) (t : Fin 8192) (hr : r.val = 8192 * b.val + t.val) :
    ((V m c main_v0 : Vec Ideal S16384x1024 .f32) (ix2 r k) : EReal) = argX m c (ix3 b t k) := by
  rw [v0_eq]
  obtain ⟨b, hb⟩ := b; obtain ⟨t, ht⟩ := t
  simp only [] at hr
  obtain rfl : b = r.val / 8192 := by omega
  obtain rfl : t = r.val % 8192 := by omega
  pointwise

theorem host_g (k : Fin 1024) : ((V m c main_v1 : Vec Ideal S1x1024 .f32) (ix2 0 k) : EReal) = argG m c (ix1 k) := by
  rw [v1_eq]
  pointwise

theorem host_u (k : Fin 1024) (x : Fin 5632) : ((V m c main_v2 : Vec Ideal S1024x5632 .bf16) (ix2 k x) : EReal) = argU m c (ix2 k x) := by
  rw [v2_eq]
  pointwise

theorem host_w (i : Fin 3) (x : Fin 5632) : ((V m c main_arg3 : Vec Ideal S3x5632 .f32) (ix2 i x) : EReal) = argW m c (ix2 i x) := by
  rw [a3_eq]

theorem host_b (x : Fin 5632) : ((V m c main_v3 : Vec Ideal S1x5632 .f32) (ix2 0 x) : EReal) = argB m c (ix1 x) := by
  rw [v3_eq]
  pointwise

theorem host_d (k : Fin 2816) (d : Fin 1024) : ((V m c main_v4 : Vec Ideal S2816x1024 .bf16) (ix2 k d) : EReal) = argD m c (ix2 k d) := by
  rw [v4_eq]
  pointwise

theorem idx0 : ∀ t : Fin cfg0.N, win0_0.index t 0 = t.val ∧ win0_0.index t 1 = 0 := by
  decide +kernel

theorem emb_x (t : Fin cfg0.N) (y : Fin 512) (x : Fin 1024) (hy : 512 * t.val + y.val < 16384) :
    (win0_0.blk t).view.emb (ix2 y x) = ix2 ⟨512 * t.val + y.val, hy⟩ x := by
  obtain ⟨e0, e1⟩ := idx0 t
  funext a
  apply Fin.ext
  fin_cases a
  · show win0_0.index t 0 * 512 + 1 * y.val = 512 * t.val + y.val
    omega
  · show win0_0.index t 1 * 1024 + 1 * x.val = x.val
    omega

theorem blk_x (t : Fin cfg0.N) (y : Fin 512) (x : Fin 1024) (hy : 512 * t.val + y.val < 16384) :
    (iblk m c 0 t : Vec Ideal S512x1024 .f32) (ix2 y x) = (V m c main_v0 : Vec Ideal S16384x1024 .f32) (ix2 ⟨512 * t.val + y.val, hy⟩ x) :=
  congrArg (V m c main_v0) (emb_x t y x hy)

theorem idx1 : ∀ t : Fin cfg0.N, win0_1.index t 0 = 0 ∧ win0_1.index t 1 = 0 := by
  decide +kernel

theorem emb_g (t : Fin cfg0.N) (y : Fin 1) (x : Fin 1024) : (win0_1.blk t).view.emb (ix2 y x) = ix2 y x := by
  obtain ⟨e0, e1⟩ := idx1 t
  funext a
  apply Fin.ext
  fin_cases a
  · show win0_1.index t 0 * 1 + 1 * y.val = y.val
    omega
  · show win0_1.index t 1 * 1024 + 1 * x.val = x.val
    omega

theorem blk_g (t : Fin cfg0.N) (y : Fin 1) (x : Fin 1024) :
    (iblk m c 1 t : Vec Ideal S1x1024 .f32) (ix2 y x) = (V m c main_v1 : Vec Ideal S1x1024 .f32) (ix2 y x) :=
  congrArg (V m c main_v1) (emb_g t y x)

theorem idx2 : ∀ t : Fin cfg0.N, win0_2.index t 0 = 0 ∧ win0_2.index t 1 = 0 := by
  decide +kernel

theorem emb_u (t : Fin cfg0.N) (y : Fin 1024) (x : Fin 5632) : (win0_2.blk t).view.emb (ix2 y x) = ix2 y x := by
  obtain ⟨e0, e1⟩ := idx2 t
  funext a
  apply Fin.ext
  fin_cases a
  · show win0_2.index t 0 * 1024 + 1 * y.val = y.val
    omega
  · show win0_2.index t 1 * 5632 + 1 * x.val = x.val
    omega

theorem blk_u (t : Fin cfg0.N) (y : Fin 1024) (x : Fin 5632) :
    (iblk m c 2 t : Vec Ideal S1024x5632 .bf16) (ix2 y x) = (V m c main_v2 : Vec Ideal S1024x5632 .bf16) (ix2 y x) :=
  congrArg (V m c main_v2) (emb_u t y x)

theorem idx3 : ∀ t : Fin cfg0.N, win0_3.index t 0 = 0 ∧ win0_3.index t 1 = 0 := by
  decide +kernel

theorem emb_w (t : Fin cfg0.N) (y : Fin 3) (x : Fin 5632) : (win0_3.blk t).view.emb (ix2 y x) = ix2 y x := by
  obtain ⟨e0, e1⟩ := idx3 t
  funext a
  apply Fin.ext
  fin_cases a
  · show win0_3.index t 0 * 3 + 1 * y.val = y.val
    omega
  · show win0_3.index t 1 * 5632 + 1 * x.val = x.val
    omega

theorem blk_w (t : Fin cfg0.N) (y : Fin 3) (x : Fin 5632) :
    (iblk m c 3 t : Vec Ideal S3x5632 .f32) (ix2 y x) = (V m c main_arg3 : Vec Ideal S3x5632 .f32) (ix2 y x) :=
  congrArg (V m c main_arg3) (emb_w t y x)

theorem idx4 : ∀ t : Fin cfg0.N, win0_4.index t 0 = 0 ∧ win0_4.index t 1 = 0 := by
  decide +kernel

theorem emb_b (t : Fin cfg0.N) (y : Fin 1) (x : Fin 5632) : (win0_4.blk t).view.emb (ix2 y x) = ix2 y x := by
  obtain ⟨e0, e1⟩ := idx4 t
  funext a
  apply Fin.ext
  fin_cases a
  · show win0_4.index t 0 * 1 + 1 * y.val = y.val
    omega
  · show win0_4.index t 1 * 5632 + 1 * x.val = x.val
    omega

theorem blk_b (t : Fin cfg0.N) (y : Fin 1) (x : Fin 5632) :
    (iblk m c 4 t : Vec Ideal S1x5632 .f32) (ix2 y x) = (V m c main_v3 : Vec Ideal S1x5632 .f32) (ix2 y x) :=
  congrArg (V m c main_v3) (emb_b t y x)

theorem idx5 : ∀ t : Fin cfg0.N, win0_5.index t 0 = 0 ∧ win0_5.index t 1 = 0 := by
  decide +kernel

theorem emb_d (t : Fin cfg0.N) (y : Fin 2816) (x : Fin 1024) : (win0_5.blk t).view.emb (ix2 y x) = ix2 y x := by
  obtain ⟨e0, e1⟩ := idx5 t
  funext a
  apply Fin.ext
  fin_cases a
  · show win0_5.index t 0 * 2816 + 1 * y.val = y.val
    omega
  · show win0_5.index t 1 * 1024 + 1 * x.val = x.val
    omega

theorem blk_d (t : Fin cfg0.N) (y : Fin 2816) (x : Fin 1024) :
    (iblk m c 5 t : Vec Ideal S2816x1024 .bf16) (ix2 y x) = (V m c main_v4 : Vec Ideal S2816x1024 .bf16) (ix2 y x) :=
  congrArg (V m c main_v4) (emb_d t y x)

theorem idx6 : ∀ t : Fin cfg0.N, win0_6.index t 0 = t.val ∧ win0_6.index t 1 = 0 := by
  decide +kernel

theorem emb_out (t : Fin cfg0.N) (y : Fin 512) (x : Fin 1024) (hy : 512 * t.val + y.val < 16384) :
    (win0_6.blk t).view.emb (ix2 y x) = ix2 ⟨512 * t.val + y.val, hy⟩ x := by
  obtain ⟨e0, e1⟩ := idx6 t
  funext a
  apply Fin.ext
  fin_cases a
  · show win0_6.index t 0 * 512 + 1 * y.val = 512 * t.val + y.val
    omega
  · show win0_6.index t 1 * 1024 + 1 * x.val = x.val
    omega

theorem lt_points (t : Fin cfg0.N) : t.val < 32 := t.isLt

/-- The sequence of a block of rows and a row's position in it. -/
def seqOf (t : Fin cfg0.N) : Fin 2 := ⟨t.val / 16, by have := lt_points t; omega⟩
def posOf (t : Fin cfg0.N) (y : Fin 512) : Fin 8192 := ⟨512 * (t.val % 16) + y.val, by omega⟩

theorem row_eq (t : Fin cfg0.N) (y : Fin 512) : 512 * t.val + y.val = 8192 * (seqOf t).val + (posOf t y).val := by
  unfold seqOf posOf
  simp only []
  omega

theorem row_lt (t : Fin cfg0.N) (y : Fin 512) : 512 * t.val + y.val < 16384 := by
  have := lt_points t
  omega

/-- The reference's up projection of the kernel's arguments. -/
def hidK : FVec Ideal Cert.Reference2Ideal.S2x8192x5632 .f32 := hid (argX m c) (argG m c) (argU m c)

/-- The buffer's rows, the weights, the bias and the down projection at a grid point. -/
def hvOf (t : Fin cfg0.N) (r x : ℕ) : EReal := rowsOf (hidK m c) (seqOf t) (512 * (t.val % 16) + r) x
def wOf (i x : ℕ) : EReal := if h : i < 3 ∧ x < 5632 then argW m c (ix2 ⟨i, h.1⟩ ⟨x, h.2⟩) else 0
def bOf (x : ℕ) : EReal := if h : x < 5632 then argB m c (ix1 ⟨x, h⟩) else 0
def dOf (k : ℕ) (d : Fin 1024) : EReal := if h : k < 2816 then argD m c (ix2 ⟨k, h⟩ d) else 0

theorem blk_arg (t : Fin cfg0.N) (y : Fin 512) (k : Fin 1024) :
    ((iblk m c 0 t : Vec Ideal S512x1024 .f32) (ix2 y k) : EReal) = argX m c (ix3 (seqOf t) (posOf t y) k) :=
  (blk_x m c t y k (row_lt t y)).trans (host_x m c _ k _ _ (row_eq t y))

theorem hup_at (t : Fin cfg0.N) (y : Fin 512) (x : Fin 5632) :
    (∑ k : Fin 1024, (k0_pay5 (iblk m c 0 t) (iblk m c 1 t) (ix2 y k) : EReal) * (iblk m c 2 t : Vec Ideal S1024x5632 .bf16) (ix2 k x)) = hvOf m c t (8 + y.val) x.val := by
  have hn : 8 ≤ 512 * (t.val % 16) + (8 + y.val) ∧ 512 * (t.val % 16) + (8 + y.val) < 8200 ∧ x.val < 5632 := ⟨by omega, by omega, x.isLt⟩
  unfold hvOf rowsOf
  rw [dif_pos hn]
  have e : (⟨512 * (t.val % 16) + (8 + y.val) - 8, by omega⟩ : Fin 8192) = posOf t y := Fin.ext (by unfold posOf; simp only []; omega)
  refine Eq.trans ?_ (congrArg (fun z => (hidK m c (ix3 (seqOf t) z x) : EReal)) e.symm)
  unfold hidK
  refine Eq.trans ?_ (hid_apply (argX m c) (argG m c) (argU m c) (seqOf t) (posOf t y) x).symm
  refine Finset.sum_congr rfl fun k _ => ?_
  refine congrArg₂ (· * · : EReal → EReal → EReal) ((pay5_apply _ _ y k).trans ?_) ((blk_u m c t k x).trans (host_u m c k x))
  exact congrArg₂ (fun a b => nrm a b k) (funext fun j => blk_arg m c t y j) (funext fun j => (blk_g m c t 0 j).trans (host_g m c j))

/-- What the body is given at a grid point. -/
def pt (t : Fin cfg0.N) : Point where
  c := c
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := scM0_0
  harg9 := Memref.isWhole_whole _
  arg10 := scM0_1
  harg10 := Memref.isWhole_whole _
  x0 := iblk m c 0 t
  x1 := iblk m c 1 t
  x2 := iblk m c 2 t
  x3 := iblk m c 3 t
  x4 := iblk m c 4 t
  x5 := iblk m c 5 t
  hv := hvOf m c t
  W := wOf m c
  B := bOf m c
  D := dOf m c
  hup := hup_at m c t
  hW i x := ((blk_w m c t i x).trans (host_w m c i x)).trans (by unfold wOf; rw [dif_pos ⟨i.isLt, x.isLt⟩])
  hB x := ((blk_b m c t 0 x).trans (host_b m c x)).trans (by unfold bOf; rw [dif_pos x.isLt])
  hD k d := ((blk_d m c t k d).trans (host_d m c k d)).trans (by unfold dOf; rw [dif_pos k.isLt])

/-- No rows come before a sequence's first. -/
theorem first_rows (t : Fin cfg0.N) (h0 : t.val % 16 = 0) (r x : ℕ) (hr : r < 8) : hvOf m c t r x = 0 := by
  unfold hvOf rowsOf
  rw [dif_neg (by omega)]

/-- The rows left in the buffer at a grid point. -/
theorem carry (t : Fin cfg0.N) (r : Fin 520) (x : Fin 5632) (hr : r.val < 8) :
    ((outsAt0 m c t.val t.isLt).2 (ix2 r x) : EReal) = hvOf m c t (512 + r.val) x.val := by
  by_cases h0 : t.val % 16 = 0
  · rw [outsAt0_A m c t h0]
    dsimp only
    have e := soutA (pt m c t) (grid0.coords t) ((hcond0_0 t).mpr h0) (first_rows m c t h0) r x hr
    dsimp only [pt] at e
    exact e
  · rw [outsAt0_B m c t h0]
    dsimp only
    have e := soutB (pt m c t) (grid0.coords t) (fun h => h0 ((hcond0_0 t).mp h)) (outsAt0 m c (t.val - 1) (Nat.lt_of_le_of_lt (Nat.sub_le _ _) t.isLt)).2 r x hr
    dsimp only [pt] at e
    exact e

/-- The result's block at a grid point. -/
theorem block (t : Fin cfg0.N) (y : Fin 512) (d : Fin 1024) :
    ((outsAt0 m c t.val t.isLt).1 (ix2 y d) : EReal) = argX m c (ix3 (seqOf t) (posOf t y) d) + part (hvOf m c t) (wOf m c) (bOf m c) (dOf m c) 2816 y d := by
  by_cases h0 : t.val % 16 = 0
  · rw [outsAt0_A m c t h0]
    dsimp only
    have e := outA (pt m c t) (grid0.coords t) ((hcond0_0 t).mpr h0) (first_rows m c t h0) y d
    dsimp only [pt] at e
    rw [e]
    exact congrArg (fun z : EReal => z + part (hvOf m c t) (wOf m c) (bOf m c) (dOf m c) 2816 y d) (blk_arg m c t y d)
  · have hl : ∀ (r : Fin 520) (x : Fin 5632), r.val < 8 →
        ((outsAt0 m c (t.val - 1) (Nat.lt_of_le_of_lt (Nat.sub_le _ _) t.isLt)).2 (ix2 r x) : EReal) = hvOf m c t r.val x.val := fun r x hr => by
      refine (carry m c ⟨t.val - 1, Nat.lt_of_le_of_lt (Nat.sub_le _ _) t.isLt⟩ r x hr).trans ?_
      have e1 : seqOf ⟨t.val - 1, Nat.lt_of_le_of_lt (Nat.sub_le _ _) t.isLt⟩ = seqOf t := Fin.ext (by unfold seqOf; simp only []; omega)
      have e2 : 512 * ((t.val - 1) % 16) + (512 + r.val) = 512 * (t.val % 16) + r.val := by omega
      unfold hvOf
      rw [e1]
      exact congrArg (fun n => rowsOf (hidK m c) (seqOf t) n x.val) e2
    rw [outsAt0_B m c t h0]
    dsimp only
    have e := outB (pt m c t) (grid0.coords t) (fun h => h0 ((hcond0_0 t).mp h)) (outsAt0 m c (t.val - 1) (Nat.lt_of_le_of_lt (Nat.sub_le _ _) t.isLt)).2 hl y d
    dsimp only [pt] at e
    rw [e]
    exact congrArg (fun z : EReal => z + part (hvOf m c t) (wOf m c) (bOf m c) (dOf m c) 2816 y d) (blk_arg m c t y d)

/-- The kernel's convolution is the reference's. -/
theorem conv_eq (t : Fin cfg0.N) (y : Fin 512) (x : ℕ) (hx : x < 5632) :
    conv (hvOf m c t) (wOf m c) (bOf m c) y.val x = (cnv (padded (hidK m c)) (argW m c) (argB m c) (ix3 (seqOf t) (posOf t y) ⟨x, hx⟩) : EReal) := by
  refine Eq.trans ?_ (cnv_apply _ _ _ _ _ _).symm
  rw [padded_apply, padded_apply, padded_apply]
  unfold conv hvOf bOf
  have w0 : wOf m c 0 x = argW m c (ix2 0 ⟨x, hx⟩) := dif_pos ⟨by decide, hx⟩
  have w1 : wOf m c 1 x = argW m c (ix2 1 ⟨x, hx⟩) := dif_pos ⟨by decide, hx⟩
  have w2 : wOf m c 2 x = argW m c (ix2 2 ⟨x, hx⟩) := dif_pos ⟨by decide, hx⟩
  have e0 : 512 * (t.val % 16) + (6 + y.val) = 0 + (posOf t y).val + 6 := by unfold posOf; simp only []; omega
  have e1 : 512 * (t.val % 16) + (7 + y.val) = 1 + (posOf t y).val + 6 := by unfold posOf; simp only []; omega
  have e2 : 512 * (t.val % 16) + (8 + y.val) = 2 + (posOf t y).val + 6 := by unfold posOf; simp only []; omega
  rw [w0, w1, w2, dif_pos hx, e0, e1, e2]
  refine congrArg (fun z : EReal => z + argB m c (ix1 ⟨x, hx⟩)) ?_
  rw [add_comm, add_comm (rowsOf _ _ _ _ * _ : EReal) (rowsOf _ _ _ _ * _), ← add_assoc]

/-- The result array after the run is the reference's function of the arguments. -/
theorem final : (dats m 0 c).arrAt 6 cfg0.N = ref (argX m c) (argG m c) (argU m c) (argW m c) (argB m c) (argD m c) := by
  refine (dats m 0 c).arrAt_eq_of_covers 6 _ (by decide +kernel) fun t _ y => ?_
  blk_simp
  rw [after0_6]
  obtain ⟨y', d, rfl⟩ : ∃ (y' : Fin 512) (d : Fin 1024), y = ix2 y' d := ⟨y 0, y 1, by
    funext a; fin_cases a
    · rfl
    · rfl⟩
  rw [emb_out t y' d (row_lt t y')]
  refine (block m c t y' d).trans ?_
  unfold ref
  refine Eq.trans ?_ (down_apply _ _ _ _ d (seqOf t) (posOf t y') (row_eq t y')).symm
  refine congrArg (fun z : EReal => argX m c (ix3 (seqOf t) (posOf t y') d) + z) ?_
  unfold part
  rw [Finset.sum_range]
  refine Finset.sum_congr rfl fun j _ => ?_
  refine congrArg₂ (· * · : EReal → EReal → EReal) ?_ (dif_pos j.isLt)
  exact congrArg₂ glu (conv_eq m c t y' _ _) (conv_eq m c t y' _ _)

end Cert.Ffn

end

end
-- ==== Proof.InLay.lean ====
/- The layout of the input projection's 3200 columns: at each column a column of the weights, a negated one, or
   zeros. -/
module

public import Idealize.ShloMosaic.PureOps.Ideal
public import Idealize.ShloMosaic.Lib.Pointwise

@[expose] public section

set_option maxRecDepth 16384

noncomputable section

namespace Cert.InProj

open Idealize.ShloMosaic

/-- The code at column `c` of pieces set side by side, each given by its width and the codes at its columns. Code 0 is a
zero, code `n + 1` is column `n`, code `n + 2547` is column `n` negated. -/
def layAt : List (ℕ × (ℕ → ℕ)) → ℕ → ℕ
  | [], _ => 0
  | (n, p) :: L, c => if c < n then p c else layAt L (c - n)

/-- Zeros, columns from `s` on, negated columns from `s` on, and gates: three columns to eight. -/
def zer (_ : ℕ) : ℕ := 0
def col (s c : ℕ) : ℕ := s + c + 1
def neg (s c : ℕ) : ℕ := s + c + 2547
def gat (c : ℕ) : ℕ := if c % 8 < 3 then 2528 + (c / 8 * 3 + c % 8) + 1 else 0

/-- The kernel's columns: the first 2560, the next 552, the last 88, and all of them. -/
def layA : List (ℕ × (ℕ → ℕ)) := [(192, col 0), (64, zer), (128, col 192), (64, zer), (32, col 320), (32, zer), (64, zer), (16, neg 336), (16, col 320), (32, zer), (1024, col 352), (640, col 1376), (64, col 2016), (64, zer), (64, col 2080), (64, zer)]
def layB : List (ℕ × (ℕ → ℕ)) := [(128, col 2144), (64, col 2272), (64, zer), (64, col 2336), (64, zer), (128, col 2400), (3, col 2528), (5, zer), (3, col 2531), (5, zer), (3, col 2534), (5, zer), (3, col 2537), (5, zer), (3, col 2540), (5, zer)]
def layC : List (ℕ × (ℕ → ℕ)) := [(3, col 2543), (5, zer), (80, zer)]
def wide : List (ℕ × (ℕ → ℕ)) := [(2560, layAt layA), (552, layAt layB), (88, layAt layC)]

/-- The reference's four results. -/
def layLatent : List (ℕ × (ℕ → ℕ)) := [(192, col 0), (64, zer), (128, col 192), (64, zer), (32, col 320), (96, zer), (16, neg 336), (16, col 320), (32, zer)]
def layRetained : List (ℕ × (ℕ → ℕ)) := [(256, col 352), (256, col 608), (256, col 864), (256, col 1120)]
def laySparse : List (ℕ × (ℕ → ℕ)) := [(384, col 1376), (128, col 1760), (128, col 1888), (64, col 2016), (64, zer), (64, col 2080), (64, zer), (128, col 2144), (64, col 2272), (64, zer), (64, col 2336), (64, zer), (128, col 2400), (48, gat), (80, zer)]
def layCompressed : List (ℕ × (ℕ → ℕ)) := [(128, col 1760), (128, col 1888)]

/-- Each of them is a range of the kernel's columns. -/
theorem latent_code : ∀ c : Fin 640, layAt wide c.val = layAt layLatent c.val := by decide +kernel
theorem retained_code : ∀ c : Fin 1024, layAt wide (640 + c.val) = layAt layRetained c.val := by decide +kernel
theorem sparse_code : ∀ c : Fin 1536, layAt wide (1664 + c.val) = layAt laySparse c.val := by decide +kernel
theorem compressed_code : ∀ c : Fin 256, layAt wide (1664 + (384 + c.val)) = layAt layCompressed c.val := by decide +kernel

/-- The value that a code names, from the columns' values `f` and the negated columns' `g`. -/
def pick (f g : ℕ → EReal) (n : ℕ) : EReal := if n = 0 then 0 else if n < 2547 then f (n - 1) else g (n - 2547)

/-- The columns' values by number. -/
def ext (u : Fin 2546 → EReal) (n : ℕ) : EReal := if h : n < 2546 then u ⟨n, h⟩ else 0

theorem ext_lt (u : Fin 2546 → EReal) (n : ℕ) (h : n < 2546) : ext u n = u ⟨n, h⟩ := by
  unfold ext
  rw [dif_pos h]

theorem pick_zer (f g : ℕ → EReal) (c : ℕ) : (0 : EReal) = pick f g (zer c) := rfl

theorem pick_col (u : Fin 2546 → EReal) (g : ℕ → EReal) (s c n : ℕ) (h : n < 2546) (e : n = s + c) : u ⟨n, h⟩ = pick (ext u) g (col s c) := by
  subst e
  unfold pick col
  rw [if_neg (by omega), if_pos (by omega), Nat.add_sub_cancel]
  exact (ext_lt u _ h).symm

theorem pick_neg (f g : ℕ → EReal) (s c n : ℕ) (e : n = s + c) : g n = pick f g (neg s c) := by
  subst e
  unfold pick neg
  rw [if_neg (by omega), if_neg (by omega), Nat.add_sub_cancel]

theorem pick_gat (u : Fin 2546 → EReal) (g : ℕ → EReal) (c : ℕ) (hc : c < 48) {q : Prop} {i : Decidable q} {a : q → EReal} {b : EReal} (hq : q ↔ c % 8 < 3)
    (ha : ∀ h, a h = ext u (2528 + (c / 8 * 3 + c % 8))) (hb : b = 0) : (if h : q then a h else b) = pick (ext u) g (gat c) := by
  unfold gat
  by_cases h : q
  · rw [dif_pos h, if_pos (hq.mp h), ha h]
    unfold pick
    have h3 := hq.mp h
    rw [if_neg (by omega), if_pos (by omega)]
    rfl
  · rw [dif_neg h, if_neg fun h' => h (hq.mpr h'), hb]
    rfl

theorem layAt_lt {n c : ℕ} {p : ℕ → ℕ} {L : List (ℕ × (ℕ → ℕ))} (h : c < n) : layAt ((n, p) :: L) c = p c := if_pos h
theorem layAt_ge {n c : ℕ} {p : ℕ → ℕ} {L : List (ℕ × (ℕ → ℕ))} (h : ¬ c < n) : layAt ((n, p) :: L) c = layAt L (c - n) := if_neg h

/-- A row read piece by piece is what the layout's codes name. -/
theorem step {f g : ℕ → EReal} {n c : ℕ} {p : ℕ → ℕ} {q : ℕ × (ℕ → ℕ)} {L : List (ℕ × (ℕ → ℕ))} {i : Decidable (c < n)} {a : c < n → EReal} {b : ¬ c < n → EReal}
    (ha : ∀ h, a h = pick f g (p c)) (hb : ∀ h, b h = pick f g (layAt (q :: L) (c - n))) :
    (if h : c < n then a h else b h) = pick f g (layAt ((n, p) :: q :: L) c) := by
  by_cases h : c < n
  · rw [dif_pos h, ha h, layAt_lt h]
  · rw [dif_neg h, hb h, layAt_ge h]

theorem last {f g : ℕ → EReal} {n c : ℕ} {p : ℕ → ℕ} {v : EReal} (hc : c < n) (h : v = pick f g (p c)) : v = pick f g (layAt [(n, p)] c) := by
  rw [h, layAt_lt hc]

/-- A channel of a row divided by the row's root mean square, times the gain. -/
def nrm (row gain : Fin 1024 → EReal) (k : Fin 1024) : EReal :=
  row k * Ideal.rsqrt (Ideal.div (∑ j, row j * row j) (Ideal.ofBits .f32 0x44800000#32) + Ideal.ofBits .f32 0x358637BD#32) * gain k

/-- A normalized row `a` projected to a column of the weights, and to the negated column. -/
def colOf (a : Fin 1024 → EReal) (w : Fin 1024 → Fin 2546 → EReal) (n : ℕ) : EReal := ∑ k, a k * ext (w k) n
def negOf (a : Fin 1024 → EReal) (w : Fin 1024 → Fin 2546 → EReal) (n : ℕ) : EReal := ∑ k, a k * -(ext (w k) n)

/-- A row projected to laid out columns is the laid out columns of the projected row. -/
theorem sum_pick (a : Fin 1024 → EReal) (w : Fin 1024 → Fin 2546 → EReal) (n : ℕ) :
    ∑ k, a k * pick (ext (w k)) (fun j => -(ext (w k) j)) n = pick (colOf a w) (negOf a w) n := by
  unfold pick colOf negOf
  split_ifs
  · simp
  · rfl
  · rfl

theorem ext_sum (a : Fin 1024 → EReal) (w : Fin 1024 → Fin 2546 → EReal) : ext (fun z => ∑ k, a k * w k z) = colOf a w := by
  funext n
  unfold ext colOf ext
  by_cases h : n < 2546
  · rw [dif_pos h]
    exact Finset.sum_congr rfl fun k _ => by rw [dif_pos h]
  · rw [dif_neg h]
    refine (Finset.sum_eq_zero fun k _ => ?_).symm
    rw [dif_neg h, mul_zero]

end Cert.InProj

end

end
-- ==== Proof.InBody.lean ====
/- What one grid point of the input projection writes. -/
module

public import proofs.«01_k».proof.Proof.Gen.Kernel3Ideal.Value
public import proofs.«01_k».proof.Proof.InLay
public import Idealize.ShloMosaic.Lib.Tactic
public import Idealize.ShloMosaic.Lib.Pipeline.ValueKit

@[expose] public section

set_option maxRecDepth 16384

noncomputable section

namespace Cert.InProj

open Cert.Kernel3Ideal Cert.Kernel3Ideal.Gen Idealize.ShloMosaic Idealize.ShloMosaic.TcCoe Idealize.SL.Sem

theorem pay1_apply (x0 : Vec Ideal S256x1024 .f32) (x1 : Vec Ideal S1x1024 .f32) (y : Fin 256) (k : Fin 1024) :
    (k0_pay1 x0 x1 (ix2 y k) : EReal) = nrm (fun j => x0 (ix2 y j)) (fun j => x1 (ix2 0 j)) k := by
  pointwise [k0_pay1]
  rfl

theorem pay2_apply (x0 : Vec Ideal S256x1024 .f32) (x1 : Vec Ideal S1x1024 .f32) (v : Vec Ideal S1024x640 .bf16) (y : Fin 256) (d : Fin 640) :
    (k0_pay2 x0 x1 v (ix2 y d) : EReal) = ∑ k : Fin 1024, (k0_pay1 x0 x1 (ix2 y k) : EReal) * v (ix2 k d) := by
  pointwise [k0_pay2]

theorem pay3_apply (x0 : Vec Ideal S256x1024 .f32) (x1 : Vec Ideal S1x1024 .f32) (v : Vec Ideal S1024x1024 .bf16) (y : Fin 256) (d : Fin 1024) :
    (k0_pay3 x0 x1 v (ix2 y d) : EReal) = ∑ k : Fin 1024, (k0_pay1 x0 x1 (ix2 y k) : EReal) * v (ix2 k d) := by
  pointwise [k0_pay3]

theorem pay4_apply (x0 : Vec Ideal S256x1024 .f32) (x1 : Vec Ideal S1x1024 .f32) (v : Vec Ideal S1024x1536 .bf16) (y : Fin 256) (d : Fin 1536) :
    (k0_pay4 x0 x1 v (ix2 y d) : EReal) = ∑ k : Fin 1024, (k0_pay1 x0 x1 (ix2 y k) : EReal) * v (ix2 k d) := by
  pointwise [k0_pay4]

theorem zero2 : (![0, 0] : Fin 2 → ℕ) = fun _ => 0 := by
  funext a
  fin_cases a <;> rfl

theorem ld0 (x0 : Vec Ideal S256x1024 .f32) : View.ld x0 r0_0 = x0 := View.ld_unit_zero zero2 _ _
theorem ld1 (x1 : Vec Ideal S1x1024 .f32) : View.ld x1 r0_1 = x1 := View.ld_unit_zero zero2 _ _

theorem ldw3 (x2 : Vec Ideal S1024x3200 .bf16) (k : Fin 1024) (d : Fin 640) :
    (View.ld x2 r0_2 : Vec Ideal S1024x640 .bf16) (ix2 k d) = x2 (ix2 k ⟨d.val, by omega⟩) := by
  refine congrArg x2 (funext fun a => Fin.ext ?_)
  fin_cases a
  · show 0 + 1 * k.val = k.val
    omega
  · show 0 + 1 * d.val = d.val
    omega

theorem out3 (x0 : Vec Ideal S256x1024 .f32) (x1 : Vec Ideal S1x1024 .f32) (x2 : Vec Ideal S1024x3200 .bf16) (y : Fin 256) (d : Fin 640) :
    (out0_3 x0 x1 x2 (ix2 y d) : EReal) = ∑ k : Fin 1024, nrm (fun j => x0 (ix2 y j)) (fun j => x1 (ix2 0 j)) k * (x2 (ix2 k ⟨d.val, by omega⟩) : EReal) := by
  unfold out0_3
  rw [ld0, ld1, View.canon_unit_zero zero2]
  refine (pay2_apply _ _ _ y d).trans (Finset.sum_congr rfl fun k _ => ?_)
  exact congrArg₂ (· * · : EReal → EReal → EReal) (pay1_apply x0 x1 y k) (ldw3 x2 k d)

theorem ldw4 (x2 : Vec Ideal S1024x3200 .bf16) (k : Fin 1024) (d : Fin 1024) :
    (View.ld x2 r0_4 : Vec Ideal S1024x1024 .bf16) (ix2 k d) = x2 (ix2 k ⟨640 + d.val, by omega⟩) := by
  refine congrArg x2 (funext fun a => Fin.ext ?_)
  fin_cases a
  · show 0 + 1 * k.val = k.val
    omega
  · show 640 + 1 * d.val = 640 + d.val
    omega

theorem out4 (x0 : Vec Ideal S256x1024 .f32) (x1 : Vec Ideal S1x1024 .f32) (x2 : Vec Ideal S1024x3200 .bf16) (y : Fin 256) (d : Fin 1024) :
    (out0_4 x0 x1 x2 (ix2 y d) : EReal) = ∑ k : Fin 1024, nrm (fun j => x0 (ix2 y j)) (fun j => x1 (ix2 0 j)) k * (x2 (ix2 k ⟨640 + d.val, by omega⟩) : EReal) := by
  unfold out0_4
  rw [ld0, ld1, View.canon_unit_zero zero2]
  refine (pay3_apply _ _ _ y d).trans (Finset.sum_congr rfl fun k _ => ?_)
  exact congrArg₂ (· * · : EReal → EReal → EReal) (pay1_apply x0 x1 y k) (ldw4 x2 k d)

theorem ldw5 (x2 : Vec Ideal S1024x3200 .bf16) (k : Fin 1024) (d : Fin 1536) :
    (View.ld x2 r0_5 : Vec Ideal S1024x1536 .bf16) (ix2 k d) = x2 (ix2 k ⟨1664 + d.val, by omega⟩) := by
  refine congrArg x2 (funext fun a => Fin.ext ?_)
  fin_cases a
  · show 0 + 1 * k.val = k.val
    omega
  · show 1664 + 1 * d.val = 1664 + d.val
    omega

theorem out5 (x0 : Vec Ideal S256x1024 .f32) (x1 : Vec Ideal S1x1024 .f32) (x2 : Vec Ideal S1024x3200 .bf16) (y : Fin 256) (d : Fin 1536) :
    (out0_5 x0 x1 x2 (ix2 y d) : EReal) = ∑ k : Fin 1024, nrm (fun j => x0 (ix2 y j)) (fun j => x1 (ix2 0 j)) k * (x2 (ix2 k ⟨1664 + d.val, by omega⟩) : EReal) := by
  unfold out0_5
  rw [ld0, ld1, View.canon_unit_zero zero2]
  refine (pay4_apply _ _ _ y d).trans (Finset.sum_congr rfl fun k _ => ?_)
  exact congrArg₂ (· * · : EReal → EReal → EReal) (pay1_apply x0 x1 y k) (ldw5 x2 k d)

theorem out6 (x0 : Vec Ideal S256x1024 .f32) (x1 : Vec Ideal S1x1024 .f32) (x2 : Vec Ideal S1024x3200 .bf16) (y : Fin 256) (d : Fin 256) :
    (out0_6 x0 x1 x2 (ix2 y d) : EReal) = ∑ k : Fin 1024, nrm (fun j => x0 (ix2 y j)) (fun j => x1 (ix2 0 j)) k * (x2 (ix2 k ⟨1664 + (384 + d.val), by omega⟩) : EReal) := by
  unfold out0_6
  rw [ld0, ld1, View.canon_unit_zero zero2]
  have e : (k0_pay5 x0 x1 (View.ld x2 r0_5) (ix2 y d) : EReal) = (k0_pay4 x0 x1 (View.ld x2 r0_5) (ix2 y ⟨384 + d.val, by omega⟩) : EReal) := by
    pointwise [k0_pay5]
  refine e.trans ((pay4_apply _ _ _ y ⟨384 + d.val, by omega⟩).trans (Finset.sum_congr rfl fun k _ => ?_))
  exact congrArg₂ (· * · : EReal → EReal → EReal) (pay1_apply x0 x1 y k) (ldw5 x2 k ⟨384 + d.val, by omega⟩)

end Cert.InProj

end

end
-- ==== Proof.InHost.lean ====
/- The weights that the host code lays out for the input projection, read at an index. -/
module

public import proofs.«01_k».proof.Proof.Gen.Kernel3Ideal.Frame
public import proofs.«01_k».proof.Proof.InLay
public import Idealize.ShloMosaic.Lib.Tactic

@[expose] public section

set_option maxRecDepth 16384

noncomputable section

namespace Cert.InProj

open Cert.Kernel3Ideal Cert.Kernel3Ideal.Gen Idealize.ShloMosaic Idealize.ShloMosaic.TcCoe Idealize.SL.Sem

/-- The first 2560 columns of the laid out weights. -/
def catA (w : FVec Ideal S1024x2546 .bf16) : FVec Ideal S1024x2560 .bf16 :=
  (concatenate S1024x2560 1 [⟨S1024x192, ((extractStridedSlice S1024x192 ![0, 0] w slices_S1024x2546_S1024x192_0_0) : (⟨S1024x192, .bf16⟩ : BufTy).Contents (Elt Ideal))⟩, ⟨S1024x64, ((broadcastInDim S1024x64 ![] bcast_S_S1024x64 (constant (F := Ideal) S_ .bf16 0x0000#16)) : (⟨S1024x64, .bf16⟩ : BufTy).Contents (Elt Ideal))⟩, ⟨S1024x128, ((extractStridedSlice S1024x128 ![0, 192] w slices_S1024x2546_S1024x128_0_192) : (⟨S1024x128, .bf16⟩ : BufTy).Contents (Elt Ideal))⟩, ⟨S1024x64, ((broadcastInDim S1024x64 ![] bcast_S_S1024x64 (constant (F := Ideal) S_ .bf16 0x0000#16)) : (⟨S1024x64, .bf16⟩ : BufTy).Contents (Elt Ideal))⟩, ⟨S1024x32, ((extractStridedSlice S1024x32 ![0, 320] w slices_S1024x2546_S1024x32_0_320) : (⟨S1024x32, .bf16⟩ : BufTy).Contents (Elt Ideal))⟩, ⟨S1024x32, ((broadcastInDim S1024x32 ![] bcast_S_S1024x32 (constant (F := Ideal) S_ .bf16 0x0000#16)) : (⟨S1024x32, .bf16⟩ : BufTy).Contents (Elt Ideal))⟩, ⟨S1024x64, ((broadcastInDim S1024x64 ![] bcast_S_S1024x64 (constant (F := Ideal) S_ .bf16 0x0000#16)) : (⟨S1024x64, .bf16⟩ : BufTy).Contents (Elt Ideal))⟩, ⟨S1024x16, ((Host.negf (extractStridedSlice S1024x16 ![0, 336] w slices_S1024x2546_S1024x16_0_336)) : (⟨S1024x16, .bf16⟩ : BufTy).Contents (Elt Ideal))⟩, ⟨S1024x16, ((extractStridedSlice S1024x16 ![0, 320] w slices_S1024x2546_S1024x16_0_320) : (⟨S1024x16, .bf16⟩ : BufTy).Contents (Elt Ideal))⟩, ⟨S1024x32, ((broadcastInDim S1024x32 ![] bcast_S_S1024x32 (constant (F := Ideal) S_ .bf16 0x0000#16)) : (⟨S1024x32, .bf16⟩ : BufTy).Contents (Elt Ideal))⟩, ⟨S1024x1024, ((extractStridedSlice S1024x1024 ![0, 352] w slices_S1024x2546_S1024x1024_0_352) : (⟨S1024x1024, .bf16⟩ : BufTy).Contents (Elt Ideal))⟩, ⟨S1024x640, ((extractStridedSlice S1024x640 ![0, 1376] w slices_S1024x2546_S1024x640_0_1376) : (⟨S1024x640, .bf16⟩ : BufTy).Contents (Elt Ideal))⟩, ⟨S1024x64, ((extractStridedSlice S1024x64 ![0, 2016] w slices_S1024x2546_S1024x64_0_2016) : (⟨S1024x64, .bf16⟩ : BufTy).Contents (Elt Ideal))⟩, ⟨S1024x64, ((broadcastInDim S1024x64 ![] bcast_S_S1024x64 (constant (F := Ideal) S_ .bf16 0x0000#16)) : (⟨S1024x64, .bf16⟩ : BufTy).Contents (Elt Ideal))⟩, ⟨S1024x64, ((extractStridedSlice S1024x64 ![0, 2080] w slices_S1024x2546_S1024x64_0_2080) : (⟨S1024x64, .bf16⟩ : BufTy).Contents (Elt Ideal))⟩, ⟨S1024x64, ((broadcastInDim S1024x64 ![] bcast_S_S1024x64 (constant (F := Ideal) S_ .bf16 0x0000#16)) : (⟨S1024x64, .bf16⟩ : BufTy).Contents (Elt Ideal))⟩] concatenates_S1024x192_S1024x64_S1024x128_S1024x64_S1024x32_S1024x32_S1024x64_S1024x16_S1024x16_S1024x32_S1024x1024_S1024x640_S1024x64_S1024x64_S1024x64_S1024x64_S1024x2560_d1 : (⟨S1024x2560, .bf16⟩ : BufTy).Contents (Elt Ideal))

/-- The next 552 columns. -/
def catB (w : FVec Ideal S1024x2546 .bf16) : FVec Ideal S1024x552 .bf16 :=
  (concatenate S1024x552 1 [⟨S1024x128, ((extractStridedSlice S1024x128 ![0, 2144] w slices_S1024x2546_S1024x128_0_2144) : (⟨S1024x128, .bf16⟩ : BufTy).Contents (Elt Ideal))⟩, ⟨S1024x64, ((extractStridedSlice S1024x64 ![0, 2272] w slices_S1024x2546_S1024x64_0_2272) : (⟨S1024x64, .bf16⟩ : BufTy).Contents (Elt Ideal))⟩, ⟨S1024x64, ((broadcastInDim S1024x64 ![] bcast_S_S1024x64 (constant (F := Ideal) S_ .bf16 0x0000#16)) : (⟨S1024x64, .bf16⟩ : BufTy).Contents (Elt Ideal))⟩, ⟨S1024x64, ((extractStridedSlice S1024x64 ![0, 2336] w slices_S1024x2546_S1024x64_0_2336) : (⟨S1024x64, .bf16⟩ : BufTy).Contents (Elt Ideal))⟩, ⟨S1024x64, ((broadcastInDim S1024x64 ![] bcast_S_S1024x64 (constant (F := Ideal) S_ .bf16 0x0000#16)) : (⟨S1024x64, .bf16⟩ : BufTy).Contents (Elt Ideal))⟩, ⟨S1024x128, ((extractStridedSlice S1024x128 ![0, 2400] w slices_S1024x2546_S1024x128_0_2400) : (⟨S1024x128, .bf16⟩ : BufTy).Contents (Elt Ideal))⟩, ⟨S1024x3, ((extractStridedSlice S1024x3 ![0, 2528] w slices_S1024x2546_S1024x3_0_2528) : (⟨S1024x3, .bf16⟩ : BufTy).Contents (Elt Ideal))⟩, ⟨S1024x5, ((broadcastInDim S1024x5 ![] bcast_S_S1024x5 (constant (F := Ideal) S_ .bf16 0x0000#16)) : (⟨S1024x5, .bf16⟩ : BufTy).Contents (Elt Ideal))⟩, ⟨S1024x3, ((extractStridedSlice S1024x3 ![0, 2531] w slices_S1024x2546_S1024x3_0_2531) : (⟨S1024x3, .bf16⟩ : BufTy).Contents (Elt Ideal))⟩, ⟨S1024x5, ((broadcastInDim S1024x5 ![] bcast_S_S1024x5 (constant (F := Ideal) S_ .bf16 0x0000#16)) : (⟨S1024x5, .bf16⟩ : BufTy).Contents (Elt Ideal))⟩, ⟨S1024x3, ((extractStridedSlice S1024x3 ![0, 2534] w slices_S1024x2546_S1024x3_0_2534) : (⟨S1024x3, .bf16⟩ : BufTy).Contents (Elt Ideal))⟩, ⟨S1024x5, ((broadcastInDim S1024x5 ![] bcast_S_S1024x5 (constant (F := Ideal) S_ .bf16 0x0000#16)) : (⟨S1024x5, .bf16⟩ : BufTy).Contents (Elt Ideal))⟩, ⟨S1024x3, ((extractStridedSlice S1024x3 ![0, 2537] w slices_S1024x2546_S1024x3_0_2537) : (⟨S1024x3, .bf16⟩ : BufTy).Contents (Elt Ideal))⟩, ⟨S1024x5, ((broadcastInDim S1024x5 ![] bcast_S_S1024x5 (constant (F := Ideal) S_ .bf16 0x0000#16)) : (⟨S1024x5, .bf16⟩ : BufTy).Contents (Elt Ideal))⟩, ⟨S1024x3, ((extractStridedSlice S1024x3 ![0, 2540] w slices_S1024x2546_S1024x3_0_2540) : (⟨S1024x3, .bf16⟩ : BufTy).Contents (Elt Ideal))⟩, ⟨S1024x5, ((broadcastInDim S1024x5 ![] bcast_S_S1024x5 (constant (F := Ideal) S_ .bf16 0x0000#16)) : (⟨S1024x5, .bf16⟩ : BufTy).Contents (Elt Ideal))⟩] concatenates_S1024x128_S1024x64_S1024x64_S1024x64_S1024x64_S1024x128_S1024x3_S1024x5_S1024x3_S1024x5_S1024x3_S1024x5_S1024x3_S1024x5_S1024x3_S1024x5_S1024x552_d1 : (⟨S1024x552, .bf16⟩ : BufTy).Contents (Elt Ideal))

/-- The last 88 columns. -/
def catC (w : FVec Ideal S1024x2546 .bf16) : FVec Ideal S1024x88 .bf16 :=
  (concatenate S1024x88 1 [⟨S1024x3, ((extractStridedSlice S1024x3 ![0, 2543] w slices_S1024x2546_S1024x3_0_2543) : (⟨S1024x3, .bf16⟩ : BufTy).Contents (Elt Ideal))⟩, ⟨S1024x5, ((broadcastInDim S1024x5 ![] bcast_S_S1024x5 (constant (F := Ideal) S_ .bf16 0x0000#16)) : (⟨S1024x5, .bf16⟩ : BufTy).Contents (Elt Ideal))⟩, ⟨S1024x80, ((broadcastInDim S1024x80 ![] bcast_S_S1024x80 (constant (F := Ideal) S_ .bf16 0x0000#16)) : (⟨S1024x80, .bf16⟩ : BufTy).Contents (Elt Ideal))⟩] concatenates_S1024x3_S1024x5_S1024x80_S1024x88_d1 : (⟨S1024x88, .bf16⟩ : BufTy).Contents (Elt Ideal))

/-- The laid out weights. -/
def cat (w : FVec Ideal S1024x2546 .bf16) : FVec Ideal S1024x3200 .bf16 :=
  (concatenate S1024x3200 1 [⟨S1024x2560, ((catA w) : (⟨S1024x2560, .bf16⟩ : BufTy).Contents (Elt Ideal))⟩, ⟨S1024x552, ((catB w) : (⟨S1024x552, .bf16⟩ : BufTy).Contents (Elt Ideal))⟩, ⟨S1024x88, ((catC w) : (⟨S1024x88, .bf16⟩ : BufTy).Contents (Elt Ideal))⟩] concatenates_S1024x2560_S1024x552_S1024x88_S1024x3200_d1 : (⟨S1024x3200, .bf16⟩ : BufTy).Contents (Elt Ideal))

/-- A channel's row of the weights. -/
def wrow (w : FVec Ideal S1024x2546 .bf16) (k : Fin 1024) (z : Fin 2546) : EReal := w (ix2 k z)

theorem catA_apply (w : FVec Ideal S1024x2546 .bf16) (k : Fin 1024) (c : Fin 2560) :
    (catA w (ix2 k c) : EReal) = pick (ext (wrow w k)) (fun j => -(ext (wrow w k) j)) (layAt layA c.val) := by
  pointwise [catA]
  exact step (fun _ => pick_col (wrow w k) _ _ _ _ _ (by omega)) fun _ => step (fun _ => rfl) fun _ => step (fun _ => pick_col (wrow w k) _ _ _ _ _ (by omega)) fun _ => step (fun _ => rfl) fun _ => step (fun _ => pick_col (wrow w k) _ _ _ _ _ (by omega)) fun _ => step (fun _ => rfl) fun _ => step (fun _ => rfl) fun _ => step (fun _ => (congrArg (fun y : EReal => -y) (ext_lt (wrow w k) _ (by omega)).symm).trans (pick_neg (ext (wrow w k)) (fun j => -(ext (wrow w k) j)) _ _ _ rfl)) fun _ => step (fun _ => pick_col (wrow w k) _ _ _ _ _ (by omega)) fun _ => step (fun _ => rfl) fun _ => step (fun _ => pick_col (wrow w k) _ _ _ _ _ (by omega)) fun _ => step (fun _ => pick_col (wrow w k) _ _ _ _ _ (by omega)) fun _ => step (fun _ => pick_col (wrow w k) _ _ _ _ _ (by omega)) fun _ => step (fun _ => rfl) fun _ => step (fun _ => pick_col (wrow w k) _ _ _ _ _ (by omega)) fun _ => last (by omega) (rfl)

theorem catB_apply (w : FVec Ideal S1024x2546 .bf16) (k : Fin 1024) (c : Fin 552) :
    (catB w (ix2 k c) : EReal) = pick (ext (wrow w k)) (fun j => -(ext (wrow w k) j)) (layAt layB c.val) := by
  pointwise [catB]
  exact step (fun _ => pick_col (wrow w k) _ _ _ _ _ (by omega)) fun _ => step (fun _ => pick_col (wrow w k) _ _ _ _ _ (by omega)) fun _ => step (fun _ => rfl) fun _ => step (fun _ => pick_col (wrow w k) _ _ _ _ _ (by omega)) fun _ => step (fun _ => rfl) fun _ => step (fun _ => pick_col (wrow w k) _ _ _ _ _ (by omega)) fun _ => step (fun _ => pick_col (wrow w k) _ _ _ _ _ (by omega)) fun _ => step (fun _ => rfl) fun _ => step (fun _ => pick_col (wrow w k) _ _ _ _ _ (by omega)) fun _ => step (fun _ => rfl) fun _ => step (fun _ => pick_col (wrow w k) _ _ _ _ _ (by omega)) fun _ => step (fun _ => rfl) fun _ => step (fun _ => pick_col (wrow w k) _ _ _ _ _ (by omega)) fun _ => step (fun _ => rfl) fun _ => step (fun _ => pick_col (wrow w k) _ _ _ _ _ (by omega)) fun _ => last (by omega) (rfl)

theorem catC_apply (w : FVec Ideal S1024x2546 .bf16) (k : Fin 1024) (c : Fin 88) :
    (catC w (ix2 k c) : EReal) = pick (ext (wrow w k)) (fun j => -(ext (wrow w k) j)) (layAt layC c.val) := by
  pointwise [catC]
  exact step (fun _ => pick_col (wrow w k) _ _ _ _ _ (by omega)) fun _ => step (fun _ => rfl) fun _ => last (by omega) (rfl)

theorem cat_apply (w : FVec Ideal S1024x2546 .bf16) (k : Fin 1024) (c : Fin 3200) :
    (cat w (ix2 k c) : EReal) = pick (ext (wrow w k)) (fun j => -(ext (wrow w k) j)) (layAt wide c.val) := by
  pointwise [cat]
  exact step (fun _ => catA_apply w k ⟨_, _⟩) fun _ => step (fun _ => catB_apply w k ⟨_, _⟩) fun _ => last (by omega) (catC_apply w k ⟨_, _⟩)

end Cert.InProj

end

end
-- ==== Proof.InEntry.lean ====
/- The arrays that the host code hands to the input projection. -/
module

public import proofs.«01_k».proof.Proof.InHost
public import Idealize.ShloMosaic.Lib.StableHlo.Run

@[expose] public section

set_option maxRecDepth 16384

noncomputable section

namespace Cert.InProj

open Cert.Kernel3Ideal Cert.Kernel3Ideal.Gen Idealize.ShloMosaic Idealize.ShloMosaic.TcCoe Idealize.SL.Sem Idealize.ShloMosaic.StableHlo

variable (m : (ℓ : Loc nD τ sig) → Buf (Elt Ideal) ℓ) (c : Dev nD)

/-- The kernel's arguments. -/
def argX : FVec Ideal S2x8192x1024 .f32 := m ((c.tc : Thread nD τ).loc main_arg0)
def argG : FVec Ideal S1024 .f32 := m ((c.tc : Thread nD τ).loc main_arg1)
def argW : FVec Ideal S1024x2546 .f32 := m ((c.tc : Thread nD τ).loc main_arg2)

set_option maxHeartbeats 1000000 in
theorem v0_eq : V m c main_v0 = shapeCast S16384x1024 (argX m c) shapeCasts_S2x8192x1024_S16384x1024 := by
  show StableHlo.after hostOps0 _ _ = _
  simp only [hostOps0, TRef.binary, TRef.unary, TRef.toBuf, TRef.ofBuf, cast_eq]
  after_results_simp
  rfl

set_option maxHeartbeats 1000000 in
theorem v42_eq : V m c main_v42 = broadcastInDim S1x1024 ![1] bcast_S1024_S1x1024_1 (argG m c) := by
  show StableHlo.after hostOps0 _ _ = _
  simp only [hostOps0, TRef.binary, TRef.unary, TRef.toBuf, TRef.ofBuf, cast_eq]
  after_results_simp
  rfl

set_option maxHeartbeats 1000000 in
theorem v41_eq : V m c main_v41 = cat (truncf .bf16 (argW m c) bitsLt_bf16_f32) := by
  show StableHlo.after hostOps0 _ _ = _
  simp only [hostOps0, TRef.binary, TRef.unary, TRef.toBuf, TRef.ofBuf, cast_eq]
  after_results_simp <;> (try dsimp only [Matrix.cons_val]) <;> (try after_results_simp)
  rfl

theorem host_x (r : Fin 16384) (k : Fin 1024) :
    ((V m c main_v0 : Vec Ideal S16384x1024 .f32) (ix2 r k) : EReal) = argX m c (ix3 ⟨r.val / 8192, by omega⟩ ⟨r.val % 8192, by omega⟩ k) := by
  rw [v0_eq]
  pointwise

theorem host_g (k : Fin 1024) : ((V m c main_v42 : Vec Ideal S1x1024 .f32) (ix2 0 k) : EReal) = argG m c (ix1 k) := by
  rw [v42_eq]
  pointwise

theorem host_w (k : Fin 1024) (n : Fin 3200) :
    ((V m c main_v41 : Vec Ideal S1024x3200 .bf16) (ix2 k n) : EReal) = pick (ext (fun z => (argW m c (ix2 k z) : EReal))) (fun j => -(ext (fun z => (argW m c (ix2 k z) : EReal)) j)) (layAt wide n.val) := by
  rw [v41_eq]
  exact cat_apply (truncf .bf16 (argW m c) bitsLt_bf16_f32) k n

end Cert.InProj

end

end
-- ==== Proof.InRef.lean ====
/- The reference of the input projection read at an index: each result as the layout's columns of the projected
   normalized rows. -/
module

public import proofs.«01_k».proof.Proof.Gen.Reference3Ideal.Run
public import proofs.«01_k».proof.Proof.InLay
public import Idealize.ShloMosaic.Lib.Tactic

@[expose] public section

set_option maxRecDepth 16384

noncomputable section

namespace Cert.InProj

open Cert.Reference3Ideal Cert.Reference3Ideal.Gen Idealize.ShloMosaic Idealize.ShloMosaic.TcCoe Idealize.SL.Sem

/-- The projection of the normalized rows. -/
def proj (x : FVec Ideal S2x8192x1024 .f32) (g : FVec Ideal S1024 .f32) (w : FVec Ideal S1024x2546 .f32) : FVec Ideal S2x8192x2546 .f32 :=
  Host.dotGeneral (φ₁ := .f32) (φ₂ := .f32) dot_S2x8192x1024_S1024x2546_S2x8192x2546_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))) w

theorem proj_apply (x : FVec Ideal S2x8192x1024 .f32) (g : FVec Ideal S1024 .f32) (w : FVec Ideal S1024x2546 .f32) (b : Fin 2) (t : Fin 8192) (c : Fin 2546) :
    (proj x g w (ix3 b t c) : EReal) = ∑ k : Fin 1024, nrm (fun j => x (ix3 b t j)) (fun j => g (ix1 j)) k * (w (ix2 k c) : EReal) := by
  pointwise [proj]
  rfl

/-- The projection by the negated weights of the rotary keys' second half. -/
def turned (x : FVec Ideal S2x8192x1024 .f32) (g : FVec Ideal S1024 .f32) (w : FVec Ideal S1024x2546 .f32) : FVec Ideal S2x8192x16 .f32 :=
  Host.dotGeneral (φ₁ := .f32) (φ₂ := .f32) dot_S2x8192x1024_S1024x16_S2x8192x16_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))) (Host.negf (extractStridedSlice S1024x16 ![0, 336] w slices_S1024x2546_S1024x16_0_336))

theorem turned_apply (x : FVec Ideal S2x8192x1024 .f32) (g : FVec Ideal S1024 .f32) (w : FVec Ideal S1024x2546 .f32) (b : Fin 2) (t : Fin 8192) (c : Fin 16) :
    (turned x g w (ix3 b t c) : EReal) = ∑ k : Fin 1024, nrm (fun j => x (ix3 b t j)) (fun j => g (ix1 j)) k * -(w (ix2 k ⟨336 + c.val, by omega⟩) : EReal) := by
  pointwise [turned]
  rfl

/-- The slab of the latent attention. -/
def latent (P : FVec Ideal S2x8192x2546 .f32) (T : FVec Ideal S2x8192x16 .f32) : FVec Ideal S16384x640 .f32 :=
  shapeCast _ ((concatenate S2x8192x640 2 [⟨S2x8192x192, ((extractStridedSlice S2x8192x192 ![0, 0, 0] P slices_S2x8192x2546_S2x8192x192_0_0_0) : (⟨S2x8192x192, .f32⟩ : BufTy).Contents (Elt Ideal))⟩, ⟨S2x8192x64, ((broadcastInDim S2x8192x64 ![] bcast_S_S2x8192x64 (constant (F := Ideal) S_ .f32 0x00000000#32)) : (⟨S2x8192x64, .f32⟩ : BufTy).Contents (Elt Ideal))⟩, ⟨S2x8192x128, ((extractStridedSlice S2x8192x128 ![0, 0, 192] P slices_S2x8192x2546_S2x8192x128_0_0_192) : (⟨S2x8192x128, .f32⟩ : BufTy).Contents (Elt Ideal))⟩, ⟨S2x8192x64, ((broadcastInDim S2x8192x64 ![] bcast_S_S2x8192x64 (constant (F := Ideal) S_ .f32 0x00000000#32)) : (⟨S2x8192x64, .f32⟩ : BufTy).Contents (Elt Ideal))⟩, ⟨S2x8192x32, ((extractStridedSlice S2x8192x32 ![0, 0, 320] P slices_S2x8192x2546_S2x8192x32_0_0_320) : (⟨S2x8192x32, .f32⟩ : BufTy).Contents (Elt Ideal))⟩, ⟨S2x8192x96, ((broadcastInDim S2x8192x96 ![] bcast_S_S2x8192x96 (constant (F := Ideal) S_ .f32 0x00000000#32)) : (⟨S2x8192x96, .f32⟩ : BufTy).Contents (Elt Ideal))⟩, ⟨S2x8192x16, (T : (⟨S2x8192x16, .f32⟩ : BufTy).Contents (Elt Ideal))⟩, ⟨S2x8192x16, ((extractStridedSlice S2x8192x16 ![0, 0, 0] (extractStridedSlice S2x8192x32 ![0, 0, 320] P slices_S2x8192x2546_S2x8192x32_0_0_320) slices_S2x8192x32_S2x8192x16_0_0_0) : (⟨S2x8192x16, .f32⟩ : BufTy).Contents (Elt Ideal))⟩, ⟨S2x8192x32, ((broadcastInDim S2x8192x32 ![] bcast_S_S2x8192x32 (constant (F := Ideal) S_ .f32 0x00000000#32)) : (⟨S2x8192x32, .f32⟩ : BufTy).Contents (Elt Ideal))⟩] concatenates_S2x8192x192_S2x8192x64_S2x8192x128_S2x8192x64_S2x8192x32_S2x8192x96_S2x8192x16_S2x8192x16_S2x8192x32_S2x8192x640_d2 : (⟨S2x8192x640, .f32⟩ : BufTy).Contents (Elt Ideal))) shapeCasts_S2x8192x640_S16384x640

/-- The slab of the retention. -/
def retained (P : FVec Ideal S2x8192x2546 .f32) : FVec Ideal S16384x1024 .f32 :=
  shapeCast _ ((concatenate S2x8192x1024 2 [⟨S2x8192x256, ((extractStridedSlice S2x8192x256 ![0, 0, 352] P slices_S2x8192x2546_S2x8192x256_0_0_352) : (⟨S2x8192x256, .f32⟩ : BufTy).Contents (Elt Ideal))⟩, ⟨S2x8192x256, ((extractStridedSlice S2x8192x256 ![0, 0, 608] P slices_S2x8192x2546_S2x8192x256_0_0_608) : (⟨S2x8192x256, .f32⟩ : BufTy).Contents (Elt Ideal))⟩, ⟨S2x8192x256, ((extractStridedSlice S2x8192x256 ![0, 0, 864] P slices_S2x8192x2546_S2x8192x256_0_0_864) : (⟨S2x8192x256, .f32⟩ : BufTy).Contents (Elt Ideal))⟩, ⟨S2x8192x256, ((extractStridedSlice S2x8192x256 ![0, 0, 1120] P slices_S2x8192x2546_S2x8192x256_0_0_1120) : (⟨S2x8192x256, .f32⟩ : BufTy).Contents (Elt Ideal))⟩] concatenates_S2x8192x256_S2x8192x256_S2x8192x256_S2x8192x256_S2x8192x1024_d2 : (⟨S2x8192x1024, .f32⟩ : BufTy).Contents (Elt Ideal))) shapeCasts_S2x8192x1024_S16384x1024

/-- The slab of the sparse attention. -/
def sparse (P : FVec Ideal S2x8192x2546 .f32) : FVec Ideal S16384x1536 .f32 :=
  shapeCast _ ((concatenate S2x8192x1536 2 [⟨S2x8192x384, ((extractStridedSlice S2x8192x384 ![0, 0, 1376] P slices_S2x8192x2546_S2x8192x384_0_0_1376) : (⟨S2x8192x384, .f32⟩ : BufTy).Contents (Elt Ideal))⟩, ⟨S2x8192x128, ((extractStridedSlice S2x8192x128 ![0, 0, 1760] P slices_S2x8192x2546_S2x8192x128_0_0_1760) : (⟨S2x8192x128, .f32⟩ : BufTy).Contents (Elt Ideal))⟩, ⟨S2x8192x128, ((extractStridedSlice S2x8192x128 ![0, 0, 1888] P slices_S2x8192x2546_S2x8192x128_0_0_1888) : (⟨S2x8192x128, .f32⟩ : BufTy).Contents (Elt Ideal))⟩, ⟨S2x8192x64, ((extractStridedSlice S2x8192x64 ![0, 0, 0] (extractStridedSlice S2x8192x128 ![0, 0, 2016] P slices_S2x8192x2546_S2x8192x128_0_0_2016) slices_S2x8192x128_S2x8192x64_0_0_0) : (⟨S2x8192x64, .f32⟩ : BufTy).Contents (Elt Ideal))⟩, ⟨S2x8192x64, ((broadcastInDim S2x8192x64 ![] bcast_S_S2x8192x64 (constant (F := Ideal) S_ .f32 0x00000000#32)) : (⟨S2x8192x64, .f32⟩ : BufTy).Contents (Elt Ideal))⟩, ⟨S2x8192x64, ((extractStridedSlice S2x8192x64 ![0, 0, 64] (extractStridedSlice S2x8192x128 ![0, 0, 2016] P slices_S2x8192x2546_S2x8192x128_0_0_2016) slices_S2x8192x128_S2x8192x64_0_0_64) : (⟨S2x8192x64, .f32⟩ : BufTy).Contents (Elt Ideal))⟩, ⟨S2x8192x64, ((broadcastInDim S2x8192x64 ![] bcast_S_S2x8192x64 (constant (F := Ideal) S_ .f32 0x00000000#32)) : (⟨S2x8192x64, .f32⟩ : BufTy).Contents (Elt Ideal))⟩, ⟨S2x8192x128, ((extractStridedSlice S2x8192x128 ![0, 0, 2144] P slices_S2x8192x2546_S2x8192x128_0_0_2144) : (⟨S2x8192x128, .f32⟩ : BufTy).Contents (Elt Ideal))⟩, ⟨S2x8192x64, ((extractStridedSlice S2x8192x64 ![0, 0, 0] (extractStridedSlice S2x8192x128 ![0, 0, 2272] P slices_S2x8192x2546_S2x8192x128_0_0_2272) slices_S2x8192x128_S2x8192x64_0_0_0) : (⟨S2x8192x64, .f32⟩ : BufTy).Contents (Elt Ideal))⟩, ⟨S2x8192x64, ((broadcastInDim S2x8192x64 ![] bcast_S_S2x8192x64 (constant (F := Ideal) S_ .f32 0x00000000#32)) : (⟨S2x8192x64, .f32⟩ : BufTy).Contents (Elt Ideal))⟩, ⟨S2x8192x64, ((extractStridedSlice S2x8192x64 ![0, 0, 64] (extractStridedSlice S2x8192x128 ![0, 0, 2272] P slices_S2x8192x2546_S2x8192x128_0_0_2272) slices_S2x8192x128_S2x8192x64_0_0_64) : (⟨S2x8192x64, .f32⟩ : BufTy).Contents (Elt Ideal))⟩, ⟨S2x8192x64, ((broadcastInDim S2x8192x64 ![] bcast_S_S2x8192x64 (constant (F := Ideal) S_ .f32 0x00000000#32)) : (⟨S2x8192x64, .f32⟩ : BufTy).Contents (Elt Ideal))⟩, ⟨S2x8192x128, ((extractStridedSlice S2x8192x128 ![0, 0, 2400] P slices_S2x8192x2546_S2x8192x128_0_0_2400) : (⟨S2x8192x128, .f32⟩ : BufTy).Contents (Elt Ideal))⟩, ⟨S2x8192x48, ((shapeCast _ (pad S2x8192x6x8 ![0, 0, 0, 0] ![0, 0, 0, 5] ![0, 0, 0, 0] (shapeCast _ (extractStridedSlice S2x8192x18 ![0, 0, 2528] P slices_S2x8192x2546_S2x8192x18_0_0_2528) shapeCasts_S2x8192x18_S2x8192x6x3) (sitofp (F := Ideal) .f32 (constantI S_ 32 0#32)) pads_S2x8192x6x3_S2x8192x6x8_000_000_000_050 h_S_) shapeCasts_S2x8192x6x8_S2x8192x48) : (⟨S2x8192x48, .f32⟩ : BufTy).Contents (Elt Ideal))⟩, ⟨S2x8192x80, ((broadcastInDim S2x8192x80 ![] bcast_S_S2x8192x80 (constant (F := Ideal) S_ .f32 0x00000000#32)) : (⟨S2x8192x80, .f32⟩ : BufTy).Contents (Elt Ideal))⟩] concatenates_S2x8192x384_S2x8192x128_S2x8192x128_S2x8192x64_S2x8192x64_S2x8192x64_S2x8192x64_S2x8192x128_S2x8192x64_S2x8192x64_S2x8192x64_S2x8192x64_S2x8192x128_S2x8192x48_S2x8192x80_S2x8192x1536_d2 : (⟨S2x8192x1536, .f32⟩ : BufTy).Contents (Elt Ideal))) shapeCasts_S2x8192x1536_S16384x1536

/-- The keys and values to compress. -/
def compressed (P : FVec Ideal S2x8192x2546 .f32) : FVec Ideal S16384x256 .bf16 :=
  shapeCast _ (truncf .bf16 (concatenate S2x8192x256 2 [⟨S2x8192x128, (extractStridedSlice S2x8192x128 ![0, 0, 1760] P slices_S2x8192x2546_S2x8192x128_0_0_1760)⟩, ⟨S2x8192x128, (extractStridedSlice S2x8192x128 ![0, 0, 1888] P slices_S2x8192x2546_S2x8192x128_0_0_1888)⟩] concatenates_S2x8192x128_S2x8192x128_S2x8192x256_d2) bitsLt_bf16_f32) shapeCasts_S2x8192x256_S16384x256

theorem res_latent (m : (ℓ : Loc nD τ sig) → Buf (Elt Ideal) ℓ) (c : Dev nD) :
    Value.res_main_v54 m c = latent (proj (m ((c.tc : Thread nD τ).loc main_arg0)) (m ((c.tc : Thread nD τ).loc main_arg1)) (m ((c.tc : Thread nD τ).loc main_arg2))) (turned (m ((c.tc : Thread nD τ).loc main_arg0)) (m ((c.tc : Thread nD τ).loc main_arg1)) (m ((c.tc : Thread nD τ).loc main_arg2))) := rfl

theorem res_retained (m : (ℓ : Loc nD τ sig) → Buf (Elt Ideal) ℓ) (c : Dev nD) :
    Value.res_main_v55 m c = retained (proj (m ((c.tc : Thread nD τ).loc main_arg0)) (m ((c.tc : Thread nD τ).loc main_arg1)) (m ((c.tc : Thread nD τ).loc main_arg2))) := rfl

theorem res_sparse (m : (ℓ : Loc nD τ sig) → Buf (Elt Ideal) ℓ) (c : Dev nD) :
    Value.res_main_v56 m c = sparse (proj (m ((c.tc : Thread nD τ).loc main_arg0)) (m ((c.tc : Thread nD τ).loc main_arg1)) (m ((c.tc : Thread nD τ).loc main_arg2))) := rfl

/-- A position's projected row. -/
def rowOf (P : FVec Ideal S2x8192x2546 .f32) (r : Fin 16384) (z : Fin 2546) : EReal := P (ix3 ⟨r.val / 8192, by omega⟩ ⟨r.val % 8192, by omega⟩ z)

theorem sitofp_zero : (FloatOps.sitofp (F := Ideal) .f32 (0#32 : BitVec 32) : EReal) = 0 := by
  show (((0#32 : BitVec 32).toInt : ℝ) : EReal) = 0
  simp

theorem latent_at (P : FVec Ideal S2x8192x2546 .f32) (T : FVec Ideal S2x8192x16 .f32) (r : Fin 16384) (c : Fin 640) (g : ℕ → EReal) (hT : ∀ z : Fin 16, (T (ix3 ⟨r.val / 8192, by omega⟩ ⟨r.val % 8192, by omega⟩ z) : EReal) = g (336 + z.val)) :
    (latent P T (ix2 r c) : EReal) = pick (ext (rowOf P r)) g (layAt layLatent c.val) := by
  pointwise [latent]
  exact step (fun _ => pick_col (rowOf P r) _ _ _ _ _ (by omega)) fun _ => step (fun _ => rfl) fun _ => step (fun _ => pick_col (rowOf P r) _ _ _ _ _ (by omega)) fun _ => step (fun _ => rfl) fun _ => step (fun _ => pick_col (rowOf P r) _ _ _ _ _ (by omega)) fun _ => step (fun _ => rfl) fun _ => step (fun _ => (hT ⟨_, _⟩).trans (pick_neg _ _ _ _ _ rfl)) fun _ => step (fun _ => pick_col (rowOf P r) _ _ _ _ _ (by omega)) fun _ => last (by omega) (rfl)

theorem retained_at (P : FVec Ideal S2x8192x2546 .f32) (r : Fin 16384) (c : Fin 1024) (g : ℕ → EReal) :
    (retained P (ix2 r c) : EReal) = pick (ext (rowOf P r)) g (layAt layRetained c.val) := by
  pointwise [retained]
  exact step (fun _ => pick_col (rowOf P r) _ _ _ _ _ (by omega)) fun _ => step (fun _ => pick_col (rowOf P r) _ _ _ _ _ (by omega)) fun _ => step (fun _ => pick_col (rowOf P r) _ _ _ _ _ (by omega)) fun _ => last (by omega) (pick_col (rowOf P r) _ _ _ _ _ (by omega))

theorem sparse_at (P : FVec Ideal S2x8192x2546 .f32) (r : Fin 16384) (c : Fin 1536) (g : ℕ → EReal) :
    (sparse P (ix2 r c) : EReal) = pick (ext (rowOf P r)) g (layAt laySparse c.val) := by
  pointwise [sparse]
  exact step (fun _ => pick_col (rowOf P r) _ _ _ _ _ (by omega)) fun _ => step (fun _ => pick_col (rowOf P r) _ _ _ _ _ (by omega)) fun _ => step (fun _ => pick_col (rowOf P r) _ _ _ _ _ (by omega)) fun _ => step (fun _ => pick_col (rowOf P r) _ _ _ _ _ (by omega)) fun _ => step (fun _ => rfl) fun _ => step (fun _ => pick_col (rowOf P r) _ _ _ _ _ (by omega)) fun _ => step (fun _ => rfl) fun _ => step (fun _ => pick_col (rowOf P r) _ _ _ _ _ (by omega)) fun _ => step (fun _ => pick_col (rowOf P r) _ _ _ _ _ (by omega)) fun _ => step (fun _ => rfl) fun _ => step (fun _ => pick_col (rowOf P r) _ _ _ _ _ (by omega)) fun _ => step (fun _ => rfl) fun _ => step (fun _ => pick_col (rowOf P r) _ _ _ _ _ (by omega)) fun _ => step (fun _ => pick_gat (rowOf P r) _ _ (by omega) (by omega) (fun h => (ext_lt (rowOf P r) _ (by omega)).symm) sitofp_zero) fun _ => last (by omega) (rfl)

theorem compressed_at (P : FVec Ideal S2x8192x2546 .f32) (r : Fin 16384) (c : Fin 256) (g : ℕ → EReal) :
    (compressed P (ix2 r c) : EReal) = pick (ext (rowOf P r)) g (layAt layCompressed c.val) := by
  pointwise [compressed]
  exact step (fun _ => pick_col (rowOf P r) _ _ _ _ _ (by omega)) fun _ => last (by omega) (pick_col (rowOf P r) _ _ _ _ _ (by omega))

/-- A position's normalized row. -/
def nrow (x : FVec Ideal S2x8192x1024 .f32) (g : FVec Ideal S1024 .f32) (r : Fin 16384) : Fin 1024 → EReal :=
  nrm (fun j => x (ix3 ⟨r.val / 8192, by omega⟩ ⟨r.val % 8192, by omega⟩ j)) (fun j => g (ix1 j))

/-- The weights by rows and columns. -/
def wts (w : FVec Ideal S1024x2546 .f32) (k : Fin 1024) (z : Fin 2546) : EReal := w (ix2 k z)

theorem ext_proj (x : FVec Ideal S2x8192x1024 .f32) (g : FVec Ideal S1024 .f32) (w : FVec Ideal S1024x2546 .f32) (r : Fin 16384) :
    ext (rowOf (proj x g w) r) = colOf (nrow x g r) (wts w) :=
  (congrArg ext (funext fun z => proj_apply x g w _ _ z)).trans (ext_sum _ _)

theorem latent_apply (x : FVec Ideal S2x8192x1024 .f32) (g : FVec Ideal S1024 .f32) (w : FVec Ideal S1024x2546 .f32) (r : Fin 16384) (c : Fin 640) :
    (latent (proj x g w) (turned x g w) (ix2 r c) : EReal) = pick (colOf (nrow x g r) (wts w)) (negOf (nrow x g r) (wts w)) (layAt layLatent c.val) := by
  rw [← ext_proj x g w r]
  refine latent_at _ _ r c _ fun z => ?_
  refine (turned_apply x g w _ _ z).trans (Finset.sum_congr rfl fun k _ => congrArg (fun y : EReal => nrow x g r k * -y) ?_)
  exact (ext_lt (wts w k) _ (by omega)).symm

theorem retained_apply (x : FVec Ideal S2x8192x1024 .f32) (g : FVec Ideal S1024 .f32) (w : FVec Ideal S1024x2546 .f32) (r : Fin 16384) (c : Fin 1024) :
    (retained (proj x g w) (ix2 r c) : EReal) = pick (colOf (nrow x g r) (wts w)) (negOf (nrow x g r) (wts w)) (layAt layRetained c.val) := by
  rw [← ext_proj x g w r]
  exact retained_at _ r c _

theorem sparse_apply (x : FVec Ideal S2x8192x1024 .f32) (g : FVec Ideal S1024 .f32) (w : FVec Ideal S1024x2546 .f32) (r : Fin 16384) (c : Fin 1536) :
    (sparse (proj x g w) (ix2 r c) : EReal) = pick (colOf (nrow x g r) (wts w)) (negOf (nrow x g r) (wts w)) (layAt laySparse c.val) := by
  rw [← ext_proj x g w r]
  exact sparse_at _ r c _

theorem compressed_apply (x : FVec Ideal S2x8192x1024 .f32) (g : FVec Ideal S1024 .f32) (w : FVec Ideal S1024x2546 .f32) (r : Fin 16384) (c : Fin 256) :
    (compressed (proj x g w) (ix2 r c) : EReal) = pick (colOf (nrow x g r) (wts w)) (negOf (nrow x g r) (wts w)) (layAt layCompressed c.val) := by
  rw [← ext_proj x g w r]
  exact compressed_at _ r c _

end Cert.InProj

end

end
-- ==== Proof.InFinal.lean ====
/- The input projection's four result arrays: every block of rows holds the reference's values. -/
module

public import proofs.«01_k».proof.Proof.Gen.Kernel3Ideal.Value
public import proofs.«01_k».proof.Proof.InBody
public import proofs.«01_k».proof.Proof.InEntry
public import proofs.«01_k».proof.Proof.InRef
public import Idealize.ShloMosaic.Lib.Pipeline.ValueKit

@[expose] public section

set_option maxRecDepth 16384

noncomputable section

namespace Cert.InProj

open Cert.Kernel3Ideal Cert.Kernel3Ideal.Gen Idealize.ShloMosaic Idealize.ShloMosaic.TcCoe Idealize.SL.Sem

variable (m : (ℓ : Loc nD τ sig) → Buf (Elt Ideal) ℓ) (c : Dev nD)

theorem lt_points (t : Fin cfg0.N) : t.val < 64 := t.isLt

theorem row_lt (t : Fin cfg0.N) (y : Fin 256) : 256 * t.val + y.val < 16384 := by
  have := lt_points t
  omega

/-- A row of a block of rows. -/
def rowAt (t : Fin cfg0.N) (y : Fin 256) : Fin 16384 := ⟨256 * t.val + y.val, row_lt t y⟩

theorem idx0 : ∀ t : Fin cfg0.N, win0_0.index t 0 = t.val ∧ win0_0.index t 1 = 0 := by
  decide +kernel

theorem emb0 (t : Fin cfg0.N) (y : Fin 256) (x : Fin 1024) : (win0_0.blk t).view.emb (ix2 y x) = ix2 (rowAt t y) x := by
  obtain ⟨e0, e1⟩ := idx0 t
  funext a
  apply Fin.ext
  fin_cases a
  · show win0_0.index t 0 * 256 + 1 * y.val = 256 * t.val + y.val
    omega
  · show win0_0.index t 1 * 1024 + 1 * x.val = x.val
    omega

theorem blk0 (t : Fin cfg0.N) (y : Fin 256) (x : Fin 1024) :
    (iblk m c 0 t : Vec Ideal S256x1024 .f32) (ix2 y x) = (V m c main_v0 : Vec Ideal S16384x1024 .f32) (ix2 (rowAt t y) x) :=
  congrArg (V m c main_v0) (emb0 t y x)

theorem idx1 : ∀ t : Fin cfg0.N, win0_1.index t 0 = 0 ∧ win0_1.index t 1 = 0 := by
  decide +kernel

theorem emb1 (t : Fin cfg0.N) (y : Fin 1) (x : Fin 1024) : (win0_1.blk t).view.emb (ix2 y x) = ix2 y x := by
  obtain ⟨e0, e1⟩ := idx1 t
  funext a
  apply Fin.ext
  fin_cases a
  · show win0_1.index t 0 * 1 + 1 * y.val = y.val
    omega
  · show win0_1.index t 1 * 1024 + 1 * x.val = x.val
    omega

theorem blk1 (t : Fin cfg0.N) (y : Fin 1) (x : Fin 1024) :
    (iblk m c 1 t : Vec Ideal S1x1024 .f32) (ix2 y x) = (V m c main_v42 : Vec Ideal S1x1024 .f32) (ix2 y x) :=
  congrArg (V m c main_v42) (emb1 t y x)

theorem idx2 : ∀ t : Fin cfg0.N, win0_2.index t 0 = 0 ∧ win0_2.index t 1 = 0 := by
  decide +kernel

theorem emb2 (t : Fin cfg0.N) (y : Fin 1024) (x : Fin 3200) : (win0_2.blk t).view.emb (ix2 y x) = ix2 y x := by
  obtain ⟨e0, e1⟩ := idx2 t
  funext a
  apply Fin.ext
  fin_cases a
  · show win0_2.index t 0 * 1024 + 1 * y.val = y.val
    omega
  · show win0_2.index t 1 * 3200 + 1 * x.val = x.val
    omega

theorem blk2 (t : Fin cfg0.N) (y : Fin 1024) (x : Fin 3200) :
    (iblk m c 2 t : Vec Ideal S1024x3200 .bf16) (ix2 y x) = (V m c main_v41 : Vec Ideal S1024x3200 .bf16) (ix2 y x) :=
  congrArg (V m c main_v41) (emb2 t y x)

/-- A block's row, normalized and projected to a column of the laid out weights. -/
theorem sum_eq (t : Fin cfg0.N) (y : Fin 256) (n : Fin 3200) :
    ∑ k : Fin 1024, nrm (fun j => (iblk m c 0 t : Vec Ideal S256x1024 .f32) (ix2 y j)) (fun j => (iblk m c 1 t : Vec Ideal S1x1024 .f32) (ix2 0 j)) k
        * ((iblk m c 2 t : Vec Ideal S1024x3200 .bf16) (ix2 k n) : EReal)
      = pick (colOf (nrow (argX m c) (argG m c) (rowAt t y)) (wts (argW m c))) (negOf (nrow (argX m c) (argG m c) (rowAt t y)) (wts (argW m c))) (layAt wide n.val) := by
  refine Eq.trans (Finset.sum_congr rfl fun k _ => ?_) (sum_pick (nrow (argX m c) (argG m c) (rowAt t y)) (wts (argW m c)) _)
  refine congrArg₂ (· * · : EReal → EReal → EReal) ?_ ((blk2 m c t k n).trans (host_w m c k n))
  exact congrArg₂ (fun a b => nrm a b k) (funext fun j => (blk0 m c t y j).trans (host_x m c _ j)) (funext fun j => (blk1 m c t 0 j).trans (host_g m c j))

theorem idx3 : ∀ t : Fin cfg0.N, win0_3.index t 0 = t.val ∧ win0_3.index t 1 = 0 := by
  decide +kernel

theorem emb3 (t : Fin cfg0.N) (y : Fin 256) (x : Fin 640) : (win0_3.blk t).view.emb (ix2 y x) = ix2 (rowAt t y) x := by
  obtain ⟨e0, e1⟩ := idx3 t
  funext a
  apply Fin.ext
  fin_cases a
  · show win0_3.index t 0 * 256 + 1 * y.val = 256 * t.val + y.val
    omega
  · show win0_3.index t 1 * 640 + 1 * x.val = x.val
    omega

/-- The first result array after the run. -/
theorem final_latent : (dats m 0 c).arrAt 3 cfg0.N = latent (proj (argX m c) (argG m c) (argW m c)) (Cert.InProj.turned (argX m c) (argG m c) (argW m c)) := by
  refine (dats m 0 c).arrAt_eq_of_covers 3 _ (by decide +kernel) fun t _ y => ?_
  blk_simp
  rw [after0_3]
  obtain ⟨y', d, rfl⟩ : ∃ (y' : Fin 256) (d : Fin 640), y = ix2 y' d := ⟨y 0, y 1, by
    funext a; fin_cases a
    · rfl
    · rfl⟩
  rw [emb3 t y' d]
  refine (out3 _ _ _ y' d).trans ?_
  refine (sum_eq m c t y' _).trans ?_
  refine Eq.trans ?_ (latent_apply _ _ _ (rowAt t y') d).symm
  exact congrArg _ (latent_code d)

theorem idx4 : ∀ t : Fin cfg0.N, win0_4.index t 0 = t.val ∧ win0_4.index t 1 = 0 := by
  decide +kernel

theorem emb4 (t : Fin cfg0.N) (y : Fin 256) (x : Fin 1024) : (win0_4.blk t).view.emb (ix2 y x) = ix2 (rowAt t y) x := by
  obtain ⟨e0, e1⟩ := idx4 t
  funext a
  apply Fin.ext
  fin_cases a
  · show win0_4.index t 0 * 256 + 1 * y.val = 256 * t.val + y.val
    omega
  · show win0_4.index t 1 * 1024 + 1 * x.val = x.val
    omega

/-- The second result array after the run. -/
theorem final_retained : (dats m 0 c).arrAt 4 cfg0.N = retained (proj (argX m c) (argG m c) (argW m c)) := by
  refine (dats m 0 c).arrAt_eq_of_covers 4 _ (by decide +kernel) fun t _ y => ?_
  blk_simp
  rw [after0_4]
  obtain ⟨y', d, rfl⟩ : ∃ (y' : Fin 256) (d : Fin 1024), y = ix2 y' d := ⟨y 0, y 1, by
    funext a; fin_cases a
    · rfl
    · rfl⟩
  rw [emb4 t y' d]
  refine (out4 _ _ _ y' d).trans ?_
  refine (sum_eq m c t y' _).trans ?_
  refine Eq.trans ?_ (retained_apply _ _ _ (rowAt t y') d).symm
  exact congrArg _ (retained_code d)

theorem idx5 : ∀ t : Fin cfg0.N, win0_5.index t 0 = t.val ∧ win0_5.index t 1 = 0 := by
  decide +kernel

theorem emb5 (t : Fin cfg0.N) (y : Fin 256) (x : Fin 1536) : (win0_5.blk t).view.emb (ix2 y x) = ix2 (rowAt t y) x := by
  obtain ⟨e0, e1⟩ := idx5 t
  funext a
  apply Fin.ext
  fin_cases a
  · show win0_5.index t 0 * 256 + 1 * y.val = 256 * t.val + y.val
    omega
  · show win0_5.index t 1 * 1536 + 1 * x.val = x.val
    omega

/-- The third result array after the run. -/
theorem final_sparse : (dats m 0 c).arrAt 5 cfg0.N = sparse (proj (argX m c) (argG m c) (argW m c)) := by
  refine (dats m 0 c).arrAt_eq_of_covers 5 _ (by decide +kernel) fun t _ y => ?_
  blk_simp
  rw [after0_5]
  obtain ⟨y', d, rfl⟩ : ∃ (y' : Fin 256) (d : Fin 1536), y = ix2 y' d := ⟨y 0, y 1, by
    funext a; fin_cases a
    · rfl
    · rfl⟩
  rw [emb5 t y' d]
  refine (out5 _ _ _ y' d).trans ?_
  refine (sum_eq m c t y' _).trans ?_
  refine Eq.trans ?_ (sparse_apply _ _ _ (rowAt t y') d).symm
  exact congrArg _ (sparse_code d)

theorem idx6 : ∀ t : Fin cfg0.N, win0_6.index t 0 = t.val ∧ win0_6.index t 1 = 0 := by
  decide +kernel

theorem emb6 (t : Fin cfg0.N) (y : Fin 256) (x : Fin 256) : (win0_6.blk t).view.emb (ix2 y x) = ix2 (rowAt t y) x := by
  obtain ⟨e0, e1⟩ := idx6 t
  funext a
  apply Fin.ext
  fin_cases a
  · show win0_6.index t 0 * 256 + 1 * y.val = 256 * t.val + y.val
    omega
  · show win0_6.index t 1 * 256 + 1 * x.val = x.val
    omega

/-- The fourth result array after the run. -/
theorem final_compressed : (dats m 0 c).arrAt 6 cfg0.N = compressed (proj (argX m c) (argG m c) (argW m c)) := by
  refine (dats m 0 c).arrAt_eq_of_covers 6 _ (by decide +kernel) fun t _ y => ?_
  blk_simp
  rw [after0_6]
  obtain ⟨y', d, rfl⟩ : ∃ (y' : Fin 256) (d : Fin 256), y = ix2 y' d := ⟨y 0, y 1, by
    funext a; fin_cases a
    · rfl
    · rfl⟩
  rw [emb6 t y' d]
  refine (out6 _ _ _ y' d).trans ?_
  refine (sum_eq m c t y' _).trans ?_
  refine Eq.trans ?_ (compressed_apply _ _ _ (rowAt t y') d).symm
  exact congrArg _ (compressed_code d)

end Cert.InProj

end

end
-- ==== Proof.lean ====
/- The proof of the certificate's claims. The frames are the generated ones; each value claim joins a kernel's run,
   whose output arrays `Cert.Attn.final`, `Cert.Ffn.final` and `Cert.InProj.final_latent` with its neighbours name, with the reference's run. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal.Value
public import proofs.«01_k».proof.Proof.Gen.ReferenceIdeal.Run
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Final
public import proofs.«01_k».proof.Proof.FfnFinal
public import proofs.«01_k».proof.Proof.InFinal
public import Idealize.ShloMosaic.Lib.ReduceAll
public import Idealize.ShloMosaic.Lib.Quiescent
public import Idealize.ShloMosaic.Adequacy
public import Idealize.ShloMosaic.Init

@[expose] public section

noncomputable section

namespace Cert.Proof

open Idealize.ShloMosaic Idealize.SL.Sem

/-- An extended real whose magnitude is below infinity is a real number. -/
theorem real_of_abs_lt (x : Ideal .f32)
    (h : FloatOps.cmpf .olt (FloatOps.hostAbsf x) (FloatOps.ofBits (F := Ideal) .f32 0x7F800000#32) = 1#1) :
    ∃ r : ℝ, (x : EReal) = r := by
  have htop : Ideal.ofBits .f32 0x7F800000#32 = (⊤ : EReal) := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  have hx : (x : EReal) ≠ ⊤ := fun e => by simp [e] at hlt
  have hy : (x : EReal) ≠ ⊥ := fun e => by simp [e] at hlt
  exact ⟨(x : EReal).toReal, (EReal.coe_toReal hx hy).symm⟩

instance : Subsingleton Cert.Pre_finite.S_.Idx := ⟨fun a b => funext fun d => d.elim0⟩

/-- Where the precondition holds, the queries and the keys are real numbers. -/
theorem finite_args [Cert.Pre_finite.Facts] (q k : FVec Ideal Cert.Pre_finite.S2x6x8192x96 .f32)
    (v : FVec Ideal Cert.Pre_finite.S2x6x8192x64 .f32) (h : Cert.Pre_finite.fn (F := Ideal) q k v = fun _ => 1#1) :
    Cert.Attn.Finite q ∧ Cert.Attn.Finite k := by
  have h0 := congrFun h (Shape.Idx.first Cert.Pre_finite.Facts.h_S_)
  unfold Cert.Pre_finite.fn at h0
  obtain ⟨hq, hk⟩ := IntOp.andi_eq_one.mp h0
  exact ⟨fun i => real_of_abs_lt (q i) (Host.reduce_andi_all _ _ _ _ _ hq i),
    fun i => real_of_abs_lt (k i) (Host.reduce_andi_all _ _ _ _ _ hk i)⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨hv, hkept⟩ := h c
  refine ⟨?_, hkept⟩
  obtain ⟨e0, e1, e2⟩ := hargs c
  obtain ⟨fq, fk⟩ := @finite_args Cert.Pre_finite.Gen.facts _ _ _ (hpre c)
  rw [hv, Cert.Attn.res_eq, e0, e1, e2]
  exact (Cert.Attn.final m c fq fk).symm

/-- The reference's run keeps its arguments; it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

theorem algebraic_ffn : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 6 Cert.Kernel2Ideal.cfg0.N,
    Cert.Kernel2Ideal.Value.run_blocks m g, ?_⟩
  refine (θ_run Cert.Reference2Ideal.defs _ _).mono (fun r h c => ?_) (Cert.Reference2Ideal.Value.run m' g')
  obtain ⟨hv, hkept⟩ := h c
  refine ⟨?_, hkept⟩
  obtain ⟨e0, e1, e2, e3, e4, e5⟩ := hargs c
  rw [hv, Cert.Ffn.res_eq, e0, e1, e2, e3, e4, e5]
  exact (Cert.Ffn.final m c).symm

/-- The feed-forward reference's run keeps its arguments; it has no semaphore. -/
theorem reference2_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2, sem_eq_zero_of_no_sems (by decide) r.2⟩)
    (Cert.Reference2Ideal.Value.run m g)

/-- The input projection's result arrays are the reference's, for arbitrary arguments. -/
theorem algebraic_in : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    Cert.Kernel3Ideal.Value.run_blocks m g, ?_⟩
  refine (θ_run Cert.Reference3Ideal.defs _ _).mono (fun r h c => ?_) (Cert.Reference3Ideal.Value.run m' g')
  obtain ⟨hv0, hv1, hv2, hv3, hkept⟩ := h c
  obtain ⟨e0, e1, e2⟩ := hargs c
  refine ⟨?_, ?_, ?_, ?_, hkept⟩
  · rw [hv0, Cert.InProj.res_latent, e0, e1, e2]
    exact (Cert.InProj.final_latent m c).symm
  · rw [hv1, Cert.InProj.res_retained, e0, e1, e2]
    exact (Cert.InProj.final_retained m c).symm
  · rw [hv2, Cert.InProj.res_sparse, e0, e1, e2]
    exact (Cert.InProj.final_sparse m c).symm
  · refine hv3.trans (Eq.trans ?_ (Cert.InProj.final_compressed m c).symm)
    rw [e0, e1, e2]
    rfl

/-- The input projection's reference keeps its arguments; it has no semaphore. -/
theorem reference3_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono (fun r h => ⟨fun c => (h c).2.2.2.2, sem_eq_zero_of_no_sems (by decide) r.2⟩)
    (Cert.Reference3Ideal.Value.run m g)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts, Cert.Pre_finite.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  fun m g _ => Cert.Kernel2.Gen.frame m g,
  fun m g _ => Cert.Kernel2Ideal.Gen.frame m g,
  fun m g _ => reference2_frame m g,
  fun m g _ => Cert.Kernel3.Gen.frame m g,
  fun m g _ => Cert.Kernel3Ideal.Gen.frame m g,
  fun m g _ => reference3_frame m g,
  trivial, algebraic, trivial, algebraic_ffn, trivial, algebraic_in⟩

end Cert.Proof

end
